-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8))).1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8))).2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8))).2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8))).2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8))).2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8))).2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8))).2.2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8))).2.2.2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8))).2.2.2.2.2.2.2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.2.2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))).2.2.2.2.2.2.2.2 = (fun _ => 1#1)

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchIdeal_branch_finite [hPre_branch_finite : Cert.Pre_branch_finite.Facts] (m : (ℓ : Loc Cert.BranchIdeal.nD Cert.BranchIdeal.τ Cert.BranchIdeal.sig) → Buf (Elt Ideal) ℓ) : Prop :=
  ∀ c : Dev Cert.BranchIdeal.nD,
    (Cert.Pre_branch_finite.fn (F := Ideal) (m ((c.tc : Thread Cert.BranchIdeal.nD Cert.BranchIdeal.τ).loc Cert.BranchIdeal.main_arg0)) (m ((c.tc : Thread Cert.BranchIdeal.nD Cert.BranchIdeal.τ).loc Cert.BranchIdeal.main_arg1)) (m ((c.tc : Thread Cert.BranchIdeal.nD Cert.BranchIdeal.τ).loc Cert.BranchIdeal.main_arg2)) (m ((c.tc : Thread Cert.BranchIdeal.nD Cert.BranchIdeal.τ).loc Cert.BranchIdeal.main_arg3)) (m ((c.tc : Thread Cert.BranchIdeal.nD Cert.BranchIdeal.τ).loc Cert.BranchIdeal.main_arg4)) (m ((c.tc : Thread Cert.BranchIdeal.nD Cert.BranchIdeal.τ).loc Cert.BranchIdeal.main_arg5)) (m ((c.tc : Thread Cert.BranchIdeal.nD Cert.BranchIdeal.τ).loc Cert.BranchIdeal.main_arg6))).1 = (fun _ => 1#1)
    ∧ (Cert.Pre_branch_finite.fn (F := Ideal) (m ((c.tc : Thread Cert.BranchIdeal.nD Cert.BranchIdeal.τ).loc Cert.BranchIdeal.main_arg0)) (m ((c.tc : Thread Cert.BranchIdeal.nD Cert.BranchIdeal.τ).loc Cert.BranchIdeal.main_arg1)) (m ((c.tc : Thread Cert.BranchIdeal.nD Cert.BranchIdeal.τ).loc Cert.BranchIdeal.main_arg2)) (m ((c.tc : Thread Cert.BranchIdeal.nD Cert.BranchIdeal.τ).loc Cert.BranchIdeal.main_arg3)) (m ((c.tc : Thread Cert.BranchIdeal.nD Cert.BranchIdeal.τ).loc Cert.BranchIdeal.main_arg4)) (m ((c.tc : Thread Cert.BranchIdeal.nD Cert.BranchIdeal.τ).loc Cert.BranchIdeal.main_arg5)) (m ((c.tc : Thread Cert.BranchIdeal.nD Cert.BranchIdeal.τ).loc Cert.BranchIdeal.main_arg6))).2.1 = (fun _ => 1#1)
    ∧ (Cert.Pre_branch_finite.fn (F := Ideal) (m ((c.tc : Thread Cert.BranchIdeal.nD Cert.BranchIdeal.τ).loc Cert.BranchIdeal.main_arg0)) (m ((c.tc : Thread Cert.BranchIdeal.nD Cert.BranchIdeal.τ).loc Cert.BranchIdeal.main_arg1)) (m ((c.tc : Thread Cert.BranchIdeal.nD Cert.BranchIdeal.τ).loc Cert.BranchIdeal.main_arg2)) (m ((c.tc : Thread Cert.BranchIdeal.nD Cert.BranchIdeal.τ).loc Cert.BranchIdeal.main_arg3)) (m ((c.tc : Thread Cert.BranchIdeal.nD Cert.BranchIdeal.τ).loc Cert.BranchIdeal.main_arg4)) (m ((c.tc : Thread Cert.BranchIdeal.nD Cert.BranchIdeal.τ).loc Cert.BranchIdeal.main_arg5)) (m ((c.tc : Thread Cert.BranchIdeal.nD Cert.BranchIdeal.τ).loc Cert.BranchIdeal.main_arg6))).2.2.1 = (fun _ => 1#1)
    ∧ (Cert.Pre_branch_finite.fn (F := Ideal) (m ((c.tc : Thread Cert.BranchIdeal.nD Cert.BranchIdeal.τ).loc Cert.BranchIdeal.main_arg0)) (m ((c.tc : Thread Cert.BranchIdeal.nD Cert.BranchIdeal.τ).loc Cert.BranchIdeal.main_arg1)) (m ((c.tc : Thread Cert.BranchIdeal.nD Cert.BranchIdeal.τ).loc Cert.BranchIdeal.main_arg2)) (m ((c.tc : Thread Cert.BranchIdeal.nD Cert.BranchIdeal.τ).loc Cert.BranchIdeal.main_arg3)) (m ((c.tc : Thread Cert.BranchIdeal.nD Cert.BranchIdeal.τ).loc Cert.BranchIdeal.main_arg4)) (m ((c.tc : Thread Cert.BranchIdeal.nD Cert.BranchIdeal.τ).loc Cert.BranchIdeal.main_arg5)) (m ((c.tc : Thread Cert.BranchIdeal.nD Cert.BranchIdeal.τ).loc Cert.BranchIdeal.main_arg6))).2.2.2.1 = (fun _ => 1#1)
    ∧ (Cert.Pre_branch_finite.fn (F := Ideal) (m ((c.tc : Thread Cert.BranchIdeal.nD Cert.BranchIdeal.τ).loc Cert.BranchIdeal.main_arg0)) (m ((c.tc : Thread Cert.BranchIdeal.nD Cert.BranchIdeal.τ).loc Cert.BranchIdeal.main_arg1)) (m ((c.tc : Thread Cert.BranchIdeal.nD Cert.BranchIdeal.τ).loc Cert.BranchIdeal.main_arg2)) (m ((c.tc : Thread Cert.BranchIdeal.nD Cert.BranchIdeal.τ).loc Cert.BranchIdeal.main_arg3)) (m ((c.tc : Thread Cert.BranchIdeal.nD Cert.BranchIdeal.τ).loc Cert.BranchIdeal.main_arg4)) (m ((c.tc : Thread Cert.BranchIdeal.nD Cert.BranchIdeal.τ).loc Cert.BranchIdeal.main_arg5)) (m ((c.tc : Thread Cert.BranchIdeal.nD Cert.BranchIdeal.τ).loc Cert.BranchIdeal.main_arg6))).2.2.2.2.1 = (fun _ => 1#1)
    ∧ (Cert.Pre_branch_finite.fn (F := Ideal) (m ((c.tc : Thread Cert.BranchIdeal.nD Cert.BranchIdeal.τ).loc Cert.BranchIdeal.main_arg0)) (m ((c.tc : Thread Cert.BranchIdeal.nD Cert.BranchIdeal.τ).loc Cert.BranchIdeal.main_arg1)) (m ((c.tc : Thread Cert.BranchIdeal.nD Cert.BranchIdeal.τ).loc Cert.BranchIdeal.main_arg2)) (m ((c.tc : Thread Cert.BranchIdeal.nD Cert.BranchIdeal.τ).loc Cert.BranchIdeal.main_arg3)) (m ((c.tc : Thread Cert.BranchIdeal.nD Cert.BranchIdeal.τ).loc Cert.BranchIdeal.main_arg4)) (m ((c.tc : Thread Cert.BranchIdeal.nD Cert.BranchIdeal.τ).loc Cert.BranchIdeal.main_arg5)) (m ((c.tc : Thread Cert.BranchIdeal.nD Cert.BranchIdeal.τ).loc Cert.BranchIdeal.main_arg6))).2.2.2.2.2.1 = (fun _ => 1#1)
    ∧ (Cert.Pre_branch_finite.fn (F := Ideal) (m ((c.tc : Thread Cert.BranchIdeal.nD Cert.BranchIdeal.τ).loc Cert.BranchIdeal.main_arg0)) (m ((c.tc : Thread Cert.BranchIdeal.nD Cert.BranchIdeal.τ).loc Cert.BranchIdeal.main_arg1)) (m ((c.tc : Thread Cert.BranchIdeal.nD Cert.BranchIdeal.τ).loc Cert.BranchIdeal.main_arg2)) (m ((c.tc : Thread Cert.BranchIdeal.nD Cert.BranchIdeal.τ).loc Cert.BranchIdeal.main_arg3)) (m ((c.tc : Thread Cert.BranchIdeal.nD Cert.BranchIdeal.τ).loc Cert.BranchIdeal.main_arg4)) (m ((c.tc : Thread Cert.BranchIdeal.nD Cert.BranchIdeal.τ).loc Cert.BranchIdeal.main_arg5)) (m ((c.tc : Thread Cert.BranchIdeal.nD Cert.BranchIdeal.τ).loc Cert.BranchIdeal.main_arg6))).2.2.2.2.2.2 = (fun _ => 1#1)

def Pre_BranchRefIdeal (m : (ℓ : Loc Cert.BranchRefIdeal.nD Cert.BranchRefIdeal.τ Cert.BranchRefIdeal.sig) → Buf (Elt Ideal) ℓ) : Prop :=
  True

def Pre_BranchRefIdeal_branch_finite [hPre_branch_finite : Cert.Pre_branch_finite.Facts] (m : (ℓ : Loc Cert.BranchRefIdeal.nD Cert.BranchRefIdeal.τ Cert.BranchRefIdeal.sig) → Buf (Elt Ideal) ℓ) : Prop :=
  ∀ c : Dev Cert.BranchRefIdeal.nD,
    (Cert.Pre_branch_finite.fn (F := Ideal) (m ((c.tc : Thread Cert.BranchRefIdeal.nD Cert.BranchRefIdeal.τ).loc Cert.BranchRefIdeal.main_arg0)) (m ((c.tc : Thread Cert.BranchRefIdeal.nD Cert.BranchRefIdeal.τ).loc Cert.BranchRefIdeal.main_arg1)) (m ((c.tc : Thread Cert.BranchRefIdeal.nD Cert.BranchRefIdeal.τ).loc Cert.BranchRefIdeal.main_arg2)) (m ((c.tc : Thread Cert.BranchRefIdeal.nD Cert.BranchRefIdeal.τ).loc Cert.BranchRefIdeal.main_arg3)) (m ((c.tc : Thread Cert.BranchRefIdeal.nD Cert.BranchRefIdeal.τ).loc Cert.BranchRefIdeal.main_arg4)) (m ((c.tc : Thread Cert.BranchRefIdeal.nD Cert.BranchRefIdeal.τ).loc Cert.BranchRefIdeal.main_arg5)) (m ((c.tc : Thread Cert.BranchRefIdeal.nD Cert.BranchRefIdeal.τ).loc Cert.BranchRefIdeal.main_arg6))).1 = (fun _ => 1#1)
    ∧ (Cert.Pre_branch_finite.fn (F := Ideal) (m ((c.tc : Thread Cert.BranchRefIdeal.nD Cert.BranchRefIdeal.τ).loc Cert.BranchRefIdeal.main_arg0)) (m ((c.tc : Thread Cert.BranchRefIdeal.nD Cert.BranchRefIdeal.τ).loc Cert.BranchRefIdeal.main_arg1)) (m ((c.tc : Thread Cert.BranchRefIdeal.nD Cert.BranchRefIdeal.τ).loc Cert.BranchRefIdeal.main_arg2)) (m ((c.tc : Thread Cert.BranchRefIdeal.nD Cert.BranchRefIdeal.τ).loc Cert.BranchRefIdeal.main_arg3)) (m ((c.tc : Thread Cert.BranchRefIdeal.nD Cert.BranchRefIdeal.τ).loc Cert.BranchRefIdeal.main_arg4)) (m ((c.tc : Thread Cert.BranchRefIdeal.nD Cert.BranchRefIdeal.τ).loc Cert.BranchRefIdeal.main_arg5)) (m ((c.tc : Thread Cert.BranchRefIdeal.nD Cert.BranchRefIdeal.τ).loc Cert.BranchRefIdeal.main_arg6))).2.1 = (fun _ => 1#1)
    ∧ (Cert.Pre_branch_finite.fn (F := Ideal) (m ((c.tc : Thread Cert.BranchRefIdeal.nD Cert.BranchRefIdeal.τ).loc Cert.BranchRefIdeal.main_arg0)) (m ((c.tc : Thread Cert.BranchRefIdeal.nD Cert.BranchRefIdeal.τ).loc Cert.BranchRefIdeal.main_arg1)) (m ((c.tc : Thread Cert.BranchRefIdeal.nD Cert.BranchRefIdeal.τ).loc Cert.BranchRefIdeal.main_arg2)) (m ((c.tc : Thread Cert.BranchRefIdeal.nD Cert.BranchRefIdeal.τ).loc Cert.BranchRefIdeal.main_arg3)) (m ((c.tc : Thread Cert.BranchRefIdeal.nD Cert.BranchRefIdeal.τ).loc Cert.BranchRefIdeal.main_arg4)) (m ((c.tc : Thread Cert.BranchRefIdeal.nD Cert.BranchRefIdeal.τ).loc Cert.BranchRefIdeal.main_arg5)) (m ((c.tc : Thread Cert.BranchRefIdeal.nD Cert.BranchRefIdeal.τ).loc Cert.BranchRefIdeal.main_arg6))).2.2.1 = (fun _ => 1#1)
    ∧ (Cert.Pre_branch_finite.fn (F := Ideal) (m ((c.tc : Thread Cert.BranchRefIdeal.nD Cert.BranchRefIdeal.τ).loc Cert.BranchRefIdeal.main_arg0)) (m ((c.tc : Thread Cert.BranchRefIdeal.nD Cert.BranchRefIdeal.τ).loc Cert.BranchRefIdeal.main_arg1)) (m ((c.tc : Thread Cert.BranchRefIdeal.nD Cert.BranchRefIdeal.τ).loc Cert.BranchRefIdeal.main_arg2)) (m ((c.tc : Thread Cert.BranchRefIdeal.nD Cert.BranchRefIdeal.τ).loc Cert.BranchRefIdeal.main_arg3)) (m ((c.tc : Thread Cert.BranchRefIdeal.nD Cert.BranchRefIdeal.τ).loc Cert.BranchRefIdeal.main_arg4)) (m ((c.tc : Thread Cert.BranchRefIdeal.nD Cert.BranchRefIdeal.τ).loc Cert.BranchRefIdeal.main_arg5)) (m ((c.tc : Thread Cert.BranchRefIdeal.nD Cert.BranchRefIdeal.τ).loc Cert.BranchRefIdeal.main_arg6))).2.2.2.1 = (fun _ => 1#1)
    ∧ (Cert.Pre_branch_finite.fn (F := Ideal) (m ((c.tc : Thread Cert.BranchRefIdeal.nD Cert.BranchRefIdeal.τ).loc Cert.BranchRefIdeal.main_arg0)) (m ((c.tc : Thread Cert.BranchRefIdeal.nD Cert.BranchRefIdeal.τ).loc Cert.BranchRefIdeal.main_arg1)) (m ((c.tc : Thread Cert.BranchRefIdeal.nD Cert.BranchRefIdeal.τ).loc Cert.BranchRefIdeal.main_arg2)) (m ((c.tc : Thread Cert.BranchRefIdeal.nD Cert.BranchRefIdeal.τ).loc Cert.BranchRefIdeal.main_arg3)) (m ((c.tc : Thread Cert.BranchRefIdeal.nD Cert.BranchRefIdeal.τ).loc Cert.BranchRefIdeal.main_arg4)) (m ((c.tc : Thread Cert.BranchRefIdeal.nD Cert.BranchRefIdeal.τ).loc Cert.BranchRefIdeal.main_arg5)) (m ((c.tc : Thread Cert.BranchRefIdeal.nD Cert.BranchRefIdeal.τ).loc Cert.BranchRefIdeal.main_arg6))).2.2.2.2.1 = (fun _ => 1#1)
    ∧ (Cert.Pre_branch_finite.fn (F := Ideal) (m ((c.tc : Thread Cert.BranchRefIdeal.nD Cert.BranchRefIdeal.τ).loc Cert.BranchRefIdeal.main_arg0)) (m ((c.tc : Thread Cert.BranchRefIdeal.nD Cert.BranchRefIdeal.τ).loc Cert.BranchRefIdeal.main_arg1)) (m ((c.tc : Thread Cert.BranchRefIdeal.nD Cert.BranchRefIdeal.τ).loc Cert.BranchRefIdeal.main_arg2)) (m ((c.tc : Thread Cert.BranchRefIdeal.nD Cert.BranchRefIdeal.τ).loc Cert.BranchRefIdeal.main_arg3)) (m ((c.tc : Thread Cert.BranchRefIdeal.nD Cert.BranchRefIdeal.τ).loc Cert.BranchRefIdeal.main_arg4)) (m ((c.tc : Thread Cert.BranchRefIdeal.nD Cert.BranchRefIdeal.τ).loc Cert.BranchRefIdeal.main_arg5)) (m ((c.tc : Thread Cert.BranchRefIdeal.nD Cert.BranchRefIdeal.τ).loc Cert.BranchRefIdeal.main_arg6))).2.2.2.2.2.1 = (fun _ => 1#1)
    ∧ (Cert.Pre_branch_finite.fn (F := Ideal) (m ((c.tc : Thread Cert.BranchRefIdeal.nD Cert.BranchRefIdeal.τ).loc Cert.BranchRefIdeal.main_arg0)) (m ((c.tc : Thread Cert.BranchRefIdeal.nD Cert.BranchRefIdeal.τ).loc Cert.BranchRefIdeal.main_arg1)) (m ((c.tc : Thread Cert.BranchRefIdeal.nD Cert.BranchRefIdeal.τ).loc Cert.BranchRefIdeal.main_arg2)) (m ((c.tc : Thread Cert.BranchRefIdeal.nD Cert.BranchRefIdeal.τ).loc Cert.BranchRefIdeal.main_arg3)) (m ((c.tc : Thread Cert.BranchRefIdeal.nD Cert.BranchRefIdeal.τ).loc Cert.BranchRefIdeal.main_arg4)) (m ((c.tc : Thread Cert.BranchRefIdeal.nD Cert.BranchRefIdeal.τ).loc Cert.BranchRefIdeal.main_arg5)) (m ((c.tc : Thread Cert.BranchRefIdeal.nD Cert.BranchRefIdeal.τ).loc Cert.BranchRefIdeal.main_arg6))).2.2.2.2.2.2 = (fun _ => 1#1)

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_na_finite [hPre_na_finite : Cert.Pre_na_finite.Facts] (m : (ℓ : Loc Cert.NaIdeal.nD Cert.NaIdeal.τ Cert.NaIdeal.sig) → Buf (Elt Ideal) ℓ) : Prop :=
  ∀ c : Dev Cert.NaIdeal.nD,
    (Cert.Pre_na_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3)) (m ((c.tc : Thread Cert.NaIdeal.nD Cert.NaIdeal.τ).loc Cert.NaIdeal.main_arg4))).1 = (fun _ => 1#1)
    ∧ (Cert.Pre_na_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3)) (m ((c.tc : Thread Cert.NaIdeal.nD Cert.NaIdeal.τ).loc Cert.NaIdeal.main_arg4))).2.1 = (fun _ => 1#1)
    ∧ (Cert.Pre_na_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3)) (m ((c.tc : Thread Cert.NaIdeal.nD Cert.NaIdeal.τ).loc Cert.NaIdeal.main_arg4))).2.2.1 = (fun _ => 1#1)
    ∧ (Cert.Pre_na_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3)) (m ((c.tc : Thread Cert.NaIdeal.nD Cert.NaIdeal.τ).loc Cert.NaIdeal.main_arg4))).2.2.2.1 = (fun _ => 1#1)
    ∧ (Cert.Pre_na_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3)) (m ((c.tc : Thread Cert.NaIdeal.nD Cert.NaIdeal.τ).loc Cert.NaIdeal.main_arg4))).2.2.2.2 = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_na_finite [hPre_na_finite : Cert.Pre_na_finite.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_na_finite.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3)) (m ((c.tc : Thread Cert.NaRefIdeal.nD Cert.NaRefIdeal.τ).loc Cert.NaRefIdeal.main_arg4))).1 = (fun _ => 1#1)
    ∧ (Cert.Pre_na_finite.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3)) (m ((c.tc : Thread Cert.NaRefIdeal.nD Cert.NaRefIdeal.τ).loc Cert.NaRefIdeal.main_arg4))).2.1 = (fun _ => 1#1)
    ∧ (Cert.Pre_na_finite.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3)) (m ((c.tc : Thread Cert.NaRefIdeal.nD Cert.NaRefIdeal.τ).loc Cert.NaRefIdeal.main_arg4))).2.2.1 = (fun _ => 1#1)
    ∧ (Cert.Pre_na_finite.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3)) (m ((c.tc : Thread Cert.NaRefIdeal.nD Cert.NaRefIdeal.τ).loc Cert.NaRefIdeal.main_arg4))).2.2.2.1 = (fun _ => 1#1)
    ∧ (Cert.Pre_na_finite.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3)) (m ((c.tc : Thread Cert.NaRefIdeal.nD Cert.NaRefIdeal.τ).loc Cert.NaRefIdeal.main_arg4))).2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_finite [hPre_proj_finite : Cert.Pre_proj_finite.Facts] (m : (ℓ : Loc Cert.ProjIdeal.nD Cert.ProjIdeal.τ Cert.ProjIdeal.sig) → Buf (Elt Ideal) ℓ) : Prop :=
  ∀ c : Dev Cert.ProjIdeal.nD,
    (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))).1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))).2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))).2.2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))).2.2.2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))).2.2.2.2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))).2.2.2.2.2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))).2.2.2.2.2.2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))).2.2.2.2.2.2.2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))).2.2.2.2.2.2.2.2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_finite [hPre_proj_finite : Cert.Pre_proj_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8))).1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8))).2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8))).2.2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8))).2.2.2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8))).2.2.2.2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8))).2.2.2.2.2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8))).2.2.2.2.2.2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8))).2.2.2.2.2.2.2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8))).2.2.2.2.2.2.2.2 = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_dx_finite [hPre_dx_finite : Cert.Pre_dx_finite.Facts] (m : (ℓ : Loc Cert.DxIdeal.nD Cert.DxIdeal.τ Cert.DxIdeal.sig) → Buf (Elt Ideal) ℓ) : Prop :=
  ∀ c : Dev Cert.DxIdeal.nD,
    (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).2.1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).2.2.1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).2.2.2.1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).2.2.2.2.1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).2.2.2.2.2.1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).2.2.2.2.2.2.1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).2.2.2.2.2.2.2.1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).2.2.2.2.2.2.2.2.1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).2.2.2.2.2.2.2.2.2 = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_dx_finite [hPre_dx_finite : Cert.Pre_dx_finite.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9))).1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9))).2.1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9))).2.2.1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9))).2.2.2.1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9))).2.2.2.2.1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9))).2.2.2.2.2.1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9))).2.2.2.2.2.2.1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9))).2.2.2.2.2.2.2.1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9))).2.2.2.2.2.2.2.2.1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9))).2.2.2.2.2.2.2.2.2 = (fun _ => 1#1)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5)
      ∧ r.2.mem ((c.tc : Thread Cert.Branch.nD Cert.Branch.τ).loc Cert.Branch.main_arg6) = m ((c.tc : Thread Cert.Branch.nD Cert.Branch.τ).loc Cert.Branch.main_arg6))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ r.2.sem = fun _ => 0)

def quiescent_BranchIdeal_pre_branch_finite [hBranchIdeal : Cert.BranchIdeal.Facts] [hPre_branch_finite : Cert.Pre_branch_finite.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal_branch_finite m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6))
      ∧ r.2.sem = fun _ => 0)

def quiescent_BranchRefIdeal_pre_branch_finite [hBranchRefIdeal : Cert.BranchRefIdeal.Facts] [hPre_branch_finite : Cert.Pre_branch_finite.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal_branch_finite m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1)
      ∧ r.2.mem ((c.tc : Thread Cert.Na.nD Cert.Na.τ).loc Cert.Na.main_arg2) = m ((c.tc : Thread Cert.Na.nD Cert.Na.τ).loc Cert.Na.main_arg2)
      ∧ r.2.mem ((c.tc : Thread Cert.Na.nD Cert.Na.τ).loc Cert.Na.main_arg3) = m ((c.tc : Thread Cert.Na.nD Cert.Na.τ).loc Cert.Na.main_arg3)
      ∧ r.2.mem ((c.tc : Thread Cert.Na.nD Cert.Na.τ).loc Cert.Na.main_arg4) = m ((c.tc : Thread Cert.Na.nD Cert.Na.τ).loc Cert.Na.main_arg4))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3)
      ∧ r.2.mem ((c.tc : Thread Cert.NaIdeal.nD Cert.NaIdeal.τ).loc Cert.NaIdeal.main_arg4) = m ((c.tc : Thread Cert.NaIdeal.nD Cert.NaIdeal.τ).loc Cert.NaIdeal.main_arg4))
      ∧ r.2.sem = fun _ => 0)

def quiescent_NaIdeal_pre_na_finite [hNaIdeal : Cert.NaIdeal.Facts] [hPre_na_finite : Cert.Pre_na_finite.Facts] : Prop :=
  ∀ (m : (ℓ : Loc Cert.NaIdeal.nD Cert.NaIdeal.τ Cert.NaIdeal.sig) → Buf (Elt Ideal) ℓ) (g : Dev Cert.NaIdeal.nD → PrngReg), Pre_NaIdeal_na_finite m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3)
      ∧ r.2.mem ((c.tc : Thread Cert.NaIdeal.nD Cert.NaIdeal.τ).loc Cert.NaIdeal.main_arg4) = m ((c.tc : Thread Cert.NaIdeal.nD Cert.NaIdeal.τ).loc Cert.NaIdeal.main_arg4))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3)
      ∧ r.2.mem ((c.tc : Thread Cert.NaRefIdeal.nD Cert.NaRefIdeal.τ).loc Cert.NaRefIdeal.main_arg4) = m ((c.tc : Thread Cert.NaRefIdeal.nD Cert.NaRefIdeal.τ).loc Cert.NaRefIdeal.main_arg4))
      ∧ r.2.sem = fun _ => 0)

def quiescent_NaRefIdeal_pre_na_finite [hNaRefIdeal : Cert.NaRefIdeal.Facts] [hPre_na_finite : Cert.Pre_na_finite.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_na_finite m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3)
      ∧ r.2.mem ((c.tc : Thread Cert.NaRefIdeal.nD Cert.NaRefIdeal.τ).loc Cert.NaRefIdeal.main_arg4) = m ((c.tc : Thread Cert.NaRefIdeal.nD Cert.NaRefIdeal.τ).loc Cert.NaRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjIdeal_pre_proj_finite [hProjIdeal : Cert.ProjIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def quiescent_ProjRefIdeal_pre_proj_finite [hProjRefIdeal : Cert.ProjRefIdeal.Facts] [hPre_proj_finite : Cert.Pre_proj_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7)
      ∧ r.2.mem ((c.tc : Thread Cert.Dx.nD Cert.Dx.τ).loc Cert.Dx.main_arg8) = m ((c.tc : Thread Cert.Dx.nD Cert.Dx.τ).loc Cert.Dx.main_arg8)
      ∧ r.2.mem ((c.tc : Thread Cert.Dx.nD Cert.Dx.τ).loc Cert.Dx.main_arg9) = m ((c.tc : Thread Cert.Dx.nD Cert.Dx.τ).loc Cert.Dx.main_arg9))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9))
      ∧ r.2.sem = fun _ => 0)

def quiescent_DxIdeal_pre_dx_finite [hDxIdeal : Cert.DxIdeal.Facts] [hPre_dx_finite : Cert.Pre_dx_finite.Facts] : Prop :=
  ∀ (m : (ℓ : Loc Cert.DxIdeal.nD Cert.DxIdeal.τ Cert.DxIdeal.sig) → Buf (Elt Ideal) ℓ) (g : Dev Cert.DxIdeal.nD → PrngReg), Pre_DxIdeal_dx_finite m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7)
      ∧ r.2.mem ((c.tc : Thread Cert.DxRefIdeal.nD Cert.DxRefIdeal.τ).loc Cert.DxRefIdeal.main_arg8) = m ((c.tc : Thread Cert.DxRefIdeal.nD Cert.DxRefIdeal.τ).loc Cert.DxRefIdeal.main_arg8)
      ∧ r.2.mem ((c.tc : Thread Cert.DxRefIdeal.nD Cert.DxRefIdeal.τ).loc Cert.DxRefIdeal.main_arg9) = m ((c.tc : Thread Cert.DxRefIdeal.nD Cert.DxRefIdeal.τ).loc Cert.DxRefIdeal.main_arg9))
      ∧ r.2.sem = fun _ => 0)

def quiescent_DxRefIdeal_pre_dx_finite [hDxRefIdeal : Cert.DxRefIdeal.Facts] [hPre_dx_finite : Cert.Pre_dx_finite.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_dx_finite m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7)
      ∧ r.2.mem ((c.tc : Thread Cert.DxRefIdeal.nD Cert.DxRefIdeal.τ).loc Cert.DxRefIdeal.main_arg8) = m ((c.tc : Thread Cert.DxRefIdeal.nD Cert.DxRefIdeal.τ).loc Cert.DxRefIdeal.main_arg8)
      ∧ r.2.mem ((c.tc : Thread Cert.DxRefIdeal.nD Cert.DxRefIdeal.τ).loc Cert.DxRefIdeal.main_arg9) = m ((c.tc : Thread Cert.DxRefIdeal.nD Cert.DxRefIdeal.τ).loc Cert.DxRefIdeal.main_arg9))
      ∧ r.2.sem = fun _ => 0)

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)) →
    ∃ (v0 : (c : Dev Cert.HeadIdeal.nD) → Buf (Elt Ideal) ((c.tc : Thread Cert.HeadIdeal.nD Cert.HeadIdeal.τ).loc Cert.HeadIdeal.main_v6_0)) (v1 : (c : Dev Cert.HeadIdeal.nD) → Buf (Elt Ideal) ((c.tc : Thread Cert.HeadIdeal.nD Cert.HeadIdeal.τ).loc Cert.HeadIdeal.main_v6_1)) (v2 : (c : Dev Cert.HeadIdeal.nD) → Buf (Elt Ideal) ((c.tc : Thread Cert.HeadIdeal.nD Cert.HeadIdeal.τ).loc Cert.HeadIdeal.main_v6_2)) (v3 : (c : Dev Cert.HeadIdeal.nD) → Buf (Elt Ideal) ((c.tc : Thread Cert.HeadIdeal.nD Cert.HeadIdeal.τ).loc Cert.HeadIdeal.main_v6_3)) (v4 : (c : Dev Cert.HeadIdeal.nD) → Buf (Elt Ideal) ((c.tc : Thread Cert.HeadIdeal.nD Cert.HeadIdeal.τ).loc Cert.HeadIdeal.main_v6_4)) (v5 : (c : Dev Cert.HeadIdeal.nD) → Buf (Elt Ideal) ((c.tc : Thread Cert.HeadIdeal.nD Cert.HeadIdeal.τ).loc Cert.HeadIdeal.main_v6_5)) (v6 : (c : Dev Cert.HeadIdeal.nD) → Buf (Elt Ideal) ((c.tc : Thread Cert.HeadIdeal.nD Cert.HeadIdeal.τ).loc Cert.HeadIdeal.main_v6_6)) (v7 : (c : Dev Cert.HeadIdeal.nD) → Buf (Elt Ideal) ((c.tc : Thread Cert.HeadIdeal.nD Cert.HeadIdeal.τ).loc Cert.HeadIdeal.main_v6_7)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v6_0) = v0 c
          ∧ r.2.mem ((c.tc : Thread Cert.HeadIdeal.nD Cert.HeadIdeal.τ).loc Cert.HeadIdeal.main_v6_1) = v1 c
          ∧ r.2.mem ((c.tc : Thread Cert.HeadIdeal.nD Cert.HeadIdeal.τ).loc Cert.HeadIdeal.main_v6_2) = v2 c
          ∧ r.2.mem ((c.tc : Thread Cert.HeadIdeal.nD Cert.HeadIdeal.τ).loc Cert.HeadIdeal.main_v6_3) = v3 c
          ∧ r.2.mem ((c.tc : Thread Cert.HeadIdeal.nD Cert.HeadIdeal.τ).loc Cert.HeadIdeal.main_v6_4) = v4 c
          ∧ r.2.mem ((c.tc : Thread Cert.HeadIdeal.nD Cert.HeadIdeal.τ).loc Cert.HeadIdeal.main_v6_5) = v5 c
          ∧ r.2.mem ((c.tc : Thread Cert.HeadIdeal.nD Cert.HeadIdeal.τ).loc Cert.HeadIdeal.main_v6_6) = v6 c
          ∧ r.2.mem ((c.tc : Thread Cert.HeadIdeal.nD Cert.HeadIdeal.τ).loc Cert.HeadIdeal.main_v6_7) = v7 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v110) = v0 c
          ∧ r.2.mem ((c.tc : Thread Cert.HeadRefIdeal.nD Cert.HeadRefIdeal.τ).loc Cert.HeadRefIdeal.main_v66) = v1 c
          ∧ r.2.mem ((c.tc : Thread Cert.HeadRefIdeal.nD Cert.HeadRefIdeal.τ).loc Cert.HeadRefIdeal.main_v109) = v2 c
          ∧ r.2.mem ((c.tc : Thread Cert.HeadRefIdeal.nD Cert.HeadRefIdeal.τ).loc Cert.HeadRefIdeal.main_v108) = v3 c
          ∧ r.2.mem ((c.tc : Thread Cert.HeadRefIdeal.nD Cert.HeadRefIdeal.τ).loc Cert.HeadRefIdeal.main_v90) = v4 c
          ∧ r.2.mem ((c.tc : Thread Cert.HeadRefIdeal.nD Cert.HeadRefIdeal.τ).loc Cert.HeadRefIdeal.main_v119) = v5 c
          ∧ r.2.mem ((c.tc : Thread Cert.HeadRefIdeal.nD Cert.HeadRefIdeal.τ).loc Cert.HeadRefIdeal.main_v69) = v6 c
          ∧ r.2.mem ((c.tc : Thread Cert.HeadRefIdeal.nD Cert.HeadRefIdeal.τ).loc Cert.HeadRefIdeal.main_v64) = v7 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8))

def preserves_Branch_BranchIdeal : Prop :=
  IdealRules.named_const.Statement Cert.BranchIdeal.κ "gelu_cubic" .f32 0x3D372713#32 ((8943 / 200000 : ℝ) : EReal)
  ∧ IdealRules.named_const.Statement Cert.BranchIdeal.κ "gelu_cubic3" .f32 0x3E095D4F#32 ((26829 / 200000 : ℝ) : EReal)

def algebraic_BranchIdeal_BranchRefIdeal_pre_branch_finite [hBranchIdeal : Cert.BranchIdeal.Facts] [hBranchRefIdeal : Cert.BranchRefIdeal.Facts] [hPre_branch_finite : Cert.Pre_branch_finite.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal_branch_finite m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)
      ∧ m' ((c.tc : Thread Cert.BranchRefIdeal.nD Cert.BranchRefIdeal.τ).loc Cert.BranchRefIdeal.main_arg5) = m ((c.tc : Thread Cert.BranchIdeal.nD Cert.BranchIdeal.τ).loc Cert.BranchIdeal.main_arg5)
      ∧ m' ((c.tc : Thread Cert.BranchRefIdeal.nD Cert.BranchRefIdeal.τ).loc Cert.BranchRefIdeal.main_arg6) = m ((c.tc : Thread Cert.BranchIdeal.nD Cert.BranchIdeal.τ).loc Cert.BranchIdeal.main_arg6)) →
    ∃ (v0 : (c : Dev Cert.BranchIdeal.nD) → Buf (Elt Ideal) ((c.tc : Thread Cert.BranchIdeal.nD Cert.BranchIdeal.τ).loc Cert.BranchIdeal.main_v6_0)) (v1 : (c : Dev Cert.BranchIdeal.nD) → Buf (Elt Ideal) ((c.tc : Thread Cert.BranchIdeal.nD Cert.BranchIdeal.τ).loc Cert.BranchIdeal.main_v6_1)) (v2 : (c : Dev Cert.BranchIdeal.nD) → Buf (Elt Ideal) ((c.tc : Thread Cert.BranchIdeal.nD Cert.BranchIdeal.τ).loc Cert.BranchIdeal.main_v6_2)) (v3 : (c : Dev Cert.BranchIdeal.nD) → Buf (Elt Ideal) ((c.tc : Thread Cert.BranchIdeal.nD Cert.BranchIdeal.τ).loc Cert.BranchIdeal.main_v6_3)) (v4 : (c : Dev Cert.BranchIdeal.nD) → Buf (Elt Ideal) ((c.tc : Thread Cert.BranchIdeal.nD Cert.BranchIdeal.τ).loc Cert.BranchIdeal.main_v6_4)) (v5 : (c : Dev Cert.BranchIdeal.nD) → Buf (Elt Ideal) ((c.tc : Thread Cert.BranchIdeal.nD Cert.BranchIdeal.τ).loc Cert.BranchIdeal.main_v6_5)) (v6 : (c : Dev Cert.BranchIdeal.nD) → Buf (Elt Ideal) ((c.tc : Thread Cert.BranchIdeal.nD Cert.BranchIdeal.τ).loc Cert.BranchIdeal.main_v6_6)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v6_0) = v0 c
          ∧ r.2.mem ((c.tc : Thread Cert.BranchIdeal.nD Cert.BranchIdeal.τ).loc Cert.BranchIdeal.main_v6_1) = v1 c
          ∧ r.2.mem ((c.tc : Thread Cert.BranchIdeal.nD Cert.BranchIdeal.τ).loc Cert.BranchIdeal.main_v6_2) = v2 c
          ∧ r.2.mem ((c.tc : Thread Cert.BranchIdeal.nD Cert.BranchIdeal.τ).loc Cert.BranchIdeal.main_v6_3) = v3 c
          ∧ r.2.mem ((c.tc : Thread Cert.BranchIdeal.nD Cert.BranchIdeal.τ).loc Cert.BranchIdeal.main_v6_4) = v4 c
          ∧ r.2.mem ((c.tc : Thread Cert.BranchIdeal.nD Cert.BranchIdeal.τ).loc Cert.BranchIdeal.main_v6_5) = v5 c
          ∧ r.2.mem ((c.tc : Thread Cert.BranchIdeal.nD Cert.BranchIdeal.τ).loc Cert.BranchIdeal.main_v6_6) = v6 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
          ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v75) = v0 c
          ∧ r.2.mem ((c.tc : Thread Cert.BranchRefIdeal.nD Cert.BranchRefIdeal.τ).loc Cert.BranchRefIdeal.main_v76) = v1 c
          ∧ r.2.mem ((c.tc : Thread Cert.BranchRefIdeal.nD Cert.BranchRefIdeal.τ).loc Cert.BranchRefIdeal.main_v77) = v2 c
          ∧ r.2.mem ((c.tc : Thread Cert.BranchRefIdeal.nD Cert.BranchRefIdeal.τ).loc Cert.BranchRefIdeal.main_v78) = v3 c
          ∧ r.2.mem ((c.tc : Thread Cert.BranchRefIdeal.nD Cert.BranchRefIdeal.τ).loc Cert.BranchRefIdeal.main_v79) = v4 c
          ∧ r.2.mem ((c.tc : Thread Cert.BranchRefIdeal.nD Cert.BranchRefIdeal.τ).loc Cert.BranchRefIdeal.main_v57) = v5 c
          ∧ r.2.mem ((c.tc : Thread Cert.BranchRefIdeal.nD Cert.BranchRefIdeal.τ).loc Cert.BranchRefIdeal.main_v80) = v6 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4)
          ∧ r.2.mem ((c.tc : Thread Cert.BranchRefIdeal.nD Cert.BranchRefIdeal.τ).loc Cert.BranchRefIdeal.main_arg5) = m' ((c.tc : Thread Cert.BranchRefIdeal.nD Cert.BranchRefIdeal.τ).loc Cert.BranchRefIdeal.main_arg5)
          ∧ r.2.mem ((c.tc : Thread Cert.BranchRefIdeal.nD Cert.BranchRefIdeal.τ).loc Cert.BranchRefIdeal.main_arg6) = m' ((c.tc : Thread Cert.BranchRefIdeal.nD Cert.BranchRefIdeal.τ).loc Cert.BranchRefIdeal.main_arg6))

def preserves_Na_NaIdeal : Prop :=
  True

def algebraic_NaIdeal_NaRefIdeal_pre_na_finite [hNaIdeal : Cert.NaIdeal.Facts] [hNaRefIdeal : Cert.NaRefIdeal.Facts] [hPre_na_finite : Cert.Pre_na_finite.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_na_finite m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)
      ∧ m' ((c.tc : Thread Cert.NaRefIdeal.nD Cert.NaRefIdeal.τ).loc Cert.NaRefIdeal.main_arg2) = m ((c.tc : Thread Cert.NaIdeal.nD Cert.NaIdeal.τ).loc Cert.NaIdeal.main_arg2)
      ∧ m' ((c.tc : Thread Cert.NaRefIdeal.nD Cert.NaRefIdeal.τ).loc Cert.NaRefIdeal.main_arg3) = m ((c.tc : Thread Cert.NaIdeal.nD Cert.NaIdeal.τ).loc Cert.NaIdeal.main_arg3)
      ∧ m' ((c.tc : Thread Cert.NaRefIdeal.nD Cert.NaRefIdeal.τ).loc Cert.NaRefIdeal.main_arg4) = m ((c.tc : Thread Cert.NaIdeal.nD Cert.NaIdeal.τ).loc Cert.NaIdeal.main_arg4)) →
    ∃ (v0 : (c : Dev Cert.NaIdeal.nD) → Buf (Elt Ideal) ((c.tc : Thread Cert.NaIdeal.nD Cert.NaIdeal.τ).loc Cert.NaIdeal.main_v222_0)) (v1 : (c : Dev Cert.NaIdeal.nD) → Buf (Elt Ideal) ((c.tc : Thread Cert.NaIdeal.nD Cert.NaIdeal.τ).loc Cert.NaIdeal.main_v222_1)) (v2 : (c : Dev Cert.NaIdeal.nD) → Buf (Elt Ideal) ((c.tc : Thread Cert.NaIdeal.nD Cert.NaIdeal.τ).loc Cert.NaIdeal.main_v222_2)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v222_0) = v0 c
          ∧ r.2.mem ((c.tc : Thread Cert.NaIdeal.nD Cert.NaIdeal.τ).loc Cert.NaIdeal.main_v222_1) = v1 c
          ∧ r.2.mem ((c.tc : Thread Cert.NaIdeal.nD Cert.NaIdeal.τ).loc Cert.NaIdeal.main_v222_2) = v2 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
          ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
          ∧ r.2.mem ((c.tc : Thread Cert.NaIdeal.nD Cert.NaIdeal.τ).loc Cert.NaIdeal.main_arg3) = m ((c.tc : Thread Cert.NaIdeal.nD Cert.NaIdeal.τ).loc Cert.NaIdeal.main_arg3)
          ∧ r.2.mem ((c.tc : Thread Cert.NaIdeal.nD Cert.NaIdeal.τ).loc Cert.NaIdeal.main_arg4) = m ((c.tc : Thread Cert.NaIdeal.nD Cert.NaIdeal.τ).loc Cert.NaIdeal.main_arg4))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v145) = v0 c
          ∧ r.2.mem ((c.tc : Thread Cert.NaRefIdeal.nD Cert.NaRefIdeal.τ).loc Cert.NaRefIdeal.main_v143) = v1 c
          ∧ r.2.mem ((c.tc : Thread Cert.NaRefIdeal.nD Cert.NaRefIdeal.τ).loc Cert.NaRefIdeal.main_v121) = v2 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1)
          ∧ r.2.mem ((c.tc : Thread Cert.NaRefIdeal.nD Cert.NaRefIdeal.τ).loc Cert.NaRefIdeal.main_arg2) = m' ((c.tc : Thread Cert.NaRefIdeal.nD Cert.NaRefIdeal.τ).loc Cert.NaRefIdeal.main_arg2)
          ∧ r.2.mem ((c.tc : Thread Cert.NaRefIdeal.nD Cert.NaRefIdeal.τ).loc Cert.NaRefIdeal.main_arg3) = m' ((c.tc : Thread Cert.NaRefIdeal.nD Cert.NaRefIdeal.τ).loc Cert.NaRefIdeal.main_arg3)
          ∧ r.2.mem ((c.tc : Thread Cert.NaRefIdeal.nD Cert.NaRefIdeal.τ).loc Cert.NaRefIdeal.main_arg4) = m' ((c.tc : Thread Cert.NaRefIdeal.nD Cert.NaRefIdeal.τ).loc Cert.NaRefIdeal.main_arg4))

def preserves_Proj_ProjIdeal : Prop :=
  True

def algebraic_ProjIdeal_ProjRefIdeal_pre_proj_finite [hProjIdeal : Cert.ProjIdeal.Facts] [hProjRefIdeal : Cert.ProjRefIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_proj_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v18_0)) (v1 : (c : Dev Cert.ProjIdeal.nD) → Buf (Elt Ideal) ((c.tc : Thread Cert.ProjIdeal.nD Cert.ProjIdeal.τ).loc Cert.ProjIdeal.main_v18_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v18_0) = v0 c
          ∧ r.2.mem ((c.tc : Thread Cert.ProjIdeal.nD Cert.ProjIdeal.τ).loc Cert.ProjIdeal.main_v18_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v29) = v0 c
          ∧ r.2.mem ((c.tc : Thread Cert.ProjRefIdeal.nD Cert.ProjRefIdeal.τ).loc Cert.ProjRefIdeal.main_v30) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def preserves_Dx_DxIdeal : Prop :=
  True

def algebraic_DxIdeal_DxRefIdeal_pre_dx_finite [hDxIdeal : Cert.DxIdeal.Facts] [hDxRefIdeal : Cert.DxRefIdeal.Facts] [hPre_dx_finite : Cert.Pre_dx_finite.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal_dx_finite m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)
      ∧ m' ((c.tc : Thread Cert.DxRefIdeal.nD Cert.DxRefIdeal.τ).loc Cert.DxRefIdeal.main_arg7) = m ((c.tc : Thread Cert.DxIdeal.nD Cert.DxIdeal.τ).loc Cert.DxIdeal.main_arg7)
      ∧ m' ((c.tc : Thread Cert.DxRefIdeal.nD Cert.DxRefIdeal.τ).loc Cert.DxRefIdeal.main_arg8) = m ((c.tc : Thread Cert.DxIdeal.nD Cert.DxIdeal.τ).loc Cert.DxIdeal.main_arg8)
      ∧ m' ((c.tc : Thread Cert.DxRefIdeal.nD Cert.DxRefIdeal.τ).loc Cert.DxRefIdeal.main_arg9) = m ((c.tc : Thread Cert.DxIdeal.nD Cert.DxIdeal.τ).loc Cert.DxIdeal.main_arg9)) →
    ∃ (v0 : (c : Dev Cert.DxIdeal.nD) → Buf (Elt Ideal) ((c.tc : Thread Cert.DxIdeal.nD Cert.DxIdeal.τ).loc Cert.DxIdeal.main_v18)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v18) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
          ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
          ∧ r.2.mem ((c.tc : Thread Cert.DxIdeal.nD Cert.DxIdeal.τ).loc Cert.DxIdeal.main_arg9) = m ((c.tc : Thread Cert.DxIdeal.nD Cert.DxIdeal.τ).loc Cert.DxIdeal.main_arg9))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v41) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7)
          ∧ r.2.mem ((c.tc : Thread Cert.DxRefIdeal.nD Cert.DxRefIdeal.τ).loc Cert.DxRefIdeal.main_arg8) = m' ((c.tc : Thread Cert.DxRefIdeal.nD Cert.DxRefIdeal.τ).loc Cert.DxRefIdeal.main_arg8)
          ∧ r.2.mem ((c.tc : Thread Cert.DxRefIdeal.nD Cert.DxRefIdeal.τ).loc Cert.DxRefIdeal.main_arg9) = m' ((c.tc : Thread Cert.DxRefIdeal.nD Cert.DxRefIdeal.τ).loc Cert.DxRefIdeal.main_arg9))

def Claim : Prop :=
  ∃ (hHead : Cert.Head.Facts) (hHeadIdeal : Cert.HeadIdeal.Facts) (hHeadRefIdeal : Cert.HeadRefIdeal.Facts) (hBranch : Cert.Branch.Facts) (hBranchIdeal : Cert.BranchIdeal.Facts) (hBranchRefIdeal : Cert.BranchRefIdeal.Facts) (hNa : Cert.Na.Facts) (hNaIdeal : Cert.NaIdeal.Facts) (hNaRefIdeal : Cert.NaRefIdeal.Facts) (hProj : Cert.Proj.Facts) (hProjIdeal : Cert.ProjIdeal.Facts) (hProjRefIdeal : Cert.ProjRefIdeal.Facts) (hDx : Cert.Dx.Facts) (hDxIdeal : Cert.DxIdeal.Facts) (hDxRefIdeal : Cert.DxRefIdeal.Facts) (hPre_head_finite : Cert.Pre_head_finite.Facts) (hPre_branch_finite : Cert.Pre_branch_finite.Facts) (hPre_na_finite : Cert.Pre_na_finite.Facts) (hPre_proj_finite : Cert.Pre_proj_finite.Facts) (hPre_dx_finite : Cert.Pre_dx_finite.Facts),
    quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_Branch (hBranch := hBranch)
    ∧ quiescent_BranchIdeal (hBranchIdeal := hBranchIdeal)
    ∧ quiescent_BranchIdeal_pre_branch_finite (hBranchIdeal := hBranchIdeal) (hPre_branch_finite := hPre_branch_finite)
    ∧ quiescent_BranchRefIdeal (hBranchRefIdeal := hBranchRefIdeal)
    ∧ quiescent_BranchRefIdeal_pre_branch_finite (hBranchRefIdeal := hBranchRefIdeal) (hPre_branch_finite := hPre_branch_finite)
    ∧ quiescent_Na (hNa := hNa)
    ∧ quiescent_NaIdeal (hNaIdeal := hNaIdeal)
    ∧ quiescent_NaIdeal_pre_na_finite (hNaIdeal := hNaIdeal) (hPre_na_finite := hPre_na_finite)
    ∧ quiescent_NaRefIdeal (hNaRefIdeal := hNaRefIdeal)
    ∧ quiescent_NaRefIdeal_pre_na_finite (hNaRefIdeal := hNaRefIdeal) (hPre_na_finite := hPre_na_finite)
    ∧ quiescent_Proj (hProj := hProj)
    ∧ quiescent_ProjIdeal (hProjIdeal := hProjIdeal)
    ∧ quiescent_ProjIdeal_pre_proj_finite (hProjIdeal := hProjIdeal) (hPre_proj_finite := hPre_proj_finite)
    ∧ quiescent_ProjRefIdeal (hProjRefIdeal := hProjRefIdeal)
    ∧ quiescent_ProjRefIdeal_pre_proj_finite (hProjRefIdeal := hProjRefIdeal) (hPre_proj_finite := hPre_proj_finite)
    ∧ quiescent_Dx (hDx := hDx)
    ∧ quiescent_DxIdeal (hDxIdeal := hDxIdeal)
    ∧ quiescent_DxIdeal_pre_dx_finite (hDxIdeal := hDxIdeal) (hPre_dx_finite := hPre_dx_finite)
    ∧ quiescent_DxRefIdeal (hDxRefIdeal := hDxRefIdeal)
    ∧ quiescent_DxRefIdeal_pre_dx_finite (hDxRefIdeal := hDxRefIdeal) (hPre_dx_finite := hPre_dx_finite)
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_Branch_BranchIdeal
    ∧ algebraic_BranchIdeal_BranchRefIdeal_pre_branch_finite (hBranchIdeal := hBranchIdeal) (hBranchRefIdeal := hBranchRefIdeal) (hPre_branch_finite := hPre_branch_finite)
    ∧ preserves_Na_NaIdeal
    ∧ algebraic_NaIdeal_NaRefIdeal_pre_na_finite (hNaIdeal := hNaIdeal) (hNaRefIdeal := hNaRefIdeal) (hPre_na_finite := hPre_na_finite)
    ∧ preserves_Proj_ProjIdeal
    ∧ algebraic_ProjIdeal_ProjRefIdeal_pre_proj_finite (hProjIdeal := hProjIdeal) (hProjRefIdeal := hProjRefIdeal) (hPre_proj_finite := hPre_proj_finite)
    ∧ preserves_Dx_DxIdeal
    ∧ algebraic_DxIdeal_DxRefIdeal_pre_dx_finite (hDxIdeal := hDxIdeal) (hDxRefIdeal := hDxRefIdeal) (hPre_dx_finite := hPre_dx_finite)
-- ==== Pre_branch_finite.lean ====
abbrev S8192x512 : Shape := ⟨2, ![8192, 512]⟩
abbrev S512x512 : Shape := ⟨2, ![512, 512]⟩
abbrev S512 : Shape := ⟨1, ![512]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  bcast_S_S512x512 : S_.BroadcastsInDim S512x512 (![] : Fin 0 → Fin S512x512.rank)
  bcast_S_S512 : S_.BroadcastsInDim S512 (![] : Fin 0 → Fin S512.rank)
  bcast_S_S8192x1024 : S_.BroadcastsInDim S8192x1024 (![] : Fin 0 → Fin S8192x1024.rank)

variable [Facts]

def fn_part1 {F : FTy → Type} [FloatOps F] (main_arg6 : FVec F S8192x1024 .f32) (main_v2 : IVec S8192x512 1) (main_v5 : IVec S8192x512 1) (main_v8 : IVec S8192x512 1) (main_v11 : IVec S8192x512 1) (main_v14 : IVec S512x512 1) (main_v17 : IVec S512 1) : IVec S8192x512 1 × IVec S8192x512 1 × IVec S8192x512 1 × IVec S8192x512 1 × IVec S512x512 1 × IVec S512 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x512 .f32) (main_arg1 : FVec F S8192x512 .f32) (main_arg2 : FVec F S8192x512 .f32) (main_arg3 : FVec F S8192x512 .f32) (main_arg4 : FVec F S512x512 .f32) (main_arg5 : FVec F S512 .f32) (main_arg6 : FVec F S8192x1024 .f32) : IVec S8192x512 1 × IVec S8192x512 1 × IVec S8192x512 1 × IVec S8192x512 1 × IVec S512x512 1 × IVec S512 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S512x512 .f32 := Host.absf main_arg4
  let main_cst_3 : FVec F S_ .f32 := constant S_ .f32 0x7F800000#32
  let main_v13 : FVec F S512x512 .f32 := broadcastInDim S512x512 ![] bcast_S_S512x512 main_cst_3
  let main_v14 : IVec S512x512 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_v2 main_v5 main_v8 main_v11 main_v14 main_v17
-- ==== Pre_dx_finite.lean ====
abbrev S8192x1024 : Shape := ⟨2, ![8192, 1024]⟩
abbrev S1024 : Shape := ⟨1, ![1024]⟩
abbrev S1024x3072 : Shape := ⟨2, ![1024, 3072]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x3072 : S_.BroadcastsInDim S1024x3072 (![] : Fin 0 → Fin S1024x3072.rank)
  bcast_S_S8192x512 : S_.BroadcastsInDim S8192x512 (![] : Fin 0 → Fin S8192x512.rank)

variable [Facts]

def fn_part1 {F : FTy → Type} [FloatOps F] (main_arg6 : FVec F S8192x512 .f32) (main_arg7 : FVec F S8192x512 .f32) (main_arg8 : FVec F S8192x512 .f32) (main_arg9 : FVec F S8192x512 .f32) (main_v2 : IVec S8192x1024 1) (main_v5 : IVec S1024 1) (main_v8 : IVec S1024x3072 1) (main_v11 : IVec S8192x1024 1) (main_v14 : IVec S8192x512 1) (main_v17 : IVec S8192x512 1) : IVec S8192x1024 1 × IVec S1024 1 × IVec S1024x3072 1 × IVec S8192x1024 1 × IVec S8192x512 1 × IVec S8192x512 1 × IVec S8192x512 1 × IVec S8192x512 1 × IVec S8192x512 1 × IVec S8192x512 1 :=
  let main_v18 : FVec F S8192x512 .f32 := Host.absf main_arg6
  let main_cst_5 : FVec F S_ .f32 := constant S_ .f32 0x7F800000#32
  let main_v19 : FVec F S8192x512 .f32 := broadcastInDim S8192x512 ![] bcast_S_S8192x512 main_cst_5
  let main_v20 : IVec S8192x512 1 := cmpf .olt main_v18 main_v19
  let main_v21 : FVec F S8192x512 .f32 := Host.absf main_arg7
  let main_cst_6 : FVec F S_ .f32 := constant S_ .f32 0x7F800000#32
  let main_v22 : FVec F S8192x512 .f32 := broadcastInDim S8192x512 ![] bcast_S_S8192x512 main_cst_6
  let main_v23 : IVec S8192x512 1 := cmpf .olt main_v21 main_v22
  let main_v24 : FVec F S8192x512 .f32 := Host.absf main_arg8
  let main_cst_7 : FVec F S_ .f32 := constant S_ .f32 0x7F800000#32
  let main_v25 : FVec F S8192x512 .f32 := broadcastInDim S8192x512 ![] bcast_S_S8192x512 main_cst_7
  let main_v26 : IVec S8192x512 1 := cmpf .olt main_v24 main_v25
  let main_v27 : FVec F S8192x512 .f32 := Host.absf main_arg9
  let main_cst_8 : FVec F S_ .f32 := constant S_ .f32 0x7F800000#32
  let main_v28 : FVec F S8192x512 .f32 := broadcastInDim S8192x512 ![] bcast_S_S8192x512 main_cst_8
  let main_v29 : IVec S8192x512 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S1024 .f32) (main_arg2 : FVec F S1024x3072 .f32) (main_arg3 : FVec F S8192x1024 .f32) (main_arg4 : FVec F S8192x512 .f32) (main_arg5 : FVec F S8192x512 .f32) (main_arg6 : FVec F S8192x512 .f32) (main_arg7 : FVec F S8192x512 .f32) (main_arg8 : FVec F S8192x512 .f32) (main_arg9 : FVec F S8192x512 .f32) : IVec S8192x1024 1 × IVec S1024 1 × IVec S1024x3072 1 × IVec S8192x1024 1 × IVec S8192x512 1 × IVec S8192x512 1 × IVec S8192x512 1 × IVec S8192x512 1 × IVec S8192x512 1 × IVec S8192x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3072 .f32 := Host.absf main_arg2
  let main_cst_1 : FVec F S_ .f32 := constant S_ .f32 0x7F800000#32
  let main_v7 : FVec F S1024x3072 .f32 := broadcastInDim S1024x3072 ![] bcast_S_S1024x3072 main_cst_1
  let main_v8 : IVec S1024x3072 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_arg7 main_arg8 main_arg9 main_v2 main_v5 main_v8 main_v11 main_v14 main_v17
-- ==== Pre_head_finite.lean ====
abbrev S8192x1024 : Shape := ⟨2, ![8192, 1024]⟩
abbrev S8192x256 : Shape := ⟨2, ![8192, 256]⟩
abbrev S1024x1024 : Shape := ⟨2, ![1024, 1024]⟩
abbrev S1x1024 : Shape := ⟨2, ![1, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S256x1024 : S_.BroadcastsInDim S256x1024 (![] : Fin 0 → Fin S256x1024.rank)

variable [Facts]

def fn_part1 {F : FTy → Type} [FloatOps F] (main_arg6 : FVec F S256x1024 .f32) (main_arg7 : FVec F S1x1024 .f32) (main_arg8 : FVec F S1024x1024 .f32) (main_v2 : IVec S8192x1024 1) (main_v5 : IVec S8192x256 1) (main_v8 : IVec S8192x1024 1) (main_v11 : IVec S8192x1024 1) (main_v14 : IVec S1024x1024 1) (main_v17 : IVec S1x1024 1) : IVec S8192x1024 1 × IVec S8192x256 1 × IVec S8192x1024 1 × IVec S8192x1024 1 × IVec S1024x1024 1 × IVec S1x1024 1 × IVec S256x1024 1 × IVec S1x1024 1 × IVec S1024x1024 1 :=
  let main_v18 : FVec F S256x1024 .f32 := Host.absf main_arg6
  let main_cst_5 : FVec F S_ .f32 := constant S_ .f32 0x7F800000#32
  let main_v19 : FVec F S256x1024 .f32 := broadcastInDim S256x1024 ![] bcast_S_S256x1024 main_cst_5
  let main_v20 : IVec S256x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S8192x256 .f32) (main_arg2 : FVec F S8192x1024 .f32) (main_arg3 : FVec F S8192x1024 .f32) (main_arg4 : FVec F S1024x1024 .f32) (main_arg5 : FVec F S1x1024 .f32) (main_arg6 : FVec F S256x1024 .f32) (main_arg7 : FVec F S1x1024 .f32) (main_arg8 : FVec F S1024x1024 .f32) : IVec S8192x1024 1 × IVec S8192x256 1 × IVec S8192x1024 1 × IVec S8192x1024 1 × IVec S1024x1024 1 × IVec S1x1024 1 × IVec S256x1024 1 × IVec S1x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_v2 main_v5 main_v8 main_v11 main_v14 main_v17
-- ==== Pre_na_finite.lean ====
abbrev S8192x512 : Shape := ⟨2, ![8192, 512]⟩
abbrev S8x15x31 : Shape := ⟨3, ![8, 15, 31]⟩
abbrev S_ : Shape := ⟨0, ![]⟩

class Facts : Prop where
  bcast_S_S8192x512 : S_.BroadcastsInDim S8192x512 (![] : Fin 0 → Fin S8192x512.rank)
  bcast_S_S8x15x31 : S_.BroadcastsInDim S8x15x31 (![] : Fin 0 → Fin S8x15x31.rank)

variable [Facts]

def fn {F : FTy → Type} [FloatOps F] (main_arg0 : FVec F S8192x512 .f32) (main_arg1 : FVec F S8192x512 .f32) (main_arg2 : FVec F S8192x512 .f32) (main_arg3 : FVec F S8x15x31 .f32) (main_arg4 : FVec F S8192x512 .f32) : IVec S8192x512 1 × IVec S8192x512 1 × IVec S8192x512 1 × IVec S8x15x31 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8x15x31 .f32 := Host.absf main_arg3
  let main_cst_2 : FVec F S_ .f32 := constant S_ .f32 0x7F800000#32
  let main_v10 : FVec F S8x15x31 .f32 := broadcastInDim S8x15x31 ![] bcast_S_S8x15x31 main_cst_2
  let main_v11 : IVec S8x15x31 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  (main_v2, main_v5, main_v8, main_v11, main_v14)
-- ==== Pre_proj_finite.lean ====
abbrev S8192x1024 : Shape := ⟨2, ![8192, 1024]⟩
abbrev S1024 : Shape := ⟨1, ![1024]⟩
abbrev S1024x3072 : Shape := ⟨2, ![1024, 3072]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x3072 : S_.BroadcastsInDim S1024x3072 (![] : Fin 0 → Fin S1024x3072.rank)
  bcast_S_S8192x512 : S_.BroadcastsInDim S8192x512 (![] : Fin 0 → Fin S8192x512.rank)

variable [Facts]

def fn_part1 {F : FTy → Type} [FloatOps F] (main_arg6 : FVec F S8192x512 .f32) (main_arg7 : FVec F S8192x512 .f32) (main_arg8 : FVec F S8192x512 .f32) (main_v2 : IVec S8192x1024 1) (main_v5 : IVec S1024 1) (main_v8 : IVec S1024x3072 1) (main_v11 : IVec S8192x512 1) (main_v14 : IVec S8192x512 1) (main_v17 : IVec S8192x512 1) : IVec S8192x1024 1 × IVec S1024 1 × IVec S1024x3072 1 × IVec S8192x512 1 × IVec S8192x512 1 × IVec S8192x512 1 × IVec S8192x512 1 × IVec S8192x512 1 × IVec S8192x512 1 :=
  let main_v18 : FVec F S8192x512 .f32 := Host.absf main_arg6
  let main_cst_5 : FVec F S_ .f32 := constant S_ .f32 0x7F800000#32
  let main_v19 : FVec F S8192x512 .f32 := broadcastInDim S8192x512 ![] bcast_S_S8192x512 main_cst_5
  let main_v20 : IVec S8192x512 1 := cmpf .olt main_v18 main_v19
  let main_v21 : FVec F S8192x512 .f32 := Host.absf main_arg7
  let main_cst_6 : FVec F S_ .f32 := constant S_ .f32 0x7F800000#32
  let main_v22 : FVec F S8192x512 .f32 := broadcastInDim S8192x512 ![] bcast_S_S8192x512 main_cst_6
  let main_v23 : IVec S8192x512 1 := cmpf .olt main_v21 main_v22
  let main_v24 : FVec F S8192x512 .f32 := Host.absf main_arg8
  let main_cst_7 : FVec F S_ .f32 := constant S_ .f32 0x7F800000#32
  let main_v25 : FVec F S8192x512 .f32 := broadcastInDim S8192x512 ![] bcast_S_S8192x512 main_cst_7
  let main_v26 : IVec S8192x512 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S1024 .f32) (main_arg2 : FVec F S1024x3072 .f32) (main_arg3 : FVec F S8192x512 .f32) (main_arg4 : FVec F S8192x512 .f32) (main_arg5 : FVec F S8192x512 .f32) (main_arg6 : FVec F S8192x512 .f32) (main_arg7 : FVec F S8192x512 .f32) (main_arg8 : FVec F S8192x512 .f32) : IVec S8192x1024 1 × IVec S1024 1 × IVec S1024x3072 1 × IVec S8192x512 1 × IVec S8192x512 1 × IVec S8192x512 1 × IVec S8192x512 1 × IVec S8192x512 1 × IVec S8192x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3072 .f32 := Host.absf main_arg2
  let main_cst_1 : FVec F S_ .f32 := constant S_ .f32 0x7F800000#32
  let main_v7 : FVec F S1024x3072 .f32 := broadcastInDim S1024x3072 ![] bcast_S_S1024x3072 main_cst_1
  let main_v8 : IVec S1024x3072 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_arg7 main_arg8 main_v2 main_v5 main_v8 main_v11 main_v14 main_v17
-- ==== Head.lean ====
abbrev S8192x1024 : Shape := ⟨2, ![8192, 1024]⟩
abbrev S8192x256 : Shape := ⟨2, ![8192, 256]⟩
abbrev S1024x1024 : Shape := ⟨2, ![1024, 1024]⟩
abbrev S1x1024 : Shape := ⟨2, ![1, 1024]⟩
abbrev S256x1024 : Shape := ⟨2, ![256, 1024]⟩
abbrev S256x4x256 : Shape := ⟨3, ![256, 4, 256]⟩
abbrev S4x256x256 : Shape := ⟨3, ![4, 256, 256]⟩
abbrev S1x1 : Shape := ⟨2, ![1, 1]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 23
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1x1024, .f32⟩
  | .hbm, ⟨6, _⟩ => ⟨S256x1024, .f32⟩
  | .hbm, ⟨7, _⟩ => ⟨S1x1024, .f32⟩
  | .hbm, ⟨8, _⟩ => ⟨S1024x1024, .f32⟩
  | .hbm, ⟨9, _⟩ => ⟨S256x1024, .bf16⟩
  | .hbm, ⟨10, _⟩ => ⟨S256x4x256, .bf16⟩
  | .hbm, ⟨11, _⟩ => ⟨S4x256x256, .bf16⟩
  | .hbm, ⟨12, _⟩ => ⟨S8192x1024, .bf16⟩
  | .hbm, ⟨13, _⟩ => ⟨S1024x1024, .bf16⟩
  | .hbm, ⟨14, _⟩ => ⟨S1024x1024, .bf16⟩
  | .hbm, ⟨15, _⟩ => ⟨S1x1, .f32⟩
  | .hbm, ⟨16, _⟩ => ⟨S8192x1024, .f32⟩
  | .hbm, ⟨17, _⟩ => ⟨S8192x1024, .f32⟩
  | .hbm, ⟨18, _⟩ => ⟨S1024x1024, .f32⟩
  | .hbm, ⟨19, _⟩ => ⟨S1x1024, .f32⟩
  | .hbm, ⟨20, _⟩ => ⟨S4x256x256, .f32⟩
  | .hbm, ⟨21, _⟩ => ⟨S1x1024, .f32⟩
  | .hbm, ⟨22, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S4x256x256, .bf16⟩
  | .local _ .vmem, ⟨11, _⟩ => ⟨S1x1024, .f32⟩
  | .local _ .vmem, ⟨12, _⟩ => ⟨S1024x1024, .bf16⟩
  | .local _ .vmem, ⟨13, _⟩ => ⟨S1x1, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1024x1024, .f32⟩
  | .local _ .vmem, ⟨19, _⟩ => ⟨S1x1024, .f32⟩
  | .local _ .vmem, ⟨20, _⟩ => ⟨S4x256x256, .f32⟩
  | .local _ .vmem, ⟨21, _⟩ => ⟨S1x1024, .f32⟩
  | .local _ .vmem, ⟨22, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev main_v6_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== HeadRefIdeal.lean ====
abbrev S8192x1024 : Shape := ⟨2, ![8192, 1024]⟩
abbrev S8192x256 : Shape := ⟨2, ![8192, 256]⟩
abbrev S1024x1024 : Shape := ⟨2, ![1024, 1024]⟩
abbrev S1x1024 : Shape := ⟨2, ![1, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x256 : Shape := ⟨2, ![1024, 256]⟩
abbrev S1x1 : Shape := ⟨2, ![1, 1]⟩
abbrev S256x256 : Shape := ⟨2, ![256, 256]⟩
abbrev S1x256x256 : Shape := ⟨3, ![1, 256, 256]⟩
abbrev S4x256x256 : Shape := ⟨3, ![4, 256, 256]⟩

abbrev nBuf : Space → Nat
  | .hbm => 156
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S8192x1024, .f32⟩
  | 4 => ⟨S1024x1024, .f32⟩
  | 5 => ⟨S1x1024, .f32⟩
  | 6 => ⟨S256x1024, .f32⟩
  | 7 => ⟨S1x1024, .f32⟩
  | 8 => ⟨S1024x1024, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S_, .f32⟩
  | 57 => ⟨S8192x1024, .f32⟩
  | 58 => ⟨S8192x1024, .f32⟩
  | 59 => ⟨S_, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192, .f32⟩
  | 72 => ⟨S_, .f32⟩
  | 73 => ⟨S8192, .f32⟩
  | 74 => ⟨S8192, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S8192, .f32⟩
  | 83 => ⟨S_, .f32⟩
  | 84 => ⟨S8192, .f32⟩
  | 85 => ⟨S8192, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S1024x1024, .f32⟩
  | 92 => ⟨S1024x1024, .f32⟩
  | 93 => ⟨S8192x1024, .f32⟩
  | 94 => ⟨S8192x1024, .f32⟩
  | 95 => ⟨S8192x1024, .f32⟩
  | 96 => ⟨S_, .f32⟩
  | 97 => ⟨S1024, .f32⟩
  | 98 => ⟨S1x1024, .f32⟩
  | 99 => ⟨S8192x1024, .f32⟩
  | 100 => ⟨S8192x1024, .f32⟩
  | 101 => ⟨S8192x1024, .f32⟩
  | 102 => ⟨S_, .f32⟩
  | 103 => ⟨S8192, .f32⟩
  | 104 => ⟨S8192x1, .f32⟩
  | 105 => ⟨S8192x1024, .f32⟩
  | 106 => ⟨S8192x1024, .f32⟩
  | 107 => ⟨S8192x1, .f32⟩
  | 108 => ⟨S_, .f32⟩
  | 109 => ⟨S8192x1, .f32⟩
  | 110 => ⟨S8192x1, .f32⟩
  | 111 => ⟨S_, .f32⟩
  | 112 => ⟨S8192, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S1024x256, .f32⟩
  | 119 => ⟨S256x1024, .f32⟩
  | 120 => ⟨S8192x1024, .f32⟩
  | 121 => ⟨S_, .f32⟩
  | 122 => ⟨S1024, .f32⟩
  | 123 => ⟨S1x1024, .f32⟩
  | 124 => ⟨S8192x1024, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S8192, .f32⟩
  | 1 => ⟨S8192x1, .f32⟩
  | 2 => ⟨S8192x1024, .f32⟩
  | 3 => ⟨S8192x1024, .f32⟩
  | 4 => ⟨S8192x1, .f32⟩
  | 5 => ⟨S_, .f32⟩
  | 6 => ⟨S8192x1, .f32⟩
  | 7 => ⟨S8192x1, .f32⟩
  | 8 => ⟨S_, .f32⟩
  | 9 => ⟨S8192, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S1024x1024, .f32⟩
  | 16 => ⟨S1024x1024, .f32⟩
  | 17 => ⟨S8192x1024, .f32⟩
  | 18 => ⟨S1x1, .f32⟩
  | 19 => ⟨S256x256, .f32⟩
  | 20 => ⟨S256x256, .f32⟩
  | 21 => ⟨S256x256, .f32⟩
  | 22 => ⟨S256x256, .f32⟩
  | 23 => ⟨S1x256x256, .f32⟩
  | 24 => ⟨S1x256x256, .f32⟩
  | 25 => ⟨S1x256x256, .f32⟩
  | 26 => ⟨S1x256x256, .f32⟩
  | 27 => ⟨S4x256x256, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_cst_14 : Ref sig .tc := ⟨.hbm, 77, rfl⟩
abbrev main_v53 : Ref sig .tc := ⟨.hbm, 78, rfl⟩
abbrev main_cst_15 : Ref sig .tc := ⟨.hbm, 79, rfl⟩
abbrev main_cst_16 : Ref sig .tc := ⟨.hbm, 80, rfl⟩
abbrev main_v54 : Ref sig .tc := ⟨.hbm, 81, rfl⟩
abbrev main_v55 : Ref sig .tc := ⟨.hbm, 82, rfl⟩
abbrev main_cst_17 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_18 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_19 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_20 : Ref sig .tc := ⟨.hbm, 108, rfl⟩
abbrev main_v78 : Ref sig .tc := ⟨.hbm, 109, rfl⟩
abbrev main_v79 : Ref sig .tc := ⟨.hbm, 110, rfl⟩
abbrev main_cst_21 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_22 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_23 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_24 : Ref sig .tc := ⟨.hbm, 133, rfl⟩
abbrev main_v99 : Ref sig .tc := ⟨.hbm, 134, rfl⟩
abbrev main_v100 : Ref sig .tc := ⟨.hbm, 135, rfl⟩
abbrev main_cst_25 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩

abbrev nD : Nat := 1
abbrev τ : Topo := Topo.v7x

variable {F : FTy → Type} [FloatOps F]
-- ==== Branch.lean ====
abbrev S8192x512 : Shape := ⟨2, ![8192, 512]⟩
abbrev S512x512 : Shape := ⟨2, ![512, 512]⟩
abbrev S512 : Shape := ⟨1, ![512]⟩
abbrev S8192x1024 : Shape := ⟨2, ![8192, 1024]⟩
abbrev S512x16x4x128 : Shape := ⟨4, ![512, 16, 4, 128]⟩
abbrev S4x512x16x128 : Shape := ⟨4, ![4, 512, 16, 128]⟩
abbrev S4x512x2048 : Shape := ⟨3, ![4, 512, 2048]⟩
abbrev S512x8192 : Shape := ⟨2, ![512, 8192]⟩
abbrev S1x512 : Shape := ⟨2, ![1, 512]⟩
abbrev S4x32x2048 : Shape := ⟨3, ![4, 32, 2048]⟩
abbrev S512x1024 : Shape := ⟨2, ![512, 1024]⟩
abbrev S4x512x128 : Shape := ⟨3, ![4, 512, 128]⟩
abbrev S1x32x128 : Shape := ⟨3, ![1, 32, 128]⟩
abbrev S32x128 : Shape := ⟨2, ![32, 128]⟩
abbrev S1x512x128 : Shape := ⟨3, ![1, 512, 128]⟩
abbrev S512x128 : Shape := ⟨2, ![512, 128]⟩

abbrev nBuf : Space → Nat
  | .hbm => 20
  | .vmem => 25
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S512x512, .f32⟩
  | .hbm, ⟨5, _⟩ => ⟨S512, .f32⟩
  | .hbm, ⟨6, _⟩ => ⟨S8192x1024, .f32⟩
  | .hbm, ⟨7, _⟩ => ⟨S512x16x4x128, .f32⟩
  | .hbm, ⟨8, _⟩ => ⟨S4x512x16x128, .f32⟩
  | .hbm, ⟨9, _⟩ => ⟨S4x512x2048, .f32⟩
  | .hbm, ⟨10, _⟩ => ⟨S512x8192, .f32⟩
  | .hbm, ⟨11, _⟩ => ⟨S512x512, .bf16⟩
  | .hbm, ⟨12, _⟩ => ⟨S1x512, .f32⟩
  | .hbm, ⟨13, _⟩ => ⟨S4x512x2048, .bf16⟩
  | .hbm, ⟨14, _⟩ => ⟨S8192x512, .bf16⟩
  | .hbm, ⟨15, _⟩ => ⟨S512x8192, .f32⟩
  | .hbm, ⟨16, _⟩ => ⟨S8192x512, .bf16⟩
  | .hbm, ⟨17, _⟩ => ⟨S8192x512, .bf16⟩
  | .hbm, ⟨18, _⟩ => ⟨S512x512, .f32⟩
  | .hbm, ⟨19, _⟩ => ⟨S1x512, .f32⟩
  | .local _ .vmem, ⟨0, _⟩ => ⟨S4x32x2048, .f32⟩
  | .local _ .vmem, ⟨1, _⟩ => ⟨S4x32x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S1x512, .f32⟩
  | .local _ .vmem, ⟨10, _⟩ => ⟨S512x1024, .f32⟩
  | .local _ .vmem, ⟨11, _⟩ => ⟨S512x1024, .f32⟩
  | .local _ .vmem, ⟨12, _⟩ => ⟨S4x32x2048, .bf16⟩
  | .local _ .vmem, ⟨13, _⟩ => ⟨S4x32x2048, .bf16⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .f32⟩
  | .local _ .vmem, ⟨23, _⟩ => ⟨S1x512, .f32⟩
  | .local _ .vmem, ⟨24, _⟩ => ⟨S4x512x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== BranchIdeal.lean ====
variable {F : FTy → Type} [FloatOps F] [Named F]
def κ : String → Option EReal := fun
  | "gelu_cubic" => some ((8943 / 200000 : ℝ) : EReal)
  | "gelu_cubic3" => some ((26829 / 200000 : ℝ) : EReal)
  | _ => none
-- ==== BranchRefIdeal.lean ====
abbrev S8192x512 : Shape := ⟨2, ![8192, 512]⟩
abbrev S512x512 : Shape := ⟨2, ![512, 512]⟩
abbrev S512 : Shape := ⟨1, ![512]⟩
abbrev S8192x1024 : Shape := ⟨2, ![8192, 1024]⟩
abbrev S_ : Shape := ⟨0, ![]⟩
abbrev S1x512 : Shape := ⟨2, ![1, 512]⟩
abbrev S512x16x4x128 : Shape := ⟨4, ![512, 16, 4, 128]⟩
abbrev S4x512x16x128 : Shape := ⟨4, ![4, 512, 16, 128]⟩
abbrev S4x512x2048 : Shape := ⟨3, ![4, 512, 2048]⟩
abbrev S512x8192 : Shape := ⟨2, ![512, 8192]⟩

abbrev nBuf : Space → Nat
  | .hbm => 133
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S512x512, .f32⟩
  | 5 => ⟨S512, .f32⟩
  | 6 => ⟨S8192x1024, .f32⟩
  | 7 => ⟨S_, .f32⟩
  | 8 => ⟨S_, .f32⟩
  | 9 => ⟨S_, .f32⟩
  | 10 => ⟨S8192x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S_, .f32⟩
  | 35 => ⟨S8192x512, .f32⟩
  | 36 => ⟨S8192x512, .f32⟩
  | 37 => ⟨S8192x512, .f32⟩
  | 38 => ⟨S8192x512, .f32⟩
  | 39 => ⟨S1x512, .f32⟩
  | 40 => ⟨S8192x512, .f32⟩
  | 41 => ⟨S8192x512, .f32⟩
  | 42 => ⟨S8192x512, .f32⟩
  | 43 => ⟨S8192x512, .f32⟩
  | 44 => ⟨S_, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S8192x512, .f32⟩
  | 57 => ⟨S_, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S_, .f32⟩
  | 64 => ⟨S8192x512, .f32⟩
  | 65 => ⟨S8192x512, .f32⟩
  | 66 => ⟨S8192x512, .f32⟩
  | 67 => ⟨S8192x512, .f32⟩
  | 68 => ⟨S8192x512, .f32⟩
  | 69 => ⟨S8192x512, .f32⟩
  | 70 => ⟨S8192x512, .f32⟩
  | 71 => ⟨S_, .f32⟩
  | 72 => ⟨S8192x512, .f32⟩
  | 73 => ⟨S8192x512, .f32⟩
  | 74 => ⟨S_, .f32⟩
  | 75 => ⟨S8192x512, .f32⟩
  | 76 => ⟨S8192x512, .f32⟩
  | 77 => ⟨S_, .f32⟩
  | 78 => ⟨S8192x512, .f32⟩
  | 79 => ⟨S8192x512, .f32⟩
  | 80 => ⟨S8192x512, .f32⟩
  | 81 => ⟨S8192x512, .f32⟩
  | 82 => ⟨S8192x512, .f32⟩
  | 83 => ⟨S8192x1024, .f32⟩
  | 84 => ⟨S8192x512, .f32⟩
  | 85 => ⟨S8192x512, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S8192x512, .f32⟩
  | 96 => ⟨S8192x512, .f32⟩
  | 97 => ⟨S8192x512, .f32⟩
  | 98 => ⟨S8192x512, .f32⟩
  | 99 => ⟨S8192x512, .f32⟩
  | 100 => ⟨S8192x512, .f32⟩
  | 101 => ⟨S_, .f32⟩
  | 102 => ⟨S512, .f32⟩
  | 103 => ⟨S1x512, .f32⟩
  | 104 => ⟨S_, .f32⟩
  | 105 => ⟨S512, .f32⟩
  | 106 => ⟨S512x512, .f32⟩
  | 107 => ⟨S512x512, .f32⟩
  | 108 => ⟨S8192x512, .f32⟩
  | 109 => ⟨S8192x512, .f32⟩
  | 110 => ⟨S8192x512, .f32⟩
  | 111 => ⟨S8192x512, .f32⟩
  | 112 => ⟨S_, .f32⟩
  | 113 => ⟨S8192x512, .f32⟩
  | 114 => ⟨S8192x512, .f32⟩
  | 115 => ⟨S8192x512, .f32⟩
  | 116 => ⟨S_, .f32⟩
  | 117 => ⟨S8192x512, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S512x16x4x128, .f32⟩
  | 125 => ⟨S4x512x16x128, .f32⟩
  | 126 => ⟨S4x512x2048, .f32⟩
  | 127 => ⟨S4x512x2048, .bf16⟩
  | _ => ⟨S8192x512, .f32⟩

abbrev hbmTy0_1 (i : Nat) : BufTy := match i % 128 with
  | 0 => ⟨S8192x512, .bf16⟩
  | 1 => ⟨S512x8192, .f32⟩
  | 2 => ⟨S8192x512, .bf16⟩
  | 3 => ⟨S8192x512, .bf16⟩
  | 4 => ⟨S1x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_v37_2 : Ref sig .tc := ⟨.hbm, 62, rfl⟩
abbrev main_call0_cst_1 : Ref sig .tc := ⟨.hbm, 63, rfl⟩
abbrev main_call0_v6 : Ref sig .tc := ⟨.hbm, 64, rfl⟩
abbrev main_call0_v7 : Ref sig .tc := ⟨.hbm, 65, rfl⟩
abbrev main_v37_1 : Ref sig .tc := ⟨.hbm, 66, rfl⟩
abbrev main_v37_0 : Ref sig .tc := ⟨.hbm, 67, rfl⟩
abbrev main_v38 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_v39_2 : Ref sig .tc := ⟨.hbm, 76, rfl⟩
abbrev main_call1_cst_1 : Ref sig .tc := ⟨.hbm, 77, rfl⟩
abbrev main_call1_v6 : Ref sig .tc := ⟨.hbm, 78, rfl⟩
abbrev main_call1_v7 : Ref sig .tc := ⟨.hbm, 79, rfl⟩
abbrev main_v39_1 : Ref sig .tc := ⟨.hbm, 80, rfl⟩
abbrev main_v39_0 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_10 : Ref sig .tc := ⟨.hbm, 101, rfl⟩
abbrev main_v53 : Ref sig .tc := ⟨.hbm, 102, rfl⟩
abbrev main_v54 : Ref sig .tc := ⟨.hbm, 103, rfl⟩
abbrev main_cst_11 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_12 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_13 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩

abbrev nD : Nat := 1
abbrev τ : Topo := Topo.v7x

variable {F : FTy → Type} [FloatOps F]
-- ==== Na.lean ====
abbrev S8192x512 : Shape := ⟨2, ![8192, 512]⟩
abbrev S8x15x31 : Shape := ⟨3, ![8, 15, 31]⟩
abbrev S_ : Shape := ⟨0, ![]⟩
abbrev S128x64x8x64 : Shape := ⟨4, ![128, 64, 8, 64]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S128x8x64x8x64 : Shape := ⟨5, ![128, 8, 64, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S128x1x8x1 : Shape := ⟨4, ![128, 1, 8, 1]⟩
abbrev S1x64x1x64 : Shape := ⟨4, ![1, 64, 1, 64]⟩
abbrev S128x64x8x64x1 : Shape := ⟨5, ![128, 64, 8, 64, 1]⟩
abbrev S128x64x8x64x2 : Shape := ⟨5, ![128, 64, 8, 64, 2]⟩
abbrev S8x128x64x8x64 : Shape := ⟨5, ![8, 128, 64, 8, 64]⟩
abbrev S64x1x64 : Shape := ⟨3, ![64, 1, 64]⟩
abbrev S8x128x64 : Shape := ⟨3, ![8, 128, 64]⟩
abbrev S8x128x64x1x1 : Shape := ⟨5, ![8, 128, 64, 1, 1]⟩
abbrev S128x8x64x64 : Shape := ⟨4, ![128, 8, 64, 64]⟩
abbrev S5 : Shape := ⟨1, ![5]⟩
abbrev S5x1 : Shape := ⟨2, ![5, 1]⟩
abbrev S2 : Shape := ⟨1, ![2]⟩
abbrev S1x2 : Shape := ⟨2, ![1, 2]⟩
abbrev S5x2 : Shape := ⟨2, ![5, 2]⟩
abbrev S10 : Shape := ⟨1, ![10]⟩
abbrev S1x10 : Shape := ⟨2, ![1, 10]⟩
abbrev S5x10 : Shape := ⟨2, ![5, 10]⟩
abbrev S5x10x1 : Shape := ⟨3, ![5, 10, 1]⟩
abbrev S5x1x2 : Shape := ⟨3, ![5, 1, 2]⟩
abbrev S5x10x2 : Shape := ⟨3, ![5, 10, 2]⟩
abbrev S5x10x1x2x1 : Shape := ⟨5, ![5, 10, 1, 2, 1]⟩
abbrev S1x1x64x1x64 : Shape := ⟨5, ![1, 1, 64, 1, 64]⟩
abbrev S5x10x64x2x64 : Shape := ⟨5, ![5, 10, 64, 2, 64]⟩
abbrev S5x10x64x2x64x1 : Shape := ⟨6, ![5, 10, 64, 2, 64, 1]⟩
abbrev S5x10x64x2x64x2 : Shape := ⟨6, ![5, 10, 64, 2, 64, 2]⟩
abbrev S8x5x10x64x2x64 : Shape := ⟨6, ![8, 5, 10, 64, 2, 64]⟩
abbrev S1x5x10x64x2x64 : Shape := ⟨6, ![1, 5, 10, 64, 2, 64]⟩
abbrev S8x5x640x128 : Shape := ⟨4, ![8, 5, 640, 128]⟩
abbrev S512x8192 : Shape := ⟨2, ![512, 8192]⟩
abbrev S128x2048 : Shape := ⟨2, ![128, 2048]⟩
abbrev S2048x128 : Shape := ⟨2, ![2048, 128]⟩
abbrev S128x8192 : Shape := ⟨2, ![128, 8192]⟩
abbrev S8192x128 : Shape := ⟨2, ![8192, 128]⟩
abbrev S2x5x640x128 : Shape := ⟨4, ![2, 5, 640, 128]⟩
abbrev S640x128 : Shape := ⟨2, ![640, 128]⟩
abbrev S128x128 : Shape := ⟨2, ![128, 128]⟩
abbrev S64x128 : Shape := ⟨2, ![64, 128]⟩
abbrev S1x1x64x128 : Shape := ⟨4, ![1, 1, 64, 128]⟩
abbrev S1x128 : Shape := ⟨2, ![1, 128]⟩
abbrev S64x640 : Shape := ⟨2, ![64, 640]⟩
abbrev S640x256 : Shape := ⟨2, ![640, 256]⟩
abbrev S256x128 : Shape := ⟨2, ![256, 128]⟩

abbrev nBuf : Space → Nat
  | .hbm => 332
  | .vmem => 26
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8x15x31, .f32⟩
  | 4 => ⟨S8192x512, .f32⟩
  | 5 => ⟨S_, .f32⟩
  | 6 => ⟨S8192x512, .f32⟩
  | 7 => ⟨S8192x512, .f32⟩
  | 8 => ⟨S128x64x8x64, .f32⟩
  | 9 => ⟨S128, .i32⟩
  | 10 => ⟨S128, .i32⟩
  | 11 => ⟨S_, .i32⟩
  | 12 => ⟨S128, .i32⟩
  | 13 => ⟨S128, .i32⟩
  | 14 => ⟨S_, .i32⟩
  | 15 => ⟨S_, .i32⟩
  | 16 => ⟨S_, .i32⟩
  | 17 => ⟨S128, .i32⟩
  | 18 => ⟨S128, .i32⟩
  | 19 => ⟨S_, .i32⟩
  | 20 => ⟨S128, .i32⟩
  | 21 => ⟨S128, .i32⟩
  | 22 => ⟨S128x1, .i32⟩
  | 23 => ⟨S8, .i32⟩
  | 24 => ⟨S1x8, .i32⟩
  | 25 => ⟨S128x8, .i32⟩
  | 26 => ⟨S128x8, .i32⟩
  | 27 => ⟨S128x8, .i32⟩
  | 28 => ⟨S128x64x8x64, .f32⟩
  | 29 => ⟨S_, .i32⟩
  | 30 => ⟨S128x8, .i32⟩
  | 31 => ⟨S128x8, .i1⟩
  | 32 => ⟨S_, .i32⟩
  | 33 => ⟨S128x8, .i32⟩
  | 34 => ⟨S128x8, .i32⟩
  | 35 => ⟨S128x8, .i32⟩
  | 36 => ⟨S128x8x1, .i32⟩
  | 37 => ⟨S128x8x64x8x64, .f32⟩
  | 38 => ⟨S64, .i32⟩
  | 39 => ⟨S_, .i32⟩
  | 40 => ⟨S64, .i32⟩
  | 41 => ⟨S64, .i32⟩
  | 42 => ⟨S_, .i32⟩
  | 43 => ⟨S_, .i32⟩
  | 44 => ⟨S_, .i32⟩
  | 45 => ⟨S64, .i32⟩
  | 46 => ⟨S64, .i32⟩
  | 47 => ⟨S_, .i32⟩
  | 48 => ⟨S64, .i32⟩
  | 49 => ⟨S64, .i32⟩
  | 50 => ⟨S1x64, .i32⟩
  | 51 => ⟨S64x1, .i32⟩
  | 52 => ⟨S64x64, .i32⟩
  | 53 => ⟨S64x64, .i32⟩
  | 54 => ⟨S64x64, .i1⟩
  | 55 => ⟨S1x64, .i32⟩
  | 56 => ⟨S64x1, .i32⟩
  | 57 => ⟨S_, .i32⟩
  | 58 => ⟨S64x1, .i32⟩
  | 59 => ⟨S64x1, .i32⟩
  | 60 => ⟨S64x64, .i32⟩
  | 61 => ⟨S64x64, .i32⟩
  | 62 => ⟨S64x64, .i1⟩
  | 63 => ⟨S64x64, .i1⟩
  | 64 => ⟨S1x64, .i32⟩
  | 65 => ⟨S64x1, .i32⟩
  | 66 => ⟨S64x64, .i32⟩
  | 67 => ⟨S64x64, .i32⟩
  | 68 => ⟨S64x64, .i32⟩
  | 69 => ⟨S_, .i32⟩
  | 70 => ⟨S64x64, .i32⟩
  | 71 => ⟨S64x64, .i32⟩
  | 72 => ⟨S_, .i32⟩
  | 73 => ⟨S_, .i32⟩
  | 74 => ⟨S_, .i32⟩
  | 75 => ⟨S64x64, .i32⟩
  | 76 => ⟨S64x64, .i32⟩
  | 77 => ⟨S_, .i32⟩
  | 78 => ⟨S64x64, .i32⟩
  | 79 => ⟨S64x64, .i32⟩
  | 80 => ⟨S128x1, .i32⟩
  | 81 => ⟨S128x8, .i32⟩
  | 82 => ⟨S128x8, .i32⟩
  | 83 => ⟨S_, .i32⟩
  | 84 => ⟨S128x8, .i32⟩
  | 85 => ⟨S128x8, .i32⟩
  | 86 => ⟨S128x1x8x1, .i32⟩
  | 87 => ⟨S1x64x1x64, .i32⟩
  | 88 => ⟨S_, .i32⟩
  | 89 => ⟨S128x1x8x1, .i32⟩
  | 90 => ⟨S128x1x8x1, .i1⟩
  | 91 => ⟨S_, .i32⟩
  | 92 => ⟨S128x1x8x1, .i32⟩
  | 93 => ⟨S128x1x8x1, .i32⟩
  | 94 => ⟨S128x1x8x1, .i32⟩
  | 95 => ⟨S_, .i32⟩
  | 96 => ⟨S1x64x1x64, .i32⟩
  | 97 => ⟨S1x64x1x64, .i1⟩
  | 98 => ⟨S_, .i32⟩
  | 99 => ⟨S1x64x1x64, .i32⟩
  | 100 => ⟨S1x64x1x64, .i32⟩
  | 101 => ⟨S1x64x1x64, .i32⟩
  | 102 => ⟨S128x64x8x64, .i32⟩
  | 103 => ⟨S128x64x8x64, .i32⟩
  | 104 => ⟨S128x64x8x64x1, .i32⟩
  | 105 => ⟨S128x64x8x64x1, .i32⟩
  | 106 => ⟨S128x64x8x64x2, .i32⟩
  | 107 => ⟨S8x128x64x8x64, .f32⟩
  | 108 => ⟨S8x128x64x8x64, .f32⟩
  | 109 => ⟨S_, .f32⟩
  | 110 => ⟨S8x128x64x8x64, .f32⟩
  | 111 => ⟨S8x128x64x8x64, .f32⟩
  | 112 => ⟨S8x128x64x8x64, .f32⟩
  | 113 => ⟨S64x1x64, .i1⟩
  | 114 => ⟨S_, .f32⟩
  | 115 => ⟨S_, .f32⟩
  | 116 => ⟨S8x128x64x8x64, .i1⟩
  | 117 => ⟨S8x128x64x8x64, .f32⟩
  | 118 => ⟨S8x128x64x8x64, .f32⟩
  | 119 => ⟨S_, .f32⟩
  | 120 => ⟨S8x128x64, .f32⟩
  | 121 => ⟨S_, .f32⟩
  | 122 => ⟨S8x128x64, .f32⟩
  | 123 => ⟨S8x128x64, .f32⟩
  | 124 => ⟨S8x128x64x1x1, .f32⟩
  | 125 => ⟨S8x128x64x8x64, .f32⟩
  | 126 => ⟨S8x128x64x8x64, .f32⟩
  | 127 => ⟨S8x128x64x8x64, .f32⟩
  | _ => ⟨S8192x512, .f32⟩

abbrev hbmTy0_1 (i : Nat) : BufTy := match i % 128 with
  | 0 => ⟨S_, .f32⟩
  | 1 => ⟨S8x128x64, .f32⟩
  | 2 => ⟨S8x128x64x1x1, .f32⟩
  | 3 => ⟨S8x128x64x8x64, .f32⟩
  | 4 => ⟨S8x128x64x8x64, .f32⟩
  | 5 => ⟨S128x64x8x64, .f32⟩
  | 6 => ⟨S_, .i32⟩
  | 7 => ⟨S128x8, .i32⟩
  | 8 => ⟨S128x8, .i1⟩
  | 9 => ⟨S_, .i32⟩
  | 10 => ⟨S128x8, .i32⟩
  | 11 => ⟨S128x8, .i32⟩
  | 12 => ⟨S128x8, .i32⟩
  | 13 => ⟨S128x8x1, .i32⟩
  | 14 => ⟨S128x8x64x8x64, .f32⟩
  | 15 => ⟨S128x8x64x64, .f32⟩
  | 16 => ⟨S128x64x8x64, .f32⟩
  | 17 => ⟨S8192x512, .f32⟩
  | 18 => ⟨S5, .i32⟩
  | 19 => ⟨S_, .i32⟩
  | 20 => ⟨S5, .i32⟩
  | 21 => ⟨S5, .i1⟩
  | 22 => ⟨S_, .i32⟩
  | 23 => ⟨S5, .i32⟩
  | 24 => ⟨S5, .i32⟩
  | 25 => ⟨S_, .i32⟩
  | 26 => ⟨S5, .i32⟩
  | 27 => ⟨S5, .i32⟩
  | 28 => ⟨S5, .i32⟩
  | 29 => ⟨S5x1, .i32⟩
  | 30 => ⟨S_, .i32⟩
  | 31 => ⟨S5x1, .i32⟩
  | 32 => ⟨S5x1, .i32⟩
  | 33 => ⟨S2, .i32⟩
  | 34 => ⟨S1x2, .i32⟩
  | 35 => ⟨S5x2, .i32⟩
  | 36 => ⟨S5x2, .i32⟩
  | 37 => ⟨S5x2, .i32⟩
  | 38 => ⟨S128, .i32⟩
  | 39 => ⟨S_, .i32⟩
  | 40 => ⟨S128, .i32⟩
  | 41 => ⟨S128, .i32⟩
  | 42 => ⟨S_, .i32⟩
  | 43 => ⟨S_, .i32⟩
  | 44 => ⟨S_, .i32⟩
  | 45 => ⟨S128, .i32⟩
  | 46 => ⟨S128, .i32⟩
  | 47 => ⟨S_, .i32⟩
  | 48 => ⟨S128, .i32⟩
  | 49 => ⟨S128, .i32⟩
  | 50 => ⟨S_, .i32⟩
  | 51 => ⟨S5, .i32⟩
  | 52 => ⟨S5, .i32⟩
  | 53 => ⟨S_, .i32⟩
  | 54 => ⟨S5, .i32⟩
  | 55 => ⟨S5, .i1⟩
  | 56 => ⟨S_, .i32⟩
  | 57 => ⟨S5, .i32⟩
  | 58 => ⟨S5, .i32⟩
  | 59 => ⟨S5, .i32⟩
  | 60 => ⟨S5x1, .i32⟩
  | 61 => ⟨S5, .i32⟩
  | 62 => ⟨S_, .i32⟩
  | 63 => ⟨S5, .i32⟩
  | 64 => ⟨S5, .i32⟩
  | 65 => ⟨S5x1, .i32⟩
  | 66 => ⟨S10, .i32⟩
  | 67 => ⟨S1x10, .i32⟩
  | 68 => ⟨S5x10, .i32⟩
  | 69 => ⟨S5x10, .i32⟩
  | 70 => ⟨S5x10, .i32⟩
  | 71 => ⟨S_, .i32⟩
  | 72 => ⟨S5x2, .i32⟩
  | 73 => ⟨S5x2, .i32⟩
  | 74 => ⟨S_, .i32⟩
  | 75 => ⟨S_, .i32⟩
  | 76 => ⟨S_, .i32⟩
  | 77 => ⟨S5x2, .i32⟩
  | 78 => ⟨S5x2, .i32⟩
  | 79 => ⟨S_, .i32⟩
  | 80 => ⟨S5x2, .i32⟩
  | 81 => ⟨S5x2, .i32⟩
  | 82 => ⟨S5x10x1, .i32⟩
  | 83 => ⟨S5x1x2, .i32⟩
  | 84 => ⟨S5x10x2, .i32⟩
  | 85 => ⟨S5x10x2, .i32⟩
  | 86 => ⟨S5x10x2, .i1⟩
  | 87 => ⟨S5x10x1, .i32⟩
  | 88 => ⟨S5x1x2, .i32⟩
  | 89 => ⟨S_, .i32⟩
  | 90 => ⟨S5x1x2, .i32⟩
  | 91 => ⟨S5x1x2, .i32⟩
  | 92 => ⟨S5x10x2, .i32⟩
  | 93 => ⟨S5x10x2, .i32⟩
  | 94 => ⟨S5x10x2, .i1⟩
  | 95 => ⟨S5x10x2, .i1⟩
  | 96 => ⟨S5x10x1, .i32⟩
  | 97 => ⟨S5x1x2, .i32⟩
  | 98 => ⟨S5x10x2, .i32⟩
  | 99 => ⟨S5x10x2, .i32⟩
  | 100 => ⟨S5x10x2, .i32⟩
  | 101 => ⟨S_, .i32⟩
  | 102 => ⟨S5x10x2, .i32⟩
  | 103 => ⟨S5x10x2, .i32⟩
  | 104 => ⟨S_, .i32⟩
  | 105 => ⟨S_, .i32⟩
  | 106 => ⟨S_, .i32⟩
  | 107 => ⟨S5x10x2, .i32⟩
  | 108 => ⟨S5x10x2, .i32⟩
  | 109 => ⟨S_, .i32⟩
  | 110 => ⟨S5x10x2, .i32⟩
  | 111 => ⟨S5x10x2, .i32⟩
  | 112 => ⟨S64, .i32⟩
  | 113 => ⟨S_, .i32⟩
  | 114 => ⟨S64, .i32⟩
  | 115 => ⟨S64, .i32⟩
  | 116 => ⟨S_, .i32⟩
  | 117 => ⟨S_, .i32⟩
  | 118 => ⟨S_, .i32⟩
  | 119 => ⟨S64, .i32⟩
  | 120 => ⟨S64, .i32⟩
  | 121 => ⟨S_, .i32⟩
  | 122 => ⟨S64, .i32⟩
  | 123 => ⟨S64, .i32⟩
  | 124 => ⟨S1x64, .i32⟩
  | 125 => ⟨S64x1, .i32⟩
  | 126 => ⟨S64x64, .i32⟩
  | 127 => ⟨S64x64, .i32⟩
  | _ => ⟨S8192x512, .f32⟩

abbrev hbmTy0_2 (i : Nat) : BufTy := match i % 128 with
  | 0 => ⟨S64x64, .i1⟩
  | 1 => ⟨S1x64, .i32⟩
  | 2 => ⟨S64x1, .i32⟩
  | 3 => ⟨S_, .i32⟩
  | 4 => ⟨S64x1, .i32⟩
  | 5 => ⟨S64x1, .i32⟩
  | 6 => ⟨S64x64, .i32⟩
  | 7 => ⟨S64x64, .i32⟩
  | 8 => ⟨S64x64, .i1⟩
  | 9 => ⟨S64x64, .i1⟩
  | 10 => ⟨S1x64, .i32⟩
  | 11 => ⟨S64x1, .i32⟩
  | 12 => ⟨S64x64, .i32⟩
  | 13 => ⟨S64x64, .i32⟩
  | 14 => ⟨S64x64, .i32⟩
  | 15 => ⟨S_, .i32⟩
  | 16 => ⟨S64x64, .i32⟩
  | 17 => ⟨S64x64, .i32⟩
  | 18 => ⟨S_, .i32⟩
  | 19 => ⟨S_, .i32⟩
  | 20 => ⟨S_, .i32⟩
  | 21 => ⟨S64x64, .i32⟩
  | 22 => ⟨S64x64, .i32⟩
  | 23 => ⟨S_, .i32⟩
  | 24 => ⟨S64x64, .i32⟩
  | 25 => ⟨S64x64, .i32⟩
  | 26 => ⟨S5x10x1x2x1, .i32⟩
  | 27 => ⟨S64x64, .i32⟩
  | 28 => ⟨S1x1x64x1x64, .i32⟩
  | 29 => ⟨S_, .i32⟩
  | 30 => ⟨S5x10x1x2x1, .i32⟩
  | 31 => ⟨S5x10x1x2x1, .i1⟩
  | 32 => ⟨S_, .i32⟩
  | 33 => ⟨S5x10x1x2x1, .i32⟩
  | 34 => ⟨S5x10x1x2x1, .i32⟩
  | 35 => ⟨S5x10x1x2x1, .i32⟩
  | 36 => ⟨S_, .i32⟩
  | 37 => ⟨S1x1x64x1x64, .i32⟩
  | 38 => ⟨S1x1x64x1x64, .i1⟩
  | 39 => ⟨S_, .i32⟩
  | 40 => ⟨S1x1x64x1x64, .i32⟩
  | 41 => ⟨S1x1x64x1x64, .i32⟩
  | 42 => ⟨S1x1x64x1x64, .i32⟩
  | 43 => ⟨S5x10x64x2x64, .i32⟩
  | 44 => ⟨S5x10x64x2x64, .i32⟩
  | 45 => ⟨S5x10x64x2x64x1, .i32⟩
  | 46 => ⟨S5x10x64x2x64x1, .i32⟩
  | 47 => ⟨S5x10x64x2x64x2, .i32⟩
  | 48 => ⟨S8x5x10x64x2x64, .f32⟩
  | 49 => ⟨S5x10x1x2x1, .i1⟩
  | 50 => ⟨S64x64, .i1⟩
  | 51 => ⟨S1x1x64x1x64, .i1⟩
  | 52 => ⟨S5x10x64x2x64, .i1⟩
  | 53 => ⟨S5x10x64x2x64, .i1⟩
  | 54 => ⟨S5x10x64x2x64, .i1⟩
  | 55 => ⟨S1x5x10x64x2x64, .i1⟩
  | 56 => ⟨S_, .f32⟩
  | 57 => ⟨S_, .f32⟩
  | 58 => ⟨S8x5x10x64x2x64, .i1⟩
  | 59 => ⟨S8x5x10x64x2x64, .f32⟩
  | 60 => ⟨S8x5x10x64x2x64, .f32⟩
  | 61 => ⟨S8x5x640x128, .f32⟩
  | 62 => ⟨S512x8192, .f32⟩
  | 63 => ⟨S512x8192, .bf16⟩
  | 64 => ⟨S8192x512, .bf16⟩
  | 65 => ⟨S512x8192, .f32⟩
  | 66 => ⟨S512x8192, .bf16⟩
  | 67 => ⟨S8192x512, .bf16⟩
  | 68 => ⟨S8192x512, .bf16⟩
  | 69 => ⟨S512x8192, .f32⟩
  | 70 => ⟨S512x8192, .f32⟩
  | 71 => ⟨S8192x512, .bf16⟩
  | 72 => ⟨S512x8192, .f32⟩
  | 73 => ⟨S8192x512, .f32⟩
  | 74 => ⟨S8192x512, .f32⟩
  | 75 => ⟨S8x5x640x128, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | .local _ .vmem, ⟨0, _⟩ => ⟨S128x2048, .bf16⟩
  | .local _ .vmem, ⟨1, _⟩ => ⟨S128x2048, .bf16⟩
  | .local _ .vmem, ⟨2, _⟩ => ⟨S2048x128, .bf16⟩
  | .local _ .vmem, ⟨3, _⟩ => ⟨S2048x128, .bf16⟩
  | .local _ .vmem, ⟨4, _⟩ => ⟨S128x8192, .bf16⟩
  | .local _ .vmem, ⟨5, _⟩ => ⟨S128x8192, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S2x5x640x128, .f32⟩
  | .local _ .vmem, ⟨11, _⟩ => ⟨S2x5x640x128, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S2048x128, .bf16⟩
  | .local _ .vmem, ⟨17, _⟩ => ⟨S2048x128, .bf16⟩
  | .local _ .vmem, ⟨18, _⟩ => ⟨S128x2048, .f32⟩
  | .local _ .vmem, ⟨19, _⟩ => ⟨S128x2048, .f32⟩
  | .local _ .vmem, ⟨20, _⟩ => ⟨S8192x128, .f32⟩
  | .local _ .vmem, ⟨21, _⟩ => ⟨S8192x128, .f32⟩
  | .local _ .vmem, ⟨22, _⟩ => ⟨S8192x128, .f32⟩
  | .local _ .vmem, ⟨23, _⟩ => ⟨S8192x128, .f32⟩
  | .local _ .vmem, ⟨24, _⟩ => ⟨S2x5x640x128, .f32⟩
  | .local _ .vmem, ⟨25, _⟩ => ⟨S2x5x640x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_8 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_c_10 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_11 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c_12 : Ref sig .tc := ⟨.hbm, 88, rfl⟩
abbrev main_v54 : Ref sig .tc := ⟨.hbm, 89, rfl⟩
abbrev main_v55 : Ref sig .tc := ⟨.hbm, 90, rfl⟩
abbrev main_c_13 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_14 : Ref sig .tc := ⟨.hbm, 95, rfl⟩
abbrev main_v59 : Ref sig .tc := ⟨.hbm, 96, rfl⟩
abbrev main_v60 : Ref sig .tc := ⟨.hbm, 97, rfl⟩
abbrev main_c_15 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_16 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_17 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_v75 : Ref sig .tc := ⟨.hbm, 118, rfl⟩
abbrev main_cst_18 : Ref sig .tc := ⟨.hbm, 119, rfl⟩
abbrev main_v76 : Ref sig .tc := ⟨.hbm, 120, rfl⟩
abbrev main_cst_19 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_20 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_c_21 : Ref sig .tc := ⟨.hbm, 134, rfl⟩
abbrev main_v88 : Ref sig .tc := ⟨.hbm, 135, rfl⟩
abbrev main_v89 : Ref sig .tc := ⟨.hbm, 136, rfl⟩
abbrev main_c_22 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_c_23 : Ref sig .tc := ⟨.hbm, 147, rfl⟩
abbrev main_v99 : Ref sig .tc := ⟨.hbm, 148, rfl⟩
abbrev main_v100 : Ref sig .tc := ⟨.hbm, 149, rfl⟩
abbrev main_c_24 : Ref sig .tc := ⟨.hbm, 150, rfl⟩
abbrev main_v101 : Ref sig .tc := ⟨.hbm, 151, rfl⟩
abbrev main_v102 : Ref sig .tc := ⟨.hbm, 152, rfl⟩
abbrev main_c_25 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_c_26 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_c_27 : Ref sig .tc := ⟨.hbm, 167, rfl⟩
abbrev main_v115 : Ref sig .tc := ⟨.hbm, 168, rfl⟩
abbrev main_v116 : Ref sig .tc := ⟨.hbm, 169, rfl⟩
abbrev main_c_28 : Ref sig .tc := ⟨.hbm, 170, rfl⟩
abbrev main_c_29 : Ref sig .tc := ⟨.hbm, 171, rfl⟩
abbrev main_call5_v0 : Ref sig .tc := ⟨.hbm, 172, rfl⟩
abbrev main_call5_v1 : Ref sig .tc := ⟨.hbm, 173, rfl⟩
abbrev main_call5_v2 : Ref sig .tc := ⟨.hbm, 174, rfl⟩
abbrev main_call5_v3 : Ref sig .tc := ⟨.hbm, 175, rfl⟩
abbrev main_call5_v4 : Ref sig .tc := ⟨.hbm, 176, rfl⟩
abbrev main_v117 : Ref sig .tc := ⟨.hbm, 177, rfl⟩
abbrev main_c_30 : Ref sig .tc := ⟨.hbm, 178, rfl⟩
abbrev main_v118 : Ref sig .tc := ⟨.hbm, 179, rfl⟩
abbrev main_v119 : Ref sig .tc := ⟨.hbm, 180, rfl⟩
abbrev main_c_31 : Ref sig .tc := ⟨.hbm, 181, rfl⟩
abbrev main_v120 : Ref sig .tc := ⟨.hbm, 182, rfl⟩
abbrev main_v121 : Ref sig .tc := ⟨.hbm, 183, rfl⟩
abbrev main_c_32 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_c_33 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_c_34 : Ref sig .tc := ⟨.hbm, 199, rfl⟩
abbrev main_v135 : Ref sig .tc := ⟨.hbm, 200, rfl⟩
abbrev main_v136 : Ref sig .tc := ⟨.hbm, 201, rfl⟩
abbrev main_c_35 : Ref sig .tc := ⟨.hbm, 202, rfl⟩
abbrev main_c_36 : Ref sig .tc := ⟨.hbm, 203, rfl⟩
abbrev main_call6_v0 : Ref sig .tc := ⟨.hbm, 204, rfl⟩
abbrev main_call6_v1 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_c_37 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_c_38 : Ref sig .tc := ⟨.hbm, 229, rfl⟩
abbrev main_v156 : Ref sig .tc := ⟨.hbm, 230, rfl⟩
abbrev main_v157 : Ref sig .tc := ⟨.hbm, 231, rfl⟩
abbrev main_c_39 : Ref sig .tc := ⟨.hbm, 232, rfl⟩
abbrev main_c_40 : Ref sig .tc := ⟨.hbm, 233, rfl⟩
abbrev main_call7_v0 : Ref sig .tc := ⟨.hbm, 234, rfl⟩
abbrev main_call7_v1 : Ref sig .tc := ⟨.hbm, 235, rfl⟩
abbrev main_call7_v2 : Ref sig .tc := ⟨.hbm, 236, rfl⟩
abbrev main_call7_v3 : Ref sig .tc := ⟨.hbm, 237, rfl⟩
abbrev main_call7_v4 : Ref sig .tc := ⟨.hbm, 238, rfl⟩
abbrev main_v158 : Ref sig .tc := ⟨.hbm, 239, rfl⟩
abbrev main_v159 : Ref sig .tc := ⟨.hbm, 240, rfl⟩
abbrev main_c_41 : Ref sig .tc := ⟨.hbm, 241, rfl⟩
abbrev main_v160 : Ref sig .tc := ⟨.hbm, 242, rfl⟩
abbrev main_v161 : Ref sig .tc := ⟨.hbm, 243, rfl⟩
abbrev main_c_42 : Ref sig .tc := ⟨.hbm, 244, rfl⟩
abbrev main_c_43 : Ref sig .tc := ⟨.hbm, 245, rfl⟩
abbrev main_call8_v0 : Ref sig .tc := ⟨.hbm, 246, rfl⟩
abbrev main_call8_v1 : Ref sig .tc := ⟨.hbm, 247, rfl⟩
abbrev main_call8_v2 : Ref sig .tc := ⟨.hbm, 248, rfl⟩
abbrev main_call8_v3 : Ref sig .tc := ⟨.hbm, 249, rfl⟩
abbrev main_call8_v4 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_c_44 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_c_45 : Ref sig .tc := ⟨.hbm, 271, rfl⟩
abbrev main_v181 : Ref sig .tc := ⟨.hbm, 272, rfl⟩
abbrev main_v182 : Ref sig .tc := ⟨.hbm, 273, rfl⟩
abbrev main_c_46 : Ref sig .tc := ⟨.hbm, 274, rfl⟩
abbrev main_c_47 : Ref sig .tc := ⟨.hbm, 275, rfl⟩
abbrev main_call9_v0 : Ref sig .tc := ⟨.hbm, 276, rfl⟩
abbrev main_call9_v1 : Ref sig .tc := ⟨.hbm, 277, rfl⟩
abbrev main_call9_v2 : Ref sig .tc := ⟨.hbm, 278, rfl⟩
abbrev main_call9_v3 : Ref sig .tc := ⟨.hbm, 279, rfl⟩
abbrev main_call9_v4 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_c_48 : Ref sig .tc := ⟨.hbm, 285, rfl⟩
abbrev main_v187 : Ref sig .tc := ⟨.hbm, 286, rfl⟩
abbrev main_v188 : Ref sig .tc := ⟨.hbm, 287, rfl⟩
abbrev main_c_49 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_c_50 : Ref sig .tc := ⟨.hbm, 292, rfl⟩
abbrev main_v192 : Ref sig .tc := ⟨.hbm, 293, rfl⟩
abbrev main_v193 : Ref sig .tc := ⟨.hbm, 294, rfl⟩
abbrev main_c_51 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_cst_52 : Ref sig .tc := ⟨.hbm, 312, rfl⟩
abbrev main_call10_v0 : Ref sig .tc := ⟨.hbm, 313, rfl⟩
abbrev main_call10_v1 : Ref sig .tc := ⟨.hbm, 314, rfl⟩
abbrev main_call10_v2 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_v218 : Ref sig .tc := ⟨.hbm, 324, rfl⟩
abbrev main_v219 : Ref sig .tc := ⟨.hbm, 325, rfl⟩
abbrev main_v220 : Ref sig .tc := ⟨.hbm, 326, rfl⟩
abbrev main_v221 : Ref sig .tc := ⟨.hbm, 327, rfl⟩
abbrev main_v222_0 : Ref sig .tc := ⟨.hbm, 328, rfl⟩
abbrev main_v222_1 : Ref sig .tc := ⟨.hbm, 329, rfl⟩
abbrev main_v222_2 : Ref sig .tc := ⟨.hbm, 330, rfl⟩
abbrev main_v222_3 : Ref sig .tc := ⟨.hbm, 331, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let c120_i32 : BitVec 32 := 120#32
  let c0_i32_2 : BitVec 32 := 0#32
  let c2_i32 : BitVec 32 := 2#32
  let arg1 : BitVec 32 := BitVec.ofNat 32 (i 1).val
  let c16_i32 : BitVec 32 := 16#32
  let v3 : BitVec 32 := Scalar.muli arg1 c16_i32
  let c0_i32_1 : BitVec 32 := 0#32
  let v4 : BitVec 32 := Scalar.addi v3 c0_i32_1
  let v5 : BitVec 32 := Scalar.muli c2_i32 v4
  let c4_i32 : BitVec 32 := 4#32
  let v6 : BitVec 32 := Scalar.subi v5 c4_i32
  let v7 : BitVec 32 := Scalar.maxsi c0_i32_2 v6
  let v8 : BitVec 32 := Scalar.minsi c120_i32 v7
  let c118_i32 : BitVec 32 := 118#32
  let v9 : BitVec 32 := Scalar.minsi v8 c118_i32
  let c64_i32 : BitVec 32 := 64#32
  let v18 : BitVec 32 := Scalar.muli v9 c64_i32
  v18
def k0_mult2 (i : grid0.Coords) : BitVec 32 :=
  let c120_i32_13 : BitVec 32 := 120#32
  let c0_i32_12 : BitVec 32 := 0#32
  let c2_i32_10 : BitVec 32 := 2#32
  let arg1 : BitVec 32 := BitVec.ofNat 32 (i 1).val
  let c16_i32_8 : BitVec 32 := 16#32
  let v20 : BitVec 32 := Scalar.muli arg1 c16_i32_8
  let c1_i32_9 : BitVec 32 := 1#32
  let v21 : BitVec 32 := Scalar.addi v20 c1_i32_9
  let v22 : BitVec 32 := Scalar.muli c2_i32_10 v21
  let c4_i32_11 : BitVec 32 := 4#32
  let v23 : BitVec 32 := Scalar.subi v22 c4_i32_11
  let v24 : BitVec 32 := Scalar.maxsi c0_i32_12 v23
  let v25 : BitVec 32 := Scalar.minsi c120_i32_13 v24
  let c118_i32_14 : BitVec 32 := 118#32
  let v26 : BitVec 32 := Scalar.minsi v25 c118_i32_14
  let c64_i32_24 : BitVec 32 := 64#32
  let v35 : BitVec 32 := Scalar.muli v26 c64_i32_24
  v35
def k0_mult3 (i : grid0.Coords) : BitVec 32 :=
  let c120_i32_30 : BitVec 32 := 120#32
  let c0_i32_29 : BitVec 32 := 0#32
  let c2_i32_27 : BitVec 32 := 2#32
  let arg1 : BitVec 32 := BitVec.ofNat 32 (i 1).val
  let c16_i32_25 : BitVec 32 := 16#32
  let v37 : BitVec 32 := Scalar.muli arg1 c16_i32_25
  let c2_i32_26 : BitVec 32 := 2#32
  let v38 : BitVec 32 := Scalar.addi v37 c2_i32_26
  let v39 : BitVec 32 := Scalar.muli c2_i32_27 v38
  let c4_i32_28 : BitVec 32 := 4#32
  let v40 : BitVec 32 := Scalar.subi v39 c4_i32_28
  let v41 : BitVec 32 := Scalar.maxsi c0_i32_29 v40
  let v42 : BitVec 32 := Scalar.minsi c120_i32_30 v41
  let c118_i32_31 : BitVec 32 := 118#32
  let v43 : BitVec 32 := Scalar.minsi v42 c118_i32_31
  let c64_i32_41 : BitVec 32 := 64#32
  let v52 : BitVec 32 := Scalar.muli v43 c64_i32_41
  v52
def k0_mult4 (i : grid0.Coords) : BitVec 32 :=
  let c120_i32_47 : BitVec 32 := 120#32
  let c0_i32_46 : BitVec 32 := 0#32
  let c2_i32_44 : BitVec 32 := 2#32
  let arg1 : BitVec 32 := BitVec.ofNat 32 (i 1).val
  let c16_i32_42 : BitVec 32 := 16#32
  let v54 : BitVec 32 := Scalar.muli arg1 c16_i32_42
  let c3_i32_43 : BitVec 32 := 3#32
  let v55 : BitVec 32 := Scalar.addi v54 c3_i32_43
  let v56 : BitVec 32 := Scalar.muli c2_i32_44 v55
  let c4_i32_45 : BitVec 32 := 4#32
  let v57 : BitVec 32 := Scalar.subi v56 c4_i32_45
  let v58 : BitVec 32 := Scalar.maxsi c0_i32_46 v57
  let v59 : BitVec 32 := Scalar.minsi c120_i32_47 v58
  let c118_i32_48 : BitVec 32 := 118#32
  let v60 : BitVec 32 := Scalar.minsi v59 c118_i32_48
  let c64_i32_58 : BitVec 32 := 64#32
  let v69 : BitVec 32 := Scalar.muli v60 c64_i32_58
  v69
def k0_mult5 (i : grid0.Coords) : BitVec 32 :=
  let c120_i32_64 : BitVec 32 := 120#32
  let c0_i32_63 : BitVec 32 := 0#32
  let c2_i32_61 : BitVec 32 := 2#32
  let arg1 : BitVec 32 := BitVec.ofNat 32 (i 1).val
  let c16_i32_59 : BitVec 32 := 16#32
  let v71 : BitVec 32 := Scalar.muli arg1 c16_i32_59
  let c4_i32_60 : BitVec 32 := 4#32
  let v72 : BitVec 32 := Scalar.addi v71 c4_i32_60
  let v73 : BitVec 32 := Scalar.muli c2_i32_61 v72
  let c4_i32_62 : BitVec 32 := 4#32
  let v74 : BitVec 32 := Scalar.subi v73 c4_i32_62
  let v75 : BitVec 32 := Scalar.maxsi c0_i32_63 v74
  let v76 : BitVec 32 := Scalar.minsi c120_i32_64 v75
  let c118_i32_65 : BitVec 32 := 118#32
  let v77 : BitVec 32 := Scalar.minsi v76 c118_i32_65
  let c64_i32_75 : BitVec 32 := 64#32
  let v86 : BitVec 32 := Scalar.muli v77 c64_i32_75
  v86
def k0_mult6 (i : grid0.Coords) : BitVec 32 :=
  let c120_i32_80 : BitVec 32 := 120#32
  let c0_i32_79 : BitVec 32 := 0#32
  let c2_i32_77 : BitVec 32 := 2#32
  let arg1 : BitVec 32 := BitVec.ofNat 32 (i 1).val
  let c16_i32_76 : BitVec 32 := 16#32
  let v88 : BitVec 32 := Scalar.muli arg1 c16_i32_76
  let c5_i32 : BitVec 32 := 5#32
  let v89 : BitVec 32 := Scalar.addi v88 c5_i32
  let v90 : BitVec 32 := Scalar.muli c2_i32_77 v89
  let c4_i32_78 : BitVec 32 := 4#32
  let v91 : BitVec 32 := Scalar.subi v90 c4_i32_78
  let v92 : BitVec 32 := Scalar.maxsi c0_i32_79 v91
  let v93 : BitVec 32 := Scalar.minsi c120_i32_80 v92
  let c118_i32_81 : BitVec 32 := 118#32
  let v94 : BitVec 32 := Scalar.minsi v93 c118_i32_81
  let c64_i32_91 : BitVec 32 := 64#32
  let v103 : BitVec 32 := Scalar.muli v94 c64_i32_91
  v103
def k0_mult7 (i : grid0.Coords) : BitVec 32 :=
  let c120_i32_96 : BitVec 32 := 120#32
  let c0_i32_95 : BitVec 32 := 0#32
  let c2_i32_93 : BitVec 32 := 2#32
  let arg1 : BitVec 32 := BitVec.ofNat 32 (i 1).val
  let c16_i32_92 : BitVec 32 := 16#32
  let v105 : BitVec 32 := Scalar.muli arg1 c16_i32_92
  let c6_i32 : BitVec 32 := 6#32
  let v106 : BitVec 32 := Scalar.addi v105 c6_i32
  let v107 : BitVec 32 := Scalar.muli c2_i32_93 v106
  let c4_i32_94 : BitVec 32 := 4#32
  let v108 : BitVec 32 := Scalar.subi v107 c4_i32_94
  let v109 : BitVec 32 := Scalar.maxsi c0_i32_95 v108
  let v110 : BitVec 32 := Scalar.minsi c120_i32_96 v109
  let c118_i32_97 : BitVec 32 := 118#32
  let v111 : BitVec 32 := Scalar.minsi v110 c118_i32_97
  let c64_i32_107 : BitVec 32 := 64#32
  let v120 : BitVec 32 := Scalar.muli v111 c64_i32_107
  v120
def k0_mult8 (i : grid0.Coords) : BitVec 32 :=
  let c120_i32_112 : BitVec 32 := 120#32
  let c0_i32_111 : BitVec 32 := 0#32
  let c2_i32_109 : BitVec 32 := 2#32
  let arg1 : BitVec 32 := BitVec.ofNat 32 (i 1).val
  let c16_i32_108 : BitVec 32 := 16#32
  let v122 : BitVec 32 := Scalar.muli arg1 c16_i32_108
  let c7_i32 : BitVec 32 := 7#32
  let v123 : BitVec 32 := Scalar.addi v122 c7_i32
  let v124 : BitVec 32 := Scalar.muli c2_i32_109 v123
  let c4_i32_110 : BitVec 32 := 4#32
  let v125 : BitVec 32 := Scalar.subi v124 c4_i32_110
  let v126 : BitVec 32 := Scalar.maxsi c0_i32_111 v125
  let v127 : BitVec 32 := Scalar.minsi c120_i32_112 v126
  let c118_i32_113 : BitVec 32 := 118#32
  let v128 : BitVec 32 := Scalar.minsi v127 c118_i32_113
  let c64_i32_123 : BitVec 32 := 64#32
  let v137 : BitVec 32 := Scalar.muli v128 c64_i32_123
  v137
def k0_mult9 (i : grid0.Coords) : BitVec 32 :=
  let c120_i32_128 : BitVec 32 := 120#32
  let c0_i32_127 : BitVec 32 := 0#32
  let c2_i32_125 : BitVec 32 := 2#32
  let arg1 : BitVec 32 := BitVec.ofNat 32 (i 1).val
  let c16_i32_124 : BitVec 32 := 16#32
  let v139 : BitVec 32 := Scalar.muli arg1 c16_i32_124
  let c8_i32 : BitVec 32 := 8#32
  let v140 : BitVec 32 := Scalar.addi v139 c8_i32
  let v141 : BitVec 32 := Scalar.muli c2_i32_125 v140
  let c4_i32_126 : BitVec 32 := 4#32
  let v142 : BitVec 32 := Scalar.subi v141 c4_i32_126
  let v143 : BitVec 32 := Scalar.maxsi c0_i32_127 v142
  let v144 : BitVec 32 := Scalar.minsi c120_i32_128 v143
  let c118_i32_129 : BitVec 32 := 118#32
  let v145 : BitVec 32 := Scalar.minsi v144 c118_i32_129
  let c64_i32_139 : BitVec 32 := 64#32
  let v154 : BitVec 32 := Scalar.muli v145 c64_i32_139
  v154
def k0_mult10 (i : grid0.Coords) : BitVec 32 :=
  let c120_i32_144 : BitVec 32 := 120#32
  let c0_i32_143 : BitVec 32 := 0#32
  let c2_i32_141 : BitVec 32 := 2#32
  let arg1 : BitVec 32 := BitVec.ofNat 32 (i 1).val
  let c16_i32_140 : BitVec 32 := 16#32
  let v156 : BitVec 32 := Scalar.muli arg1 c16_i32_140
  let c9_i32 : BitVec 32 := 9#32
  let v157 : BitVec 32 := Scalar.addi v156 c9_i32
  let v158 : BitVec 32 := Scalar.muli c2_i32_141 v157
  let c4_i32_142 : BitVec 32 := 4#32
  let v159 : BitVec 32 := Scalar.subi v158 c4_i32_142
  let v160 : BitVec 32 := Scalar.maxsi c0_i32_143 v159
  let v161 : BitVec 32 := Scalar.minsi c120_i32_144 v160
  let c118_i32_145 : BitVec 32 := 118#32
  let v162 : BitVec 32 := Scalar.minsi v161 c118_i32_145
  let c64_i32_155 : BitVec 32 := 64#32
  let v171 : BitVec 32 := Scalar.muli v162 c64_i32_155
  v171
def k0_mult11 (i : grid0.Coords) : BitVec 32 :=
  let c120_i32_160 : BitVec 32 := 120#32
  let c0_i32_159 : BitVec 32 := 0#32
  let c2_i32_157 : BitVec 32 := 2#32
  let arg1 : BitVec 32 := BitVec.ofNat 32 (i 1).val
  let c16_i32_156 : BitVec 32 := 16#32
  let v173 : BitVec 32 := Scalar.muli arg1 c16_i32_156
  let c10_i32 : BitVec 32 := 10#32
  let v174 : BitVec 32 := Scalar.addi v173 c10_i32
  let v175 : BitVec 32 := Scalar.muli c2_i32_157 v174
  let c4_i32_158 : BitVec 32 := 4#32
  let v176 : BitVec 32 := Scalar.subi v175 c4_i32_158
  let v177 : BitVec 32 := Scalar.maxsi c0_i32_159 v176
  let v178 : BitVec 32 := Scalar.minsi c120_i32_160 v177
  let c118_i32_161 : BitVec 32 := 118#32
  let v179 : BitVec 32 := Scalar.minsi v178 c118_i32_161
  let c64_i32_171 : BitVec 32 := 64#32
  let v188 : BitVec 32 := Scalar.muli v179 c64_i32_171
  v188
def k0_mult12 (i : grid0.Coords) : BitVec 32 :=
  let c120_i32_176 : BitVec 32 := 120#32
  let c0_i32_175 : BitVec 32 := 0#32
  let c2_i32_173 : BitVec 32 := 2#32
  let arg1 : BitVec 32 := BitVec.ofNat 32 (i 1).val
  let c16_i32_172 : BitVec 32 := 16#32
  let v190 : BitVec 32 := Scalar.muli arg1 c16_i32_172
  let c11_i32 : BitVec 32 := 11#32
  let v191 : BitVec 32 := Scalar.addi v190 c11_i32
  let v192 : BitVec 32 := Scalar.muli c2_i32_173 v191
  let c4_i32_174 : BitVec 32 := 4#32
  let v193 : BitVec 32 := Scalar.subi v192 c4_i32_174
  let v194 : BitVec 32 := Scalar.maxsi c0_i32_175 v193
  let v195 : BitVec 32 := Scalar.minsi c120_i32_176 v194
  let c118_i32_177 : BitVec 32 := 118#32
  let v196 : BitVec 32 := Scalar.minsi v195 c118_i32_177
  let c64_i32_187 : BitVec 32 := 64#32
  let v205 : BitVec 32 := Scalar.muli v196 c64_i32_187
  v205
def k0_mult13 (i : grid0.Coords) : BitVec 32 :=
  let c120_i32_192 : BitVec 32 := 120#32
  let c0_i32_191 : BitVec 32 := 0#32
  let c2_i32_189 : BitVec 32 := 2#32
  let arg1 : BitVec 32 := BitVec.ofNat 32 (i 1).val
  let c16_i32_188 : BitVec 32 := 16#32
  let v207 : BitVec 32 := Scalar.muli arg1 c16_i32_188
  let c12_i32 : BitVec 32 := 12#32
  let v208 : BitVec 32 := Scalar.addi v207 c12_i32
  let v209 : BitVec 32 := Scalar.muli c2_i32_189 v208
  let c4_i32_190 : BitVec 32 := 4#32
  let v210 : BitVec 32 := Scalar.subi v209 c4_i32_190
  let v211 : BitVec 32 := Scalar.maxsi c0_i32_191 v210
  let v212 : BitVec 32 := Scalar.minsi c120_i32_192 v211
  let c118_i32_193 : BitVec 32 := 118#32
  let v213 : BitVec 32 := Scalar.minsi v212 c118_i32_193
  let c64_i32_203 : BitVec 32 := 64#32
  let v222 : BitVec 32 := Scalar.muli v213 c64_i32_203
  v222
def k0_mult14 (i : grid0.Coords) : BitVec 32 :=
  let c120_i32_208 : BitVec 32 := 120#32
  let c0_i32_207 : BitVec 32 := 0#32
  let c2_i32_205 : BitVec 32 := 2#32
  let arg1 : BitVec 32 := BitVec.ofNat 32 (i 1).val
  let c16_i32_204 : BitVec 32 := 16#32
  let v224 : BitVec 32 := Scalar.muli arg1 c16_i32_204
  let c13_i32 : BitVec 32 := 13#32
  let v225 : BitVec 32 := Scalar.addi v224 c13_i32
  let v226 : BitVec 32 := Scalar.muli c2_i32_205 v225
  let c4_i32_206 : BitVec 32 := 4#32
  let v227 : BitVec 32 := Scalar.subi v226 c4_i32_206
  let v228 : BitVec 32 := Scalar.maxsi c0_i32_207 v227
  let v229 : BitVec 32 := Scalar.minsi c120_i32_208 v228
  let c118_i32_209 : BitVec 32 := 118#32
  let v230 : BitVec 32 := Scalar.minsi v229 c118_i32_209
  let c64_i32_219 : BitVec 32 := 64#32
  let v239 : BitVec 32 := Scalar.muli v230 c64_i32_219
  v239
def k0_mult15 (i : grid0.Coords) : BitVec 32 :=
  let c120_i32_224 : BitVec 32 := 120#32
  let c0_i32_223 : BitVec 32 := 0#32
  let c2_i32_221 : BitVec 32 := 2#32
  let arg1 : BitVec 32 := BitVec.ofNat 32 (i 1).val
  let c16_i32_220 : BitVec 32 := 16#32
  let v241 : BitVec 32 := Scalar.muli arg1 c16_i32_220
  let c14_i32 : BitVec 32 := 14#32
  let v242 : BitVec 32 := Scalar.addi v241 c14_i32
  let v243 : BitVec 32 := Scalar.muli c2_i32_221 v242
  let c4_i32_222 : BitVec 32 := 4#32
  let v244 : BitVec 32 := Scalar.subi v243 c4_i32_222
  let v245 : BitVec 32 := Scalar.maxsi c0_i32_223 v244
  let v246 : BitVec 32 := Scalar.minsi c120_i32_224 v245
  let c118_i32_225 : BitVec 32 := 118#32
  let v247 : BitVec 32 := Scalar.minsi v246 c118_i32_225
  let c64_i32_235 : BitVec 32 := 64#32
  let v256 : BitVec 32 := Scalar.muli v247 c64_i32_235
  v256
def k0_mult16 (i : grid0.Coords) : BitVec 32 :=
  let c120_i32_240 : BitVec 32 := 120#32
  let c0_i32_239 : BitVec 32 := 0#32
  let c2_i32_237 : BitVec 32 := 2#32
  let arg1 : BitVec 32 := BitVec.ofNat 32 (i 1).val
  let c16_i32_236 : BitVec 32 := 16#32
  let v258 : BitVec 32 := Scalar.muli arg1 c16_i32_236
  let c15_i32 : BitVec 32 := 15#32
  let v259 : BitVec 32 := Scalar.addi v258 c15_i32
  let v260 : BitVec 32 := Scalar.muli c2_i32_237 v259
  let c4_i32_238 : BitVec 32 := 4#32
  let v261 : BitVec 32 := Scalar.subi v260 c4_i32_238
  let v262 : BitVec 32 := Scalar.maxsi c0_i32_239 v261
  let v263 : BitVec 32 := Scalar.minsi c120_i32_240 v262
  let c118_i32_241 : BitVec 32 := 118#32
  let v264 : BitVec 32 := Scalar.minsi v263 c118_i32_241
  let c64_i32_251 : BitVec 32 := 64#32
  let v273 : BitVec 32 := Scalar.muli v264 c64_i32_251
  v273
def k0_off1 (i : grid0.Coords) (c0_i32_1 : BitVec 32) : Fin 2 → Nat :=
  let c120_i32 : BitVec 32 := 120#32
  let c0_i32_2 : BitVec 32 := 0#32
  let c2_i32 : BitVec 32 := 2#32
  let arg1 : BitVec 32 := BitVec.ofNat 32 (i 1).val
  let c16_i32 : BitVec 32 := 16#32
  let v3 : BitVec 32 := Scalar.muli arg1 c16_i32
  let v4 : BitVec 32 := Scalar.addi v3 c0_i32_1
  let v5 : BitVec 32 := Scalar.muli c2_i32 v4
  let c4_i32 : BitVec 32 := 4#32
  let v6 : BitVec 32 := Scalar.subi v5 c4_i32
  let v7 : BitVec 32 := Scalar.maxsi c0_i32_2 v6
  let v8 : BitVec 32 := Scalar.minsi c120_i32 v7
  let c118_i32 : BitVec 32 := 118#32
  let v9 : BitVec 32 := Scalar.minsi v8 c118_i32
  let c64_i32 : BitVec 32 := 64#32
  let v18 : BitVec 32 := Scalar.muli v9 c64_i32
  let v19 : BitVec 32 := v18
  let v275 : Index := Scalar.indexCast v19
  let c0 : Index := 0#32
  ![v275.toNat, 0]
def k0_off2 (i : grid0.Coords) (c0_i32_1 : BitVec 32) : Fin 4 → Nat :=
  let c0_303 : Index := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v419 : Index := Scalar.indexCast v17
  let c0_304 : Index := 0#32
  let c0_305 : Index := 0#32
  ![0, v419.toNat, 0, 0]
def k0_off3 (i : grid0.Coords) (c0_i32_1 : BitVec 32) : Fin 4 → Nat :=
  let c0_306 : Index := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v425 : Index := Scalar.indexCast v17
  let c64 : Index := 64#32
  let c0_307 : Index := 0#32
  ![0, v425.toNat, 64, 0]
def k0_off4 (i : grid0.Coords) (c0_i32_1 : BitVec 32) : Fin 4 → Nat :=
  let c0_308 : Index := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v431 : Index := Scalar.indexCast v17
  let c128 : Index := 128#32
  let c0_309 : Index := 0#32
  ![0, v431.toNat, 128, 0]
def k0_off5 (i : grid0.Coords) (c0_i32_1 : BitVec 32) : Fin 4 → Nat :=
  let c0_310 : Index := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v437 : Index := Scalar.indexCast v17
  let c192 : Index := 192#32
  let c0_311 : Index := 0#32
  ![0, v437.toNat, 192, 0]
def k0_off6 (i : grid0.Coords) (c0_i32_1 : BitVec 32) : Fin 4 → Nat :=
  let c0_312 : Index := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v443 : Index := Scalar.indexCast v17
  let c256 : Index := 256#32
  let c0_313 : Index := 0#32
  ![0, v443.toNat, 256, 0]
def k0_off7 (i : grid0.Coords) (c0_i32_1 : BitVec 32) : Fin 4 → Nat :=
  let c0_314 : Index := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v449 : Index := Scalar.indexCast v17
  let c320 : Index := 320#32
  let c0_315 : Index := 0#32
  ![0, v449.toNat, 320, 0]
def k0_off8 (i : grid0.Coords) (c0_i32_1 : BitVec 32) : Fin 4 → Nat :=
  let c0_316 : Index := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v455 : Index := Scalar.indexCast v17
  let c384 : Index := 384#32
  let c0_317 : Index := 0#32
  ![0, v455.toNat, 384, 0]
def k0_off9 (i : grid0.Coords) (c0_i32_1 : BitVec 32) : Fin 4 → Nat :=
  let c0_318 : Index := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v461 : Index := Scalar.indexCast v17
  let c448 : Index := 448#32
  let c0_319 : Index := 0#32
  ![0, v461.toNat, 448, 0]
def k0_off10 (i : grid0.Coords) (c0_i32_1 : BitVec 32) : Fin 4 → Nat :=
  let c0_320 : Index := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v467 : Index := Scalar.indexCast v17
  let c512 : Index := 512#32
  let c0_321 : Index := 0#32
  ![0, v467.toNat, 512, 0]
def k0_off11 (i : grid0.Coords) (c0_i32_1 : BitVec 32) : Fin 4 → Nat :=
  let c0_322 : Index := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v473 : Index := Scalar.indexCast v17
  let c576 : Index := 576#32
  let c0_323 : Index := 0#32
  ![0, v473.toNat, 576, 0]
def k0_off12 (i : grid0.Coords) (c0_i32_1 : BitVec 32) : Fin 2 → Nat :=
  let c0_419 : Index := 0#32
  let c120_i32 : BitVec 32 := 120#32
  let c0_i32_2 : BitVec 32 := 0#32
  let c2_i32 : BitVec 32 := 2#32
  let arg1 : BitVec 32 := BitVec.ofNat 32 (i 1).val
  let c16_i32 : BitVec 32 := 16#32
  let v3 : BitVec 32 := Scalar.muli arg1 c16_i32
  let v4 : BitVec 32 := Scalar.addi v3 c0_i32_1
  let v5 : BitVec 32 := Scalar.muli c2_i32 v4
  let c4_i32 : BitVec 32 := 4#32
  let v6 : BitVec 32 := Scalar.subi v5 c4_i32
  let v7 : BitVec 32 := Scalar.maxsi c0_i32_2 v6
  let v8 : BitVec 32 := Scalar.minsi c120_i32 v7
  let c118_i32 : BitVec 32 := 118#32
  let v9 : BitVec 32 := Scalar.minsi v8 c118_i32
  let c64_i32 : BitVec 32 := 64#32
  let v18 : BitVec 32 := Scalar.muli v9 c64_i32
  let v19 : BitVec 32 := v18
  let v765 : Index := Scalar.indexCast v19
  ![0, v765.toNat]
def k0_off13 (i : grid0.Coords) (c0_i32_1 : BitVec 32) : Fin 4 → Nat :=
  let c1 : Index := 1#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v774 : Index := Scalar.indexCast v17
  let c0_425 : Index := 0#32
  let c0_426 : Index := 0#32
  ![1, v774.toNat, 0, 0]
def k0_off14 (i : grid0.Coords) (c0_i32_1 : BitVec 32) : Fin 4 → Nat :=
  let c1_427 : Index := 1#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v780 : Index := Scalar.indexCast v17
  let c64_428 : Index := 64#32
  let c0_429 : Index := 0#32
  ![1, v780.toNat, 64, 0]
def k0_off15 (i : grid0.Coords) (c0_i32_1 : BitVec 32) : Fin 4 → Nat :=
  let c1_430 : Index := 1#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v786 : Index := Scalar.indexCast v17
  let c128_431 : Index := 128#32
  let c0_432 : Index := 0#32
  ![1, v786.toNat, 128, 0]
def k0_off16 (i : grid0.Coords) (c0_i32_1 : BitVec 32) : Fin 4 → Nat :=
  let c1_433 : Index := 1#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v792 : Index := Scalar.indexCast v17
  let c192_434 : Index := 192#32
  let c0_435 : Index := 0#32
  ![1, v792.toNat, 192, 0]
def k0_off17 (i : grid0.Coords) (c0_i32_1 : BitVec 32) : Fin 4 → Nat :=
  let c1_436 : Index := 1#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v798 : Index := Scalar.indexCast v17
  let c256_437 : Index := 256#32
  let c0_438 : Index := 0#32
  ![1, v798.toNat, 256, 0]
def k0_off18 (i : grid0.Coords) (c0_i32_1 : BitVec 32) : Fin 4 → Nat :=
  let c1_439 : Index := 1#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v804 : Index := Scalar.indexCast v17
  let c320_440 : Index := 320#32
  let c0_441 : Index := 0#32
  ![1, v804.toNat, 320, 0]
def k0_off19 (i : grid0.Coords) (c0_i32_1 : BitVec 32) : Fin 4 → Nat :=
  let c1_442 : Index := 1#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v810 : Index := Scalar.indexCast v17
  let c384_443 : Index := 384#32
  let c0_444 : Index := 0#32
  ![1, v810.toNat, 384, 0]
def k0_off20 (i : grid0.Coords) (c0_i32_1 : BitVec 32) : Fin 4 → Nat :=
  let c1_445 : Index := 1#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v816 : Index := Scalar.indexCast v17
  let c448_446 : Index := 448#32
  let c0_447 : Index := 0#32
  ![1, v816.toNat, 448, 0]
def k0_off21 (i : grid0.Coords) (c0_i32_1 : BitVec 32) : Fin 4 → Nat :=
  let c1_448 : Index := 1#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v822 : Index := Scalar.indexCast v17
  let c512_449 : Index := 512#32
  let c0_450 : Index := 0#32
  ![1, v822.toNat, 512, 0]
def k0_off22 (i : grid0.Coords) (c0_i32_1 : BitVec 32) : Fin 4 → Nat :=
  let c1_451 : Index := 1#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c0_i32_3 : BitVec 32 := 0#32
  let v10 : BitVec 1 := Scalar.cmpi .eq v4 c0_i32_3
  let c0_i32_7 : BitVec 32 := 0#32
  let c1_i32 : BitVec 32 := 1#32
  let v11 : BitVec 1 := Scalar.cmpi .eq v4 c1_i32
  let c1_i32_6 : BitVec 32 := 1#32
  let c62_i32 : BitVec 32 := 62#32
  let v12 : BitVec 1 := Scalar.cmpi .eq v4 c62_i32
  let c3_i32 : BitVec 32 := 3#32
  let c63_i32 : BitVec 32 := 63#32
  let v13 : BitVec 1 := Scalar.cmpi .eq v4 c63_i32
  let c4_i32_4 : BitVec 32 := 4#32
  let c2_i32_5 : BitVec 32 := 2#32
  let v14 : BitVec 32 := Scalar.select v13 c4_i32_4 c2_i32_5
  let v15 : BitVec 32 := Scalar.select v12 c3_i32 v14
  let v16 : BitVec 32 := Scalar.select v11 c1_i32_6 v15
  let v17 : BitVec 32 := Scalar.select v10 c0_i32_7 v16
  let v828 : Index := Scalar.indexCast v17
  let c576_452 : Index := 576#32
  let c0_453 : Index := 0#32
  ![1, v828.toNat, 576, 0]
def k0_off23 (i : grid0.Coords) (c0_i32_1 : BitVec 32) : Fin 2 → Nat :=
  let c64_549 : Index := 64#32
  let c120_i32 : BitVec 32 := 120#32
  let c0_i32_2 : BitVec 32 := 0#32
  let c2_i32 : BitVec 32 := 2#32
  let arg1 : BitVec 32 := BitVec.ofNat 32 (i 1).val
  let c16_i32 : BitVec 32 := 16#32
  let v3 : BitVec 32 := Scalar.muli arg1 c16_i32
  let v4 : BitVec 32 := Scalar.addi v3 c0_i32_1
  let v5 : BitVec 32 := Scalar.muli c2_i32 v4
  let c4_i32 : BitVec 32 := 4#32
  let v6 : BitVec 32 := Scalar.subi v5 c4_i32
  let v7 : BitVec 32 := Scalar.maxsi c0_i32_2 v6
  let v8 : BitVec 32 := Scalar.minsi c120_i32 v7
  let c118_i32 : BitVec 32 := 118#32
  let v9 : BitVec 32 := Scalar.minsi v8 c118_i32
  let c64_i32 : BitVec 32 := 64#32
  let v18 : BitVec 32 := Scalar.muli v9 c64_i32
  let v19 : BitVec 32 := v18
  let v1120 : Index := Scalar.indexCast v19
  ![64, v1120.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x5x640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x5x640x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== NaRefIdeal.lean ====
abbrev S8192x512 : Shape := ⟨2, ![8192, 512]⟩
abbrev S8x15x31 : Shape := ⟨3, ![8, 15, 31]⟩
abbrev S128x64x8x64 : Shape := ⟨4, ![128, 64, 8, 64]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S128x8x64x8x64 : Shape := ⟨5, ![128, 8, 64, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S128x1x8x1 : Shape := ⟨4, ![128, 1, 8, 1]⟩
abbrev S1x64x1x64 : Shape := ⟨4, ![1, 64, 1, 64]⟩
abbrev S128x64x8x64x1 : Shape := ⟨5, ![128, 64, 8, 64, 1]⟩
abbrev S128x64x8x64x2 : Shape := ⟨5, ![128, 64, 8, 64, 2]⟩
abbrev S8x128x64x8x64 : Shape := ⟨5, ![8, 128, 64, 8, 64]⟩
abbrev S64x1x64 : Shape := ⟨3, ![64, 1, 64]⟩
abbrev S8x128x64 : Shape := ⟨3, ![8, 128, 64]⟩
abbrev S8x128x64x1x1 : Shape := ⟨5, ![8, 128, 64, 1, 1]⟩
abbrev S128x8x64x64 : Shape := ⟨4, ![128, 8, 64, 64]⟩
abbrev S8x128x8x64x64 : Shape := ⟨5, ![8, 128, 8, 64, 64]⟩
abbrev S8x128x64x64 : Shape := ⟨4, ![8, 128, 64, 64]⟩
abbrev S512x8192 : Shape := ⟨2, ![512, 8192]⟩

abbrev nBuf : Space → Nat
  | .hbm => 209
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8x15x31, .f32⟩
  | 4 => ⟨S8192x512, .f32⟩
  | 5 => ⟨S128x64x8x64, .f32⟩
  | 6 => ⟨S128, .i32⟩
  | 7 => ⟨S128, .i32⟩
  | 8 => ⟨S_, .i32⟩
  | 9 => ⟨S128, .i32⟩
  | 10 => ⟨S128, .i32⟩
  | 11 => ⟨S_, .i32⟩
  | 12 => ⟨S_, .i32⟩
  | 13 => ⟨S_, .i32⟩
  | 14 => ⟨S128, .i32⟩
  | 15 => ⟨S128, .i32⟩
  | 16 => ⟨S_, .i32⟩
  | 17 => ⟨S128, .i32⟩
  | 18 => ⟨S128, .i32⟩
  | 19 => ⟨S128x1, .i32⟩
  | 20 => ⟨S8, .i32⟩
  | 21 => ⟨S1x8, .i32⟩
  | 22 => ⟨S128x8, .i32⟩
  | 23 => ⟨S128x8, .i32⟩
  | 24 => ⟨S128x8, .i32⟩
  | 25 => ⟨S128x64x8x64, .f32⟩
  | 26 => ⟨S_, .i32⟩
  | 27 => ⟨S128x8, .i32⟩
  | 28 => ⟨S128x8, .i1⟩
  | 29 => ⟨S_, .i32⟩
  | 30 => ⟨S128x8, .i32⟩
  | 31 => ⟨S128x8, .i32⟩
  | 32 => ⟨S128x8, .i32⟩
  | 33 => ⟨S128x8x1, .i32⟩
  | 34 => ⟨S128x8x64x8x64, .f32⟩
  | 35 => ⟨S64, .i32⟩
  | 36 => ⟨S_, .i32⟩
  | 37 => ⟨S64, .i32⟩
  | 38 => ⟨S64, .i32⟩
  | 39 => ⟨S_, .i32⟩
  | 40 => ⟨S_, .i32⟩
  | 41 => ⟨S_, .i32⟩
  | 42 => ⟨S64, .i32⟩
  | 43 => ⟨S64, .i32⟩
  | 44 => ⟨S_, .i32⟩
  | 45 => ⟨S64, .i32⟩
  | 46 => ⟨S64, .i32⟩
  | 47 => ⟨S1x64, .i32⟩
  | 48 => ⟨S64x1, .i32⟩
  | 49 => ⟨S64x64, .i32⟩
  | 50 => ⟨S64x64, .i32⟩
  | 51 => ⟨S64x64, .i1⟩
  | 52 => ⟨S1x64, .i32⟩
  | 53 => ⟨S64x1, .i32⟩
  | 54 => ⟨S_, .i32⟩
  | 55 => ⟨S64x1, .i32⟩
  | 56 => ⟨S64x1, .i32⟩
  | 57 => ⟨S64x64, .i32⟩
  | 58 => ⟨S64x64, .i32⟩
  | 59 => ⟨S64x64, .i1⟩
  | 60 => ⟨S64x64, .i1⟩
  | 61 => ⟨S1x64, .i32⟩
  | 62 => ⟨S64x1, .i32⟩
  | 63 => ⟨S64x64, .i32⟩
  | 64 => ⟨S64x64, .i32⟩
  | 65 => ⟨S64x64, .i32⟩
  | 66 => ⟨S_, .i32⟩
  | 67 => ⟨S64x64, .i32⟩
  | 68 => ⟨S64x64, .i32⟩
  | 69 => ⟨S_, .i32⟩
  | 70 => ⟨S_, .i32⟩
  | 71 => ⟨S_, .i32⟩
  | 72 => ⟨S64x64, .i32⟩
  | 73 => ⟨S64x64, .i32⟩
  | 74 => ⟨S_, .i32⟩
  | 75 => ⟨S64x64, .i32⟩
  | 76 => ⟨S64x64, .i32⟩
  | 77 => ⟨S128x1, .i32⟩
  | 78 => ⟨S128x8, .i32⟩
  | 79 => ⟨S128x8, .i32⟩
  | 80 => ⟨S_, .i32⟩
  | 81 => ⟨S128x8, .i32⟩
  | 82 => ⟨S128x8, .i32⟩
  | 83 => ⟨S128x1x8x1, .i32⟩
  | 84 => ⟨S1x64x1x64, .i32⟩
  | 85 => ⟨S_, .i32⟩
  | 86 => ⟨S128x1x8x1, .i32⟩
  | 87 => ⟨S128x1x8x1, .i1⟩
  | 88 => ⟨S_, .i32⟩
  | 89 => ⟨S128x1x8x1, .i32⟩
  | 90 => ⟨S128x1x8x1, .i32⟩
  | 91 => ⟨S128x1x8x1, .i32⟩
  | 92 => ⟨S_, .i32⟩
  | 93 => ⟨S1x64x1x64, .i32⟩
  | 94 => ⟨S1x64x1x64, .i1⟩
  | 95 => ⟨S_, .i32⟩
  | 96 => ⟨S1x64x1x64, .i32⟩
  | 97 => ⟨S1x64x1x64, .i32⟩
  | 98 => ⟨S1x64x1x64, .i32⟩
  | 99 => ⟨S128x64x8x64, .i32⟩
  | 100 => ⟨S128x64x8x64, .i32⟩
  | 101 => ⟨S128x64x8x64x1, .i32⟩
  | 102 => ⟨S128x64x8x64x1, .i32⟩
  | 103 => ⟨S128x64x8x64x2, .i32⟩
  | 104 => ⟨S8x128x64x8x64, .f32⟩
  | 105 => ⟨S8x128x64x8x64, .f32⟩
  | 106 => ⟨S_, .f32⟩
  | 107 => ⟨S8x128x64x8x64, .f32⟩
  | 108 => ⟨S8x128x64x8x64, .f32⟩
  | 109 => ⟨S8x128x64x8x64, .f32⟩
  | 110 => ⟨S64x1x64, .i1⟩
  | 111 => ⟨S_, .f32⟩
  | 112 => ⟨S_, .f32⟩
  | 113 => ⟨S8x128x64x8x64, .i1⟩
  | 114 => ⟨S8x128x64x8x64, .f32⟩
  | 115 => ⟨S8x128x64x8x64, .f32⟩
  | 116 => ⟨S_, .f32⟩
  | 117 => ⟨S8x128x64x8x64, .f32⟩
  | 118 => ⟨S_, .f32⟩
  | 119 => ⟨S8x128x64, .f32⟩
  | 120 => ⟨S8x128x64x1x1, .f32⟩
  | 121 => ⟨S8x128x64x8x64, .f32⟩
  | 122 => ⟨S8x128x64x8x64, .i1⟩
  | 123 => ⟨S8x128x64x8x64, .f32⟩
  | 124 => ⟨S_, .f32⟩
  | 125 => ⟨S8x128x64, .f32⟩
  | 126 => ⟨S_, .f32⟩
  | 127 => ⟨S8x128x64, .f32⟩
  | _ => ⟨S8192x512, .f32⟩

abbrev hbmTy0_1 (i : Nat) : BufTy := match i % 128 with
  | 0 => ⟨S8x128x64, .f32⟩
  | 1 => ⟨S_, .f32⟩
  | 2 => ⟨S8x128x64, .f32⟩
  | 3 => ⟨S8x128x64, .i1⟩
  | 4 => ⟨S_, .f32⟩
  | 5 => ⟨S8x128x64, .f32⟩
  | 6 => ⟨S8x128x64, .i1⟩
  | 7 => ⟨S_, .f32⟩
  | 8 => ⟨S8x128x64, .f32⟩
  | 9 => ⟨S_, .f32⟩
  | 10 => ⟨S8x128x64, .f32⟩
  | 11 => ⟨S_, .f32⟩
  | 12 => ⟨S8x128x64, .f32⟩
  | 13 => ⟨S8x128x64, .f32⟩
  | 14 => ⟨S8x128x64, .f32⟩
  | 15 => ⟨S8x128x64x1x1, .f32⟩
  | 16 => ⟨S8x128x64x8x64, .f32⟩
  | 17 => ⟨S8x128x64x8x64, .f32⟩
  | 18 => ⟨S8x128x64x8x64, .f32⟩
  | 19 => ⟨S_, .f32⟩
  | 20 => ⟨S8x128x64, .f32⟩
  | 21 => ⟨S8x128x64x1x1, .f32⟩
  | 22 => ⟨S8x128x64x8x64, .f32⟩
  | 23 => ⟨S8x128x64x8x64, .f32⟩
  | 24 => ⟨S8x128x64x1x1, .f32⟩
  | 25 => ⟨S_, .f32⟩
  | 26 => ⟨S8x128x64x1x1, .f32⟩
  | 27 => ⟨S8x128x64x1x1, .f32⟩
  | 28 => ⟨S128x64x8x64, .f32⟩
  | 29 => ⟨S_, .i32⟩
  | 30 => ⟨S128x8, .i32⟩
  | 31 => ⟨S128x8, .i1⟩
  | 32 => ⟨S_, .i32⟩
  | 33 => ⟨S128x8, .i32⟩
  | 34 => ⟨S128x8, .i32⟩
  | 35 => ⟨S128x8, .i32⟩
  | 36 => ⟨S128x8x1, .i32⟩
  | 37 => ⟨S128x8x64x8x64, .f32⟩
  | 38 => ⟨S128x8x64x64, .f32⟩
  | 39 => ⟨S128x64x8x64, .f32⟩
  | 40 => ⟨S8192x512, .f32⟩
  | 41 => ⟨S128x64x8x64, .f32⟩
  | 42 => ⟨S128x8x64x64, .f32⟩
  | 43 => ⟨S128x8x64x8x64, .f32⟩
  | 44 => ⟨S8x128x64x8x64, .f32⟩
  | 45 => ⟨S128x8x64x8x64, .f32⟩
  | 46 => ⟨S128x8x64x8x64, .f32⟩
  | 47 => ⟨S_, .f32⟩
  | 48 => ⟨S128x64x8x64, .f32⟩
  | 49 => ⟨S128x64x8x64, .f32⟩
  | 50 => ⟨S8192x512, .f32⟩
  | 51 => ⟨S8x128x64x8x64, .f32⟩
  | 52 => ⟨S8x128x64x8x64, .f32⟩
  | 53 => ⟨S8x128x64x8x64, .f32⟩
  | 54 => ⟨S_, .f32⟩
  | 55 => ⟨S8x128x64, .f32⟩
  | 56 => ⟨S8x128x64x1x1, .f32⟩
  | 57 => ⟨S8x128x64x1x1, .f32⟩
  | 58 => ⟨S8x128x64x8x64, .f32⟩
  | 59 => ⟨S8x128x64x8x64, .f32⟩
  | 60 => ⟨S_, .f32⟩
  | 61 => ⟨S8x128x64, .f32⟩
  | 62 => ⟨S8x128x64x8x64, .f32⟩
  | 63 => ⟨S8x128x64x8x64, .f32⟩
  | 64 => ⟨S8x128x64x8x64, .f32⟩
  | 65 => ⟨S_, .f32⟩
  | 66 => ⟨S8x128x64x8x64, .f32⟩
  | 67 => ⟨S8x128x64x8x64, .f32⟩
  | 68 => ⟨S_, .f32⟩
  | 69 => ⟨S8x128x64x8x64, .f32⟩
  | 70 => ⟨S8x128x64x8x64, .f32⟩
  | 71 => ⟨S8x128x8x64x64, .f32⟩
  | 72 => ⟨S128x8x64x8x64, .f32⟩
  | 73 => ⟨S8x128x64x64, .f32⟩
  | 74 => ⟨S128x64x8x64, .f32⟩
  | 75 => ⟨S_, .f32⟩
  | 76 => ⟨S128x64x8x64, .f32⟩
  | 77 => ⟨S128x64x8x64, .f32⟩
  | 78 => ⟨S8192x512, .f32⟩
  | 79 => ⟨S8192x512, .f32⟩
  | 80 => ⟨S512x8192, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_c_6 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_c_10 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_11 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_c_12 : Ref sig .tc := ⟨.hbm, 85, rfl⟩
abbrev main_v52 : Ref sig .tc := ⟨.hbm, 86, rfl⟩
abbrev main_v53 : Ref sig .tc := ⟨.hbm, 87, rfl⟩
abbrev main_c_13 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_14 : Ref sig .tc := ⟨.hbm, 92, rfl⟩
abbrev main_v57 : Ref sig .tc := ⟨.hbm, 93, rfl⟩
abbrev main_v58 : Ref sig .tc := ⟨.hbm, 94, rfl⟩
abbrev main_c_15 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_16 : Ref sig .tc := ⟨.hbm, 111, rfl⟩
abbrev main_call3_v0 : Ref sig .tc := ⟨.hbm, 112, rfl⟩
abbrev main_v73_1 : Ref sig .tc := ⟨.hbm, 113, rfl⟩
abbrev main_call3_v2 : Ref sig .tc := ⟨.hbm, 114, rfl⟩
abbrev main_v73_0 : Ref sig .tc := ⟨.hbm, 115, rfl⟩
abbrev main_call3_cst : Ref sig .tc := ⟨.hbm, 116, rfl⟩
abbrev main_v73_2 : Ref sig .tc := ⟨.hbm, 117, rfl⟩
abbrev main_cst_17 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_18 : Ref sig .tc := ⟨.hbm, 124, rfl⟩
abbrev main_v79 : Ref sig .tc := ⟨.hbm, 125, rfl⟩
abbrev main_cst_19 : Ref sig .tc := ⟨.hbm, 126, rfl⟩
abbrev main_v80 : Ref sig .tc := ⟨.hbm, 127, rfl⟩
abbrev main_v81 : Ref sig .tc := ⟨.hbm, 128, rfl⟩
abbrev main_cst_20 : Ref sig .tc := ⟨.hbm, 129, rfl⟩
abbrev main_v82 : Ref sig .tc := ⟨.hbm, 130, rfl⟩
abbrev main_v83 : Ref sig .tc := ⟨.hbm, 131, rfl⟩
abbrev main_cst_21 : Ref sig .tc := ⟨.hbm, 132, rfl⟩
abbrev main_v84 : Ref sig .tc := ⟨.hbm, 133, rfl⟩
abbrev main_v85 : Ref sig .tc := ⟨.hbm, 134, rfl⟩
abbrev main_cst_22 : Ref sig .tc := ⟨.hbm, 135, rfl⟩
abbrev main_v86 : Ref sig .tc := ⟨.hbm, 136, rfl⟩
abbrev main_cst_23 : Ref sig .tc := ⟨.hbm, 137, rfl⟩
abbrev main_v87 : Ref sig .tc := ⟨.hbm, 138, rfl⟩
abbrev main_cst_24 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_25 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_26 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_c_27 : Ref sig .tc := ⟨.hbm, 157, rfl⟩
abbrev main_v103 : Ref sig .tc := ⟨.hbm, 158, rfl⟩
abbrev main_v104 : Ref sig .tc := ⟨.hbm, 159, rfl⟩
abbrev main_c_28 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_29 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_cst_30 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_31 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_call4_cst : Ref sig .tc := ⟨.hbm, 193, rfl⟩
abbrev main_call4_v0 : Ref sig .tc := ⟨.hbm, 194, rfl⟩
abbrev main_v134 : Ref sig .tc := ⟨.hbm, 195, rfl⟩
abbrev main_cst_32 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_cst_33 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩

abbrev nD : Nat := 1
abbrev τ : Topo := Topo.v7x

variable {F : FTy → Type} [FloatOps F]
-- ==== Proj.lean ====
abbrev S8192x1024 : Shape := ⟨2, ![8192, 1024]⟩
abbrev S1024 : Shape := ⟨1, ![1024]⟩
abbrev S1024x3072 : Shape := ⟨2, ![1024, 3072]⟩
abbrev S8192x512 : Shape := ⟨2, ![8192, 512]⟩
abbrev S512x16x4x128 : Shape := ⟨4, ![512, 16, 4, 128]⟩
abbrev S4x512x16x128 : Shape := ⟨4, ![4, 512, 16, 128]⟩
abbrev S4x512x2048 : Shape := ⟨3, ![4, 512, 2048]⟩
abbrev S1024x768 : Shape := ⟨2, ![1024, 768]⟩
abbrev S1x1024x768 : Shape := ⟨3, ![1, 1024, 768]⟩
abbrev S4x1024x768 : Shape := ⟨3, ![4, 1024, 768]⟩
abbrev S1024x1 : Shape := ⟨2, ![1024, 1]⟩
abbrev S512x8192 : Shape := ⟨2, ![512, 8192]⟩
abbrev S512x1024 : Shape := ⟨2, ![512, 1024]⟩
abbrev S4x32x2048 : Shape := ⟨3, ![4, 32, 2048]⟩
abbrev S512x512 : Shape := ⟨2, ![512, 512]⟩
abbrev S4x512x128 : Shape := ⟨3, ![4, 512, 128]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S512x256 : Shape := ⟨2, ![512, 256]⟩
abbrev S1x32x128 : Shape := ⟨3, ![1, 32, 128]⟩
abbrev S32x128 : Shape := ⟨2, ![32, 128]⟩
abbrev S1x512x128 : Shape := ⟨3, ![1, 512, 128]⟩
abbrev S512x128 : Shape := ⟨2, ![512, 128]⟩

abbrev nBuf : Space → Nat
  | .hbm => 29
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S512x16x4x128, .f32⟩
  | .hbm, ⟨10, _⟩ => ⟨S4x512x16x128, .f32⟩
  | .hbm, ⟨11, _⟩ => ⟨S4x512x2048, .f32⟩
  | .hbm, ⟨12, _⟩ => ⟨S1024x3072, .bf16⟩
  | .hbm, ⟨13, _⟩ => ⟨S1024x768, .bf16⟩
  | .hbm, ⟨14, _⟩ => ⟨S1024x768, .bf16⟩
  | .hbm, ⟨15, _⟩ => ⟨S1024x768, .bf16⟩
  | .hbm, ⟨16, _⟩ => ⟨S1024x768, .bf16⟩
  | .hbm, ⟨17, _⟩ => ⟨S1x1024x768, .bf16⟩
  | .hbm, ⟨18, _⟩ => ⟨S1x1024x768, .bf16⟩
  | .hbm, ⟨19, _⟩ => ⟨S1x1024x768, .bf16⟩
  | .hbm, ⟨20, _⟩ => ⟨S1x1024x768, .bf16⟩
  | .hbm, ⟨21, _⟩ => ⟨S4x1024x768, .bf16⟩
  | .hbm, ⟨22, _⟩ => ⟨S1024x1, .f32⟩
  | .hbm, ⟨23, _⟩ => ⟨S4x512x2048, .bf16⟩
  | .hbm, ⟨24, _⟩ => ⟨S8192x512, .bf16⟩
  | .hbm, ⟨25, _⟩ => ⟨S512x8192, .f32⟩
  | .hbm, ⟨26, _⟩ => ⟨S8192x512, .bf16⟩
  | .hbm, ⟨27, _⟩ => ⟨S4x1024x768, .f32⟩
  | .hbm, ⟨28, _⟩ => ⟨S1024x1, .f32⟩
  | .local _ .vmem, ⟨0, _⟩ => ⟨S512x1024, .f32⟩
  | .local _ .vmem, ⟨1, _⟩ => ⟨S512x1024, .f32⟩
  | .local _ .vmem, ⟨2, _⟩ => ⟨S1024x1, .f32⟩
  | .local _ .vmem, ⟨3, _⟩ => ⟨S4x1024x768, .bf16⟩
  | .local _ .vmem, ⟨4, _⟩ => ⟨S4x32x2048, .bf16⟩
  | .local _ .vmem, ⟨5, _⟩ => ⟨S4x32x2048, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S4x1024x768, .f32⟩
  | .local _ .vmem, ⟨17, _⟩ => ⟨S1024x1, .f32⟩
  | .local _ .vmem, ⟨18, _⟩ => ⟨S4x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v481 : BitVec 1 := Scalar.cmpi .eq arg0 c15_i32
  let v482 : BitVec 32 := Scalar.extui v481
  let c0_i32_436 : BitVec 32 := 0#32
  let v483 : BitVec 1 := Scalar.cmpi .ne v482 c0_i32_436
  v483

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1024x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ProjRefIdeal.lean ====
abbrev S8192x1024 : Shape := ⟨2, ![8192, 1024]⟩
abbrev S1024 : Shape := ⟨1, ![1024]⟩
abbrev S1024x3072 : Shape := ⟨2, ![1024, 3072]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S3072x1024 : Shape := ⟨2, ![3072, 1024]⟩
abbrev S1024x4x768 : Shape := ⟨3, ![1024, 4, 768]⟩
abbrev S4x1024x768 : Shape := ⟨3, ![4, 1024, 768]⟩
abbrev S1024x1 : Shape := ⟨2, ![1024, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x3072, .f32⟩
  | .hbm, ⟨33, _⟩ => ⟨S3072x1024, .f32⟩
  | .hbm, ⟨34, _⟩ => ⟨S1024x3072, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S_, .f32⟩
  | .hbm, ⟨41, _⟩ => ⟨S1024, .f32⟩
  | .hbm, ⟨42, _⟩ => ⟨S1024x4x768, .f32⟩
  | .hbm, ⟨43, _⟩ => ⟨S4x1024x768, .f32⟩
  | .hbm, ⟨44, _⟩ => ⟨S1024x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Dx.lean ====
abbrev S8192x1024 : Shape := ⟨2, ![8192, 1024]⟩
abbrev S1024 : Shape := ⟨1, ![1024]⟩
abbrev S1024x3072 : Shape := ⟨2, ![1024, 3072]⟩
abbrev S8192x512 : Shape := ⟨2, ![8192, 512]⟩
abbrev S512x16x4x128 : Shape := ⟨4, ![512, 16, 4, 128]⟩
abbrev S4x512x16x128 : Shape := ⟨4, ![4, 512, 16, 128]⟩
abbrev S4x512x2048 : Shape := ⟨3, ![4, 512, 2048]⟩
abbrev S1024x768 : Shape := ⟨2, ![1024, 768]⟩
abbrev S1x1024x768 : Shape := ⟨3, ![1, 1024, 768]⟩
abbrev S4x1024x768 : Shape := ⟨3, ![4, 1024, 768]⟩
abbrev S1x1024 : Shape := ⟨2, ![1, 1024]⟩
abbrev S512x8192 : Shape := ⟨2, ![512, 8192]⟩
abbrev S512x1024 : Shape := ⟨2, ![512, 1024]⟩
abbrev S4x32x2048 : Shape := ⟨3, ![4, 32, 2048]⟩
abbrev S512x512 : Shape := ⟨2, ![512, 512]⟩
abbrev S4x512x128 : Shape := ⟨3, ![4, 512, 128]⟩
abbrev S1x1024x512 : Shape := ⟨3, ![1, 1024, 512]⟩
abbrev S1024x512 : Shape := ⟨2, ![1024, 512]⟩
abbrev S512x256 : Shape := ⟨2, ![512, 256]⟩
abbrev S1x1024x256 : Shape := ⟨3, ![1, 1024, 256]⟩
abbrev S1024x256 : Shape := ⟨2, ![1024, 256]⟩
abbrev S1x32x128 : Shape := ⟨3, ![1, 32, 128]⟩
abbrev S32x128 : Shape := ⟨2, ![32, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 29
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S512x16x4x128, .f32⟩
  | .hbm, ⟨11, _⟩ => ⟨S4x512x16x128, .f32⟩
  | .hbm, ⟨12, _⟩ => ⟨S4x512x2048, .f32⟩
  | .hbm, ⟨13, _⟩ => ⟨S1024x3072, .bf16⟩
  | .hbm, ⟨14, _⟩ => ⟨S1024x768, .bf16⟩
  | .hbm, ⟨15, _⟩ => ⟨S1024x768, .bf16⟩
  | .hbm, ⟨16, _⟩ => ⟨S1024x768, .bf16⟩
  | .hbm, ⟨17, _⟩ => ⟨S1024x768, .bf16⟩
  | .hbm, ⟨18, _⟩ => ⟨S1x1024x768, .bf16⟩
  | .hbm, ⟨19, _⟩ => ⟨S1x1024x768, .bf16⟩
  | .hbm, ⟨20, _⟩ => ⟨S1x1024x768, .bf16⟩
  | .hbm, ⟨21, _⟩ => ⟨S1x1024x768, .bf16⟩
  | .hbm, ⟨22, _⟩ => ⟨S4x1024x768, .bf16⟩
  | .hbm, ⟨23, _⟩ => ⟨S1x1024, .f32⟩
  | .hbm, ⟨24, _⟩ => ⟨S4x512x2048, .bf16⟩
  | .hbm, ⟨25, _⟩ => ⟨S8192x512, .bf16⟩
  | .hbm, ⟨26, _⟩ => ⟨S512x8192, .f32⟩
  | .hbm, ⟨27, _⟩ => ⟨S8192x512, .bf16⟩
  | .hbm, ⟨28, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x768, .bf16⟩
  | .local _ .vmem, ⟨4, _⟩ => ⟨S512x1024, .f32⟩
  | .local _ .vmem, ⟨5, _⟩ => ⟨S512x1024, .f32⟩
  | .local _ .vmem, ⟨6, _⟩ => ⟨S4x32x2048, .bf16⟩
  | .local _ .vmem, ⟨7, _⟩ => ⟨S4x32x2048, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x1024, .f32⟩
  | .local _ .vmem, ⟨19, _⟩ => ⟨S512x1024, .f32⟩
  | .local _ .vmem, ⟨20, _⟩ => ⟨S4x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== DxRefIdeal.lean ====
abbrev S8192x1024 : Shape := ⟨2, ![8192, 1024]⟩
abbrev S1024 : Shape := ⟨1, ![1024]⟩
abbrev S1024x3072 : Shape := ⟨2, ![1024, 3072]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x3072, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x3072, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Proof.Up.lean ====
module

public import Idealize.ShloMosaic.Lib.Pipeline.ValueKit
public import Idealize.ShloMosaic.PureOps.Ideal
public import Idealize.ShloMosaic.Lib.IdealHost

/-! Real numbers inside the extended reals: how the operations of the two programs act on values that are real. Every lemma
    says that an operation of real values is the real operation, so that a program with finite arguments can be read over the reals. -/

@[expose] public section

namespace Cert.Up

open Idealize.ShloMosaic

/-- A finite sum of real values is the real sum. -/
theorem sum_up {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of real values by a real value that is not zero. -/
theorem div_up (x : ℝ) {y : ℝ} (h : y ≠ 0) : Ideal.div (x : EReal) (y : EReal) = ((x / y : ℝ) : EReal) := by
  rw [Ideal.div_coe h, ← EReal.coe_mul]; congr 1; ring

/-- The reciprocal square root of a positive real value. -/
theorem rsqrt_up {x : ℝ} (h : 0 < x) : Ideal.rsqrt (x : EReal) = (((Real.sqrt x)⁻¹ : ℝ) : EReal) := by
  rw [Ideal.rsqrt_coe, if_neg (not_lt.2 h.le), if_neg h.ne']

/-- The word of `1024`. -/
theorem word_1024 : Ideal.ofBits .f32 0x44800000#32 = ((1024 : ℝ) : EReal) := by
  simp [Ideal.ofBits, Ideal.ieee, -EReal.coe_mul]; norm_num
/-- The word of `1`. -/
theorem word_1 : Ideal.ofBits .f32 0x3F800000#32 = ((1 : ℝ) : EReal) := by
  simp [Ideal.ofBits, Ideal.ieee, -EReal.coe_mul]; norm_num
/-- The word of `2`. -/
theorem word_2 : Ideal.ofBits .f32 0x40000000#32 = ((2 : ℝ) : EReal) := by
  simp [Ideal.ofBits, Ideal.ieee, -EReal.coe_mul]; norm_num
/-- The word of `1/2`. -/
theorem word_half : Ideal.ofBits .f32 0x3F000000#32 = ((1 / 2 : ℝ) : EReal) := by
  simp [Ideal.ofBits, Ideal.ieee, -EReal.coe_mul]; norm_num
/-- The word of `-1/2`. -/
theorem word_neg_half : Ideal.ofBits .f32 0xBF000000#32 = ((-(1 / 2) : ℝ) : EReal) := by
  simp [Ideal.ofBits, Ideal.ieee, -EReal.coe_mul]; norm_num
/-- The word of `1/1024`. -/
theorem word_inv_1024 : Ideal.ofBits .f32 0x3A800000#32 = ((1 / 1024 : ℝ) : EReal) := by
  simp [Ideal.ofBits, Ideal.ieee, -EReal.coe_mul]; norm_num
/-- The word of `1/2048`. -/
theorem word_inv_2048 : Ideal.ofBits .f32 0x3A000000#32 = ((1 / 2048 : ℝ) : EReal) := by
  simp [Ideal.ofBits, Ideal.ieee, -EReal.coe_mul]; norm_num
/-- The word of `0`. -/
theorem word_0 : Ideal.ofBits .f32 0x00000000#32 = ((0 : ℝ) : EReal) := by
  simp [Ideal.ofBits, Ideal.ieee, -EReal.coe_mul]

/-- The small positive number that the norms add to a mean of squares: the single-precision word of `1e-6`. -/
noncomputable def eps : ℝ := (Ideal.ofBits .f32 0x358637BD#32).toReal

theorem word_eps : Ideal.ofBits .f32 0x358637BD#32 = ((eps : ℝ) : EReal) := by
  simp [eps, Ideal.ofBits, Ideal.ieee, -EReal.coe_mul]

theorem eps_pos : 0 < eps := by
  simp [eps, Ideal.ofBits, Ideal.ieee, -EReal.coe_mul]

end Cert.Up
-- ==== Proof.Finite.lean ====
module

public import proofs.«01_k».proof.Proof.Up
public import Idealize.ShloMosaic.Lib.StableHlo
public import Idealize.ShloMosaic.PureOps
public import Idealize.ShloMosaic.Lib.Pointwise

/-! What the preconditions say: an array whose every `|x| < ∞` holds real numbers. -/

@[expose] public section

noncomputable section

namespace Cert.Finite

open Idealize.ShloMosaic Cert.Up

/-- The real part of an array of extended reals. -/
def re {s : Shape} (x : s.Idx → EReal) (i : s.Idx) : ℝ := (x i).toReal

/-- An array that passes the test `|x| < ∞` everywhere is the array of its real parts. -/
theorem real {s : Shape} {x : FVec Ideal s .f32} {dims : Fin 0 → Fin s.rank} {b : (⟨0, ![]⟩ : Shape).BroadcastsInDim s dims}
    (h : cmpf .olt (Host.absf x) (broadcastInDim s dims b (constant (F := Ideal) ⟨0, ![]⟩ .f32 0x7F800000#32)) = fun _ => 1#1) (i : s.Idx) :
    x i = ((re x i : ℝ) : EReal) := by
  have h' := congrFun h i
  pointwise at h'
  rw [show Ideal.ofBits .f32 0x7F800000#32 = (⊤ : EReal) by simp [Ideal.ofBits, Ideal.ieee]] at h'
  have h2 : max (x i : EReal) (-x i) < ⊤ := by
    by_contra hn
    exact absurd h' (by rw [show FloatOps.absf (x i) = max (x i : EReal) (-x i) from rfl, decide_eq_false hn]; decide)
  refine (EReal.coe_toReal (fun e => ?_) (fun e => ?_)).symm
  · rw [e] at h2; exact absurd h2 (by simp)
  · rw [e] at h2; exact absurd h2 (by simp)

end Cert.Finite

end
-- ==== Proof.Norm.lean ====
module

public import proofs.«01_k».proof.Proof.Up

/-! The root-mean-square norm over the reals, and its gradient in the two forms in which programs write it. -/

@[expose] public section

noncomputable section

namespace Cert.Up

/-- The mean of the squares, plus the small number. -/
def ms (v : Fin 1024 → ℝ) : ℝ := (∑ k, v k * v k) / 1024 + eps

theorem ms_pos (v : Fin 1024 → ℝ) : 0 < ms v :=
  add_pos_of_nonneg_of_pos (div_nonneg (Finset.sum_nonneg fun k _ => mul_self_nonneg (v k)) (by norm_num)) eps_pos

/-- The reciprocal root of the mean of squares. -/
def rinv (v : Fin 1024 → ℝ) : ℝ := (Real.sqrt (ms v))⁻¹

/-- The gradient of a norm, from the gradient `d` of the normalised row `n` and the reciprocal root `r`. -/
def rmsGrad (r : ℝ) (d n : Fin 1024 → ℝ) (k : Fin 1024) : ℝ := r * (d k - n k * ((∑ j, d j * n j) / 1024))

theorem rinv_sq (v : Fin 1024 → ℝ) : rinv v / ms v = rinv v * (rinv v * rinv v) := by
  have h : rinv v * rinv v = (ms v)⁻¹ := by
    unfold rinv; rw [← mul_inv, Real.mul_self_sqrt (ms_pos v).le]
  rw [h, div_eq_mul_inv]

/-- The gradient of a norm as the chain rule gives it — through the row itself and, twice, through the mean of squares — is
    `rmsGrad`. -/
theorem rmsGrad_chain (v d : Fin 1024 → ℝ) (k : Fin 1024) :
    d k * rinv v + v k * ((∑ j, v j * d j) * (-(1 / 2) * (rinv v / ms v)) / 1024)
      + (∑ j, v j * d j) * (-(1 / 2) * (rinv v / ms v)) / 1024 * v k = rmsGrad (rinv v) d (fun j => v j * rinv v) k := by
  have e : ∑ j, d j * (v j * rinv v) = (∑ j, v j * d j) * rinv v := by
    rw [Finset.sum_mul]; exact Finset.sum_congr rfl fun j _ => by ring
  unfold rmsGrad
  rw [rinv_sq, e]; ring

/-- The logistic function's denominator is not zero. -/
theorem one_add_exp_ne (x : ℝ) : (1 : ℝ) + Real.exp x ≠ 0 := by positivity

end Cert.Up
-- ==== Proof.HeadSpec.lean ====
module

public import proofs.«01_k».proof.Proof.Norm

/-! The head of the network over the reals, row by row: a residual block's output norm, the gated per-layer embedding, the
    squared-error loss, and the gradient of each. -/

@[expose] public section

noncomputable section

namespace Cert.HeadSpec

open Cert.Up

/-- The arguments over the reals: the residual `x`, the embedding's input `p`, the target `t`, the mixing input `c`, and the
    weights — mixing `wo`, its norm's gain `gp`, embedding `wp`, its norm's gain `ge`, gate `wg`. -/
structure Args where
  x : Fin 8192 → Fin 1024 → ℝ
  p : Fin 8192 → Fin 256 → ℝ
  t : Fin 8192 → Fin 1024 → ℝ
  c : Fin 8192 → Fin 1024 → ℝ
  wo : Fin 1024 → Fin 1024 → ℝ
  gp : Fin 1024 → ℝ
  wp : Fin 256 → Fin 1024 → ℝ
  ge : Fin 1024 → ℝ
  wg : Fin 1024 → Fin 1024 → ℝ

variable (A : Args) (r : Fin 8192) (n : Fin 1024)

namespace Args

def mix : ℝ := ∑ k, A.c r k * A.wo k n
def nm : ℝ := A.mix r n * rinv (A.mix r)
def h1 : ℝ := A.x r n + A.nm r n * A.gp n
def ep : ℝ := ∑ k, A.p r k * A.wp k n
def ne : ℝ := A.ep r n * rinv (A.ep r)
def e : ℝ := A.ne r n * A.ge n
/-- The gate's argument. -/
def gl : ℝ := ∑ k, A.h1 r k * A.wg k n
def gate : ℝ := 1 / (1 + Real.exp (-A.gl r n))
def diff : ℝ := A.h1 r n + A.gate r n * A.e r n - A.t r n
/-- The gradient of the head's output. -/
def dh2 : ℝ := A.diff r n * (1 / 1024)
def de : ℝ := A.dh2 r n * A.gate r n
def dgl : ℝ := A.dh2 r n * A.e r n * A.gate r n * (1 - A.gate r n)
def dh1 : ℝ := A.dh2 r n + ∑ k, A.dgl r k * A.wg n k
/-- The gradient of the normalised mixing row. -/
def dnm : ℝ := A.dh1 r n * A.gp n
def dmix : ℝ := rmsGrad (rinv (A.mix r)) (A.dnm r) (A.nm r) n
/-- The gradient of the normalised embedding row. -/
def dne : ℝ := A.de r n * A.ge n
def dep : ℝ := rmsGrad (rinv (A.ep r)) (A.dne r) (A.ne r) n

/-- The results: the loss and the gradient of each argument that is trained or carries the gradient on. -/
def loss : ℝ := ∑ r, 1 / 2048 * ∑ n, A.diff r n * A.diff r n
def dcat (k : Fin 1024) : ℝ := ∑ n, A.dmix r n * A.wo k n
def dwo (k n : Fin 1024) : ℝ := ∑ r, A.c r k * A.dmix r n
def dgp : ℝ := ∑ r, A.dh1 r n * A.nm r n
def dwp (k : Fin 256) (n : Fin 1024) : ℝ := ∑ r, A.p r k * A.dep r n
def dge : ℝ := ∑ r, A.de r n * A.ne r n
def dwg (k n : Fin 1024) : ℝ := ∑ r, A.h1 r k * A.dgl r n

end Args

end Cert.HeadSpec
-- ==== Proof.HeadPay.lean ====
module

public import proofs.«01_k».proof.Proof.HeadSpec
public import proofs.«01_k».proof.Proof.Gen.HeadIdeal.Skeleton
public import Idealize.ShloMosaic.Lib.Pointwise

/-! One tile of the kernel's head, over the reals: each value that the body makes from a tile of 512 rows is the real function of
    HeadSpec at the rows `ρ a` of the tile. -/

@[expose] public section

set_option maxRecDepth 16384

noncomputable section

namespace Cert.HeadPay

open Cert.HeadIdeal Cert.HeadIdeal.Gen Idealize.ShloMosaic Cert.Up Cert.HeadSpec

variable {A : Args} {ρ : Fin 512 → Fin 8192}

/-- The array holds the real function `f` of row and column. -/
abbrev Is (v : S512x1024.Idx → EReal) (f : Fin 512 → Fin 1024 → ℝ) : Prop := ∀ i : S512x1024.Idx, v i = ((f (i 0) (i 1) : ℝ) : EReal)
/-- The square weight holds the real matrix `f`. -/
abbrev IsW (v : S1024x1024.Idx → EReal) (f : Fin 1024 → Fin 1024 → ℝ) : Prop := ∀ i : S1024x1024.Idx, v i = ((f (i 0) (i 1) : ℝ) : EReal)
/-- The row holds the real vector `f`. -/
abbrev IsV (v : S1x1024.Idx → EReal) (f : Fin 1024 → ℝ) : Prop := ∀ i : S1x1024.Idx, v i = ((f (i 1) : ℝ) : EReal)
/-- The column holds the real vector `f`. -/
abbrev IsC (v : S512x1.Idx → EReal) (f : Fin 512 → ℝ) : Prop := ∀ i : S512x1.Idx, v i = ((f (i 0) : ℝ) : EReal)

theorem mix {v3 : S512x1024.Idx → EReal} {v5 : S1024x1024.Idx → EReal} (h3 : Is v3 fun a => A.c (ρ a)) (h5 : IsW v5 A.wo) :
    Is (k0_pay11 (F := Ideal) v3 v5) fun a => A.mix (ρ a) := fun i => by
  unfold_payloads; pointwise [h3, h5, ← EReal.coe_mul, sum_up]; rfl

/-- Column `b` of shard `s` of the embedding's weight. -/
def col (s : Fin 4) (b : Fin 256) : Fin 1024 := ⟨256 * s.val + b.val, by omega⟩

/-- The slab holds shard `s` of the embedding's weight. -/
abbrev IsS (A : Args) (s : Fin 4) (v : S1x256x256.Idx → EReal) : Prop := ∀ i : S1x256x256.Idx, v i = ((A.wp (i 1) (col s (i 2)) : ℝ) : EReal)
/-- The tile of the embedding's input. -/
abbrev IsP (A : Args) (ρ : Fin 512 → Fin 8192) (v : S512x256.Idx → EReal) : Prop := ∀ i : S512x256.Idx, v i = ((A.p (ρ (i 0)) (i 1) : ℝ) : EReal)

theorem ep {v12 : S512x256.Idx → EReal} {w0 w1 w2 w3 : S1x256x256.Idx → EReal} (h12 : IsP A ρ v12) (h0 : IsS A 0 w0) (h1 : IsS A 1 w1) (h2 : IsS A 2 w2) (h3 : IsS A 3 w3) :
    Is (k0_pay13 (F := Ideal) v12 w0 w1 w2 w3) fun a => A.ep (ρ a) := fun i => by
  have key : ∀ (s : Fin 4) (b : Fin 256), (i 1).val = 256 * s.val + b.val → (∑ k, A.p (ρ (i 0)) k * A.wp k (col s b)) = A.ep (ρ (i 0)) (i 1) := fun s b e => by
    have : col s b = i 1 := Fin.ext e.symm
    rw [this]; rfl
  unfold k0_pay13 k0_pay12
  pointwise [h12, h0, h1, h2, h3, ← EReal.coe_mul, sum_up]
  have hi : (i 1).val < 1024 := (i 1).isLt
  by_cases c0 : (i 1).val < 256
  · rw [dif_pos c0]; exact congrArg _ (key 0 ⟨(i 1).val, c0⟩ (by simp))
  rw [dif_neg c0]
  by_cases c1 : (i 1).val - 256 < 256
  · rw [dif_pos c1]; exact congrArg _ (key 1 ⟨(i 1).val - 256, c1⟩ (by show (i 1).val = 256 * 1 + ((i 1).val - 256); omega))
  rw [dif_neg c1]
  by_cases c2 : (i 1).val - 256 - 256 < 256
  · rw [dif_pos c2]; exact congrArg _ (key 2 ⟨(i 1).val - 256 - 256, c2⟩ (by show (i 1).val = 256 * 2 + ((i 1).val - 256 - 256); omega))
  rw [dif_neg c2]
  exact congrArg _ (key 3 ⟨(i 1).val - 256 - 256 - 256, by omega⟩ (by show (i 1).val = 256 * 3 + ((i 1).val - 256 - 256 - 256); omega))

/-- Either norm's reciprocal root. -/
theorem rinv_tile {v : S512x1024.Idx → EReal} {f : Fin 512 → Fin 1024 → ℝ} (h : Is v f) : IsC (k0_pay14 (F := Ideal) v) fun a => rinv (f a) := fun i => by
  unfold_payloads
  pointwise [h, ← EReal.coe_mul, sum_up, word_1024, word_eps, div_up _ (show (1024 : ℝ) ≠ 0 by norm_num), ← EReal.coe_add]
  exact rsqrt_up (ms_pos _)

theorem rinv_tile' {v : S512x1024.Idx → EReal} {f : Fin 512 → Fin 1024 → ℝ} (h : Is v f) : IsC (k0_pay17 (F := Ideal) v) fun a => rinv (f a) :=
  rinv_tile h

theorem nm {v : S512x1024.Idx → EReal} (h : Is v fun a => A.mix (ρ a)) : Is (k0_pay15 (F := Ideal) v) fun a => A.nm (ρ a) := fun i => by
  unfold k0_pay15; pointwise [h, rinv_tile h, ← EReal.coe_mul]; rfl

theorem ne {v : S512x1024.Idx → EReal} (h : Is v fun a => A.ep (ρ a)) : Is (k0_pay18 (F := Ideal) v) fun a => A.ne (ρ a) := fun i => by
  unfold k0_pay18; pointwise [h, rinv_tile' h, ← EReal.coe_mul]; rfl

theorem h1 {v9 : S1x1024.Idx → EReal} {v11 v37 : S512x1024.Idx → EReal} (h9 : IsV v9 A.gp) (h11 : Is v11 fun a => A.mix (ρ a)) (h37 : Is v37 fun a => A.x (ρ a)) :
    Is (k0_pay16 (F := Ideal) v9 v11 v37) fun a => A.h1 (ρ a) := fun i => by
  unfold k0_pay16; pointwise [h9, h37, nm h11, ← EReal.coe_mul, ← EReal.coe_add]; rfl

theorem h1_cast {v9 : S1x1024.Idx → EReal} {v11 v37 : S512x1024.Idx → EReal} (h9 : IsV v9 A.gp) (h11 : Is v11 fun a => A.mix (ρ a)) (h37 : Is v37 fun a => A.x (ρ a)) :
    Is (k0_pay20 (F := Ideal) v9 v11 v37) fun a => A.h1 (ρ a) := h1 h9 h11 h37

theorem e {v10 : S1x1024.Idx → EReal} {v26 : S512x1024.Idx → EReal} (h10 : IsV v10 A.ge) (h26 : Is v26 fun a => A.ep (ρ a)) :
    Is (k0_pay19 (F := Ideal) v10 v26) fun a => A.e (ρ a) := fun i => by
  unfold k0_pay19; pointwise [h10, ne h26, ← EReal.coe_mul]; rfl

theorem gate {v8 : S1024x1024.Idx → EReal} {v9 : S1x1024.Idx → EReal} {v11 v37 : S512x1024.Idx → EReal} (h8 : IsW v8 A.wg) (h9 : IsV v9 A.gp)
    (h11 : Is v11 fun a => A.mix (ρ a)) (h37 : Is v37 fun a => A.x (ρ a)) : Is (k0_pay21 (F := Ideal) v8 v9 v11 v37) fun a => A.gate (ρ a) := fun i => by
  unfold k0_pay21
  pointwise [h8, h1_cast h9 h11 h37, ← EReal.coe_mul, sum_up, word_0, word_1, ← EReal.coe_sub, ← EReal.coe_neg, Ideal.exp_coe, ← EReal.coe_add, div_up _ (one_add_exp_ne _)]
  refine congrArg _ ?_
  rw [zero_sub]; rfl

section Diff
variable {v8 : S1024x1024.Idx → EReal} {v9 v10 : S1x1024.Idx → EReal} {v11 v26 v37 v64 : S512x1024.Idx → EReal} (h8 : IsW v8 A.wg) (h9 : IsV v9 A.gp) (h10 : IsV v10 A.ge)
  (h11 : Is v11 fun a => A.mix (ρ a)) (h26 : Is v26 fun a => A.ep (ρ a)) (h37 : Is v37 fun a => A.x (ρ a)) (h64 : Is v64 fun a => A.t (ρ a))
include h8 h9 h10 h11 h26 h37 h64

theorem diff : Is (k0_pay22 (F := Ideal) v8 v9 v10 v11 v26 v37 v64) fun a => A.diff (ρ a) := fun i => by
  unfold k0_pay22
  pointwise [gate h8 h9 h11 h37, e h10 h26, h1 h9 h11 h37, h64, ← EReal.coe_mul, ← EReal.coe_add, ← EReal.coe_sub]; rfl

/-- The loss after the tile: what was there, and the tile's rows. -/
theorem loss (l : S1x1.Idx → EReal) (i : S1x1.Idx) :
    k0_pay25 (F := Ideal) (k0_pay23 l) (k0_pay24 v8 v9 v10 v11 v26 v37 v64) i
      = l i + ∑ a : Fin 512, ((1 / 2048 * ∑ n, A.diff (ρ a) n * A.diff (ρ a) n : ℝ) : EReal) := by
  unfold k0_pay25 k0_pay23 k0_pay24
  pointwise [diff h8 h9 h10 h11 h26 h37 h64, ← EReal.coe_mul, sum_up, word_inv_2048]
  rw [Finset.mul_sum]
end Diff

theorem dh2 {v : S512x1024.Idx → EReal} (h : Is v fun a => A.diff (ρ a)) : Is (k0_pay26 (F := Ideal) v) fun a => A.dh2 (ρ a) := fun i => by
  unfold k0_pay26; pointwise [h, word_inv_1024, ← EReal.coe_mul]; rfl

theorem de {v61 v65 : S512x1024.Idx → EReal} (h61 : Is v61 fun a => A.gate (ρ a)) (h65 : Is v65 fun a => A.diff (ρ a)) :
    Is (k0_pay27 (F := Ideal) v61 v65) fun a => A.de (ρ a) := fun i => by
  unfold k0_pay27; pointwise [h61, dh2 h65, ← EReal.coe_mul]; rfl

section Gate
variable {v52 v61 v65 : S512x1024.Idx → EReal} (h52 : Is v52 fun a => A.e (ρ a)) (h61 : Is v61 fun a => A.gate (ρ a)) (h65 : Is v65 fun a => A.diff (ρ a))
include h52 h61 h65

theorem dgl : Is (k0_pay28 (F := Ideal) v52 v61 v65) fun a => A.dgl (ρ a) := fun i => by
  unfold k0_pay28; pointwise [h61, h52, dh2 h65, word_1, ← EReal.coe_mul, ← EReal.coe_sub]; rfl

theorem dh1 {v8 : S1024x1024.Idx → EReal} (h8 : IsW v8 A.wg) : Is (k0_pay29 (F := Ideal) v8 v52 v61 v65) fun a => A.dh1 (ρ a) := fun i => by
  unfold k0_pay29; pointwise [h8, dgl h52 h61 h65, dh2 h65, ← EReal.coe_mul, sum_up, ← EReal.coe_add]; rfl

/-- The gate's weight gradient after the tile. -/
theorem dwg {v53 : S512x1024.Idx → EReal} (h53 : Is v53 fun a => A.h1 (ρ a)) (w : S1024x1024.Idx → EReal) (i : S1024x1024.Idx) :
    k0_pay30 (F := Ideal) v52 v53 v61 v65 w i = w i + ∑ a : Fin 512, ((A.h1 (ρ a) (i 0) * A.dgl (ρ a) (i 1) : ℝ) : EReal) := by
  unfold k0_pay30; pointwise [h53, dgl h52 h61 h65, ← EReal.coe_mul]

/-- The gain gradient of the mixing norm after the tile. -/
theorem dgp {v8 : S1024x1024.Idx → EReal} (h8 : IsW v8 A.wg) {v36 : S512x1024.Idx → EReal} (h36 : Is v36 fun a => A.nm (ρ a)) (w : S1x1024.Idx → EReal) (i : S1x1024.Idx) :
    k0_pay31 (F := Ideal) v8 v36 v52 v61 v65 w i = w i + ∑ a : Fin 512, ((A.dh1 (ρ a) (i 1) * A.nm (ρ a) (i 1) : ℝ) : EReal) := by
  unfold k0_pay31; pointwise [h36, dh1 h52 h61 h65 h8, ← EReal.coe_mul]

theorem dnm {v8 : S1024x1024.Idx → EReal} (h8 : IsW v8 A.wg) {v9 : S1x1024.Idx → EReal} (h9 : IsV v9 A.gp) :
    Is (k0_pay32 (F := Ideal) v8 v9 v52 v61 v65) fun a => A.dnm (ρ a) := fun i => by
  unfold k0_pay32; pointwise [h9, dh1 h52 h61 h65 h8, ← EReal.coe_mul]; rfl

theorem mean_nm {v8 : S1024x1024.Idx → EReal} (h8 : IsW v8 A.wg) {v9 : S1x1024.Idx → EReal} (h9 : IsV v9 A.gp) {v36 : S512x1024.Idx → EReal} (h36 : Is v36 fun a => A.nm (ρ a)) :
    Is (k0_pay33 (F := Ideal) v8 v9 v36 v52 v61 v65) fun a _ => (∑ j, A.dnm (ρ a) j * A.nm (ρ a) j) / 1024 := fun i => by
  unfold k0_pay33
  pointwise [h36, dnm h52 h61 h65 h8 h9, ← EReal.coe_mul, sum_up, word_1024, div_up _ (show (1024 : ℝ) ≠ 0 by norm_num)]
end Gate

section Mix
variable {v34 : S512x1.Idx → EReal} {v36 v102 v108 : S512x1024.Idx → EReal} (h34 : IsC v34 fun a => rinv (A.mix (ρ a))) (h36 : Is v36 fun a => A.nm (ρ a))
  (h102 : Is v102 fun a => A.dnm (ρ a)) (h108 : Is v108 fun a _ => (∑ j, A.dnm (ρ a) j * A.nm (ρ a) j) / 1024)
include h34 h36 h102 h108

theorem dmix : Is (k0_pay34 (F := Ideal) v34 v36 v102 v108) fun a => A.dmix (ρ a) := fun i => by
  unfold k0_pay34; pointwise [h34, h36, h102, h108, ← EReal.coe_mul, ← EReal.coe_sub]; rfl

theorem dcat {v6 : S1024x1024.Idx → EReal} (h6 : IsW v6 A.wo) : Is (k0_pay35 (F := Ideal) v6 v34 v36 v102 v108) fun a => A.dcat (ρ a) := fun i => by
  unfold k0_pay35; pointwise [h6, dmix h34 h36 h102 h108, ← EReal.coe_mul, sum_up]; rfl

/-- The mixing weight's gradient after the tile. -/
theorem dwo {v4 : S512x1024.Idx → EReal} (h4 : Is v4 fun a => A.c (ρ a)) (w : S1024x1024.Idx → EReal) (i : S1024x1024.Idx) :
    k0_pay36 (F := Ideal) v4 v34 v36 v102 v108 w i = w i + ∑ a : Fin 512, ((A.c (ρ a) (i 0) * A.dmix (ρ a) (i 1) : ℝ) : EReal) := by
  unfold k0_pay36; pointwise [h4, dmix h34 h36 h102 h108, ← EReal.coe_mul]
end Mix

/-- The gain gradient of the embedding norm after the tile. -/
theorem dge {v50 v80 : S512x1024.Idx → EReal} (h50 : Is v50 fun a => A.ne (ρ a)) (h80 : Is v80 fun a => A.de (ρ a)) (w : S1x1024.Idx → EReal) (i : S1x1024.Idx) :
    k0_pay37 (F := Ideal) v50 v80 w i = w i + ∑ a : Fin 512, ((A.de (ρ a) (i 1) * A.ne (ρ a) (i 1) : ℝ) : EReal) := by
  unfold k0_pay37; pointwise [h50, h80, ← EReal.coe_mul]

theorem dep {v10 : S1x1024.Idx → EReal} {v48 : S512x1.Idx → EReal} {v50 v80 : S512x1024.Idx → EReal} (h10 : IsV v10 A.ge) (h48 : IsC v48 fun a => rinv (A.ep (ρ a)))
    (h50 : Is v50 fun a => A.ne (ρ a)) (h80 : Is v80 fun a => A.de (ρ a)) : Is (k0_pay38 (F := Ideal) v10 v48 v50 v80) fun a => A.dep (ρ a) := fun i => by
  unfold k0_pay38
  pointwise [h10, h48, h50, h80, ← EReal.coe_mul, sum_up, word_1024, div_up _ (show (1024 : ℝ) ≠ 0 by norm_num), ← EReal.coe_sub]
  rfl

section Slabs
variable {v12 : S512x256.Idx → EReal} {v141 : S512x1024.Idx → EReal} (h12 : IsP A ρ v12) (h141 : Is v141 fun a => A.dep (ρ a)) (w : S1x256x256.Idx → EReal) (i : S1x256x256.Idx)
include h12 h141

/-! A shard of the embedding weight's gradient after the tile. -/

theorem dwp1 : k0_pay42 (F := Ideal) (k0_pay12 v12) v141 w i = w i + ∑ a : Fin 512, ((A.p (ρ a) (i 1) * A.dep (ρ a) (col 1 (i 2)) : ℝ) : EReal) := by
  have e : col 1 (i 2) = ⟨256 + (i 2).val, by have := (i 2).isLt; change (i 2).val < 256 at this; omega⟩ := Fin.ext (by show 256 * 1 + (i 2).val = 256 + (i 2).val; omega)
  rw [e]
  unfold k0_pay42 k0_pay12; pointwise [h12, h141, ← EReal.coe_mul]

theorem dwp2 : k0_pay43 (F := Ideal) (k0_pay12 v12) v141 w i = w i + ∑ a : Fin 512, ((A.p (ρ a) (i 1) * A.dep (ρ a) (col 2 (i 2)) : ℝ) : EReal) := by
  have e : col 2 (i 2) = ⟨512 + (i 2).val, by have := (i 2).isLt; change (i 2).val < 256 at this; omega⟩ := Fin.ext (by show 256 * 2 + (i 2).val = 512 + (i 2).val; omega)
  rw [e]
  unfold k0_pay43 k0_pay12; pointwise [h12, h141, ← EReal.coe_mul]

theorem dwp3 : k0_pay1 (k0_pay44 (F := Ideal) (k0_pay12 v12) v141 w) i = w i + ∑ a : Fin 512, ((A.p (ρ a) (i 1) * A.dep (ρ a) (col 3 (i 2)) : ℝ) : EReal) := by
  have e : col 3 (i 2) = ⟨768 + (i 2).val, by have := (i 2).isLt; change (i 2).val < 256 at this; omega⟩ := Fin.ext (by show 256 * 3 + (i 2).val = 768 + (i 2).val; omega)
  rw [e]
  unfold k0_pay1 k0_pay44 k0_pay12; pointwise [h12, h141, ← EReal.coe_mul]

end Slabs

theorem dwp0 {v10 : S1x1024.Idx → EReal} {v12 : S512x256.Idx → EReal} {v48 : S512x1.Idx → EReal} {v50 v80 : S512x1024.Idx → EReal} (h12 : IsP A ρ v12) (h10 : IsV v10 A.ge) (h48 : IsC v48 fun a => rinv (A.ep (ρ a)))
    (h50 : Is v50 fun a => A.ne (ρ a)) (h80 : Is v80 fun a => A.de (ρ a)) (w : S1x256x256.Idx → EReal) (i : S1x256x256.Idx) :
    k0_pay41 (F := Ideal) (k0_pay12 v12) (k0_pay39 w) (k0_pay40 v10 v48 v50 v80) i = w i + ∑ a : Fin 512, ((A.p (ρ a) (i 1) * A.dep (ρ a) (col 0 (i 2)) : ℝ) : EReal) := by
  have e : col 0 (i 2) = ⟨(i 2).val, by have := (i 2).isLt; change (i 2).val < 256 at this; omega⟩ := Fin.ext (by show 256 * 0 + (i 2).val = (i 2).val; omega)
  rw [e]
  unfold k0_pay41 k0_pay12 k0_pay39 k0_pay40; pointwise [h12, dep h10 h48 h50 h80, ← EReal.coe_mul]

end Cert.HeadPay
-- ==== Proof.HeadRefValue.lean ====
module

public import proofs.«01_k».proof.Proof.HeadSpec
public import proofs.«01_k».proof.Proof.Gen.HeadRefIdeal.Read

/-! What the reference of the head computes, of finite arguments: every array of the derivative of the loss is the real function
    of HeadSpec. -/

@[expose] public section

set_option maxRecDepth 16384

noncomputable section

namespace Cert.HeadRefValue

open Cert.HeadRefIdeal Cert.HeadRefIdeal.Read Idealize.ShloMosaic Cert.Up Cert.HeadSpec

/-- The arrays hold the real arguments. -/
structure Holds (A : Args) (x0 : S8192x1024.Idx → EReal) (x1 : S8192x256.Idx → EReal) (x2 x3 : S8192x1024.Idx → EReal)
    (x4 : S1024x1024.Idx → EReal) (x5 : S1x1024.Idx → EReal) (x6 : S256x1024.Idx → EReal) (x7 : S1x1024.Idx → EReal)
    (x8 : S1024x1024.Idx → EReal) : Prop where
  x : ∀ i, x0 i = ((A.x (i 0) (i 1) : ℝ) : EReal)
  p : ∀ i, x1 i = ((A.p (i 0) (i 1) : ℝ) : EReal)
  t : ∀ i, x2 i = ((A.t (i 0) (i 1) : ℝ) : EReal)
  c : ∀ i, x3 i = ((A.c (i 0) (i 1) : ℝ) : EReal)
  wo : ∀ i, x4 i = ((A.wo (i 0) (i 1) : ℝ) : EReal)
  gp : ∀ i, x5 i = ((A.gp (i 1) : ℝ) : EReal)
  wp : ∀ i, x6 i = ((A.wp (i 0) (i 1) : ℝ) : EReal)
  ge : ∀ i, x7 i = ((A.ge (i 1) : ℝ) : EReal)
  wg : ∀ i, x8 i = ((A.wg (i 0) (i 1) : ℝ) : EReal)

variable {A : Args} {x0 : S8192x1024.Idx → EReal} {x1 : S8192x256.Idx → EReal} {x2 x3 : S8192x1024.Idx → EReal}
  {x4 : S1024x1024.Idx → EReal} {x5 : S1x1024.Idx → EReal} {x6 : S256x1024.Idx → EReal} {x7 : S1x1024.Idx → EReal}
  {x8 : S1024x1024.Idx → EReal} (H : Holds A x0 x1 x2 x3 x4 x5 x6 x7 x8)
include H

theorem mix (i : S8192x1024.Idx) : val_main_v0 (F := Ideal) x3 x4 i = ((A.mix (i 0) (i 1) : ℝ) : EReal) := by
  rw [val_main_v0_apply]; simp only [H.c, H.wo, ← EReal.coe_mul, sum_up]; rfl

theorem ms_mix (i : S8192x1.Idx) : val_main_v7 (F := Ideal) x3 x4 i = ((ms (A.mix (i 0)) : ℝ) : EReal) := by
  simp only [val_main_v7_apply, val_main_v5_apply, val_main_v3_apply, val_main_v2_apply, val_main_v1_apply, val_main_v4_apply, val_main_cst_0_apply,
    val_main_v6_apply, val_main_cst_1_apply, val_main_cst_apply, mix H, Ideal.addf_def, Ideal.mulf_def, Ideal.hostDivf_def, Ideal.ofBits_def, word_0, word_1024, word_eps,
    ← EReal.coe_mul, sum_up, ← EReal.coe_add, zero_add, div_up _ (show (1024 : ℝ) ≠ 0 by norm_num)]
  rfl

theorem r_mix (i : S8192x1.Idx) : val_main_v8 (F := Ideal) x3 x4 i = ((rinv (A.mix (i 0)) : ℝ) : EReal) := by
  rw [val_main_v8_apply, ms_mix H]; exact rsqrt_up (ms_pos _)

theorem nm (i : S8192x1024.Idx) : val_main_v13 (F := Ideal) x3 x4 i = ((A.nm (i 0) (i 1) : ℝ) : EReal) := by
  simp only [val_main_v13_apply, val_main_v12_apply, mix H, r_mix H, Ideal.mulf_def, ← EReal.coe_mul]; rfl

theorem h1 (i : S8192x1024.Idx) : val_main_v16 (F := Ideal) x0 x3 x4 x5 i = ((A.h1 (i 0) (i 1) : ℝ) : EReal) := by
  simp only [val_main_v16_apply, val_main_v15_apply, val_main_v14_apply, nm H, H.x, H.gp, Ideal.mulf_def, Ideal.addf_def, ← EReal.coe_mul, ← EReal.coe_add]; rfl

theorem ep (i : S8192x1024.Idx) : val_main_v17 (F := Ideal) x1 x6 i = ((A.ep (i 0) (i 1) : ℝ) : EReal) := by
  rw [val_main_v17_apply]; simp only [H.p, H.wp, ← EReal.coe_mul, sum_up]; rfl

theorem ms_ep (i : S8192x1.Idx) : val_main_v24 (F := Ideal) x1 x6 i = ((ms (A.ep (i 0)) : ℝ) : EReal) := by
  simp only [val_main_v24_apply, val_main_v22_apply, val_main_v20_apply, val_main_v19_apply, val_main_v18_apply, val_main_v21_apply, val_main_cst_4_apply,
    val_main_v23_apply, val_main_cst_5_apply, val_main_cst_3_apply, ep H, Ideal.addf_def, Ideal.mulf_def, Ideal.hostDivf_def, Ideal.ofBits_def, word_0, word_1024, word_eps,
    ← EReal.coe_mul, sum_up, ← EReal.coe_add, zero_add, div_up _ (show (1024 : ℝ) ≠ 0 by norm_num)]
  rfl

theorem r_ep (i : S8192x1.Idx) : val_main_v25 (F := Ideal) x1 x6 i = ((rinv (A.ep (i 0)) : ℝ) : EReal) := by
  rw [val_main_v25_apply, ms_ep H]; exact rsqrt_up (ms_pos _)

theorem ne (i : S8192x1024.Idx) : val_main_v30 (F := Ideal) x1 x6 i = ((A.ne (i 0) (i 1) : ℝ) : EReal) := by
  simp only [val_main_v30_apply, val_main_v29_apply, ep H, r_ep H, Ideal.mulf_def, ← EReal.coe_mul]; rfl

theorem e (i : S8192x1024.Idx) : val_main_v32 (F := Ideal) x1 x6 x7 i = ((A.e (i 0) (i 1) : ℝ) : EReal) := by
  simp only [val_main_v32_apply, val_main_v31_apply, ne H, H.ge, Ideal.mulf_def, ← EReal.coe_mul]; rfl

theorem gl (i : S8192x1024.Idx) : val_main_v33 (F := Ideal) x0 x3 x4 x5 x8 i = ((A.gl (i 0) (i 1) : ℝ) : EReal) := by
  rw [val_main_v33_apply]; simp only [h1 H, H.wg, ← EReal.coe_mul, sum_up]; rfl

theorem exp_gl (i : S8192x1024.Idx) : val_main_v35 (F := Ideal) x0 x3 x4 x5 x8 i = ((Real.exp (-A.gl (i 0) (i 1)) : ℝ) : EReal) := by
  rw [val_main_v35_apply, val_main_v34_apply, gl H]; exact Ideal.exp_coe _

theorem gate (i : S8192x1024.Idx) : val_main_v39 (F := Ideal) x0 x3 x4 x5 x8 i = ((A.gate (i 0) (i 1) : ℝ) : EReal) := by
  simp only [val_main_v39_apply, val_main_v38_apply, val_main_v37_apply, val_main_v36_apply, val_main_cst_7_apply, val_main_cst_8_apply, exp_gl H,
    Ideal.addf_def, Ideal.hostDivf_def, Ideal.ofBits_def, word_1, ← EReal.coe_add, div_up _ (one_add_exp_ne _)]
  rfl

theorem diff (i : S8192x1024.Idx) : val_main_v45 (F := Ideal) x0 x1 x2 x3 x4 x5 x6 x7 x8 i = ((A.diff (i 0) (i 1) : ℝ) : EReal) := by
  simp only [val_main_v45_apply, val_main_v44_apply, val_main_v43_apply, h1 H, gate H, e H, H.t, Ideal.addf_def, Ideal.mulf_def, Ideal.subf_def,
    ← EReal.coe_mul, ← EReal.coe_add, ← EReal.coe_sub]
  rfl

theorem dh2 (i : S8192x1024.Idx) : val_main_v59 (F := Ideal) x0 x1 x2 x3 x4 x5 x6 x7 x8 i = ((A.dh2 (i 0) (i 1) : ℝ) : EReal) := by
  simp only [val_main_v59_apply, val_main_v58_apply, val_main_v57_apply, val_main_v55_apply, val_main_v54_apply, val_main_cst_15_apply, val_main_cst_16_apply,
    val_main_v56_apply, val_main_cst_17_apply, val_main_v48_apply, val_main_v47_apply, val_main_cst_10_apply, diff H, Ideal.mulf_def, Ideal.hostDivf_def,
    Ideal.ofBits_def, word_half, word_1, word_2, word_1024, ← EReal.coe_mul, div_up _ (show (1024 : ℝ) ≠ 0 by norm_num)]
  congr 1; unfold Args.dh2; ring

theorem de (i : S8192x1024.Idx) : val_main_v60 (F := Ideal) x0 x1 x2 x3 x4 x5 x6 x7 x8 i = ((A.de (i 0) (i 1) : ℝ) : EReal) := by
  simp only [val_main_v60_apply, gate H, dh2 H, Ideal.mulf_def, ← EReal.coe_mul]; congr 1; unfold Args.de; ring

theorem dgl (i : S8192x1024.Idx) : val_main_v62 (F := Ideal) x0 x1 x2 x3 x4 x5 x6 x7 x8 i = ((A.dgl (i 0) (i 1) : ℝ) : EReal) := by
  simp only [val_main_v62_apply, val_main_v61_apply, val_main_v42_apply, val_main_v41_apply, val_main_v40_apply, val_main_cst_9_apply, gate H, dh2 H, e H,
    Ideal.mulf_def, Ideal.subf_def, Ideal.ofBits_def, word_1, ← EReal.coe_mul, ← EReal.coe_sub]
  congr 1; unfold Args.dgl; ring

theorem dh1 (i : S8192x1024.Idx) : val_main_v66 (F := Ideal) x0 x1 x2 x3 x4 x5 x6 x7 x8 i = ((A.dh1 (i 0) (i 1) : ℝ) : EReal) := by
  simp only [val_main_v66_apply, val_main_v65_apply, dh2 H, dgl H, H.wg, Ideal.addf_def, ← EReal.coe_mul, sum_up, ← EReal.coe_add]; rfl

theorem dne (i : S8192x1024.Idx) : val_main_v71 (F := Ideal) x0 x1 x2 x3 x4 x5 x6 x7 x8 i = ((A.dne (i 0) (i 1) : ℝ) : EReal) := by
  simp only [val_main_v71_apply, val_main_v70_apply, de H, H.ge, Ideal.mulf_def, ← EReal.coe_mul]; rfl

theorem dnm (i : S8192x1024.Idx) : val_main_v92 (F := Ideal) x0 x1 x2 x3 x4 x5 x6 x7 x8 i = ((A.dnm (i 0) (i 1) : ℝ) : EReal) := by
  simp only [val_main_v92_apply, val_main_v91_apply, dh1 H, H.gp, Ideal.mulf_def, ← EReal.coe_mul]; rfl

theorem sum_dep (i : S8192x1.Idx) : val_main_v74 (F := Ideal) x0 x1 x2 x3 x4 x5 x6 x7 x8 i
    = ((∑ k, A.ep (i 0) k * A.dne (i 0) k : ℝ) : EReal) := by
  have e : idx_main_v74 i = ix1 (n0 := 8192) (i 0) := by
    have h1 : (i 1).val < 1 := (i 1).isLt
    funext a; match a with
    | ⟨0, _⟩ => exact Fin.ext (show (i 0).val * 1 + (i 1).val = (i 0).val by omega)
  simp only [val_main_v74_apply, val_main_v73_apply, val_main_v72_apply, val_main_cst_19_apply, e, ep H, dne H, Ideal.mulf_def, Ideal.ofBits_def, word_0,
    ← EReal.coe_mul, sum_up, ← EReal.coe_add, zero_add]
  rfl

theorem dep (i : S8192x1024.Idx) : val_main_v85 (F := Ideal) x0 x1 x2 x3 x4 x5 x6 x7 x8 i = ((A.dep (i 0) (i 1) : ℝ) : EReal) := by
  simp only [val_main_v85_apply, val_main_v84_apply, val_main_v83_apply, val_main_v82_apply, val_main_v81_apply, val_main_v80_apply, val_main_v79_apply,
    val_main_v78_apply, val_main_v77_apply, val_main_v76_apply, val_main_v75_apply,
    val_main_v28_apply, val_main_v27_apply, val_main_v26_apply, val_main_cst_6_apply, val_main_cst_19_apply, val_main_cst_20_apply, val_main_cst_21_apply,
    sum_dep H, dne H, ep H, r_ep H, ms_ep H, Ideal.addf_def, Ideal.mulf_def, Ideal.hostDivf_def, Ideal.ofBits_def, word_0, word_1024, word_neg_half,
    ← EReal.coe_mul, sum_up, ← EReal.coe_add, zero_add, div_up _ (show (1024 : ℝ) ≠ 0 by norm_num), div_up _ (ms_pos _).ne', Fin.sum_univ_one]
  exact congrArg _ (rmsGrad_chain (A.ep (i 0)) (A.dne (i 0)) (i 1))

theorem sum_dmix (i : S8192x1.Idx) : val_main_v95 (F := Ideal) x0 x1 x2 x3 x4 x5 x6 x7 x8 i
    = ((∑ k, A.mix (i 0) k * A.dnm (i 0) k : ℝ) : EReal) := by
  have e : idx_main_v95 i = ix1 (n0 := 8192) (i 0) := by
    have h1 : (i 1).val < 1 := (i 1).isLt
    funext a; match a with
    | ⟨0, _⟩ => exact Fin.ext (show (i 0).val * 1 + (i 1).val = (i 0).val by omega)
  simp only [val_main_v95_apply, val_main_v94_apply, val_main_v93_apply, val_main_cst_23_apply, e, mix H, dnm H, Ideal.mulf_def, Ideal.ofBits_def, word_0,
    ← EReal.coe_mul, sum_up, ← EReal.coe_add, zero_add]
  rfl

theorem dmix (i : S8192x1024.Idx) : val_main_v106 (F := Ideal) x0 x1 x2 x3 x4 x5 x6 x7 x8 i = ((A.dmix (i 0) (i 1) : ℝ) : EReal) := by
  simp only [val_main_v106_apply, val_main_v105_apply, val_main_v104_apply, val_main_v103_apply, val_main_v102_apply, val_main_v101_apply, val_main_v100_apply,
    val_main_v99_apply, val_main_v98_apply, val_main_v97_apply, val_main_v96_apply,
    val_main_v11_apply, val_main_v10_apply, val_main_v9_apply, val_main_cst_2_apply, val_main_cst_23_apply, val_main_cst_24_apply, val_main_cst_25_apply,
    sum_dmix H, dnm H, mix H, r_mix H, ms_mix H, Ideal.addf_def, Ideal.mulf_def, Ideal.hostDivf_def, Ideal.ofBits_def, word_0, word_1024, word_neg_half,
    ← EReal.coe_mul, sum_up, ← EReal.coe_add, zero_add, div_up _ (show (1024 : ℝ) ≠ 0 by norm_num), div_up _ (ms_pos _).ne', Fin.sum_univ_one]
  exact congrArg _ (rmsGrad_chain (A.mix (i 0)) (A.dnm (i 0)) (i 1))

/-! The results. -/

theorem dcat (i : S8192x1024.Idx) : val_main_v109 (F := Ideal) x0 x1 x2 x3 x4 x5 x6 x7 x8 i = ((A.dcat (i 0) (i 1) : ℝ) : EReal) := by
  rw [val_main_v109_apply]; simp only [dmix H, H.wo, ← EReal.coe_mul, sum_up]; rfl

theorem dwo (i : S1024x1024.Idx) : val_main_v108 (F := Ideal) x0 x1 x2 x3 x4 x5 x6 x7 x8 i = ((A.dwo (i 0) (i 1) : ℝ) : EReal) := by
  rw [val_main_v108_apply, val_main_v107_apply]; simp only [dmix H, H.c, ← EReal.coe_mul, sum_up]
  exact congrArg _ (Finset.sum_congr rfl fun r _ => mul_comm _ _)

theorem dgp (i : S1x1024.Idx) : val_main_v90 (F := Ideal) x0 x1 x2 x3 x4 x5 x6 x7 x8 i = ((A.dgp (i 1) : ℝ) : EReal) := by
  have e : idx_main_v90 i = ix1 (n0 := 1024) (i 1) := by
    have h0 : (i 0).val < 1 := (i 0).isLt
    funext a; match a with
    | ⟨0, _⟩ => exact Fin.ext (show (i 0).val * 1024 + (i 1).val = (i 1).val by omega)
  simp only [val_main_v90_apply, e, val_main_v89_apply, val_main_v88_apply, val_main_cst_22_apply, nm H, dh1 H, Ideal.mulf_def, Ideal.ofBits_def, word_0, ← EReal.coe_mul, sum_up, ← EReal.coe_add, zero_add]
  exact congrArg _ (Finset.sum_congr rfl fun r _ => mul_comm _ _)

theorem dge (i : S1x1024.Idx) : val_main_v69 (F := Ideal) x0 x1 x2 x3 x4 x5 x6 x7 x8 i = ((A.dge (i 1) : ℝ) : EReal) := by
  have e : idx_main_v69 i = ix1 (n0 := 1024) (i 1) := by
    have h0 : (i 0).val < 1 := (i 0).isLt
    funext a; match a with
    | ⟨0, _⟩ => exact Fin.ext (show (i 0).val * 1024 + (i 1).val = (i 1).val by omega)
  simp only [val_main_v69_apply, e, val_main_v68_apply, val_main_v67_apply, val_main_cst_18_apply, ne H, de H, Ideal.mulf_def, Ideal.ofBits_def, word_0, ← EReal.coe_mul, sum_up, ← EReal.coe_add, zero_add]
  exact congrArg _ (Finset.sum_congr rfl fun r _ => mul_comm _ _)

theorem dwg (i : S1024x1024.Idx) : val_main_v64 (F := Ideal) x0 x1 x2 x3 x4 x5 x6 x7 x8 i = ((A.dwg (i 0) (i 1) : ℝ) : EReal) := by
  rw [val_main_v64_apply, val_main_v63_apply]; simp only [dgl H, h1 H, ← EReal.coe_mul, sum_up]
  exact congrArg _ (Finset.sum_congr rfl fun r _ => mul_comm _ _)

/-- The gradient of the embedding's weight, before it is cut to its four shards. -/
theorem dwp (i : S256x1024.Idx) : val_main_v87 (F := Ideal) x0 x1 x2 x3 x4 x5 x6 x7 x8 i = ((A.dwp (i 0) (i 1) : ℝ) : EReal) := by
  rw [val_main_v87_apply, val_main_v86_apply]; simp only [dep H, H.p, ← EReal.coe_mul, sum_up]
  exact congrArg _ (Finset.sum_congr rfl fun r _ => mul_comm _ _)

theorem loss_rank0 (i : S_.Idx) : val_main_v53 (F := Ideal) x0 x1 x2 x3 x4 x5 x6 x7 x8 i = ((A.loss : ℝ) : EReal) := by
  simp only [val_main_v53_apply, val_main_v52_apply, val_main_v51_apply, val_main_v50_apply, val_main_v49_apply, val_main_v46_apply, val_main_cst_11_apply,
    val_main_cst_12_apply, val_main_cst_13_apply, val_main_cst_14_apply, diff H, Ideal.mulf_def, Ideal.hostDivf_def, Ideal.ofBits_def, word_0, word_half, word_1024,
    ← EReal.coe_mul, sum_up, ← EReal.coe_add, zero_add, div_up _ (show (1024 : ℝ) ≠ 0 by norm_num)]
  refine congrArg _ ?_
  rw [sum_idx1]
  unfold Args.loss
  rw [Finset.mul_sum]
  refine Finset.sum_congr rfl fun r _ => ?_
  show 1 / 2 * ((∑ n, A.diff r n * A.diff r n) / 1024) = 1 / 2048 * ∑ n, A.diff r n * A.diff r n
  ring

theorem loss (i : S1x1.Idx) : val_main_v110 (F := Ideal) x0 x1 x2 x3 x4 x5 x6 x7 x8 i = ((A.loss : ℝ) : EReal) :=
  loss_rank0 H _

theorem dwp_shards (i : S4x256x256.Idx) (n : Fin 1024) (hn : n.val = 256 * (i 0).val + (i 2).val) :
    val_main_v119 (F := Ideal) x0 x1 x2 x3 x4 x5 x6 x7 x8 i = ((A.dwp (i 1) n : ℝ) : EReal) := by
  unfold val_main_v119
  concat_tiles j h
  all_goals
    simp only [val_main_v115_apply, val_main_v116_apply, val_main_v117_apply, val_main_v118_apply, val_main_v111_apply, val_main_v112_apply,
      val_main_v113_apply, val_main_v114_apply, dwp H]
    refine congrArg _ (congrArg₂ A.dwp (Fin.ext ?_) (Fin.ext ?_))
    · simp; omega
    · simp; omega

end Cert.HeadRefValue
-- ==== Proof.HeadKernel.lean ====
module

public import proofs.«01_k».proof.Proof.HeadPay
public import proofs.«01_k».proof.Proof.HeadRefValue
public import proofs.«01_k».proof.Proof.Gen.HeadIdeal.Value
public import Idealize.ShloMosaic.Lib.Pipeline.ValueKit
public import Idealize.ShloMosaic.Lib.Pipeline.ReadBack

/-! What the kernel's head leaves in its eight results, of finite arguments: the real functions of HeadSpec. -/

@[expose] public section

set_option maxRecDepth 16384

noncomputable section

namespace Cert.HeadKernel

open Cert.HeadIdeal Cert.HeadIdeal.Gen Idealize.ShloMosaic Idealize.ShloMosaic.TcCoe Idealize.ShloMosaic.Tactic Idealize.SL Idealize.SL.Sem
open Cert.Up Cert.HeadSpec Cert.HeadPay

/-- Row `a` of tile `t`. -/
def row (t : Fin cfg0.N) (a : Fin 512) : Fin 8192 := ⟨512 * t.val + a.val, by have := Nat.lt_of_lt_of_eq t.isLt N_0; omega⟩

variable (m : (ℓ : Loc nD τ sig) → Buf (Elt Ideal) ℓ) (c : Dev nD) {A : Args}

/-- The device's arguments hold the real ones. -/
abbrev Holds (A : Args) : Prop :=
  HeadRefValue.Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0, 0] ∧ win0_7.index t = ![0, 0] ∧ win0_8.index t = ![0, 0]
    ∧ win0_10.index t = ![t.val, 0] ∧ win0_11.index t = ![t.val, 0] := by
  decide +kernel

theorem blk0 (t : Fin cfg0.N) (i : S512x1024.Idx) : iblk m c 0 t i = m ((c : Thread nD τ).loc main_arg0) (ix2 (row t (i 0)) (i 1)) := by
  rw [← V_main_arg0 m c]
  unfold row
  blk_ext [iblk, idx t]

theorem blk3 (t : Fin cfg0.N) (i : S512x1024.Idx) : iblk m c 3 t i = m ((c : Thread nD τ).loc main_arg3) (ix2 (row t (i 0)) (i 1)) := by
  show iblk m c 3 t i = V m c main_v3 (ix2 (row t (i 0)) (i 1))
  unfold row
  blk_ext [iblk, idx t]

theorem blk4 (t : Fin cfg0.N) (i : S1024x1024.Idx) : iblk m c 4 t i = m ((c : Thread nD τ).loc main_arg4) i := by
  show iblk m c 4 t i = V m c main_v4 i
  blk_ext [iblk, idx t]

theorem blk5 (t : Fin cfg0.N) (i : S1x1024.Idx) : iblk m c 5 t i = m ((c : Thread nD τ).loc main_arg5) i := by
  rw [← V_main_arg5 m c]
  blk_ext [iblk, idx t]

theorem blk6 (t : Fin cfg0.N) (i : S4x256x256.Idx) : iblk m c 6 t i = m ((c : Thread nD τ).loc main_arg6) (ix2 (i 1) (col (i 0) (i 2))) := by
  have e : iblk m c 6 t i = V m c main_v2 i := by blk_ext [iblk, idx t]
  rw [e]
  show transpose S4x256x256 [1, 0, 2] (shapeCast S256x4x256 (m ((c : Thread nD τ).loc main_arg6)) shapeCasts_S256x1024_S256x4x256) transposes_S256x4x256_S4x256x256_1_0_2 i = _
  pointwise
  exact congrArg (fun n => m ((c : Thread nD τ).loc main_arg6) (ix2 (i 1) n)) (Fin.ext (by show (i 0).val * 256 + (i 2).val = 256 * (i 0).val + (i 2).val; omega))

theorem blk1 (t : Fin cfg0.N) (i : S512x256.Idx) : iblk m c 1 t i = m ((c : Thread nD τ).loc main_arg1) (ix2 (row t (i 0)) (i 1)) := by
  rw [← V_main_arg1 m c]
  unfold row
  blk_ext [iblk, idx t]

theorem blk2 (t : Fin cfg0.N) (i : S512x1024.Idx) : iblk m c 2 t i = m ((c : Thread nD τ).loc main_arg2) (ix2 (row t (i 0)) (i 1)) := by
  rw [← V_main_arg2 m c]
  unfold row
  blk_ext [iblk, idx t]

theorem blk7 (t : Fin cfg0.N) (i : S1x1024.Idx) : iblk m c 7 t i = m ((c : Thread nD τ).loc main_arg7) i := by
  rw [← V_main_arg7 m c]
  blk_ext [iblk, idx t]

theorem blk8 (t : Fin cfg0.N) (i : S1024x1024.Idx) : iblk m c 8 t i = m ((c : Thread nD τ).loc main_arg8) i := by
  show iblk m c 8 t i = V m c main_v5 i
  blk_ext [iblk, idx t]

/-- Where shard `s` lies in the cut weight. -/
theorem slab_idx (s : Fin 4) (inb : ∀ a : Fin S4x256x256.rank, ![s.val, 0, 0] a + ![1, 256, 256] a ≤ S4x256x256.size a) (i : S1x256x256.Idx) :
    (Rect.unit (s := S4x256x256) ![s.val, 0, 0] ![1, 256, 256] inb).idx i = ix3 s (i 1) (i 2) := by
  funext a
  have := (i 0).isLt; change (i 0).val < 1 at this
  fin_cases a
  · exact Fin.ext (by refine (Rect.idx_unit_val _ _ inb i 0).trans ?_; show s.val + (i 0).val = s.val; omega)
  · exact Fin.ext ((Rect.idx_unit_val _ _ inb i 1).trans (Nat.zero_add _))
  · exact Fin.ext ((Rect.idx_unit_val _ _ inb i 2).trans (Nat.zero_add _))

/-- A load of one shard of the embedding's weight. -/
theorem shard (t : Fin cfg0.N) (s : Fin 4) {inb} (i : S1x256x256.Idx) :
    View.ld (iblk m c 6 t) (Rect.unit ![s.val, 0, 0] ![1, 256, 256] inb) i = m ((c : Thread nD τ).loc main_arg6) (ix2 (i 1) (col s (i 2))) := by
  rw [View.ld_apply, blk6]
  exact congrArg (fun q : S4x256x256.Idx => m ((c : Thread nD τ).loc main_arg6) (ix2 (q 1) (col (q 0) (q 2)))) (slab_idx s inb i)

/-! What the body makes of tile `t`'s blocks. -/

section Tile
variable (t : Fin cfg0.N)

abbrev mixV := k0_pay11 (F := Ideal) (iblk m c 3 t) (iblk m c 4 t)
abbrev epV := k0_pay13 (F := Ideal) (iblk m c 1 t) (View.ld (iblk m c 6 t) (Rect.unit ![0, 0, 0] ![1, 256, 256] inb_S4x256x256_S1x256x256_0_0_0))
  (View.ld (iblk m c 6 t) (Rect.unit ![1, 0, 0] ![1, 256, 256] inb_S4x256x256_S1x256x256_1_0_0)) (View.ld (iblk m c 6 t) (Rect.unit ![2, 0, 0] ![1, 256, 256] inb_S4x256x256_S1x256x256_2_0_0))
  (View.ld (iblk m c 6 t) (Rect.unit ![3, 0, 0] ![1, 256, 256] inb_S4x256x256_S1x256x256_3_0_0))
abbrev eV := k0_pay19 (F := Ideal) (iblk m c 7 t) (epV m c t)
abbrev gateV := k0_pay21 (F := Ideal) (k0_pay10 (iblk m c 8 t)) (iblk m c 5 t) (mixV m c t) (iblk m c 0 t)
abbrev diffV := k0_pay22 (F := Ideal) (k0_pay10 (iblk m c 8 t)) (iblk m c 5 t) (iblk m c 7 t) (mixV m c t) (epV m c t) (iblk m c 0 t) (iblk m c 2 t)
abbrev nmV := k0_pay15 (F := Ideal) (mixV m c t)
abbrev dnmV := k0_pay32 (F := Ideal) (k0_pay10 (iblk m c 8 t)) (iblk m c 5 t) (eV m c t) (gateV m c t) (diffV m c t)
abbrev meanV := k0_pay33 (F := Ideal) (k0_pay10 (iblk m c 8 t)) (iblk m c 5 t) (nmV m c t) (eV m c t) (gateV m c t) (diffV m c t)

end Tile

variable {m c} (H : Holds m c A)
include H

theorem x_blk (t : Fin cfg0.N) : Is (iblk m c 0 t) fun a => A.x (row t a) := fun i => (blk0 m c t i).trans (H.x _)
theorem p_blk (t : Fin cfg0.N) : IsP A (row t) (iblk m c 1 t) := fun i => (blk1 m c t i).trans (H.p _)
theorem t_blk (t : Fin cfg0.N) : Is (iblk m c 2 t) fun a => A.t (row t a) := fun i => (blk2 m c t i).trans (H.t _)
theorem c_blk (t : Fin cfg0.N) : Is (iblk m c 3 t) fun a => A.c (row t a) := fun i => (blk3 m c t i).trans (H.c _)
theorem wo_blk (t : Fin cfg0.N) : IsW (iblk m c 4 t) A.wo := fun i => (blk4 m c t i).trans (H.wo _)
theorem gp_blk (t : Fin cfg0.N) : IsV (iblk m c 5 t) A.gp := fun i => (blk5 m c t i).trans (H.gp _)
theorem ge_blk (t : Fin cfg0.N) : IsV (iblk m c 7 t) A.ge := fun i => (blk7 m c t i).trans (H.ge _)
theorem wg_blk (t : Fin cfg0.N) : IsW (k0_pay10 (iblk m c 8 t)) A.wg := fun i => by
  unfold k0_pay10; pointwise [blk8 m c t, H.wg]
theorem wo_cast (t : Fin cfg0.N) : IsW (k0_pay9 (iblk m c 4 t)) A.wo := fun i => by
  unfold k0_pay9; pointwise [wo_blk H t]
theorem c_cast (t : Fin cfg0.N) : Is (k0_pay8 (iblk m c 3 t)) fun a => A.c (row t a) := fun i => by
  unfold k0_pay8; pointwise [c_blk H t]
theorem wp_shard (t : Fin cfg0.N) (s : Fin 4) {inb} : IsS A s (View.ld (iblk m c 6 t) (Rect.unit ![s.val, 0, 0] ![1, 256, 256] inb)) :=
  fun i => (shard m c t s i).trans (H.wp _)

theorem mixT (t : Fin cfg0.N) : Is (mixV m c t) fun a => A.mix (row t a) := mix (c_blk H t) (wo_blk H t)
theorem epT (t : Fin cfg0.N) : Is (epV m c t) fun a => A.ep (row t a) :=
  ep (p_blk H t) (wp_shard H t 0) (wp_shard H t 1) (wp_shard H t 2) (wp_shard H t 3)
theorem eT (t : Fin cfg0.N) : Is (eV m c t) fun a => A.e (row t a) := e (ge_blk H t) (epT H t)
theorem gateT (t : Fin cfg0.N) : Is (gateV m c t) fun a => A.gate (row t a) := gate (wg_blk H t) (gp_blk H t) (mixT H t) (x_blk H t)
theorem diffT (t : Fin cfg0.N) : Is (diffV m c t) fun a => A.diff (row t a) :=
  diff (wg_blk H t) (gp_blk H t) (ge_blk H t) (mixT H t) (epT H t) (x_blk H t) (t_blk H t)
theorem nmT (t : Fin cfg0.N) : Is (nmV m c t) fun a => A.nm (row t a) := nm (mixT H t)
theorem dnmT (t : Fin cfg0.N) : Is (dnmV m c t) fun a => A.dnm (row t a) := dnm (eT H t) (gateT H t) (diffT H t) (wg_blk H t) (gp_blk H t)
theorem meanT (t : Fin cfg0.N) : Is (meanV m c t) fun a _ => (∑ j, A.dnm (row t a) j * A.nm (row t a) j) / 1024 :=
  mean_nm (eT H t) (gateT H t) (diffT H t) (wg_blk H t) (gp_blk H t) (nmT H t)
theorem deT (t : Fin cfg0.N) : Is (k0_pay27 (F := Ideal) (gateV m c t) (diffV m c t)) fun a => A.de (row t a) := de (gateT H t) (diffT H t)
theorem neT (t : Fin cfg0.N) : Is (k0_pay18 (F := Ideal) (epV m c t)) fun a => A.ne (row t a) := ne (epT H t)

/-! ## The two results written tile by tile -/

theorem out10 : (dats m 0 c).arrAt 10 cfg0.N = fun i => ((A.dh1 (i 0) (i 1) : ℝ) : EReal) := by
  refine (dats m 0 c).arrAt_eq_of_covers 10 _ (by decide +kernel) fun t hf y => ?_
  have e : ((cfg0.win 10).blk t).view.emb y = ix2 (row t (y 0)) (y 1) := by unfold row; blk_ext [idx t]
  rw [e]
  have key := dh1 (eT H t) (gateT H t) (diffT H t) (wg_blk H t) y
  blk_simp
  rw [after0_10]
  rcases Decidable.em (t.val % 16 = 0) with h | h
  · rw [outsAt0_A m c t h]; frame_out; exact key
  · rw [outsAt0_B m c t h]; frame_out; exact key

theorem out11 : (dats m 0 c).arrAt 11 cfg0.N = fun i => ((A.dcat (i 0) (i 1) : ℝ) : EReal) := by
  refine (dats m 0 c).arrAt_eq_of_covers 11 _ (by decide +kernel) fun t hf y => ?_
  have e : ((cfg0.win 11).blk t).view.emb y = ix2 (row t (y 0)) (y 1) := by unfold row; blk_ext [idx t]
  rw [e]
  have key := dcat (rinv_tile (mixT H t)) (nmT H t) (dnmT H t) (meanT H t) (wo_cast H t) y
  blk_simp
  rw [after0_11]
  rcases Decidable.em (t.val % 16 = 0) with h | h
  · rw [outsAt0_A m c t h]; frame_out; exact key
  · rw [outsAt0_B m c t h]; frame_out; exact key

/-! ## The results accumulated over the tiles -/

omit H in
/-- A sum over the tiles and their rows is the sum over the rows. -/
theorem sum_rows (f : Fin 8192 → ℝ) : ∑ t : Fin cfg0.N, ∑ a : Fin 512, ((f (row t a) : ℝ) : EReal) = ((∑ r, f r : ℝ) : EReal) := by
  simp only [sum_up]
  congr 1
  refine Fin.sum_mul_add_congr (L := 8192) (n := 512) (fun t a hl => ?_) (by show 8192 = grid0.N * 512; rw [N_0])
  exact congrArg f (Fin.ext (by show 512 * t.val + a.val = t.val * 512 + a.val; omega))

theorem out9 : (dats m 0 c).arrAt 9 cfg0.N = fun _ => ((A.loss : ℝ) : EReal) := by
  refine (dats m 0 c).arrAt_eq_of_after_last 9 t0_15 (by decide +kernel) _ fun j => ?_
  blk_simp
  rw [after0_9]
  rw [Pipeline.eq_sum_fin_of_reset_step_apply_last (fun n h => (outsAt0 m c n h).1) 16 (fun _ => 0) (fun t j => ∑ a : Fin 512, ((1 / 2048 * ∑ n, A.diff (row t a) n * A.diff (row t a) n : ℝ) : EReal))
    (fun t h j => by
      rw [outsAt0_A m c t h]; frame_out
      exact (loss (wg_blk H t) (gp_blk H t) (ge_blk H t) (mixT H t) (epT H t) (x_blk H t) (t_blk H t) _ j).trans (congrArg (· + _) word_0))
    (fun t h j => by
      rw [outsAt0_B m c t h]; frame_out
      exact loss (wg_blk H t) (gp_blk H t) (ge_blk H t) (mixT H t) (epT H t) (x_blk H t) (t_blk H t) _ j) (le_of_eq N_0) t0_15 rfl j, zero_add]
  exact sum_rows fun r => 1 / 2048 * ∑ n, A.diff r n * A.diff r n

set_option maxHeartbeats 800000 in
theorem out12 : (dats m 0 c).arrAt 12 cfg0.N = fun i => ((A.dwo (i 0) (i 1) : ℝ) : EReal) := by
  refine (dats m 0 c).arrAt_eq_of_after_last 12 t0_15 (by decide +kernel) _ fun j => ?_
  blk_simp
  rw [after0_12]
  rw [Pipeline.eq_sum_fin_of_reset_step_apply_last (fun n h => (outsAt0 m c n h).2.2.2.1) 16 (fun _ => 0) (fun t j => ∑ a : Fin 512, ((A.c (row t a) (j 0) * A.dmix (row t a) (j 1) : ℝ) : EReal))
    (fun t h j => by
      rw [outsAt0_A m c t h]; frame_out
      exact (dwo (rinv_tile (mixT H t)) (nmT H t) (dnmT H t) (meanT H t) (c_cast H t) _ j).trans (congrArg (· + _) word_0))
    (fun t h j => by
      rw [outsAt0_B m c t h]; frame_out
      exact dwo (rinv_tile (mixT H t)) (nmT H t) (dnmT H t) (meanT H t) (c_cast H t) _ j) (le_of_eq N_0) t0_15 rfl j, zero_add]
  exact sum_rows fun r => A.c r (j 0) * A.dmix r (j 1)

theorem out13 : (dats m 0 c).arrAt 13 cfg0.N = fun i => ((A.dgp (i 1) : ℝ) : EReal) := by
  refine (dats m 0 c).arrAt_eq_of_after_last 13 t0_15 (by decide +kernel) _ fun j => ?_
  blk_simp
  rw [after0_13]
  rw [Pipeline.eq_sum_fin_of_reset_step_apply_last (fun n h => (outsAt0 m c n h).2.2.2.2.1) 16 (fun _ => 0) (fun t j => ∑ a : Fin 512, ((A.dh1 (row t a) (j 1) * A.nm (row t a) (j 1) : ℝ) : EReal))
    (fun t h j => by
      rw [outsAt0_A m c t h]; frame_out
      exact (dgp (eT H t) (gateT H t) (diffT H t) (wg_blk H t) (nmT H t) _ j).trans (congrArg (· + _) word_0))
    (fun t h j => by
      rw [outsAt0_B m c t h]; frame_out
      exact dgp (eT H t) (gateT H t) (diffT H t) (wg_blk H t) (nmT H t) _ j) (le_of_eq N_0) t0_15 rfl j, zero_add]
  exact sum_rows fun r => A.dh1 r (j 1) * A.nm r (j 1)

theorem out15 : (dats m 0 c).arrAt 15 cfg0.N = fun i => ((A.dge (i 1) : ℝ) : EReal) := by
  refine (dats m 0 c).arrAt_eq_of_after_last 15 t0_15 (by decide +kernel) _ fun j => ?_
  blk_simp
  rw [after0_15]
  rw [Pipeline.eq_sum_fin_of_reset_step_apply_last (fun n h => (outsAt0 m c n h).2.2.2.2.2.2.1) 16 (fun _ => 0) (fun t j => ∑ a : Fin 512, ((A.de (row t a) (j 1) * A.ne (row t a) (j 1) : ℝ) : EReal))
    (fun t h j => by
      rw [outsAt0_A m c t h]; frame_out
      exact (dge (neT H t) (deT H t) _ j).trans (congrArg (· + _) word_0))
    (fun t h j => by
      rw [outsAt0_B m c t h]; frame_out
      exact dge (neT H t) (deT H t) _ j) (le_of_eq N_0) t0_15 rfl j, zero_add]
  exact sum_rows fun r => A.de r (j 1) * A.ne r (j 1)

theorem out16 : (dats m 0 c).arrAt 16 cfg0.N = fun i => ((A.dwg (i 0) (i 1) : ℝ) : EReal) := by
  refine (dats m 0 c).arrAt_eq_of_after_last 16 t0_15 (by decide +kernel) _ fun j => ?_
  blk_simp
  rw [after0_16]
  rw [Pipeline.eq_sum_fin_of_reset_step_apply_last (fun n h => (outsAt0 m c n h).2.2.2.2.2.2.2) 16 (fun _ => 0) (fun t j => ∑ a : Fin 512, ((A.h1 (row t a) (j 0) * A.dgl (row t a) (j 1) : ℝ) : EReal))
    (fun t h j => by
      rw [outsAt0_A m c t h]; frame_out
      exact (dwg (eT H t) (gateT H t) (diffT H t) (h1_cast (gp_blk H t) (mixT H t) (x_blk H t)) _ j).trans (congrArg (· + _) word_0))
    (fun t h j => by
      rw [outsAt0_B m c t h]; frame_out
      exact dwg (eT H t) (gateT H t) (diffT H t) (h1_cast (gp_blk H t) (mixT H t) (x_blk H t)) _ j) (le_of_eq N_0) t0_15 rfl j, zero_add]
  exact sum_rows fun r => A.h1 r (j 0) * A.dgl r (j 1)

theorem depT (t : Fin cfg0.N) : Is (k0_pay38 (F := Ideal) (iblk m c 7 t) (k0_pay17 (epV m c t)) (k0_pay18 (epV m c t)) (k0_pay27 (gateV m c t) (diffV m c t))) fun a => A.dep (row t a) :=
  dep (ge_blk H t) (rinv_tile' (epT H t)) (neT H t) (deT H t)

end Cert.HeadKernel
-- ==== Proof.HeadKernelShards.lean ====
module

public import proofs.«01_k».proof.Proof.HeadKernel
public import Idealize.ShloMosaic.Lib.Pipeline.CanonAppend
public import Idealize.ShloMosaic.Lib.Pipeline.ReadBack

/-! The gradient of the embedding's weight, stored by the kernel's head in four shards. -/

@[expose] public section

set_option maxRecDepth 16384

noncomputable section

namespace Cert.HeadKernel

open Cert.HeadIdeal Cert.HeadIdeal.Gen Idealize.ShloMosaic Idealize.ShloMosaic.TcCoe Idealize.ShloMosaic.Tactic Idealize.SL Idealize.SL.Sem
open Cert.Up Cert.HeadSpec Cert.HeadPay

variable {m : (ℓ : Loc nD τ sig) → Buf (Elt Ideal) ℓ} {c : Dev nD} {A : Args} (H : Holds m c A)
include H

/-- The gradient of the embedding's weight after a tile: what was there, and the tile's rows. -/
abbrev dwpAfter (A : Args) (t : Fin cfg0.N) (acc : S4x256x256.Idx → EReal) (j : S4x256x256.Idx) : EReal :=
  acc j + ∑ a : Fin 512, ((A.p (row t a) (j 1) * A.dep (row t a) (col (j 0) (j 2)) : ℝ) : EReal)

omit H in
theorem slab (t : Fin cfg0.N) (acc : S4x256x256.Idx → EReal) (s : Fin 4) (inb : ∀ a : Fin S4x256x256.rank, ![s.val, 0, 0] a + ![1, 256, 256] a ≤ S4x256x256.size a) (i : S1x256x256.Idx) :
    View.ld (Val := Elt Ideal) (e' := .f32) acc (Rect.unit (s := S4x256x256) ![s.val, 0, 0] ![1, 256, 256] inb) i + ∑ a : Fin 512, ((A.p (row t a) (i 1) * A.dep (row t a) (col s (i 2)) : ℝ) : EReal)
      = dwpAfter A t acc ((Rect.unit (s := S4x256x256) ![s.val, 0, 0] ![1, 256, 256] inb).emb i) := by
  have e : (Rect.unit (s := S4x256x256) ![s.val, 0, 0] ![1, 256, 256] inb).emb i = ix3 s (i 1) (i 2) := slab_idx s inb i
  rw [View.ld_apply, e, slab_idx]; rfl

/-- The four shards stored by the body at tile `t`. -/
abbrev dwpPieces (m : (ℓ : Loc nD τ sig) → Buf (Elt Ideal) ℓ) (c : Dev nD) (t : Fin cfg0.N) (acc : S4x256x256.Idx → EReal) (L : List (View.Piece (Elt Ideal) S4x256x256 .f32)) : List (View.Piece (Elt Ideal) S4x256x256 .f32) :=
  ⟨Rect.unit ![3, 0, 0] ![1, 256, 256] inb_S4x256x256_S1x256x256_3_0_0, k0_pay1 (k0_pay44 (k0_pay12 (F := Ideal) (iblk m c 1 t)) (k0_pay38 (F := Ideal) (iblk m c 7 t) (k0_pay17 (epV m c t)) (k0_pay18 (epV m c t)) (k0_pay27 (gateV m c t) (diffV m c t))) (View.ld (Val := Elt Ideal) (e' := .f32) acc (Rect.unit ![3, 0, 0] ![1, 256, 256] inb_S4x256x256_S1x256x256_3_0_0)))⟩ ::
    ⟨Rect.unit ![2, 0, 0] ![1, 256, 256] inb_S4x256x256_S1x256x256_2_0_0, k0_pay43 (k0_pay12 (F := Ideal) (iblk m c 1 t)) (k0_pay38 (F := Ideal) (iblk m c 7 t) (k0_pay17 (epV m c t)) (k0_pay18 (epV m c t)) (k0_pay27 (gateV m c t) (diffV m c t))) (View.ld (Val := Elt Ideal) (e' := .f32) acc (Rect.unit ![2, 0, 0] ![1, 256, 256] inb_S4x256x256_S1x256x256_2_0_0))⟩ ::
    ⟨Rect.unit ![1, 0, 0] ![1, 256, 256] inb_S4x256x256_S1x256x256_1_0_0, k0_pay42 (k0_pay12 (F := Ideal) (iblk m c 1 t)) (k0_pay38 (F := Ideal) (iblk m c 7 t) (k0_pay17 (epV m c t)) (k0_pay18 (epV m c t)) (k0_pay27 (gateV m c t) (diffV m c t))) (View.ld (Val := Elt Ideal) (e' := .f32) acc (Rect.unit ![1, 0, 0] ![1, 256, 256] inb_S4x256x256_S1x256x256_1_0_0))⟩ ::
    ⟨Rect.unit ![0, 0, 0] ![1, 256, 256] inb_S4x256x256_S1x256x256_0_0_0, k0_pay41 (k0_pay12 (F := Ideal) (iblk m c 1 t)) (k0_pay39 (View.ld (Val := Elt Ideal) (e' := .f32) acc (Rect.unit ![0, 0, 0] ![1, 256, 256] inb_S4x256x256_S1x256x256_0_0_0)))
      (k0_pay40 (iblk m c 7 t) (k0_pay17 (epV m c t)) (k0_pay18 (epV m c t)) (k0_pay27 (gateV m c t) (diffV m c t)))⟩ :: L

/-- The four shards over anything stored before. -/
theorem dwp_tile (t : Fin cfg0.N) (acc : S4x256x256.Idx → EReal) (L : List (View.Piece (Elt Ideal) S4x256x256 .f32)) (j : S4x256x256.Idx) :
    View.canon (dwpPieces m c t acc L) j = dwpAfter A t acc j := by
  refine View.canon_append_of_pieces (dwpAfter A t acc) L (dwpPieces m c t acc []) ?_ j (View.cover_of_tiled (dwpPieces m c t acc []) ![1, 256, 256] (by rfl) j)
  simp only [List.forall_mem_cons, List.not_mem_nil, false_imp_iff, implies_true, and_true]
  refine ⟨fun x => ?_, fun x => ?_, fun x => ?_, fun x => ?_⟩
  · exact (dwp3 (p_blk H t) (depT H t) _ x).trans (slab t acc 3 _ x)
  · exact (dwp2 (p_blk H t) (depT H t) _ x).trans (slab t acc 2 _ x)
  · exact (dwp1 (p_blk H t) (depT H t) _ x).trans (slab t acc 1 _ x)
  · exact (dwp0 (p_blk H t) (ge_blk H t) (rinv_tile' (epT H t)) (neT H t) (deT H t) _ x).trans (slab t acc 0 _ x)

set_option maxHeartbeats 1600000 in
theorem out14 : (dats m 0 c).arrAt 14 cfg0.N = fun i => ((A.dwp (i 1) (col (i 0) (i 2)) : ℝ) : EReal) := by
  refine (dats m 0 c).arrAt_eq_of_after_last 14 t0_15 (by decide +kernel) _ fun j => ?_
  blk_simp
  rw [after0_14]
  rw [Pipeline.eq_sum_fin_of_reset_step_apply_last (fun n h => (outsAt0 m c n h).2.2.2.2.2.1) 16 (fun _ => 0) (fun t j => ∑ a : Fin 512, ((A.p (row t a) (j 1) * A.dep (row t a) (col (j 0) (j 2)) : ℝ) : EReal))
    (fun t h j => by
      rw [outsAt0_A m c t h]; frame_open
      simp (disch := decide) only [↓ View.readCov_skip, ↓ View.readCov_cons_toLoadRect, ↓ View.readCov_fill]
      frame_out
      exact (dwp_tile H t (k0_pay5 (F := Ideal)) [_] j).trans (congrArg (· + _) word_0))
    (fun t h j => by
      rw [outsAt0_B m c t h]; frame_out
      exact dwp_tile H t _ [] j) (le_of_eq N_0) t0_15 rfl j, zero_add]
  exact sum_rows fun r => A.p r (j 1) * A.dep r (col (j 0) (j 2))

end Cert.HeadKernel
-- ==== Proof.HeadClaims.lean ====
module

public import proofs.«01_k».proof.Defs
public import proofs.«01_k».proof.Proof.Finite
public import proofs.«01_k».proof.Proof.HeadKernelShards
public import proofs.«01_k».proof.Proof.Gen.HeadRefIdeal.Run
public import proofs.«01_k».proof.Proof.Gen.HeadRefIdeal.Read
public import proofs.«01_k».proof.Proof.Gen.HeadIdeal.Frame
public import proofs.«01_k».proof.Proof.Gen.Pre_head_finite

/-! The claims about the head: the reference runs to an end, and of finite arguments the kernel and the reference leave the
    same eight arrays. -/

@[expose] public section

set_option maxRecDepth 16384

noncomputable section

namespace Cert.HeadClaims

open Idealize.ShloMosaic Idealize.ShloMosaic.TcCoe Idealize.SL.Sem Cert.HeadSpec Cert.Finite Cert.Up

/-- The real numbers that device `c`'s arguments hold. -/
def args (m : (ℓ : Loc Cert.HeadIdeal.nD Cert.HeadIdeal.τ Cert.HeadIdeal.sig) → Buf (Elt Ideal) ℓ) (c : Dev Cert.HeadIdeal.nD) : Args where
  x r k := re (s := Cert.HeadIdeal.S8192x1024) (m ((c : Thread Cert.HeadIdeal.nD Cert.HeadIdeal.τ).loc Cert.HeadIdeal.main_arg0)) (ix2 r k)
  p r k := re (s := Cert.HeadIdeal.S8192x256) (m ((c : Thread Cert.HeadIdeal.nD Cert.HeadIdeal.τ).loc Cert.HeadIdeal.main_arg1)) (ix2 r k)
  t r k := re (s := Cert.HeadIdeal.S8192x1024) (m ((c : Thread Cert.HeadIdeal.nD Cert.HeadIdeal.τ).loc Cert.HeadIdeal.main_arg2)) (ix2 r k)
  c r k := re (s := Cert.HeadIdeal.S8192x1024) (m ((c : Thread Cert.HeadIdeal.nD Cert.HeadIdeal.τ).loc Cert.HeadIdeal.main_arg3)) (ix2 r k)
  wo r k := re (s := Cert.HeadIdeal.S1024x1024) (m ((c : Thread Cert.HeadIdeal.nD Cert.HeadIdeal.τ).loc Cert.HeadIdeal.main_arg4)) (ix2 r k)
  gp k := re (s := Cert.HeadIdeal.S1x1024) (m ((c : Thread Cert.HeadIdeal.nD Cert.HeadIdeal.τ).loc Cert.HeadIdeal.main_arg5)) (ix2 0 k)
  wp r k := re (s := Cert.HeadIdeal.S256x1024) (m ((c : Thread Cert.HeadIdeal.nD Cert.HeadIdeal.τ).loc Cert.HeadIdeal.main_arg6)) (ix2 r k)
  ge k := re (s := Cert.HeadIdeal.S1x1024) (m ((c : Thread Cert.HeadIdeal.nD Cert.HeadIdeal.τ).loc Cert.HeadIdeal.main_arg7)) (ix2 0 k)
  wg r k := re (s := Cert.HeadIdeal.S1024x1024) (m ((c : Thread Cert.HeadIdeal.nD Cert.HeadIdeal.τ).loc Cert.HeadIdeal.main_arg8)) (ix2 r k)

/-- An index of a single row is that row at its column. -/
theorem ix2_zero {n : Nat} (i : (⟨2, ![1, n]⟩ : Shape).Idx) : ix2 0 (i 1) = i := by
  funext k
  fin_cases k
  · exact Subsingleton.elim (α := Fin 1) _ _
  · rfl

/-- An index is its row and its column. -/
theorem ix2_self {a b : Nat} (i : (⟨2, ![a, b]⟩ : Shape).Idx) : ix2 (i 0) (i 1) = i := by
  funext k
  fin_cases k <;> rfl

/-- Reading the real parts back by row and column. -/
theorem at_self {a b : Nat} {x : (⟨2, ![a, b]⟩ : Shape).Idx → EReal} (h : ∀ i, x i = ((re x i : ℝ) : EReal)) (i : (⟨2, ![a, b]⟩ : Shape).Idx) :
    x i = ((re x (ix2 (i 0) (i 1)) : ℝ) : EReal) := by
  exact (h i).trans (congrArg (fun j => ((re x j : ℝ) : EReal)) (ix2_self i).symm)

/-- The same for a single row. -/
theorem at_zero {n : Nat} {x : (⟨2, ![1, n]⟩ : Shape).Idx → EReal} (h : ∀ i, x i = ((re x i : ℝ) : EReal)) (i : (⟨2, ![1, n]⟩ : Shape).Idx) :
    x i = ((re x (ix2 0 (i 1)) : ℝ) : EReal) := by
  exact (h i).trans (congrArg (fun j => ((re x j : ℝ) : EReal)) (ix2_zero i).symm)

/-- Under the precondition every argument holds real numbers. -/
theorem holds (m : (ℓ : Loc Cert.HeadIdeal.nD Cert.HeadIdeal.τ Cert.HeadIdeal.sig) → Buf (Elt Ideal) ℓ) (c : Dev Cert.HeadIdeal.nD)
    (h : Cert.Pre_HeadIdeal_head_finite (hPre_head_finite := Cert.Pre_head_finite.Gen.facts) m) : HeadKernel.Holds m c (args m c) := by
  obtain ⟨h0, h1, h2, h3, h4, h5, h6, h7, h8⟩ := h c
  constructor
  · exact fun i => at_self (real h0) i
  · exact fun i => at_self (real h1) i
  · exact fun i => at_self (real h2) i
  · exact fun i => at_self (real h3) i
  · exact fun i => at_self (real h4) i
  · exact fun i => at_zero (real h5) i
  · exact fun i => at_self (real h6) i
  · exact fun i => at_zero (real h7) i
  · exact fun i => at_self (real h8) i

/-- The reference runs to an end and keeps its arguments. -/
theorem frame_ref : Cert.quiescent_HeadRefIdeal (hHeadRefIdeal := Cert.HeadRefIdeal.Gen.facts) := by
  intro m ρ _
  refine (θ_run _ _ _).mono (fun r h => ⟨fun c => (h c).2.2.2.2.2.2.2.2, ?_⟩) (Cert.HeadRefIdeal.Value.run m ρ)
  exact Idealize.ShloMosaic.sem_eq_zero_of_no_sems (by decide) r.2

/-- Of finite arguments the kernel and the reference leave the same eight arrays. -/
theorem algebraic : Cert.algebraic_HeadIdeal_HeadRefIdeal_pre_head_finite (hHeadIdeal := Cert.HeadIdeal.Gen.facts)
    (hHeadRefIdeal := Cert.HeadRefIdeal.Gen.facts) (hPre_head_finite := Cert.Pre_head_finite.Gen.facts) := by
  intro m g m' g' hp ha
  have K := fun c => holds m c hp
  refine ⟨fun c _ => (((args m c).loss : ℝ) : EReal), fun c i => (((args m c).dh1 (i 0) (i 1) : ℝ) : EReal),
    fun c i => (((args m c).dcat (i 0) (i 1) : ℝ) : EReal), fun c i => (((args m c).dwo (i 0) (i 1) : ℝ) : EReal),
    fun c i => (((args m c).dgp (i 1) : ℝ) : EReal), fun c i => (((args m c).dwp (i 1) (HeadPay.col (i 0) (i 2)) : ℝ) : EReal),
    fun c i => (((args m c).dge (i 1) : ℝ) : EReal), fun c i => (((args m c).dwg (i 0) (i 1) : ℝ) : EReal), ?_, ?_⟩
  · refine (θ_run _ _ _).mono (fun r h c => ?_) (Cert.HeadIdeal.Value.run_blocks m g)
    obtain ⟨h0, h1, h2, h3, h4, h5, h6, h7, hk⟩ := h c
    exact ⟨h0.trans (HeadKernel.out9 (K c)), h1.trans (HeadKernel.out10 (K c)), h2.trans (HeadKernel.out11 (K c)),
      h3.trans (HeadKernel.out12 (K c)), h4.trans (HeadKernel.out13 (K c)), h5.trans (HeadKernel.out14 (K c)),
      h6.trans (HeadKernel.out15 (K c)), h7.trans (HeadKernel.out16 (K c)), hk⟩
  · refine (θ_run _ _ _).mono (fun r h c => ?_) (Cert.HeadRefIdeal.Value.run m' g')
    obtain ⟨h0, h1, h2, h3, h4, h5, h6, h7, hk⟩ := h c
    obtain ⟨a0, a1, a2, a3, a4, a5, a6, a7, a8⟩ := ha c
    have H : HeadRefValue.Holds (args m c) (m' ((c : Thread Cert.HeadRefIdeal.nD Cert.HeadRefIdeal.τ).loc Cert.HeadRefIdeal.main_arg0)) (m' ((c : Thread Cert.HeadRefIdeal.nD Cert.HeadRefIdeal.τ).loc Cert.HeadRefIdeal.main_arg1)) (m' ((c : Thread Cert.HeadRefIdeal.nD Cert.HeadRefIdeal.τ).loc Cert.HeadRefIdeal.main_arg2)) (m' ((c : Thread Cert.HeadRefIdeal.nD Cert.HeadRefIdeal.τ).loc Cert.HeadRefIdeal.main_arg3)) (m' ((c : Thread Cert.HeadRefIdeal.nD Cert.HeadRefIdeal.τ).loc Cert.HeadRefIdeal.main_arg4)) (m' ((c : Thread Cert.HeadRefIdeal.nD Cert.HeadRefIdeal.τ).loc Cert.HeadRefIdeal.main_arg5)) (m' ((c : Thread Cert.HeadRefIdeal.nD Cert.HeadRefIdeal.τ).loc Cert.HeadRefIdeal.main_arg6)) (m' ((c : Thread Cert.HeadRefIdeal.nD Cert.HeadRefIdeal.τ).loc Cert.HeadRefIdeal.main_arg7)) (m' ((c : Thread Cert.HeadRefIdeal.nD Cert.HeadRefIdeal.τ).loc Cert.HeadRefIdeal.main_arg8)) := by
      rw [a0, a1, a2, a3, a4, a5, a6, a7, a8]; exact K c
    refine ⟨h0.trans ?_, h1.trans ?_, h2.trans ?_, h3.trans ?_, h4.trans ?_, h5.trans ?_, h6.trans ?_, h7.trans ?_, hk⟩
    · rw [Cert.HeadRefIdeal.Read.val_main_v110_eq]; exact funext (HeadRefValue.loss H)
    · rw [Cert.HeadRefIdeal.Read.val_main_v66_eq]; exact funext (HeadRefValue.dh1 H)
    · rw [Cert.HeadRefIdeal.Read.val_main_v109_eq]; exact funext (HeadRefValue.dcat H)
    · rw [Cert.HeadRefIdeal.Read.val_main_v108_eq]; exact funext (HeadRefValue.dwo H)
    · rw [Cert.HeadRefIdeal.Read.val_main_v90_eq]; exact funext (HeadRefValue.dgp H)
    · rw [Cert.HeadRefIdeal.Read.val_main_v119_eq]; exact funext fun i => HeadRefValue.dwp_shards H i _ rfl
    · rw [Cert.HeadRefIdeal.Read.val_main_v69_eq]; exact funext (HeadRefValue.dge H)
    · rw [Cert.HeadRefIdeal.Read.val_main_v64_eq]; exact funext (HeadRefValue.dwg H)

end Cert.HeadClaims

end
-- ==== Proof.BranchSpec.lean ====
module

public import proofs.«01_k».proof.Proof.Norm

/-! The gradient of the two branches of the mixing layer over the reals, written out: a gated unit behind a state-space output `y`,
    each of whose channels is a GELU times a logistic gate, times a SiLU of `z`; and an attention output `a` times a SiLU of `q`. -/

@[expose] public section

noncomputable section

namespace Cert.BranchSpec

open Cert.Up

/-- The single-precision word of the root of `2 / π`. -/
def gc : ℝ := (Idealize.ShloMosaic.Ideal.ofBits .f32 0x3F4C422A#32).toReal

theorem word_gc : Idealize.ShloMosaic.Ideal.ofBits .f32 0x3F4C422A#32 = ((gc : ℝ) : EReal) := by
  simp [gc, Idealize.ShloMosaic.Ideal.ofBits, Idealize.ShloMosaic.Ideal.ieee, -EReal.coe_mul]

/-- The hyperbolic tangent inside the GELU. -/
def th (y : ℝ) : ℝ := Real.tanh (gc * (y + 8943 / 200000 * (y * y * y)))

/-- The GELU, in its tanh form. -/
def gelu (y : ℝ) : ℝ := y * (1 / 2 * (1 + th y))

/-- The derivative of the GELU. -/
def geluGrad (y : ℝ) : ℝ := 1 / 2 * (1 + th y) + 1 / 2 * y * (1 - th y * th y) * (gc * (1 + 26829 / 200000 * (y * y)))

/-- The logistic function. -/
def sig (x : ℝ) : ℝ := 1 / (1 + Real.exp (-x))

/-- The derivative of `x · sig x`. -/
def siluGrad (x : ℝ) : ℝ := sig x * (1 + x * (1 - sig x))

/-- The arguments: the state-space output and its gate, the attention output and its gate, the gated unit's matrix and bias, and the
    gradient of the two branches side by side. -/
structure Args where
  y : Fin 8192 → Fin 512 → ℝ
  z : Fin 8192 → Fin 512 → ℝ
  a : Fin 8192 → Fin 512 → ℝ
  q : Fin 8192 → Fin 512 → ℝ
  w : Fin 512 → Fin 512 → ℝ
  b : Fin 512 → ℝ
  ct : Fin 8192 → Fin 1024 → ℝ

namespace Args

variable (A : Args)

/-- The GELU of the state-space output. -/
def g (r : Fin 8192) (k : Fin 512) : ℝ := gelu (A.y r k)

/-- The gated unit's logistic gate. -/
def s (r : Fin 8192) (n : Fin 512) : ℝ := sig (∑ k, A.g r k * A.w k n + A.b n)

/-- The gradient of the first branch. -/
def c1 (r : Fin 8192) (n : Fin 512) : ℝ := A.ct r ⟨n.val, by omega⟩

/-- The gradient of the second branch. -/
def c2 (r : Fin 8192) (n : Fin 512) : ℝ := A.ct r ⟨512 + n.val, by omega⟩

/-- The gradient of the gated unit's result. -/
def d2 (r : Fin 8192) (n : Fin 512) : ℝ := A.c1 r n * (A.z r n * sig (A.z r n))

/-- The gradient of the gate's logits. -/
def dl (r : Fin 8192) (n : Fin 512) : ℝ := A.d2 r n * A.g r n * (A.s r n * (1 - A.s r n))

/-- The gradient of the GELU. -/
def dg (r : Fin 8192) (k : Fin 512) : ℝ := A.d2 r k * A.s r k + ∑ n, A.dl r n * A.w k n

/-- The gradient of the state-space output. -/
def dy (r : Fin 8192) (k : Fin 512) : ℝ := A.dg r k * geluGrad (A.y r k)

/-- The gradient of its gate. -/
def dz (r : Fin 8192) (n : Fin 512) : ℝ := A.c1 r n * (A.g r n * A.s r n) * siluGrad (A.z r n)

/-- The gradient of the attention output. -/
def da (r : Fin 8192) (n : Fin 512) : ℝ := A.c2 r n * (A.q r n * sig (A.q r n))

/-- The gradient of its gate. -/
def dq (r : Fin 8192) (n : Fin 512) : ℝ := A.c2 r n * A.a r n * siluGrad (A.q r n)

/-- The gradient of the gated unit's matrix. -/
def dw (k n : Fin 512) : ℝ := ∑ r, A.g r k * A.dl r n

/-- The gradient of the gated unit's bias. -/
def db (n : Fin 512) : ℝ := ∑ r, A.dl r n

end Args

end Cert.BranchSpec
-- ==== Proof.BranchPay.lean ====
module

public import proofs.«01_k».proof.Proof.BranchSpec
public import proofs.«01_k».proof.Proof.Norm
public import proofs.«01_k».proof.Proof.Gen.BranchIdeal.Skeleton
public import Idealize.ShloMosaic.Lib.Pointwise

/-! One tile of the kernel's branch gradient, over the reals: each value that the body makes from a tile of 512 rows is the real
    function of BranchSpec at the rows `ρ a` of the tile. -/

@[expose] public section

set_option maxRecDepth 16384

noncomputable section

namespace Cert.BranchPay

open Cert.BranchIdeal Cert.BranchIdeal.Gen Idealize.ShloMosaic Cert.Up Cert.BranchSpec

variable {A : Args} {ρ : Fin 512 → Fin 8192}

/-- The square array holds the real function `f` of row and column. -/
abbrev Is (v : S512x512.Idx → EReal) (f : Fin 512 → Fin 512 → ℝ) : Prop := ∀ i : S512x512.Idx, v i = ((f (i 0) (i 1) : ℝ) : EReal)
/-- The row holds the real vector `f`. -/
abbrev IsV (v : S1x512.Idx → EReal) (f : Fin 512 → ℝ) : Prop := ∀ i : S1x512.Idx, v i = ((f (i 1) : ℝ) : EReal)
/-- Column `n` of plane `s`, of the 512 columns. -/
def col (s : Fin 4) (n : Fin 128) : Fin 512 := ⟨128 * s.val + n.val, by omega⟩
/-- The plane holds columns `128 s …` of the real function `f`. -/
abbrev IsP (s : Fin 4) (v : S1x512x128.Idx → EReal) (f : Fin 512 → Fin 512 → ℝ) : Prop :=
  ∀ i : S1x512x128.Idx, v i = ((f (i 1) (col s (i 2)) : ℝ) : EReal)

/-- The name's value is the exact one. -/
theorem cubic : (Named.named κ "gelu_cubic" 0x3D372713#32 : Ideal .f32) = ((8943 / 200000 : ℝ) : EReal) := rfl
theorem cubic3 : (Named.named κ "gelu_cubic3" 0x3E095D4F#32 : Ideal .f32) = ((26829 / 200000 : ℝ) : EReal) := rfl

/-- Four planes side by side. -/
theorem ys {f : Fin 512 → Fin 512 → ℝ} {p0 p1 p2 p3 : S1x512x128.Idx → EReal} (h0 : IsP 0 p0 f) (h1 : IsP 1 p1 f) (h2 : IsP 2 p2 f) (h3 : IsP 3 p3 f) :
    Is (k0_pay81 (F := Ideal) (k0_pay80 p0) p1 p2 p3) f := fun i => by
  have key : ∀ (s : Fin 4) (b : Fin 128), (i 1).val = 128 * s.val + b.val → f (i 0) (col s b) = f (i 0) (i 1) := fun s b e => by
    have : col s b = i 1 := Fin.ext e.symm
    rw [this]
  unfold k0_pay81 k0_pay80
  pointwise [h0, h1, h2, h3]
  have hi : (i 1).val < 512 := (i 1).isLt
  by_cases c0 : (i 1).val < 128
  · rw [dif_pos c0]; exact congrArg _ (key 0 ⟨(i 1).val, c0⟩ (by simp))
  rw [dif_neg c0]
  by_cases c1 : (i 1).val - 128 < 128
  · rw [dif_pos c1]; exact congrArg _ (key 1 ⟨(i 1).val - 128, c1⟩ (by show (i 1).val = 128 * 1 + ((i 1).val - 128); omega))
  rw [dif_neg c1]
  by_cases c2 : (i 1).val - 128 - 128 < 128
  · rw [dif_pos c2]; exact congrArg _ (key 2 ⟨(i 1).val - 128 - 128, c2⟩ (by show (i 1).val = 128 * 2 + ((i 1).val - 128 - 128); omega))
  rw [dif_neg c2]
  exact congrArg _ (key 3 ⟨(i 1).val - 128 - 128 - 128, by omega⟩ (by show (i 1).val = 128 * 3 + ((i 1).val - 128 - 128 - 128); omega))

section Gelu
variable {p0 : S512x128.Idx → EReal} {p1 p2 p3 : S1x512x128.Idx → EReal} (hy : Is (k0_pay81 (F := Ideal) p0 p1 p2 p3) fun a => A.y (ρ a))
include hy

theorem tanhV : Is (k0_pay84 (F := Ideal) p0 p1 p2 p3) fun a k => th (A.y (ρ a) k) := fun i => by
  unfold k0_pay84
  pointwise [hy, cubic, word_gc, ← EReal.coe_mul, ← EReal.coe_add, Ideal.tanh_coe]; rfl

theorem g : Is (k0_pay85 (F := Ideal) p0 p1 p2 p3) fun a => A.g (ρ a) := fun i => by
  unfold k0_pay85
  pointwise [hy, tanhV hy, word_half, word_1, ← EReal.coe_mul, ← EReal.coe_add]
  refine congrArg _ ?_
  simp only [Args.g, gelu]; ring

theorem neg_logit {w : S512x512.Idx → EReal} {b : S1x512.Idx → EReal} (hw : Is w A.w) (hb : IsV b A.b) :
    Is (k0_pay86 (F := Ideal) p0 p1 p2 p3 w b) fun a n => -(∑ k, A.g (ρ a) k * A.w k n + A.b n) := fun i => by
  unfold k0_pay86 k0_pay83
  pointwise [g hy, hw, hb, word_0, ← EReal.coe_mul, sum_up, ← EReal.coe_add, ← EReal.coe_sub]
  exact congrArg _ (zero_sub _)

end Gelu

theorem s {v : S512x512.Idx → EReal} (h : Is v fun a n => -(∑ k, A.g (ρ a) k * A.w k n + A.b n)) : Is (k0_pay87 (F := Ideal) v) fun a => A.s (ρ a) := fun i => by
  unfold k0_pay87
  pointwise [h, word_1, Ideal.exp_coe, ← EReal.coe_add, div_up _ (one_add_exp_ne _)]; rfl

theorem sigV {f : Fin 512 → Fin 512 → ℝ} {v : S512x512.Idx → EReal} (h : Is v f) : Is (k0_pay88 (F := Ideal) v) fun a n => sig (f a n) := fun i => by
  unfold k0_pay88
  pointwise [h, word_0, word_1, ← EReal.coe_sub, Ideal.exp_coe, ← EReal.coe_add, div_up _ (one_add_exp_ne _)]
  refine congrArg _ ?_
  rw [zero_sub]; rfl

theorem sigV' {f : Fin 512 → Fin 512 → ℝ} {v : S512x512.Idx → EReal} (h : Is v f) : Is (k0_pay89 (F := Ideal) v) fun a n => sig (f a n) := sigV h

section First
variable {z l c g : S512x512.Idx → EReal} (hz : Is z fun a => A.z (ρ a)) (hg : Is g fun a => A.g (ρ a)) (hl : Is l fun a n => -(∑ k, A.g (ρ a) k * A.w k n + A.b n))
  (hc : Is c fun a => A.c1 (ρ a))
include hz hc

theorem d2 : Is (k0_pay92 (F := Ideal) z c) fun a => A.d2 (ρ a) := fun i => by
  unfold k0_pay92; pointwise [hz, hc, sigV hz, ← EReal.coe_mul]; rfl

include hl

theorem ds : Is (k0_pay95 (F := Ideal) z l c) fun a n => A.d2 (ρ a) n * A.s (ρ a) n := fun i => by
  unfold k0_pay95; pointwise [d2 hz hc, s hl, ← EReal.coe_mul]

include hg

theorem dz : Is (k0_pay91 (F := Ideal) z g l c) fun a => A.dz (ρ a) := fun i => by
  unfold k0_pay91; pointwise [hz, hg, hc, s hl, sigV hz, word_1, ← EReal.coe_mul, ← EReal.coe_sub, ← EReal.coe_add]; rfl

theorem dl : Is (k0_pay93 (F := Ideal) z g l c) fun a => A.dl (ρ a) := fun i => by
  unfold k0_pay93; pointwise [hg, d2 hz hc, s hl, word_1, ← EReal.coe_mul, ← EReal.coe_sub]
  refine congrArg _ ?_
  simp only [Args.dl]; ring

theorem dl_cast : Is (k0_pay94 (F := Ideal) z g l c) fun a => A.dl (ρ a) := dl hz hg hl hc

end First

/-- The matrix gradient after the tile: what was there, and the tile's rows. -/
theorem dw {g d : S512x512.Idx → EReal} (hg : Is g fun a => A.g (ρ a)) (hd : Is d fun a => A.dl (ρ a)) (w : S512x512.Idx → EReal) (i : S512x512.Idx) :
    k0_pay96 (F := Ideal) g d w i = w i + ∑ a : Fin 512, ((A.g (ρ a) (i 0) * A.dl (ρ a) (i 1) : ℝ) : EReal) := by
  unfold k0_pay96; pointwise [hg, hd, ← EReal.coe_mul]

/-- The bias gradient after the tile: what was there, and the tile's rows. -/
theorem db {d : S512x512.Idx → EReal} (hd : Is d fun a => A.dl (ρ a)) (w : S1x512.Idx → EReal) (i : S1x512.Idx) :
    k0_pay97 (F := Ideal) d w i = w i + ∑ a : Fin 512, ((A.dl (ρ a) (i 1) : ℝ) : EReal) := by
  unfold k0_pay97; pointwise [hd]

theorem dy {y w t d e : S512x512.Idx → EReal} (hy : Is y fun a => A.y (ρ a)) (hw : Is w A.w) (ht : Is t fun a k => th (A.y (ρ a) k))
    (hd : Is d fun a => A.dl (ρ a)) (he : Is e fun a n => A.d2 (ρ a) n * A.s (ρ a) n) :
    Is (k0_pay98 (F := Ideal) y w t d e) fun a => A.dy (ρ a) := fun i => by
  unfold k0_pay98
  pointwise [hy, hw, ht, hd, he, cubic3, word_gc, word_half, word_1, ← EReal.coe_mul, sum_up, ← EReal.coe_add, ← EReal.coe_sub]
  refine congrArg _ ?_
  simp only [Args.dy, Args.dg, geluGrad]; ring

section Second
variable {q a c : S512x512.Idx → EReal} (hq : Is q fun a => A.q (ρ a)) (hc : Is c fun a => A.c2 (ρ a))
include hq hc

theorem da : Is (k0_pay177 (F := Ideal) (k0_pay90 q) c) fun a => A.da (ρ a) := fun i => by
  unfold k0_pay177 k0_pay90; pointwise [hq, hc, sigV' hq, ← EReal.coe_mul]; rfl

theorem da_t (i : S512x512.Idx) : k0_pay178 (F := Ideal) (k0_pay90 q) c i = ((A.da (ρ (i 1)) (i 0) : ℝ) : EReal) := by
  unfold k0_pay178; pointwise [da hq hc]

theorem da_cast : Is (k0_pay179 (F := Ideal) (k0_pay90 q) c) fun a => A.da (ρ a) := da hq hc

theorem dq (ha : ∀ i : S512x512.Idx, a i = ((A.a (ρ (i 1)) (i 0) : ℝ) : EReal)) :
    Is (k0_pay1 (F := Ideal) q (k0_pay89 q) (k0_pay180 (k0_pay82 a) c)) fun a => A.dq (ρ a) := fun i => by
  unfold k0_pay1 k0_pay180 k0_pay82
  pointwise [hq, hc, ha, sigV' hq, word_1, ← EReal.coe_mul, ← EReal.coe_sub, ← EReal.coe_add]; rfl

end Second

end Cert.BranchPay

end

end
-- ==== Proof.BranchScratch.lean ====
module

public import proofs.«01_k».proof.Proof.BranchPay
public import Idealize.ShloMosaic.Lib.Pipeline.ValueKit
public import Idealize.ShloMosaic.Lib.Pipeline.ReadBack

/-! The scratch through which a tile's rows are unpacked from chunks and packed into them again. Row `16 a + h` of plane `b` lies, packed,
    in row `a` at columns `128 h …`: the body writes the scratch with a row stride of sixteen and reads whole planes, or the other way round. -/

@[expose] public section

set_option maxRecDepth 16384

noncomputable section

namespace Cert.BranchScratch

open Cert.BranchIdeal Cert.BranchIdeal.Gen Idealize.ShloMosaic Idealize.ShloMosaic.TcCoe Idealize.ShloMosaic.Tactic Idealize.SL Idealize.SL.Sem

/-- The rows `h`, `16 + h`, `32 + h`, … of plane `b` of the scratch. -/
abbrev rows (b h : Nat) (hb : b < 4) (hh : h < 16) : Rect S4x512x128 where
  off := ![b, h, 0]
  size := ![1, 32, 128]
  stride := ![1, 16, 1]
  inb := fun a => by fin_cases a <;> right <;> simp <;> omega
  stride_pos := fun a => by fin_cases a <;> simp

theorem chunk_inb (b h : Nat) (hb : b < 4) (hh : h < 16) : ∀ a : Fin S4x32x2048.rank, ![b, 0, 128 * h] a + ![1, 32, 128] a ≤ S4x32x2048.size a := fun a => by
  fin_cases a <;> simp <;> omega

/-- Columns `128 h …` of plane `b`, packed. -/
abbrev chunk (b h : Nat) (hb : b < 4) (hh : h < 16) : Rect S4x32x2048 := Rect.unit ![b, 0, 128 * h] ![1, 32, 128] (chunk_inb b h hb hh)

/-- The unpacked rows. -/
def unpack (x : S4x32x2048.Idx → EReal) (j : S4x512x128.Idx) : EReal :=
  x (ix3 (j 0) ⟨(j 1).val / 16, by have := (j 1).isLt; change (j 1).val < 512 at this; omega⟩
    ⟨128 * ((j 1).val % 16) + (j 2).val, by have := (j 2).isLt; change (j 2).val < 128 at this; omega⟩)

theorem unpack_ix3 (x : S4x32x2048.Idx → EReal) (s : Fin 4) (a : Fin 512) (n : Fin 128) :
    unpack x (ix3 s a n) = x (ix3 s ⟨a.val / 16, by omega⟩ ⟨128 * (a.val % 16) + n.val, by omega⟩) := rfl

theorem ix3_ext {n0 n1 n2 : Nat} {j j' : (⟨3, ![n0, n1, n2]⟩ : Shape).Idx} (h0 : (j 0).val = (j' 0).val) (h1 : (j 1).val = (j' 1).val) (h2 : (j 2).val = (j' 2).val) : j = j' := by
  funext a; fin_cases a
  · exact Fin.ext h0
  · exact Fin.ext h1
  · exact Fin.ext h2

theorem ix2_ext {n0 n1 : Nat} {j j' : (⟨2, ![n0, n1]⟩ : Shape).Idx} (h0 : (j 0).val = (j' 0).val) (h1 : (j 1).val = (j' 1).val) : j = j' := by
  funext a; fin_cases a
  · exact Fin.ext h0
  · exact Fin.ext h1

/-- The chunk as the body stores it into the scratch. -/
def stored (x : S4x32x2048.Idx → EReal) (b h : Nat) (hb : b < 4) (hh : h < 16) : (rows b h hb hh).shape.Idx → EReal :=
  shapeCast S1x32x128 (shapeCast S32x128 (View.ld (Val := Elt Ideal) (e' := .f32) x (chunk b h hb hh)) shapeCasts_S1x32x128_S32x128) shapeCasts_S32x128_S1x32x128

theorem stored_apply (x : S4x32x2048.Idx → EReal) (b h : Nat) (hb : b < 4) (hh : h < 16) (i : S1x32x128.Idx) :
    stored x b h hb hh i = unpack x ((rows b h hb hh).emb i) := by
  have i0 := (i 0).isLt; change (i 0).val < 1 at i0
  have i1 := (i 1).isLt; change (i 1).val < 32 at i1
  have i2 := (i 2).isLt; change (i 2).val < 128 at i2
  unfold stored
  pointwise [View.ld_apply]
  unfold unpack
  have e0 : (((rows b h hb hh).emb i) 0).val = b + 1 * (i 0).val := rfl
  have e1 : (((rows b h hb hh).emb i) 1).val = h + 16 * (i 1).val := rfl
  have e2 : (((rows b h hb hh).emb i) 2).val = 0 + 1 * (i 2).val := rfl
  refine congrArg x (ix3_ext ?_ ?_ ?_)
  all_goals simp [e0, e1, e2, -Rect.emb_apply]
  all_goals omega

/-- The scratch after the sixty-four chunks of a tile, the last first. -/
def pieces (x : S4x32x2048.Idx → EReal) : List (View.Piece (Elt Ideal) S4x512x128 .f32) :=
  (List.range 64).map fun n => ⟨rows (3 - n / 16) (15 - n % 16) (by omega) (by omega), stored x (3 - n / 16) (15 - n % 16) (by omega) (by omega)⟩

theorem pieces_canon (x : S4x32x2048.Idx → EReal) : View.canon (pieces x) = unpack x := funext fun y => by
  have y0 := (y 0).isLt; change (y 0).val < 4 at y0
  have y1 := (y 1).isLt; change (y 1).val < 512 at y1
  have y2 := (y 2).isLt; change (y 2).val < 128 at y2
  refine View.canon_apply_of_pieces (unpack x) (pieces x) ?_ y ?_
  · intro p hp
    obtain ⟨n, _, rfl⟩ := List.mem_map.mp hp
    exact fun i => stored_apply x _ _ _ _ i
  · refine ⟨_, List.mem_map.mpr ⟨16 * (3 - (y 0).val) + (15 - (y 1).val % 16), List.mem_range.mpr (by omega), rfl⟩, ?_⟩
    refine (LoadRect.mem_set _).mpr fun a => ?_
    fin_cases a
    · exact ⟨0, by simp, by simp; omega⟩
    · exact ⟨(y 1).val / 16, by simp; omega, by simp; omega⟩
    · exact ⟨(y 2).val, by simp; omega, by simp⟩

/-- A whole plane read back from the unpacked scratch. -/
theorem read_plane {σ : RefSig} (v : View σ .tc .vmem S4x512x128 .f32) (x : S4x32x2048.Idx → EReal) (s : Fin 4)
    (inb : ∀ a : Fin S4x512x128.rank, ![s.val, 0, 0] a + ![1, 512, 128] a ≤ S4x512x128.size a) (i : S1x512x128.Idx) :
    v.readCov (Val := Elt Ideal) (pieces x) (Rect.unit (s := S4x512x128) ![s.val, 0, 0] ![1, 512, 128] inb).toLoadRect i = unpack x (ix3 s (i 1) (i 2)) := by
  have i0 := (i 0).isLt; change (i 0).val < 1 at i0
  rw [View.readCov_eq_canon', pieces_canon]
  refine congrArg (unpack x) (ix3_ext ?_ ?_ ?_)
  all_goals simp
  all_goals omega

/-- The rows `h`, `16 + h`, … of the plane stored last. -/
theorem read_rows {σ : RefSig} (v : View σ .tc .vmem S4x512x128 .f32) (L : List (View.Piece (Elt Ideal) S4x512x128 .f32)) (p : S1x512x128.Idx → EReal) (b h : Nat) (hb : b < 4) (hh : h < 16)
    (inb : ∀ a : Fin S4x512x128.rank, ![b, 0, 0] a + ![1, 512, 128] a ≤ S4x512x128.size a) (i : S1x32x128.Idx) :
    v.readCov (Val := Elt Ideal) (⟨Rect.unit ![b, 0, 0] ![1, 512, 128] inb, p⟩ :: L) (rows b h hb hh).toLoadRect i
      = p (ix3 0 ⟨16 * (i 1).val + h, by have := (i 1).isLt; change (i 1).val < 32 at this; omega⟩ (i 2)) := by
  have i0 := (i 0).isLt; change (i 0).val < 1 at i0
  have i1 := (i 1).isLt; change (i 1).val < 32 at i1
  rw [View.readCov_eq_canon']
  have e : (rows b h hb hh).toLoadRect.idx i
      = (Rect.unit (s := S4x512x128) ![b, 0, 0] ![1, 512, 128] inb).emb (ix3 (0 : Fin 1) (⟨16 * (i 1).val + h, by omega⟩ : Fin 512) (i 2)) :=
    ix3_ext (by simp) (by simp; omega) (by simp)
  show View.canon _ ((rows b h hb hh).toLoadRect.idx i) = _
  rw [e, View.canon_cons_emb]

end Cert.BranchScratch

end

end
-- ==== Proof.BranchRefValue.lean ====
module

public import proofs.«01_k».proof.Proof.BranchSpec
public import proofs.«01_k».proof.Proof.Gen.BranchRefIdeal.Read

/-! What the reference of the branches computes, of finite arguments: every gradient is the real function of BranchSpec. -/

@[expose] public section

set_option maxRecDepth 16384

noncomputable section

namespace Cert.BranchRefValue

open Cert.BranchRefIdeal Cert.BranchRefIdeal.Read Idealize.ShloMosaic Cert.Up Cert.BranchSpec

/-- The arrays hold the real arguments. -/
structure Holds (A : Args) (x0 x1 x2 x3 : S8192x512.Idx → EReal) (x4 : S512x512.Idx → EReal) (x5 : S512.Idx → EReal)
    (x6 : S8192x1024.Idx → EReal) : Prop where
  y : ∀ i, x0 i = ((A.y (i 0) (i 1) : ℝ) : EReal)
  z : ∀ i, x1 i = ((A.z (i 0) (i 1) : ℝ) : EReal)
  a : ∀ i, x2 i = ((A.a (i 0) (i 1) : ℝ) : EReal)
  q : ∀ i, x3 i = ((A.q (i 0) (i 1) : ℝ) : EReal)
  w : ∀ i, x4 i = ((A.w (i 0) (i 1) : ℝ) : EReal)
  b : ∀ i, x5 i = ((A.b (i 0) : ℝ) : EReal)
  ct : ∀ i, x6 i = ((A.ct (i 0) (i 1) : ℝ) : EReal)

theorem word_44715 : Ideal.ofBits .f32 0x472EAB00#32 = ((44715 : ℝ) : EReal) := by
  simp [Ideal.ofBits, Ideal.ieee, -EReal.coe_mul]; norm_num
theorem word_million : Ideal.ofBits .f32 0x49742400#32 = ((1000000 : ℝ) : EReal) := by
  simp [Ideal.ofBits, Ideal.ieee, -EReal.coe_mul]; norm_num
theorem word_3 : Ideal.ofBits .f32 0x40400000#32 = ((3 : ℝ) : EReal) := by
  simp [Ideal.ofBits, Ideal.ieee, -EReal.coe_mul]; norm_num

/-- The coefficient of the cube. -/
theorem cubic (i : S_.Idx) : val_main_v6 (F := Ideal) i = ((8943 / 200000 : ℝ) : EReal) := by
  simp only [val_main_v6_apply, val_main_v0_apply, val_main_cst_apply, val_main_cst_0_apply, Ideal.hostDivf_def, Ideal.ofBits_def, word_44715, word_million,
    div_up _ (show (1000000 : ℝ) ≠ 0 by norm_num)]
  congr 1; norm_num

variable {A : Args} {x0 x1 x2 x3 : S8192x512.Idx → EReal} {x4 : S512x512.Idx → EReal} {x5 : S512.Idx → EReal}
  {x6 : S8192x1024.Idx → EReal} (H : Holds A x0 x1 x2 x3 x4 x5 x6)
include H

theorem th (i : S8192x512.Idx) : val_main_v12 (F := Ideal) x0 i = ((BranchSpec.th (A.y (i 0) (i 1)) : ℝ) : EReal) := by
  simp only [val_main_v12_apply, val_main_v11_apply, val_main_v10_apply, val_main_cst_2_apply, val_main_v9_apply, val_main_v8_apply, val_main_v7_apply,
    val_main_v2_apply, val_main_v1_apply, cubic, H.y, Ideal.addf_def, Ideal.mulf_def, Ideal.ofBits_def, word_gc, ← EReal.coe_mul, ← EReal.coe_add]
  rfl

theorem half_one_th (i : S8192x512.Idx) : val_main_v21 (F := Ideal) x0 i = ((1 / 2 * (1 + BranchSpec.th (A.y (i 0) (i 1))) : ℝ) : EReal) := by
  simp only [val_main_v21_apply, val_main_v20_apply, val_main_v19_apply, val_main_v18_apply, val_main_cst_6_apply, val_main_cst_5_apply, th H, Ideal.addf_def,
    Ideal.mulf_def, Ideal.ofBits_def, word_half, word_1, ← EReal.coe_mul, ← EReal.coe_add]

theorem g (i : S8192x512.Idx) : val_main_v22 (F := Ideal) x0 i = ((A.g (i 0) (i 1) : ℝ) : EReal) := by
  simp only [val_main_v22_apply, half_one_th H, H.y, Ideal.mulf_def, ← EReal.coe_mul]; rfl

theorem lin (i : S8192x512.Idx) : val_main_v26 (F := Ideal) x0 x4 x5 i = ((∑ k, A.g (i 0) k * A.w k (i 1) + A.b (i 1) : ℝ) : EReal) := by
  simp only [val_main_v26_apply, val_main_v23_apply, val_main_v25_apply, val_main_v24_apply, g H, H.w, H.b, Ideal.addf_def, ← EReal.coe_mul, sum_up,
    ← EReal.coe_add]
  rfl

theorem exp_lin (i : S8192x512.Idx) : val_main_v28 (F := Ideal) x0 x4 x5 i
    = ((Real.exp (-(∑ k, A.g (i 0) k * A.w k (i 1) + A.b (i 1))) : ℝ) : EReal) := by
  rw [val_main_v28_apply, val_main_v27_apply, lin H]; exact Ideal.exp_coe _

theorem s (i : S8192x512.Idx) : val_main_v32 (F := Ideal) x0 x4 x5 i = ((A.s (i 0) (i 1) : ℝ) : EReal) := by
  simp only [val_main_v32_apply, val_main_v31_apply, val_main_v30_apply, val_main_v29_apply, val_main_cst_7_apply, val_main_cst_8_apply, exp_lin H,
    Ideal.addf_def, Ideal.hostDivf_def, Ideal.ofBits_def, word_1, ← EReal.coe_add, div_up _ (one_add_exp_ne _)]
  rfl

theorem exp_z (i : S8192x512.Idx) : val_main_call0_v1 (F := Ideal) x1 i = ((Real.exp (-A.z (i 0) (i 1)) : ℝ) : EReal) := by
  rw [val_main_call0_v1_apply, val_main_call0_v0_apply, H.z]; exact Ideal.exp_coe _

theorem sz (i : S8192x512.Idx) : val_main_v37_2 (F := Ideal) x1 i = ((sig (A.z (i 0) (i 1)) : ℝ) : EReal) := by
  simp only [val_main_v37_2_apply, val_main_call0_v4_apply, val_main_call0_v3_apply, val_main_call0_v2_apply, val_main_call0_cst_apply,
    val_main_call0_cst_0_apply, exp_z H, Ideal.addf_def, Ideal.hostDivf_def, Ideal.ofBits_def, word_1, ← EReal.coe_add, div_up _ (one_add_exp_ne _)]
  rfl

theorem exp_q (i : S8192x512.Idx) : val_main_call1_v1 (F := Ideal) x3 i = ((Real.exp (-A.q (i 0) (i 1)) : ℝ) : EReal) := by
  rw [val_main_call1_v1_apply, val_main_call1_v0_apply, H.q]; exact Ideal.exp_coe _

theorem sq (i : S8192x512.Idx) : val_main_v39_2 (F := Ideal) x3 i = ((sig (A.q (i 0) (i 1)) : ℝ) : EReal) := by
  simp only [val_main_v39_2_apply, val_main_call1_v4_apply, val_main_call1_v3_apply, val_main_call1_v2_apply, val_main_call1_cst_apply,
    val_main_call1_cst_0_apply, exp_q H, Ideal.addf_def, Ideal.hostDivf_def, Ideal.ofBits_def, word_1, ← EReal.coe_add, div_up _ (one_add_exp_ne _)]
  rfl

theorem c1 (i : S8192x512.Idx) : val_main_v42 (F := Ideal) x6 i = ((A.c1 (i 0) (i 1) : ℝ) : EReal) := by
  rw [val_main_v42_apply, H.ct]; unfold Args.c1
  exact congrArg _ (congrArg₂ A.ct (Fin.ext (by simp)) (Fin.ext (by simp)))

theorem c2 (i : S8192x512.Idx) : val_main_v43 (F := Ideal) x6 i = ((A.c2 (i 0) (i 1) : ℝ) : EReal) := by
  rw [val_main_v43_apply, H.ct]; unfold Args.c2
  exact congrArg _ (congrArg₂ A.ct (Fin.ext (by simp)) (Fin.ext (by simp)))

theorem d2 (i : S8192x512.Idx) : val_main_v48 (F := Ideal) x1 x6 i = ((A.d2 (i 0) (i 1) : ℝ) : EReal) := by
  simp only [val_main_v48_apply, val_main_v37_0_apply, c1 H, sz H, H.z, Ideal.mulf_def, ← EReal.coe_mul]; rfl

theorem dl (i : S8192x512.Idx) : val_main_v52 (F := Ideal) x0 x1 x4 x5 x6 i = ((A.dl (i 0) (i 1) : ℝ) : EReal) := by
  simp only [val_main_v52_apply, val_main_v50_apply, val_main_v35_apply, val_main_v34_apply, val_main_v33_apply, val_main_cst_9_apply, g H, d2 H, s H,
    Ideal.mulf_def, Ideal.subf_def, Ideal.ofBits_def, word_1, ← EReal.coe_mul, ← EReal.coe_sub]
  congr 1; unfold Args.dl; ring

theorem dg (i : S8192x512.Idx) : val_main_v59 (F := Ideal) x0 x1 x4 x5 x6 i = ((A.dg (i 0) (i 1) : ℝ) : EReal) := by
  simp only [val_main_v59_apply, val_main_v58_apply, val_main_v51_apply, d2 H, s H, dl H, H.w, Ideal.mulf_def, Ideal.addf_def, ← EReal.coe_mul, sum_up,
    ← EReal.coe_add]
  rfl

theorem dy (i : S8192x512.Idx) : val_main_v71 (F := Ideal) x0 x1 x4 x5 x6 i = ((A.dy (i 0) (i 1) : ℝ) : EReal) := by
  simp only [val_main_v71_apply, val_main_v70_apply, val_main_v69_apply, val_main_v68_apply, val_main_v67_apply, val_main_v66_apply, val_main_v65_apply,
    val_main_v64_apply, val_main_v63_apply, val_main_v62_apply, val_main_v61_apply, val_main_v60_apply, val_main_v17_apply, val_main_v16_apply,
    val_main_v15_apply, val_main_v14_apply, val_main_v13_apply, val_main_v5_apply, val_main_v4_apply, val_main_v3_apply, val_main_cst_1_apply,
    val_main_cst_3_apply, val_main_cst_4_apply, val_main_cst_12_apply, val_main_cst_13_apply, cubic, th H, half_one_th H, dg H, H.y, Ideal.mulf_def,
    Ideal.addf_def, Ideal.subf_def, Ideal.ofBits_def, word_1, word_3, word_half, word_gc, ← EReal.coe_mul, ← EReal.coe_add, ← EReal.coe_sub]
  congr 1; unfold Args.dy geluGrad; ring

/-! The results. -/

/-- The state-space output's gradient, sixteen tokens in a row and the channels in four groups first. -/
theorem dy_chunks (i : S4x512x2048.Idx) (r : Fin 8192) (k : Fin 512) (hr : r.val = 16 * (i 1).val + (i 2).val / 128)
    (hk : k.val = 128 * (i 0).val + (i 2).val % 128) : val_main_v75 (F := Ideal) x0 x1 x4 x5 x6 i = ((A.dy r k : ℝ) : EReal) := by
  have h0 : (i 0).val < 4 := (i 0).isLt
  have h1 : (i 1).val < 512 := (i 1).isLt
  have h2 : (i 2).val < 2048 := (i 2).isLt
  have e1 : (((i 0).val * 512 + (i 1).val) * 2048 + (i 2).val) / 2048 % 512 = (i 1).val := by omega
  have e2 : (((i 0).val * 512 + (i 1).val) * 2048 + (i 2).val) / 128 % 16 = (i 2).val / 128 := by omega
  have e3 : (((i 0).val * 512 + (i 1).val) * 2048 + (i 2).val) / 1048576 = (i 0).val := by omega
  have e4 : (((i 0).val * 512 + (i 1).val) * 2048 + (i 2).val) % 128 = (i 2).val % 128 := by omega
  rw [val_main_v75_apply, val_main_v74_apply, val_main_v73_apply, val_main_v72_apply]
  refine (dy H _).trans (congrArg _ (congrArg₂ A.dy (Fin.ext ?_) (Fin.ext ?_)))
  · rw [hr]; simp only [idx_main_v74, idx_main_v73, idx_main_v72]; simp [e1, e2, e3, e4]; omega
  · rw [hk]; simp only [idx_main_v74, idx_main_v73, idx_main_v72]; simp [e1, e2, e3, e4]; omega

theorem dz (i : S8192x512.Idx) : val_main_v76 (F := Ideal) x0 x1 x4 x5 x6 i = ((A.dz (i 0) (i 1) : ℝ) : EReal) := by
  rw [val_main_v76_apply]
  refine (show _ = val_main_v49 (F := Ideal) x0 x1 x4 x5 x6 i from rfl).trans ?_
  simp only [val_main_v49_apply, val_main_call3_v2_apply, val_main_call3_v1_apply, val_main_call3_v0_apply, val_main_v47_apply, val_main_v36_apply,
    val_main_v37_1_apply, val_main_call0_v7_apply, val_main_call0_v6_apply, val_main_call0_cst_1_apply, g H, s H, c1 H, sz H, H.z, Ideal.mulf_def,
    Ideal.addf_def, Ideal.subf_def, Ideal.ofBits_def, word_1, ← EReal.coe_mul, ← EReal.coe_add, ← EReal.coe_sub]
  congr 1; unfold Args.dz siluGrad; ring

theorem da (i : S8192x512.Idx) : val_main_v45 (F := Ideal) x3 x6 i = ((A.da (i 0) (i 1) : ℝ) : EReal) := by
  simp only [val_main_v45_apply, val_main_v39_0_apply, c2 H, sq H, H.q, Ideal.mulf_def, ← EReal.coe_mul]; rfl

theorem da_t (i : S512x8192.Idx) : val_main_v77 (F := Ideal) x3 x6 i = ((A.da (i 1) (i 0) : ℝ) : EReal) := by
  rw [val_main_v77_apply, da H]; rfl

theorem da_rows (i : S8192x512.Idx) : val_main_v78 (F := Ideal) x3 x6 i = ((A.da (i 0) (i 1) : ℝ) : EReal) := by
  rw [val_main_v78_apply]; exact da H i

theorem dq (i : S8192x512.Idx) : val_main_v79 (F := Ideal) x2 x3 x6 i = ((A.dq (i 0) (i 1) : ℝ) : EReal) := by
  rw [val_main_v79_apply]
  refine (show _ = val_main_v46 (F := Ideal) x2 x3 x6 i from rfl).trans ?_
  simp only [val_main_v46_apply, val_main_call2_v2_apply, val_main_call2_v1_apply, val_main_call2_v0_apply, val_main_v44_apply,
    val_main_v39_1_apply, val_main_call1_v7_apply, val_main_call1_v6_apply, val_main_call1_cst_1_apply, c2 H, sq H, H.a, H.q, Ideal.mulf_def,
    Ideal.addf_def, Ideal.subf_def, Ideal.ofBits_def, word_1, ← EReal.coe_mul, ← EReal.coe_add, ← EReal.coe_sub]
  congr 1; unfold Args.dq siluGrad; ring

theorem dw (i : S512x512.Idx) : val_main_v57 (F := Ideal) x0 x1 x4 x5 x6 i = ((A.dw (i 0) (i 1) : ℝ) : EReal) := by
  rw [val_main_v57_apply, val_main_v56_apply]; simp only [dl H, g H, ← EReal.coe_mul, sum_up]
  exact congrArg _ (Finset.sum_congr rfl fun r _ => mul_comm _ _)

theorem db (i : S1x512.Idx) : val_main_v80 (F := Ideal) x0 x1 x4 x5 x6 i = ((A.db (i 1) : ℝ) : EReal) := by
  have e : idx_main_v54 (idx_main_v55 (idx_main_v80 i) 0) = ix1 (n0 := 512) (i 1) := by
    funext a; match a with
    | ⟨0, _⟩ => exact Fin.ext (by simp)
  simp only [val_main_v80_apply, val_main_v55_apply, val_main_v54_apply, val_main_v53_apply, val_main_cst_10_apply, val_main_cst_11_apply, Fin.sum_univ_one,
    e, dl H, Ideal.ofBits_def, word_0, sum_up, ← EReal.coe_add, zero_add]
  rfl

end Cert.BranchRefValue
-- ==== Proof.BranchKernel.lean ====
module

public import proofs.«01_k».proof.Proof.BranchScratch
public import proofs.«01_k».proof.Proof.BranchRefValue
public import proofs.«01_k».proof.Proof.Gen.BranchIdeal.Value

/-! What the kernel's branch gradient leaves in its results, of finite arguments: the real functions of BranchSpec. -/

@[expose] public section

set_option maxRecDepth 16384

noncomputable section

namespace Cert.BranchKernel

open Cert.BranchIdeal Cert.BranchIdeal.Gen Idealize.ShloMosaic Idealize.ShloMosaic.TcCoe Idealize.ShloMosaic.Tactic Idealize.SL Idealize.SL.Sem
open Cert.Up Cert.BranchSpec Cert.BranchPay Cert.BranchScratch

/-- Row `a` of tile `t`. -/
def row (t : Fin cfg0.N) (a : Fin 512) : Fin 8192 := ⟨512 * t.val + a.val, by have := Nat.lt_of_lt_of_eq t.isLt N_0; omega⟩

variable (m : (ℓ : Loc nD τ sig) → Buf (Elt Ideal) ℓ) (c : Dev nD) {A : Args}

/-- The device's arguments hold the real ones. -/
abbrev Holds (A : Args) : Prop :=
  BranchRefValue.Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

theorem idx : ∀ t : Fin cfg0.N, win0_0.index t = ![0, t.val, 0] ∧ win0_1.index t = ![t.val, 0] ∧ win0_2.index t = ![0, t.val] ∧ win0_3.index t = ![t.val, 0]
    ∧ win0_4.index t = ![0, 0] ∧ win0_5.index t = ![0, 0] ∧ win0_6.index t = ![t.val, 0] ∧ win0_7.index t = ![0, t.val, 0] ∧ win0_8.index t = ![t.val, 0]
    ∧ win0_9.index t = ![0, t.val] ∧ win0_10.index t = ![t.val, 0] ∧ win0_11.index t = ![t.val, 0] := by
  decide +kernel

theorem blk1 (t : Fin cfg0.N) (i : S512x512.Idx) : iblk m c 1 t i = m ((c : Thread nD τ).loc main_arg1) (ix2 (row t (i 0)) (i 1)) := by
  rw [← V_main_arg1 m c]
  unfold row
  blk_ext [iblk, idx t]

theorem blk3 (t : Fin cfg0.N) (i : S512x512.Idx) : iblk m c 3 t i = m ((c : Thread nD τ).loc main_arg3) (ix2 (row t (i 0)) (i 1)) := by
  rw [← V_main_arg3 m c]
  unfold row
  blk_ext [iblk, idx t]

theorem blk4 (t : Fin cfg0.N) (i : S512x512.Idx) : iblk m c 4 t i = m ((c : Thread nD τ).loc main_arg4) i := by
  show iblk m c 4 t i = V m c main_v4 i
  blk_ext [iblk, idx t]

theorem blk5 (t : Fin cfg0.N) (i : S1x512.Idx) : iblk m c 5 t i = m ((c : Thread nD τ).loc main_arg5) (ix1 (i 1)) := by
  have e : iblk m c 5 t i = V m c main_v5 i := by blk_ext [iblk, idx t]
  rw [e]
  show broadcastInDim S1x512 _ bcast_S512_S1x512_1 (m ((c : Thread nD τ).loc main_arg5)) i = _
  pointwise

theorem blk6 (t : Fin cfg0.N) (i : S512x1024.Idx) : iblk m c 6 t i = m ((c : Thread nD τ).loc main_arg6) (ix2 (row t (i 0)) (i 1)) := by
  rw [← V_main_arg6 m c]
  unfold row
  blk_ext [iblk, idx t]

theorem blk2 (t : Fin cfg0.N) (i : S512x512.Idx) : iblk m c 2 t i = m ((c : Thread nD τ).loc main_arg2) (ix2 (row t (i 1)) (i 0)) := by
  have e : iblk m c 2 t i = V m c main_v3 (ix2 (i 0) (row t (i 1))) := by unfold row; blk_ext [iblk, idx t]
  rw [e]
  show transpose S512x8192 [1, 0] (m ((c : Thread nD τ).loc main_arg2)) transposes_S8192x512_S512x8192_1_0 _ = _
  pointwise

/-- The packed rows: row `16 a + h`, at column `128 s + n`, lies in row `a` of plane `s` at column `128 h + n`. -/
theorem packed (x : S8192x512.Idx → EReal) (j : S4x512x2048.Idx) (r : Fin 8192) (k : Fin 512) (hr : r.val = 16 * (j 1).val + (j 2).val / 128)
    (hk : k.val = 128 * (j 0).val + (j 2).val % 128) :
    shapeCast S4x512x2048 (transpose S4x512x16x128 [2, 0, 1, 3] (shapeCast S512x16x4x128 x shapeCasts_S8192x512_S512x16x4x128)
      transposes_S512x16x4x128_S4x512x16x128_2_0_1_3) shapeCasts_S4x512x16x128_S4x512x2048 j = x (ix2 r k) := by
  have h0 : (j 0).val < 4 := (j 0).isLt
  have h1 : (j 1).val < 512 := (j 1).isLt
  have h2 : (j 2).val < 2048 := (j 2).isLt
  pointwise
  refine congrArg x ?_
  exact congrArg₂ ix2 (Fin.ext (by rw [hr]; show (j 1).val * 16 + (j 2).val / 128 = _; omega)) (Fin.ext (by rw [hk]; show (j 0).val * 128 + (j 2).val % 128 = _; omega))

/-- The packed block holds rows of the tile. -/
theorem blk0 (t : Fin cfg0.N) (i : S4x32x2048.Idx) (r : Fin 8192) (k : Fin 512) (hr : r.val = 16 * (32 * t.val + (i 1).val) + (i 2).val / 128)
    (hk : k.val = 128 * (i 0).val + (i 2).val % 128) : iblk m c 0 t i = m ((c : Thread nD τ).loc main_arg0) (ix2 r k) := by
  have ht := Nat.lt_of_lt_of_eq t.isLt N_0
  have h1 : (i 1).val < 32 := (i 1).isLt
  have e : iblk m c 0 t i = V m c main_v2 (ix3 (i 0) (⟨32 * t.val + (i 1).val, by omega⟩ : Fin 512) (i 2)) := by blk_ext [iblk, idx t]
  exact e.trans (packed _ _ r k hr hk)

theorem rows_blk (t : Fin cfg0.N) (s : Fin 4) (a : Fin 512) (n : Fin 128) :
    unpack (iblk m c 0 t) (ix3 s a n) = m ((c : Thread nD τ).loc main_arg0) (ix2 (row t a) (col s n)) := by
  rw [unpack_ix3]
  exact blk0 m c t _ _ _ (by show 512 * t.val + a.val = 16 * (32 * t.val + a.val / 16) + (128 * (a.val % 16) + n.val) / 128; omega)
    (by show 128 * s.val + n.val = 128 * s.val + (128 * (a.val % 16) + n.val) % 128; omega)

/-- One plane read back from the unpacked scratch. -/
abbrev plane (t : Fin cfg0.N) (s : Fin 4) (inb : ∀ a : Fin S4x512x128.rank, ![s.val, 0, 0] a + ![1, 512, 128] a ≤ S4x512x128.size a) : S1x512x128.Idx → EReal :=
  (View.whole cc0_scratch0).readCov (Val := Elt Ideal) (pieces (iblk m c 0 t)) (Rect.unit (s := S4x512x128) ![s.val, 0, 0] ![1, 512, 128] inb).toLoadRect

section Tile
variable (t : Fin cfg0.N)

abbrev p0 := k0_pay80 (F := Ideal) (plane m c t 0 inb_S4x512x128_S1x512x128_0_0_0)
abbrev p1 := plane m c t 1 inb_S4x512x128_S1x512x128_1_0_0
abbrev p2 := plane m c t 2 inb_S4x512x128_S1x512x128_2_0_0
abbrev p3 := plane m c t 3 inb_S4x512x128_S1x512x128_3_0_0
abbrev gV := k0_pay85 (F := Ideal) (p0 m c t) (p1 m c t) (p2 m c t) (p3 m c t)
abbrev lV := k0_pay86 (F := Ideal) (p0 m c t) (p1 m c t) (p2 m c t) (p3 m c t) (iblk m c 4 t) (iblk m c 5 t)
/-- The two halves of the tile's cotangent. -/
abbrev c1V : S512x512.Idx → EReal := View.ld (Val := Elt Ideal) (e' := .f32) (iblk m c 6 t) (Rect.unit (s := S512x1024) ![0, 0] ![512, 512] inb_S512x1024_S512x512_0_0)
abbrev c2V : S512x512.Idx → EReal := View.ld (Val := Elt Ideal) (e' := .f32) (iblk m c 6 t) (Rect.unit (s := S512x1024) ![0, 512] ![512, 512] inb_S512x1024_S512x512_0_512)

end Tile

variable {m c} (H : Holds m c A)
include H

theorem planeT (t : Fin cfg0.N) (s : Fin 4) (inb) : IsP s (plane m c t s inb) fun a => A.y (row t a) := fun i => by
  rw [plane, read_plane]; exact (rows_blk m c t s (i 1) (i 2)).trans (H.y _)
theorem yT (t : Fin cfg0.N) : Is (k0_pay81 (F := Ideal) (p0 m c t) (p1 m c t) (p2 m c t) (p3 m c t)) fun a => A.y (row t a) :=
  ys (planeT H t 0 _) (planeT H t 1 _) (planeT H t 2 _) (planeT H t 3 _)
theorem z_blk (t : Fin cfg0.N) : Is (iblk m c 1 t) fun a => A.z (row t a) := fun i => (blk1 m c t i).trans (H.z _)
theorem a_blk (t : Fin cfg0.N) (i : S512x512.Idx) : iblk m c 2 t i = ((A.a (row t (i 1)) (i 0) : ℝ) : EReal) := (blk2 m c t i).trans (H.a _)
theorem q_blk (t : Fin cfg0.N) : Is (iblk m c 3 t) fun a => A.q (row t a) := fun i => (blk3 m c t i).trans (H.q _)
theorem w_blk (t : Fin cfg0.N) : Is (iblk m c 4 t) A.w := fun i => (blk4 m c t i).trans (H.w _)
theorem b_blk (t : Fin cfg0.N) : IsV (iblk m c 5 t) A.b := fun i => (blk5 m c t i).trans (H.b _)
theorem c1T (t : Fin cfg0.N) : Is (c1V m c t) fun a => A.c1 (row t a) := fun i => by
  have e : (Rect.unit (s := S512x1024) ![0, 0] ![512, 512] inb_S512x1024_S512x512_0_0).idx i = ix2 (n0 := 512) (n1 := 1024) (i 0) ⟨(i 1).val, by have := (i 1).isLt; change (i 1).val < 512 at this; omega⟩ :=
    ix2_ext (by simp) (by simp)
  rw [c1V, View.ld_apply, e, blk6, H.ct]; rfl
theorem c2T (t : Fin cfg0.N) : Is (c2V m c t) fun a => A.c2 (row t a) := fun i => by
  have e : (Rect.unit (s := S512x1024) ![0, 512] ![512, 512] inb_S512x1024_S512x512_0_512).idx i = ix2 (n0 := 512) (n1 := 1024) (i 0) ⟨512 + (i 1).val, by have := (i 1).isLt; change (i 1).val < 512 at this; omega⟩ :=
    ix2_ext (by simp) (by simp)
  rw [c2V, View.ld_apply, e, blk6, H.ct]; rfl
theorem gT (t : Fin cfg0.N) : Is (gV m c t) fun a => A.g (row t a) := g (yT H t)
theorem lT (t : Fin cfg0.N) : Is (lV m c t) fun a n => -(∑ k, A.g (row t a) k * A.w k n + A.b n) := neg_logit (yT H t) (w_blk H t) (b_blk H t)
theorem dlT (t : Fin cfg0.N) : Is (k0_pay93 (F := Ideal) (iblk m c 1 t) (gV m c t) (lV m c t) (c1V m c t)) fun a => A.dl (row t a) :=
  dl (z_blk H t) (gT H t) (lT H t) (c1T H t)
theorem dyT (t : Fin cfg0.N) : Is (k0_pay98 (F := Ideal) (k0_pay81 (p0 m c t) (p1 m c t) (p2 m c t) (p3 m c t)) (k0_pay83 (iblk m c 4 t)) (k0_pay84 (p0 m c t) (p1 m c t) (p2 m c t) (p3 m c t))
    (k0_pay94 (iblk m c 1 t) (gV m c t) (lV m c t) (c1V m c t)) (k0_pay95 (iblk m c 1 t) (lV m c t) (c1V m c t))) fun a => A.dy (row t a) :=
  dy (yT H t) (fun i => by unfold k0_pay83; pointwise [w_blk H t]) (tanhV (yT H t)) (dl_cast (z_blk H t) (gT H t) (lT H t) (c1T H t)) (ds (z_blk H t) (lT H t) (c1T H t))

/-! ## The results written tile by tile -/

theorem out8 : (dats m 0 c).arrAt 8 cfg0.N = fun i => ((A.dz (i 0) (i 1) : ℝ) : EReal) := by
  refine (dats m 0 c).arrAt_eq_of_covers 8 _ (by decide +kernel) fun t hf y => ?_
  have e : ((cfg0.win 8).blk t).view.emb y = ix2 (row t (y 0)) (y 1) := by unfold row; blk_ext [idx t]
  rw [e]
  have key := dz (z_blk H t) (gT H t) (lT H t) (c1T H t) y
  blk_simp
  rw [after0_8]
  rcases Decidable.em (t.val % 16 = 0) with h | h
  · rw [outsAt0_A m c t h]; frame_out; exact key
  · rw [outsAt0_B m c t h]; frame_out; exact key

theorem out9 : (dats m 0 c).arrAt 9 cfg0.N = fun i => ((A.da (i 1) (i 0) : ℝ) : EReal) := by
  refine (dats m 0 c).arrAt_eq_of_covers 9 _ (by decide +kernel) fun t hf y => ?_
  have e : ((cfg0.win 9).blk t).view.emb y = ix2 (y 0) (row t (y 1)) := by unfold row; blk_ext [idx t]
  rw [e]
  have key := da_t (q_blk H t) (c2T H t) y
  blk_simp
  rw [after0_9]
  rcases Decidable.em (t.val % 16 = 0) with h | h
  · rw [outsAt0_A m c t h]; frame_out; exact key
  · rw [outsAt0_B m c t h]; frame_out; exact key

theorem out10 : (dats m 0 c).arrAt 10 cfg0.N = fun i => ((A.da (i 0) (i 1) : ℝ) : EReal) := by
  refine (dats m 0 c).arrAt_eq_of_covers 10 _ (by decide +kernel) fun t hf y => ?_
  have e : ((cfg0.win 10).blk t).view.emb y = ix2 (row t (y 0)) (y 1) := by unfold row; blk_ext [idx t]
  rw [e]
  have key := da_cast (q_blk H t) (c2T H t) y
  blk_simp
  rw [after0_10]
  rcases Decidable.em (t.val % 16 = 0) with h | h
  · rw [outsAt0_A m c t h]; frame_out; exact key
  · rw [outsAt0_B m c t h]; frame_out; exact key

theorem out11 : (dats m 0 c).arrAt 11 cfg0.N = fun i => ((A.dq (i 0) (i 1) : ℝ) : EReal) := by
  refine (dats m 0 c).arrAt_eq_of_covers 11 _ (by decide +kernel) fun t hf y => ?_
  have e : ((cfg0.win 11).blk t).view.emb y = ix2 (row t (y 0)) (y 1) := by unfold row; blk_ext [idx t]
  rw [e]
  have key := dq (q_blk H t) (c2T H t) (a_blk H t) y
  blk_simp
  rw [after0_11]
  rcases Decidable.em (t.val % 16 = 0) with h | h
  · rw [outsAt0_A m c t h]; frame_out; exact key
  · rw [outsAt0_B m c t h]; frame_out; exact key

/-! ## The results accumulated over the tiles -/

omit H in
/-- A sum over the tiles and their rows is the sum over the rows. -/
theorem sum_rows (f : Fin 8192 → ℝ) : ∑ t : Fin cfg0.N, ∑ a : Fin 512, ((f (row t a) : ℝ) : EReal) = ((∑ r, f r : ℝ) : EReal) := by
  simp only [sum_up]
  congr 1
  refine Fin.sum_mul_add_congr (L := 8192) (n := 512) (fun t a hl => ?_) (by show 8192 = grid0.N * 512; rw [N_0])
  exact congrArg f (Fin.ext (by show 512 * t.val + a.val = t.val * 512 + a.val; omega))

theorem out12 : (dats m 0 c).arrAt 12 cfg0.N = fun i => ((A.dw (i 0) (i 1) : ℝ) : EReal) := by
  refine (dats m 0 c).arrAt_eq_of_after_last 12 t0_15 (by decide +kernel) _ fun j => ?_
  blk_simp
  rw [after0_12]
  rw [Pipeline.eq_sum_fin_of_reset_step_apply_last (fun n h => (outsAt0 m c n h).2.2.2.2.2.1) 16 (fun _ => 0) (fun t j => ∑ a : Fin 512, ((A.g (row t a) (j 0) * A.dl (row t a) (j 1) : ℝ) : EReal))
    (fun t h j => by
      rw [outsAt0_A m c t h]; frame_out
      exact (dw (gT H t) (dlT H t) _ j).trans (congrArg (· + _) word_0))
    (fun t h j => by
      rw [outsAt0_B m c t h]; frame_out
      exact dw (gT H t) (dlT H t) _ j) (le_of_eq N_0) t0_15 rfl j, zero_add]
  exact sum_rows fun r => A.g r (j 0) * A.dl r (j 1)

theorem out13 : (dats m 0 c).arrAt 13 cfg0.N = fun i => ((A.db (i 1) : ℝ) : EReal) := by
  refine (dats m 0 c).arrAt_eq_of_after_last 13 t0_15 (by decide +kernel) _ fun j => ?_
  blk_simp
  rw [after0_13]
  rw [Pipeline.eq_sum_fin_of_reset_step_apply_last (fun n h => (outsAt0 m c n h).2.2.2.2.2.2) 16 (fun _ => 0) (fun t j => ∑ a : Fin 512, ((A.dl (row t a) (j 1) : ℝ) : EReal))
    (fun t h j => by
      rw [outsAt0_A m c t h]; frame_out
      exact (db (dlT H t) _ j).trans (congrArg (· + _) word_0))
    (fun t h j => by
      rw [outsAt0_B m c t h]; frame_out
      exact db (dlT H t) _ j) (le_of_eq N_0) t0_15 rfl j, zero_add]
  exact sum_rows fun r => A.dl r (j 1)

end Cert.BranchKernel

end

end
-- ==== Proof.BranchPack.lean ====
module

public import proofs.«01_k».proof.Proof.BranchKernel
public import Idealize.ShloMosaic.Lib.Pipeline.CanonAppend

/-! The gradient of the state-space output, which the kernel's branch gradient packs into chunks. -/

@[expose] public section

set_option maxRecDepth 16384

noncomputable section

namespace Cert.BranchKernel

open Cert.BranchIdeal Cert.BranchIdeal.Gen Idealize.ShloMosaic Idealize.ShloMosaic.TcCoe Idealize.ShloMosaic.Tactic Idealize.SL Idealize.SL.Sem
open Cert.Up Cert.BranchSpec Cert.BranchPay Cert.BranchScratch

/-- A tile's rows packed into a block of chunks. -/
def pack (f : Fin 512 → Fin 512 → ℝ) (j : S4x32x2048.Idx) : EReal :=
  ((f ⟨16 * (j 1).val + (j 2).val / 128, by
      have := (j 1).isLt; change (j 1).val < 32 at this; have := (j 2).isLt; change (j 2).val < 2048 at this; omega⟩
    ⟨128 * (j 0).val + (j 2).val % 128, by have := (j 0).isLt; change (j 0).val < 4 at this; omega⟩ : ℝ) : EReal)

section Planes
variable {f : Fin 512 → Fin 512 → ℝ} {d : S512x512.Idx → EReal} (h : Is d f)
include h

theorem plane0 : IsP 0 (k0_pay100 (F := Ideal) (extractStridedSlice S512x128 ![0, 0] d slices_S512x512_o0_0_S512x128)) f := fun i => by
  unfold k0_pay100; pointwise [h]
  exact congrArg (fun k => ((f (i 1) k : ℝ) : EReal)) (Fin.ext (by simp [col]))
theorem plane1 : IsP 1 (k0_pay119 (F := Ideal) d) f := fun i => by
  unfold k0_pay119; pointwise [h]
  exact congrArg (fun k => ((f (i 1) k : ℝ) : EReal)) (Fin.ext (by simp [col]))
theorem plane2 : IsP 2 (k0_pay138 (F := Ideal) d) f := fun i => by
  unfold k0_pay138; pointwise [h]
  exact congrArg (fun k => ((f (i 1) k : ℝ) : EReal)) (Fin.ext (by simp [col]))
theorem plane3 : IsP 3 (k0_pay157 (F := Ideal) d) f := fun i => by
  unfold k0_pay157; pointwise [h]
  exact congrArg (fun k => ((f (i 1) k : ℝ) : EReal)) (Fin.ext (by simp [col]))
end Planes

/-- The casts around a chunk change nothing. -/
theorem chunk_cast (q : S1x32x128.Idx → EReal) (i : S1x32x128.Idx) :
    shapeCast S1x32x128 (truncf (F := Ideal) (φ := .f32) .bf16 (shapeCast S32x128 q shapeCasts_S1x32x128_S32x128) bitsLt_bf16_f32) shapeCasts_S32x128_S1x32x128 i = q (ix3 0 (i 1) (i 2)) := by
  have i0 := (i 0).isLt; change (i 0).val < 1 at i0
  pointwise
  exact congrArg q (ix3_ext (Nat.lt_one_iff.mp i0) rfl rfl)

theorem pack_ix3 (f : Fin 512 → Fin 512 → ℝ) (b : Fin 4) (a : Fin 32) (n : Fin 2048) :
    pack f (ix3 b a n) = ((f ⟨16 * a.val + n.val / 128, by omega⟩ ⟨128 * b.val + n.val % 128, by omega⟩ : ℝ) : EReal) := rfl

/-- One chunk as the body stores it: the rows `h`, `16 + h`, … of the plane stored last. -/
theorem stored_chunk {f : Fin 512 → Fin 512 → ℝ} {b : Fin 4} {p : S1x512x128.Idx → EReal} (hp : IsP b p f) (L : List (View.Piece (Elt Ideal) S4x512x128 .f32)) (h o : Nat)
    (hh : h < 16) (ho : o = 128 * h) (inb : ∀ a : Fin S4x512x128.rank, ![b.val, 0, 0] a + ![1, 512, 128] a ≤ S4x512x128.size a)
    (inb' : ∀ a : Fin S4x32x2048.rank, ![b.val, 0, o] a + ![1, 32, 128] a ≤ S4x32x2048.size a) (i : S1x32x128.Idx) :
    shapeCast S1x32x128 (truncf (F := Ideal) (φ := .f32) .bf16 (shapeCast S32x128
      ((View.whole cc0_scratch0).readCov (Val := Elt Ideal) (⟨Rect.unit ![b.val, 0, 0] ![1, 512, 128] inb, p⟩ :: L) (rows b.val h b.isLt hh).toLoadRect)
      shapeCasts_S1x32x128_S32x128) bitsLt_bf16_f32) shapeCasts_S32x128_S1x32x128 i
      = pack f ((Rect.unit (s := S4x32x2048) ![b.val, 0, o] ![1, 32, 128] inb').emb i) := by
  subst ho
  have i0 := (i 0).isLt; change (i 0).val < 1 at i0
  have i1 := (i 1).isLt; change (i 1).val < 32 at i1
  have i2 := (i 2).isLt; change (i 2).val < 128 at i2
  have e : (Rect.unit (s := S4x32x2048) ![b.val, 0, 128 * h] ![1, 32, 128] inb').emb i = ix3 b (⟨(i 1).val, i1⟩ : Fin 32) (⟨128 * h + (i 2).val, by omega⟩ : Fin 2048) :=
    ix3_ext (by simp) (by simp) (by simp)
  rw [e, pack_ix3]
  refine (chunk_cast _ i).trans ((read_rows _ L p b.val h b.isLt hh inb _).trans ((hp _).trans ?_))
  refine congrArg₂ (fun r k => ((f r k : ℝ) : EReal)) (Fin.ext ?_) (Fin.ext ?_)
  · show 16 * (i 1).val + h = 16 * (i 1).val + (128 * h + (i 2).val) / 128; omega
  · show 128 * b.val + (i 2).val = 128 * b.val + (128 * h + (i 2).val) % 128; omega

variable {m : (ℓ : Loc nD τ sig) → Buf (Elt Ideal) ℓ} {c : Dev nD} {A : Args} (H : Holds m c A)
include H

set_option maxHeartbeats 16000000 in
theorem out7 : (dats m 0 c).arrAt 7 cfg0.N
    = fun i => ((A.dy ⟨16 * (i 1).val + (i 2).val / 128, by
          have := (i 1).isLt; change (i 1).val < 512 at this; have := (i 2).isLt; change (i 2).val < 2048 at this; omega⟩
        ⟨128 * (i 0).val + (i 2).val % 128, by have := (i 0).isLt; change (i 0).val < 4 at this; omega⟩ : ℝ) : EReal) := by
  refine (dats m 0 c).arrAt_eq_of_covers 7 _ (by decide +kernel) fun t hf y => ?_
  have ht := Nat.lt_of_lt_of_eq t.isLt N_0
  have e : ((cfg0.win 7).blk t).view.emb y = ix3 (y 0) (⟨32 * t.val + (y 1).val, by have := (y 1).isLt; change (y 1).val < 32 at this; omega⟩ : Fin 512) (y 2) := by blk_ext [idx t]
  rw [e]
  refine Eq.trans ?_ (b := pack (fun a => A.dy (row t a)) y) ?_
  · blk_simp
    rw [after0_7]
    rcases Decidable.em (t.val % 16 = 0) with h | h
    · rw [outsAt0_A m c t h]; frame_out
      refine View.canon_apply_of_pieces (Val := Elt Ideal) (e := .bf16) (S := S4x32x2048) (pack fun a => A.dy (row t a)) _ ?_ y ?_
      · simp only [List.forall_mem_cons, List.not_mem_nil, false_imp_iff, implies_true, and_true]
        iterate 16 refine ⟨fun x => stored_chunk (b := 3) (plane3 (dyT H t)) _ _ _ (by decide) (by decide) _ _ x, ?_⟩
        iterate 16 refine ⟨fun x => stored_chunk (b := 2) (plane2 (dyT H t)) _ _ _ (by decide) (by decide) _ _ x, ?_⟩
        iterate 16 refine ⟨fun x => stored_chunk (b := 1) (plane1 (dyT H t)) _ _ _ (by decide) (by decide) _ _ x, ?_⟩
        iterate 15 refine ⟨fun x => stored_chunk (b := 0) (plane0 (dyT H t)) _ _ _ (by decide) (by decide) _ _ x, ?_⟩
        exact fun x => stored_chunk (b := 0) (plane0 (dyT H t)) _ _ _ (by decide) (by decide) _ _ x
      · exact View.cover_of_tiledL _ ![1, 32, 128] (by sl_kernel_rfl) y
    · rw [outsAt0_B m c t h]; frame_out
      refine View.canon_apply_of_pieces (Val := Elt Ideal) (e := .bf16) (S := S4x32x2048) (pack fun a => A.dy (row t a)) _ ?_ y ?_
      · simp only [List.forall_mem_cons, List.not_mem_nil, false_imp_iff, implies_true, and_true]
        iterate 16 refine ⟨fun x => stored_chunk (b := 3) (plane3 (dyT H t)) _ _ _ (by decide) (by decide) _ _ x, ?_⟩
        iterate 16 refine ⟨fun x => stored_chunk (b := 2) (plane2 (dyT H t)) _ _ _ (by decide) (by decide) _ _ x, ?_⟩
        iterate 16 refine ⟨fun x => stored_chunk (b := 1) (plane1 (dyT H t)) _ _ _ (by decide) (by decide) _ _ x, ?_⟩
        iterate 15 refine ⟨fun x => stored_chunk (b := 0) (plane0 (dyT H t)) _ _ _ (by decide) (by decide) _ _ x, ?_⟩
        exact fun x => stored_chunk (b := 0) (plane0 (dyT H t)) _ _ _ (by decide) (by decide) _ _ x
      · exact View.cover_of_tiledL _ ![1, 32, 128] (by sl_kernel_rfl) y
  · have y0 := (y 0).isLt; change (y 0).val < 4 at y0
    have y1 := (y 1).isLt; change (y 1).val < 32 at y1
    have y2 := (y 2).isLt; change (y 2).val < 2048 at y2
    refine congrArg₂ (fun r k => ((A.dy r k : ℝ) : EReal)) (Fin.ext ?_) (Fin.ext ?_)
    · show 512 * t.val + (16 * (y 1).val + (y 2).val / 128) = 16 * (32 * t.val + (y 1).val) + (y 2).val / 128; omega
    · rfl

end Cert.BranchKernel

end

end
-- ==== Proof.BranchClaims.lean ====
module

public import proofs.«01_k».proof.Proof.HeadClaims
public import proofs.«01_k».proof.Proof.BranchPack
public import proofs.«01_k».proof.Proof.BranchRefValue
public import proofs.«01_k».proof.Proof.Gen.BranchRefIdeal.Run
public import proofs.«01_k».proof.Proof.Gen.BranchRefIdeal.Read
public import proofs.«01_k».proof.Proof.Gen.BranchIdeal.Frame
public import proofs.«01_k».proof.Proof.Gen.Pre_branch_finite

/-! The claims about the gates of the two branches: the reference runs to an end, the named constants are sanctioned, and of
    finite arguments the kernel and the reference leave the same seven arrays. -/

@[expose] public section

set_option maxRecDepth 16384

noncomputable section

namespace Cert.BranchClaims

open Idealize.ShloMosaic Idealize.ShloMosaic.TcCoe Idealize.SL.Sem Cert.BranchSpec Cert.Finite Cert.Up Cert.HeadClaims

/-- The real numbers that device `c`'s arguments hold. -/
def args (m : (ℓ : Loc Cert.BranchIdeal.nD Cert.BranchIdeal.τ Cert.BranchIdeal.sig) → Buf (Elt Ideal) ℓ) (c : Dev Cert.BranchIdeal.nD) : Args where
  y r k := re (s := Cert.BranchIdeal.S8192x512) (m ((c : Thread Cert.BranchIdeal.nD Cert.BranchIdeal.τ).loc Cert.BranchIdeal.main_arg0)) (ix2 r k)
  z r k := re (s := Cert.BranchIdeal.S8192x512) (m ((c : Thread Cert.BranchIdeal.nD Cert.BranchIdeal.τ).loc Cert.BranchIdeal.main_arg1)) (ix2 r k)
  a r k := re (s := Cert.BranchIdeal.S8192x512) (m ((c : Thread Cert.BranchIdeal.nD Cert.BranchIdeal.τ).loc Cert.BranchIdeal.main_arg2)) (ix2 r k)
  q r k := re (s := Cert.BranchIdeal.S8192x512) (m ((c : Thread Cert.BranchIdeal.nD Cert.BranchIdeal.τ).loc Cert.BranchIdeal.main_arg3)) (ix2 r k)
  w r k := re (s := Cert.BranchIdeal.S512x512) (m ((c : Thread Cert.BranchIdeal.nD Cert.BranchIdeal.τ).loc Cert.BranchIdeal.main_arg4)) (ix2 r k)
  b k := re (s := Cert.BranchIdeal.S512) (m ((c : Thread Cert.BranchIdeal.nD Cert.BranchIdeal.τ).loc Cert.BranchIdeal.main_arg5)) (ix1 k)
  ct r k := re (s := Cert.BranchIdeal.S8192x1024) (m ((c : Thread Cert.BranchIdeal.nD Cert.BranchIdeal.τ).loc Cert.BranchIdeal.main_arg6)) (ix2 r k)

/-- Reading the real parts of a vector back. -/
theorem at_one {n : Nat} {x : (⟨1, ![n]⟩ : Shape).Idx → EReal} (h : ∀ i, x i = ((re x i : ℝ) : EReal)) (i : (⟨1, ![n]⟩ : Shape).Idx) :
    x i = ((re x (ix1 (i 0)) : ℝ) : EReal) :=
  (h i).trans (congrArg (fun j => ((re x j : ℝ) : EReal)) (funext fun k => by fin_cases k; rfl))

/-- Under the precondition every argument holds real numbers. -/
theorem holds (m : (ℓ : Loc Cert.BranchIdeal.nD Cert.BranchIdeal.τ Cert.BranchIdeal.sig) → Buf (Elt Ideal) ℓ) (c : Dev Cert.BranchIdeal.nD)
    (h : Cert.Pre_BranchIdeal_branch_finite (hPre_branch_finite := Cert.Pre_branch_finite.Gen.facts) m) : BranchKernel.Holds m c (args m c) := by
  obtain ⟨h0, h1, h2, h3, h4, h5, h6⟩ := h c
  constructor
  · exact fun i => at_self (real h0) i
  · exact fun i => at_self (real h1) i
  · exact fun i => at_self (real h2) i
  · exact fun i => at_self (real h3) i
  · exact fun i => at_self (real h4) i
  · exact fun i => at_one (real h5) i
  · exact fun i => at_self (real h6) i

/-- The reference runs to an end and keeps its arguments. -/
theorem frame_ref : Cert.quiescent_BranchRefIdeal (hBranchRefIdeal := Cert.BranchRefIdeal.Gen.facts) := by
  intro m ρ _
  refine (θ_run _ _ _).mono (fun r h => ⟨fun c => (h c).2.2.2.2.2.2.2, ?_⟩) (Cert.BranchRefIdeal.Value.run m ρ)
  exact Idealize.ShloMosaic.sem_eq_zero_of_no_sems (by decide) r.2

/-- The two constants of the GELU stand for the numbers they are rounded from. -/
theorem preserves : Cert.preserves_Branch_BranchIdeal :=
  ⟨IdealRules.named_const.statement Cert.BranchIdeal.κ "gelu_cubic" .f32 0x3D372713#32 ((8943 / 200000 : ℝ) : EReal) rfl,
    IdealRules.named_const.statement Cert.BranchIdeal.κ "gelu_cubic3" .f32 0x3E095D4F#32 ((26829 / 200000 : ℝ) : EReal) rfl⟩

/-- Of finite arguments the kernel and the reference leave the same seven arrays. -/
theorem algebraic : Cert.algebraic_BranchIdeal_BranchRefIdeal_pre_branch_finite (hBranchIdeal := Cert.BranchIdeal.Gen.facts)
    (hBranchRefIdeal := Cert.BranchRefIdeal.Gen.facts) (hPre_branch_finite := Cert.Pre_branch_finite.Gen.facts) := by
  intro m g m' g' hp ha
  have K := fun c => holds m c hp
  refine ⟨fun c i => (((args m c).dy ⟨16 * (i 1).val + (i 2).val / 128, by
          have := (i 1).isLt; change (i 1).val < 512 at this; have := (i 2).isLt; change (i 2).val < 2048 at this; omega⟩
        ⟨128 * (i 0).val + (i 2).val % 128, by have := (i 0).isLt; change (i 0).val < 4 at this; omega⟩ : ℝ) : EReal),
    fun c i => (((args m c).dz (i 0) (i 1) : ℝ) : EReal), fun c i => (((args m c).da (i 1) (i 0) : ℝ) : EReal),
    fun c i => (((args m c).da (i 0) (i 1) : ℝ) : EReal), fun c i => (((args m c).dq (i 0) (i 1) : ℝ) : EReal),
    fun c i => (((args m c).dw (i 0) (i 1) : ℝ) : EReal), fun c i => (((args m c).db (i 1) : ℝ) : EReal), ?_, ?_⟩
  · refine (θ_run _ _ _).mono (fun r h c => ?_) (Cert.BranchIdeal.Value.run_blocks m g)
    obtain ⟨h0, h1, h2, h3, h4, h5, h6, hk⟩ := h c
    exact ⟨h0.trans (BranchKernel.out7 (K c)), h1.trans (BranchKernel.out8 (K c)), h2.trans (BranchKernel.out9 (K c)), h3.trans (BranchKernel.out10 (K c)),
      h4.trans (BranchKernel.out11 (K c)), h5.trans (BranchKernel.out12 (K c)), h6.trans (BranchKernel.out13 (K c)), hk⟩
  · refine (θ_run _ _ _).mono (fun r h c => ?_) (Cert.BranchRefIdeal.Value.run m' g')
    obtain ⟨h0, h1, h2, h3, h4, h5, h6, hk⟩ := h c
    obtain ⟨a0, a1, a2, a3, a4, a5, a6⟩ := ha c
    have H : BranchRefValue.Holds (args m c) (m' ((c : Thread Cert.BranchRefIdeal.nD Cert.BranchRefIdeal.τ).loc Cert.BranchRefIdeal.main_arg0)) (m' ((c : Thread Cert.BranchRefIdeal.nD Cert.BranchRefIdeal.τ).loc Cert.BranchRefIdeal.main_arg1)) (m' ((c : Thread Cert.BranchRefIdeal.nD Cert.BranchRefIdeal.τ).loc Cert.BranchRefIdeal.main_arg2)) (m' ((c : Thread Cert.BranchRefIdeal.nD Cert.BranchRefIdeal.τ).loc Cert.BranchRefIdeal.main_arg3)) (m' ((c : Thread Cert.BranchRefIdeal.nD Cert.BranchRefIdeal.τ).loc Cert.BranchRefIdeal.main_arg4)) (m' ((c : Thread Cert.BranchRefIdeal.nD Cert.BranchRefIdeal.τ).loc Cert.BranchRefIdeal.main_arg5)) (m' ((c : Thread Cert.BranchRefIdeal.nD Cert.BranchRefIdeal.τ).loc Cert.BranchRefIdeal.main_arg6)) := by
      rw [a0, a1, a2, a3, a4, a5, a6]
      exact ⟨(K c).y, (K c).z, (K c).a, (K c).q, (K c).w, (K c).b, (K c).ct⟩
    refine ⟨h0.trans ?_, h1.trans ?_, h2.trans ?_, h3.trans ?_, h4.trans ?_, h5.trans ?_, h6.trans ?_, hk⟩
    · rw [Cert.BranchRefIdeal.Read.val_main_v75_eq]; exact funext fun i => BranchRefValue.dy_chunks H i _ _ rfl rfl
    · rw [Cert.BranchRefIdeal.Read.val_main_v76_eq]; exact funext (BranchRefValue.dz H)
    · rw [Cert.BranchRefIdeal.Read.val_main_v77_eq]; exact funext (BranchRefValue.da_t H)
    · rw [Cert.BranchRefIdeal.Read.val_main_v78_eq]; exact funext (BranchRefValue.da_rows H)
    · rw [Cert.BranchRefIdeal.Read.val_main_v79_eq]; exact funext (BranchRefValue.dq H)
    · rw [Cert.BranchRefIdeal.Read.val_main_v57_eq]; exact funext (BranchRefValue.dw H)
    · rw [Cert.BranchRefIdeal.Read.val_main_v80_eq]; exact funext (BranchRefValue.db H)

end Cert.BranchClaims

end
-- ==== Proof.NaOffs.lean ====
/- The places at which the attention's gradient reads and writes: the window of keys of a pair of rows, the bias table of a pair. -/
module

public import proofs.«01_k».proof.Proof.Gen.NaIdeal.Frame
public import proofs.«01_k».proof.Proof.Gen.NaIdeal.Skeleton

@[expose] public section

set_option maxRecDepth 16384

noncomputable section

namespace Cert.NaIdeal.Hand

open Cert.NaIdeal Cert.NaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first row of pair `b`'s window of keys at point `i`. -/
@[irreducible] def winRow (i : grid0.Coords) (b : BitVec 32) : ℕ := k0_off1 i b 0

/-- The bias table that pair `b` reads at point `i`. -/
@[irreducible] def biasCase (i : grid0.Coords) (b : BitVec 32) : ℕ := k0_off2 i b 1

theorem winRow_eq (i : grid0.Coords) (b : BitVec 32) : k0_off1 i b 0 = winRow i b := by unfold winRow; rfl

theorem biasCase_eq (i : grid0.Coords) (b : BitVec 32) : k0_off2 i b 1 = biasCase i b := by unfold biasCase; rfl

/-- Four offsets, from each of them. -/
theorem four {f : Fin 4 → ℕ} {a b c d : ℕ} (h0 : f 0 = a) (h1 : f 1 = b) (h2 : f 2 = c) (h3 : f 3 = d) : f = ![a, b, c, d] := by
  funext k
  match k with
  | 0 => exact h0
  | 1 => exact h1
  | 2 => exact h2
  | 3 => exact h3

instance (i : grid0.Coords) (b : BitVec 32) : ClosedOff (k0_off1 i b) :=
  ⟨![winRow i b, 0], funext fun k => match k with | 0 => winRow_eq i b | 1 => rfl⟩
instance (i : grid0.Coords) (b : BitVec 32) : ClosedOff (k0_off2 i b) := ⟨![0, biasCase i b, 0, 0], four rfl (biasCase_eq i b) rfl rfl⟩
instance (i : grid0.Coords) (b : BitVec 32) : ClosedOff (k0_off3 i b) := ⟨![0, biasCase i b, 64, 0], four rfl (biasCase_eq i b) rfl rfl⟩
instance (i : grid0.Coords) (b : BitVec 32) : ClosedOff (k0_off4 i b) := ⟨![0, biasCase i b, 128, 0], four rfl (biasCase_eq i b) rfl rfl⟩
instance (i : grid0.Coords) (b : BitVec 32) : ClosedOff (k0_off5 i b) := ⟨![0, biasCase i b, 192, 0], four rfl (biasCase_eq i b) rfl rfl⟩
instance (i : grid0.Coords) (b : BitVec 32) : ClosedOff (k0_off6 i b) := ⟨![0, biasCase i b, 256, 0], four rfl (biasCase_eq i b) rfl rfl⟩
instance (i : grid0.Coords) (b : BitVec 32) : ClosedOff (k0_off7 i b) := ⟨![0, biasCase i b, 320, 0], four rfl (biasCase_eq i b) rfl rfl⟩
instance (i : grid0.Coords) (b : BitVec 32) : ClosedOff (k0_off8 i b) := ⟨![0, biasCase i b, 384, 0], four rfl (biasCase_eq i b) rfl rfl⟩
instance (i : grid0.Coords) (b : BitVec 32) : ClosedOff (k0_off9 i b) := ⟨![0, biasCase i b, 448, 0], four rfl (biasCase_eq i b) rfl rfl⟩
instance (i : grid0.Coords) (b : BitVec 32) : ClosedOff (k0_off10 i b) := ⟨![0, biasCase i b, 512, 0], four rfl (biasCase_eq i b) rfl rfl⟩
instance (i : grid0.Coords) (b : BitVec 32) : ClosedOff (k0_off11 i b) := ⟨![0, biasCase i b, 576, 0], four rfl (biasCase_eq i b) rfl rfl⟩
instance (i : grid0.Coords) (b : BitVec 32) : ClosedOff (k0_off13 i b) := ⟨![1, biasCase i b, 0, 0], four rfl (biasCase_eq i b) rfl rfl⟩
instance (i : grid0.Coords) (b : BitVec 32) : ClosedOff (k0_off14 i b) := ⟨![1, biasCase i b, 64, 0], four rfl (biasCase_eq i b) rfl rfl⟩
instance (i : grid0.Coords) (b : BitVec 32) : ClosedOff (k0_off15 i b) := ⟨![1, biasCase i b, 128, 0], four rfl (biasCase_eq i b) rfl rfl⟩
instance (i : grid0.Coords) (b : BitVec 32) : ClosedOff (k0_off16 i b) := ⟨![1, biasCase i b, 192, 0], four rfl (biasCase_eq i b) rfl rfl⟩
instance (i : grid0.Coords) (b : BitVec 32) : ClosedOff (k0_off17 i b) := ⟨![1, biasCase i b, 256, 0], four rfl (biasCase_eq i b) rfl rfl⟩
instance (i : grid0.Coords) (b : BitVec 32) : ClosedOff (k0_off18 i b) := ⟨![1, biasCase i b, 320, 0], four rfl (biasCase_eq i b) rfl rfl⟩
instance (i : grid0.Coords) (b : BitVec 32) : ClosedOff (k0_off19 i b) := ⟨![1, biasCase i b, 384, 0], four rfl (biasCase_eq i b) rfl rfl⟩
instance (i : grid0.Coords) (b : BitVec 32) : ClosedOff (k0_off20 i b) := ⟨![1, biasCase i b, 448, 0], four rfl (biasCase_eq i b) rfl rfl⟩
instance (i : grid0.Coords) (b : BitVec 32) : ClosedOff (k0_off21 i b) := ⟨![1, biasCase i b, 512, 0], four rfl (biasCase_eq i b) rfl rfl⟩
instance (i : grid0.Coords) (b : BitVec 32) : ClosedOff (k0_off22 i b) := ⟨![1, biasCase i b, 576, 0], four rfl (biasCase_eq i b) rfl rfl⟩

end Cert.NaIdeal.Hand

end
-- ==== Proof.NaRunA.lean ====
/- The attention's gradient at a first step of a pair of heads: what the run of its body leaves in the four outputs. -/
module

public import proofs.«01_k».proof.Proof.NaOffs

@[expose] public section

set_option maxRecDepth 16384

noncomputable section

namespace Cert.NaIdeal.Hand

open Cert.NaIdeal Cert.NaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The run of the body where the sums begin: for each output the stores made, in order. -/
noncomputable def runA (c : Dev nD) (i : grid0.Coords) (arg2 : Memref sig .tc .vmem S128x2048 .bf16) (harg2 : arg2.IsWhole) (arg3 : Memref sig .tc .vmem S2048x128 .bf16) (harg3 : arg3.IsWhole) (arg4 : Memref sig .tc .vmem S128x8192 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S2x5x640x128 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S2048x128 .bf16) (harg10 : arg10.IsWhole) (arg11 : Memref sig .tc .vmem S128x2048 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S2x5x640x128 .f32) (harg14 : arg14.IsWhole) (hc0 : ((Scalar.cmpi .ne (Scalar.extui (Scalar.cmpi .eq (BitVec.ofNat 32 (i 1).val) 0#32)) 0#32) = 1#1))
    (x0 : Vec F S128x2048 .bf16) (x1 : Vec F S2048x128 .bf16) (x2 : Vec F S128x8192 .bf16) (x3 : Vec F S8192x128 .bf16) (x4 : Vec F S8192x128 .bf16) (x5 : Vec F S2x5x640x128 .f32) (x6 : Vec F S128x2048 .f32) (x7 : Vec F S128x2048 .f32) (x8 : Vec F S2048x128 .bf16) :
    Σ' (L9 : List (View.Piece (Elt F) S128x2048 .f32)), Σ' (L10 : List (View.Piece (Elt F) S8192x128 .f32)), Σ' (L11 : List (View.Piece (Elt F) S8192x128 .f32)), { L12 : List (View.Piece (Elt F) S2x5x640x128 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12)) -∗ K ⟨⟩))
          ⊢ wp frame (wpE (defs₀ (F := F)) Variants.none c none) E (cc0_na_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_na_bwd_eq_skeleton]; unfold cc0_na_bwd_skel
    simp only [k0_part306_eq_skeleton, k0_part305_eq_skeleton, k0_part304_eq_skeleton, k0_part303_eq_skeleton, k0_part302_eq_skeleton, k0_part301_eq_skeleton, k0_part300_eq_skeleton, k0_part299_eq_skeleton, k0_part298_eq_skeleton, k0_part297_eq_skeleton, k0_part296_eq_skeleton, k0_part295_eq_skeleton, k0_part294_eq_skeleton, k0_part293_eq_skeleton, k0_part292_eq_skeleton, k0_part291_eq_skeleton, k0_part290_eq_skeleton, k0_part289_eq_skeleton, k0_part288_eq_skeleton, k0_part287_eq_skeleton, k0_part286_eq_skeleton, k0_part285_eq_skeleton, k0_part284_eq_skeleton, k0_part283_eq_skeleton, k0_part282_eq_skeleton, k0_part281_eq_skeleton, k0_part280_eq_skeleton, k0_part279_eq_skeleton, k0_part278_eq_skeleton, k0_part277_eq_skeleton, k0_part276_eq_skeleton, k0_part275_eq_skeleton, k0_part274_eq_skeleton, k0_part273_eq_skeleton, k0_part272_eq_skeleton, k0_part271_eq_skeleton, k0_part270_eq_skeleton, k0_part269_eq_skeleton, k0_part268_eq_skeleton, k0_part267_eq_skeleton, k0_part266_eq_skeleton, k0_part265_eq_skeleton, k0_part264_eq_skeleton, k0_part263_eq_skeleton, k0_part262_eq_skeleton, k0_part261_eq_skeleton, k0_part260_eq_skeleton, k0_part259_eq_skeleton, k0_part258_eq_skeleton, k0_part257_eq_skeleton, k0_part256_eq_skeleton, k0_part255_eq_skeleton, k0_part254_eq_skeleton, k0_part253_eq_skeleton, k0_part252_eq_skeleton, k0_part251_eq_skeleton, k0_part250_eq_skeleton, k0_part249_eq_skeleton, k0_part248_eq_skeleton, k0_part247_eq_skeleton, k0_part246_eq_skeleton, k0_part245_eq_skeleton, k0_part244_eq_skeleton, k0_part243_eq_skeleton, k0_part242_eq_skeleton, k0_part241_eq_skeleton, k0_part240_eq_skeleton, k0_part239_eq_skeleton, k0_part238_eq_skeleton, k0_part237_eq_skeleton, k0_part236_eq_skeleton, k0_part235_eq_skeleton, k0_part234_eq_skeleton, k0_part233_eq_skeleton, k0_part232_eq_skeleton, k0_part231_eq_skeleton, k0_part230_eq_skeleton, k0_part229_eq_skeleton, k0_part228_eq_skeleton, k0_part227_eq_skeleton, k0_part226_eq_skeleton, k0_part225_eq_skeleton, k0_part224_eq_skeleton, k0_part223_eq_skeleton, k0_part222_eq_skeleton, k0_part221_eq_skeleton, k0_part220_eq_skeleton, k0_part219_eq_skeleton, k0_part218_eq_skeleton, k0_part217_eq_skeleton, k0_part216_eq_skeleton, k0_part215_eq_skeleton, k0_part214_eq_skeleton, k0_part213_eq_skeleton, k0_part212_eq_skeleton, k0_part211_eq_skeleton, k0_part210_eq_skeleton, k0_part209_eq_skeleton, k0_part208_eq_skeleton, k0_part207_eq_skeleton, k0_part206_eq_skeleton, k0_part205_eq_skeleton, k0_part204_eq_skeleton, k0_part203_eq_skeleton, k0_part202_eq_skeleton, k0_part201_eq_skeleton, k0_part200_eq_skeleton, k0_part199_eq_skeleton, k0_part198_eq_skeleton, k0_part197_eq_skeleton, k0_part196_eq_skeleton, k0_part195_eq_skeleton, k0_part194_eq_skeleton, k0_part193_eq_skeleton, k0_part192_eq_skeleton, k0_part191_eq_skeleton, k0_part190_eq_skeleton, k0_part189_eq_skeleton, k0_part188_eq_skeleton, k0_part187_eq_skeleton, k0_part186_eq_skeleton, k0_part185_eq_skeleton, k0_part184_eq_skeleton, k0_part183_eq_skeleton, k0_part182_eq_skeleton, k0_part181_eq_skeleton, k0_part180_eq_skeleton, k0_part179_eq_skeleton, k0_part178_eq_skeleton, k0_part177_eq_skeleton, k0_part176_eq_skeleton, k0_part175_eq_skeleton, k0_part174_eq_skeleton, k0_part173_eq_skeleton, k0_part172_eq_skeleton, k0_part171_eq_skeleton, k0_part170_eq_skeleton, k0_part169_eq_skeleton, k0_part168_eq_skeleton, k0_part167_eq_skeleton, k0_part166_eq_skeleton, k0_part165_eq_skeleton, k0_part164_eq_skeleton, k0_part163_eq_skeleton, k0_part162_eq_skeleton, k0_part161_eq_skeleton, k0_part160_eq_skeleton, k0_part159_eq_skeleton, k0_part158_eq_skeleton, k0_part157_eq_skeleton, k0_part156_eq_skeleton, k0_part155_eq_skeleton, k0_part154_eq_skeleton, k0_part153_eq_skeleton, k0_part152_eq_skeleton, k0_part151_eq_skeleton, k0_part150_eq_skeleton, k0_part149_eq_skeleton, k0_part148_eq_skeleton, k0_part147_eq_skeleton, k0_part146_eq_skeleton, k0_part145_eq_skeleton, k0_part144_eq_skeleton, k0_part143_eq_skeleton, k0_part142_eq_skeleton, k0_part141_eq_skeleton, k0_part140_eq_skeleton, k0_part139_eq_skeleton, k0_part138_eq_skeleton, k0_part137_eq_skeleton, k0_part136_eq_skeleton, k0_part135_eq_skeleton, k0_part134_eq_skeleton, k0_part133_eq_skeleton, k0_part132_eq_skeleton, k0_part131_eq_skeleton, k0_part130_eq_skeleton, k0_part129_eq_skeleton, k0_part128_eq_skeleton, k0_part127_eq_skeleton, k0_part126_eq_skeleton, k0_part125_eq_skeleton, k0_part124_eq_skeleton, k0_part123_eq_skeleton, k0_part122_eq_skeleton, k0_part121_eq_skeleton, k0_part120_eq_skeleton, k0_part119_eq_skeleton, k0_part118_eq_skeleton, k0_part117_eq_skeleton, k0_part116_eq_skeleton, k0_part115_eq_skeleton, k0_part114_eq_skeleton, k0_part113_eq_skeleton, k0_part112_eq_skeleton, k0_part111_eq_skeleton, k0_part110_eq_skeleton, k0_part109_eq_skeleton, k0_part108_eq_skeleton, k0_part107_eq_skeleton, k0_part106_eq_skeleton, k0_part105_eq_skeleton, k0_part104_eq_skeleton, k0_part103_eq_skeleton, k0_part102_eq_skeleton, k0_part101_eq_skeleton, k0_part100_eq_skeleton, k0_part99_eq_skeleton, k0_part98_eq_skeleton, k0_part97_eq_skeleton, k0_part96_eq_skeleton, k0_part95_eq_skeleton, k0_part94_eq_skeleton, k0_part93_eq_skeleton, k0_part92_eq_skeleton, k0_part91_eq_skeleton, k0_part90_eq_skeleton, k0_part89_eq_skeleton, k0_part88_eq_skeleton, k0_part87_eq_skeleton, k0_part86_eq_skeleton, k0_part85_eq_skeleton, k0_part84_eq_skeleton, k0_part83_eq_skeleton, k0_part82_eq_skeleton, k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    iexists _; iexact H12

end Cert.NaIdeal.Hand

end
-- ==== Proof.NaRunB.lean ====
/- The attention's gradient at a later step of a pair of heads: what the run of its body leaves in the four outputs. -/
module

public import proofs.«01_k».proof.Proof.NaOffs

@[expose] public section

set_option maxRecDepth 16384

noncomputable section

namespace Cert.NaIdeal.Hand

open Cert.NaIdeal Cert.NaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The run of the body where the sums go on from what the step before left: for each output the stores made, in order. -/
noncomputable def runB (c : Dev nD) (i : grid0.Coords) (arg2 : Memref sig .tc .vmem S128x2048 .bf16) (harg2 : arg2.IsWhole) (arg3 : Memref sig .tc .vmem S2048x128 .bf16) (harg3 : arg3.IsWhole) (arg4 : Memref sig .tc .vmem S128x8192 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S2x5x640x128 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S2048x128 .bf16) (harg10 : arg10.IsWhole) (arg11 : Memref sig .tc .vmem S128x2048 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S2x5x640x128 .f32) (harg14 : arg14.IsWhole) (hc0 : ¬((Scalar.cmpi .ne (Scalar.extui (Scalar.cmpi .eq (BitVec.ofNat 32 (i 1).val) 0#32)) 0#32) = 1#1))
    (x0 : Vec F S128x2048 .bf16) (x1 : Vec F S2048x128 .bf16) (x2 : Vec F S128x8192 .bf16) (x3 : Vec F S8192x128 .bf16) (x4 : Vec F S8192x128 .bf16) (x5 : Vec F S2x5x640x128 .f32) (x6 : Vec F S128x2048 .f32) (x7 : Vec F S128x2048 .f32) (x8 : Vec F S2048x128 .bf16) (xo10 : Vec F S8192x128 .f32) (xo11 : Vec F S8192x128 .f32) (xo12 : Vec F S2x5x640x128 .f32) :
    Σ' (L9 : List (View.Piece (Elt F) S128x2048 .f32)), Σ' (L10 : List (View.Piece (Elt F) S8192x128 .f32)), Σ' (L11 : List (View.Piece (Elt F) S8192x128 .f32)), { L12 : List (View.Piece (Elt F) S2x5x640x128 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xo10 ∗ owns (c : Thread nD τ) arg13 fullShare xo11 ∗ owns (c : Thread nD τ) arg14 fullShare xo12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xo10) L10) ∗ (arg13.view.loc (c : Thread nD τ) ↦[arg13.view.set]{fullShare} arg13.view.writes (Elt F) (harg13.unread xo11) L11) ∗ (arg14.view.loc (c : Thread nD τ) ↦[arg14.view.set]{fullShare} arg14.view.writes (Elt F) (harg14.unread xo12) L12)) -∗ K ⟨⟩))
          ⊢ wp frame (wpE (defs₀ (F := F)) Variants.none c none) E (cc0_na_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_na_bwd_eq_skeleton]; unfold cc0_na_bwd_skel
    simp only [k0_part306_eq_skeleton, k0_part305_eq_skeleton, k0_part304_eq_skeleton, k0_part303_eq_skeleton, k0_part302_eq_skeleton, k0_part301_eq_skeleton, k0_part300_eq_skeleton, k0_part299_eq_skeleton, k0_part298_eq_skeleton, k0_part297_eq_skeleton, k0_part296_eq_skeleton, k0_part295_eq_skeleton, k0_part294_eq_skeleton, k0_part293_eq_skeleton, k0_part292_eq_skeleton, k0_part291_eq_skeleton, k0_part290_eq_skeleton, k0_part289_eq_skeleton, k0_part288_eq_skeleton, k0_part287_eq_skeleton, k0_part286_eq_skeleton, k0_part285_eq_skeleton, k0_part284_eq_skeleton, k0_part283_eq_skeleton, k0_part282_eq_skeleton, k0_part281_eq_skeleton, k0_part280_eq_skeleton, k0_part279_eq_skeleton, k0_part278_eq_skeleton, k0_part277_eq_skeleton, k0_part276_eq_skeleton, k0_part275_eq_skeleton, k0_part274_eq_skeleton, k0_part273_eq_skeleton, k0_part272_eq_skeleton, k0_part271_eq_skeleton, k0_part270_eq_skeleton, k0_part269_eq_skeleton, k0_part268_eq_skeleton, k0_part267_eq_skeleton, k0_part266_eq_skeleton, k0_part265_eq_skeleton, k0_part264_eq_skeleton, k0_part263_eq_skeleton, k0_part262_eq_skeleton, k0_part261_eq_skeleton, k0_part260_eq_skeleton, k0_part259_eq_skeleton, k0_part258_eq_skeleton, k0_part257_eq_skeleton, k0_part256_eq_skeleton, k0_part255_eq_skeleton, k0_part254_eq_skeleton, k0_part253_eq_skeleton, k0_part252_eq_skeleton, k0_part251_eq_skeleton, k0_part250_eq_skeleton, k0_part249_eq_skeleton, k0_part248_eq_skeleton, k0_part247_eq_skeleton, k0_part246_eq_skeleton, k0_part245_eq_skeleton, k0_part244_eq_skeleton, k0_part243_eq_skeleton, k0_part242_eq_skeleton, k0_part241_eq_skeleton, k0_part240_eq_skeleton, k0_part239_eq_skeleton, k0_part238_eq_skeleton, k0_part237_eq_skeleton, k0_part236_eq_skeleton, k0_part235_eq_skeleton, k0_part234_eq_skeleton, k0_part233_eq_skeleton, k0_part232_eq_skeleton, k0_part231_eq_skeleton, k0_part230_eq_skeleton, k0_part229_eq_skeleton, k0_part228_eq_skeleton, k0_part227_eq_skeleton, k0_part226_eq_skeleton, k0_part225_eq_skeleton, k0_part224_eq_skeleton, k0_part223_eq_skeleton, k0_part222_eq_skeleton, k0_part221_eq_skeleton, k0_part220_eq_skeleton, k0_part219_eq_skeleton, k0_part218_eq_skeleton, k0_part217_eq_skeleton, k0_part216_eq_skeleton, k0_part215_eq_skeleton, k0_part214_eq_skeleton, k0_part213_eq_skeleton, k0_part212_eq_skeleton, k0_part211_eq_skeleton, k0_part210_eq_skeleton, k0_part209_eq_skeleton, k0_part208_eq_skeleton, k0_part207_eq_skeleton, k0_part206_eq_skeleton, k0_part205_eq_skeleton, k0_part204_eq_skeleton, k0_part203_eq_skeleton, k0_part202_eq_skeleton, k0_part201_eq_skeleton, k0_part200_eq_skeleton, k0_part199_eq_skeleton, k0_part198_eq_skeleton, k0_part197_eq_skeleton, k0_part196_eq_skeleton, k0_part195_eq_skeleton, k0_part194_eq_skeleton, k0_part193_eq_skeleton, k0_part192_eq_skeleton, k0_part191_eq_skeleton, k0_part190_eq_skeleton, k0_part189_eq_skeleton, k0_part188_eq_skeleton, k0_part187_eq_skeleton, k0_part186_eq_skeleton, k0_part185_eq_skeleton, k0_part184_eq_skeleton, k0_part183_eq_skeleton, k0_part182_eq_skeleton, k0_part181_eq_skeleton, k0_part180_eq_skeleton, k0_part179_eq_skeleton, k0_part178_eq_skeleton, k0_part177_eq_skeleton, k0_part176_eq_skeleton, k0_part175_eq_skeleton, k0_part174_eq_skeleton, k0_part173_eq_skeleton, k0_part172_eq_skeleton, k0_part171_eq_skeleton, k0_part170_eq_skeleton, k0_part169_eq_skeleton, k0_part168_eq_skeleton, k0_part167_eq_skeleton, k0_part166_eq_skeleton, k0_part165_eq_skeleton, k0_part164_eq_skeleton, k0_part163_eq_skeleton, k0_part162_eq_skeleton, k0_part161_eq_skeleton, k0_part160_eq_skeleton, k0_part159_eq_skeleton, k0_part158_eq_skeleton, k0_part157_eq_skeleton, k0_part156_eq_skeleton, k0_part155_eq_skeleton, k0_part154_eq_skeleton, k0_part153_eq_skeleton, k0_part152_eq_skeleton, k0_part151_eq_skeleton, k0_part150_eq_skeleton, k0_part149_eq_skeleton, k0_part148_eq_skeleton, k0_part147_eq_skeleton, k0_part146_eq_skeleton, k0_part145_eq_skeleton, k0_part144_eq_skeleton, k0_part143_eq_skeleton, k0_part142_eq_skeleton, k0_part141_eq_skeleton, k0_part140_eq_skeleton, k0_part139_eq_skeleton, k0_part138_eq_skeleton, k0_part137_eq_skeleton, k0_part136_eq_skeleton, k0_part135_eq_skeleton, k0_part134_eq_skeleton, k0_part133_eq_skeleton, k0_part132_eq_skeleton, k0_part131_eq_skeleton, k0_part130_eq_skeleton, k0_part129_eq_skeleton, k0_part128_eq_skeleton, k0_part127_eq_skeleton, k0_part126_eq_skeleton, k0_part125_eq_skeleton, k0_part124_eq_skeleton, k0_part123_eq_skeleton, k0_part122_eq_skeleton, k0_part121_eq_skeleton, k0_part120_eq_skeleton, k0_part119_eq_skeleton, k0_part118_eq_skeleton, k0_part117_eq_skeleton, k0_part116_eq_skeleton, k0_part115_eq_skeleton, k0_part114_eq_skeleton, k0_part113_eq_skeleton, k0_part112_eq_skeleton, k0_part111_eq_skeleton, k0_part110_eq_skeleton, k0_part109_eq_skeleton, k0_part108_eq_skeleton, k0_part107_eq_skeleton, k0_part106_eq_skeleton, k0_part105_eq_skeleton, k0_part104_eq_skeleton, k0_part103_eq_skeleton, k0_part102_eq_skeleton, k0_part101_eq_skeleton, k0_part100_eq_skeleton, k0_part99_eq_skeleton, k0_part98_eq_skeleton, k0_part97_eq_skeleton, k0_part96_eq_skeleton, k0_part95_eq_skeleton, k0_part94_eq_skeleton, k0_part93_eq_skeleton, k0_part92_eq_skeleton, k0_part91_eq_skeleton, k0_part90_eq_skeleton, k0_part89_eq_skeleton, k0_part88_eq_skeleton, k0_part87_eq_skeleton, k0_part86_eq_skeleton, k0_part85_eq_skeleton, k0_part84_eq_skeleton, k0_part83_eq_skeleton, k0_part82_eq_skeleton, k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg14.eq_unread hf12
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexact H10
    isplitl [H11]; · iexact H11
    iexact H12

end Cert.NaIdeal.Hand

end
-- ==== Proof.NaStores.lean ====
/- What the four outputs of the attention's gradient hold at each point of the grid. -/
module

public import proofs.«01_k».proof.Proof.NaRunA
public import proofs.«01_k».proof.Proof.NaRunB
public import Idealize.ShloMosaic.Lib.Claim

@[expose] public section

set_option maxRecDepth 16384

noncomputable section

namespace Cert.NaIdeal.Hand

open Cert.NaIdeal Cert.NaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sums of a pair of heads begin at its first step. -/
abbrev begins (i : grid0.Coords) : Prop := (Scalar.cmpi .ne (Scalar.extui (Scalar.cmpi .eq (BitVec.ofNat 32 (i 1).val) 0#32)) 0#32) = 1#1

theorem begins_iff (t : Fin cfg0.N) : begins (grid0.coords t) ↔ t.val % 4 = 0 := by
  have ht : t.val < 16 := Nat.lt_of_lt_of_eq t.isLt N_0
  have e1 : (grid0.coords t 1).val = t.val / 1 % 4 := Pipeline.Grid.coords_val t 1 (by decide) rfl
  simp only [begins, e1]
  word_cmp

/-- The stores that a first step makes. -/
def storesA (c : Dev nD) (t : Fin cfg0.N) (h : t.val % 4 = 0) :=
  runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12))
    ((begins_iff t).mpr h) (iblk m c 0 t) (iblk m c 1 t) (iblk m c 2 t) (iblk m c 3 t) (iblk m c 4 t) (iblk m c 5 t) (iblk m c 6 t) (iblk m c 7 t) (iblk m c 8 t)

/-- The stores that a later step makes, over what it finds in the three sums. -/
def storesB (c : Dev nD) (t : Fin cfg0.N) (h : ¬t.val % 4 = 0) (a : Vec F S8192x128 .f32) (b : Vec F S8192x128 .f32) (d : Vec F S2x5x640x128 .f32) :=
  runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12))
    (fun g => h ((begins_iff t).mp g)) (iblk m c 0 t) (iblk m c 1 t) (iblk m c 2 t) (iblk m c 3 t) (iblk m c 4 t) (iblk m c 5 t) (iblk m c 6 t) (iblk m c 7 t) (iblk m c 8 t) a b d

/-- What stores leave in a buffer of the first output, whatever it held before (they fill it). -/
abbrev left0 (L : List (View.Piece (Elt F) S128x2048 .f32)) : Vec F S128x2048 .f32 :=
  View.read (Elt F) (Memref.whole cc0_stg9_0 : Memref sig .tc .vmem S128x2048 .f32).view (View.writes _ (Elt F) (View.junk _) L)

/-- What stores that begin with a fill leave in a buffer of the second or the third output, -/
abbrev left1 (L : List (View.Piece (Elt F) S8192x128 .f32)) : Vec F S8192x128 .f32 :=
  View.read (Elt F) (Memref.whole cc0_stg10_0 : Memref sig .tc .vmem S8192x128 .f32).view (View.writes _ (Elt F) (View.junk _) L)

/-- and of the fourth. -/
abbrev left3 (L : List (View.Piece (Elt F) S2x5x640x128 .f32)) : Vec F S2x5x640x128 .f32 :=
  View.read (Elt F) (Memref.whole cc0_stg12_0 : Memref sig .tc .vmem S2x5x640x128 .f32).view (View.writes _ (Elt F) (View.junk _) L)

/-- What stores leave in a buffer that held `x`. -/
abbrev over {S : Shape} (M : Memref sig .tc .vmem S .f32) (h : M.IsWhole) (x : Vec F S .f32) (L : List (View.Piece (Elt F) S .f32)) : Vec F S .f32 :=
  View.read (Elt F) M.view (M.view.writes (Elt F) (h.unread x) L)

/-- What the four outputs hold. -/
abbrev Outs (F : FTy → Type) : Type := Vec F S128x2048 .f32 × Vec F S8192x128 .f32 × Vec F S8192x128 .f32 × Vec F S2x5x640x128 .f32

/-- What a first step leaves, -/
def outsA (c : Dev nD) (t : Fin cfg0.N) (h : t.val % 4 = 0) : Outs F :=
  (left0 (storesA m c t h).1, left1 (storesA m c t h).2.1, left1 (storesA m c t h).2.2.1, left3 (storesA m c t h).2.2.2.1)

/-- and a later one. -/
def outsB (c : Dev nD) (t : Fin cfg0.N) (h : ¬t.val % 4 = 0) (p : Outs F) : Outs F :=
  (left0 (storesB m c t h p.2.1 p.2.2.1 p.2.2.2).1,
    over (win0_10.stage (cfg0.slots t 10)) (hstage0_10 ((cfg0.slots t 10).cast nbuf0_10)) p.2.1 (storesB m c t h p.2.1 p.2.2.1 p.2.2.2).2.1,
    over (win0_11.stage (cfg0.slots t 11)) (hstage0_11 ((cfg0.slots t 11).cast nbuf0_11)) p.2.2.1 (storesB m c t h p.2.1 p.2.2.1 p.2.2.2).2.2.1,
    over (win0_12.stage (cfg0.slots t 12)) (hstage0_12 ((cfg0.slots t 12).cast nbuf0_12)) p.2.2.2 (storesB m c t h p.2.1 p.2.2.1 p.2.2.2).2.2.2.1)

/-- What the outputs hold after the step at position `n`. -/
def outsAt (c : Dev nD) : (n : ℕ) → n < cfg0.N → Outs F
  | 0, hn => outsA m c ⟨0, hn⟩ rfl
  | n + 1, hn => if h : (n + 1) % 4 = 0 then outsA m c ⟨n + 1, hn⟩ h else outsB m c ⟨n + 1, hn⟩ h (outsAt c n (Nat.lt_of_succ_lt hn))

theorem outsAt_A (c : Dev nD) (t : Fin cfg0.N) (h : t.val % 4 = 0) : outsAt m c t.val t.isLt = outsA m c t h := by
  obtain ⟨n, hn⟩ := t
  cases n with
  | zero => rfl
  | succ n => exact dif_pos h

theorem outsAt_B (c : Dev nD) (t : Fin cfg0.N) (h : ¬t.val % 4 = 0) :
    outsAt m c t.val t.isLt = outsB m c t h (outsAt m c (t.val - 1) (Nat.lt_of_le_of_lt (Nat.sub_le _ _) t.isLt)) := by
  obtain ⟨n, hn⟩ := t
  cases n with
  | zero => exact absurd (Nat.zero_mod _) h
  | succ n => exact dif_neg h

/-- The proof data: the arrays as the region finds them; after a step every input's buffer at its block, the outputs' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
    | ⟨10, _⟩ => (outsAt m c t.val t.isLt).2.1
    | ⟨11, _⟩ => (outsAt m c t.val t.isLt).2.2.1
    | ⟨12, _⟩ => (outsAt m c t.val t.isLt).2.2.2
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (outsAt m c t.val t.isLt).1 := by dsimp only [dats]
theorem after_10 (c : Dev nD) (t : Fin cfg0.N) : (dats m 0 c).after 10 t = (outsAt m c t.val t.isLt).2.1 := by dsimp only [dats]
theorem after_11 (c : Dev nD) (t : Fin cfg0.N) : (dats m 0 c).after 11 t = (outsAt m c t.val t.isLt).2.2.1 := by dsimp only [dats]
theorem after_12 (c : Dev nD) (t : Fin cfg0.N) : (dats m 0 c).after 12 t = (outsAt m c t.val t.isLt).2.2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- A later step finds in output 1 what the step before left. -/
theorem before_10 (c : Dev nD) (t : Fin cfg0.N) (h : ¬t.val % 4 = 0) (d) :
    (dats m 0 c).before 10 t d = (outsAt m c (t.val - 1) (Nat.lt_of_le_of_lt (Nat.sub_le _ _) t.isLt)).2.1 := by
  have hN : t.val < 16 := lt_of_lt_of_eq t.isLt (show cfg0.N = 16 from N_0)
  rw [Dat.before_out_kept _ 10 rfl t (by omega) (Bool.eq_false_iff.mpr fun g => by have := (flush0_10 _).mp g; dsimp only at this; omega)
    (fun _ => rfl) (fun _ _ => rfl)]
  dsimp only [dats]

/-- A later step finds in output 2 what the step before left. -/
theorem before_11 (c : Dev nD) (t : Fin cfg0.N) (h : ¬t.val % 4 = 0) (d) :
    (dats m 0 c).before 11 t d = (outsAt m c (t.val - 1) (Nat.lt_of_le_of_lt (Nat.sub_le _ _) t.isLt)).2.2.1 := by
  have hN : t.val < 16 := lt_of_lt_of_eq t.isLt (show cfg0.N = 16 from N_0)
  rw [Dat.before_out_kept _ 11 rfl t (by omega) (Bool.eq_false_iff.mpr fun g => by have := (flush0_11 _).mp g; dsimp only at this; omega)
    (fun _ => rfl) (fun _ _ => rfl)]
  dsimp only [dats]

/-- A later step finds in output 3 what the step before left. -/
theorem before_12 (c : Dev nD) (t : Fin cfg0.N) (h : ¬t.val % 4 = 0) (d) :
    (dats m 0 c).before 12 t d = (outsAt m c (t.val - 1) (Nat.lt_of_le_of_lt (Nat.sub_le _ _) t.isLt)).2.2.2 := by
  have hN : t.val < 16 := lt_of_lt_of_eq t.isLt (show cfg0.N = 16 from N_0)
  rw [Dat.before_out_kept _ 12 rfl t (by omega) (Bool.eq_false_iff.mpr fun g => by have := (flush0_12 _).mp g; dsimp only at this; omega)
    (fun _ => rfl) (fun _ _ => rfl)]
  dsimp only [dats]

/-- The stores of the first output fill it, at a first step -/
theorem cover_A (c : Dev nD) (t : Fin cfg0.N) (h : t.val % 4 = 0) (y : S128x2048.Idx) : ∃ p ∈ (storesA m c t h).1, y ∈ p.1.set :=
  View.cover_of_tiledL (storesA m c t h).1 S64x128.size (by sl_kernel_rfl) y

/-- and at a later one. -/
theorem cover_B (c : Dev nD) (t : Fin cfg0.N) (h : ¬t.val % 4 = 0) (a b d) (y : S128x2048.Idx) : ∃ p ∈ (storesB m c t h a b d).1, y ∈ p.1.set :=
  View.cover_of_tiledL (storesB m c t h a b d).1 S64x128.size (by sl_kernel_rfl) y

/-- A list of stores whose first is over the whole shape covers it. -/
theorem cover_first {S : Shape} {e : EltTy} (L : List (View.Piece (Elt F) S e)) (p : View.Piece (Elt F) S e)
    (h : L.getLast? = some p) (hp : ∀ y, y ∈ p.1.set) (y : S.Idx) : ∃ p ∈ L, y ∈ p.1.set :=
  ⟨p, List.mem_of_getLast? h, hp y⟩

/-- The whole rectangle holds every index. -/
theorem whole_mem {S : Shape} {off : Fin S.rank → ℕ} (inb : ∀ a, off a + S.size a ≤ S.size a) (y : S.Idx) : y ∈ (Rect.unit off S.size inb).set :=
  Rect.mem_set_unit.mpr fun a => by have h1 := inb a; have h2 : off a = 0 := by omega
                                    rw [h2]; exact ⟨Nat.zero_le _, by have := (y a).isLt; omega⟩

theorem cover_A1 (c : Dev nD) (t : Fin cfg0.N) (h : t.val % 4 = 0) (y : S8192x128.Idx) : ∃ p ∈ (storesA m c t h).2.1, y ∈ p.1.set :=
  cover_first _ ⟨Rect.unit ![0, 0] S8192x128.size inb_S8192x128_S8192x128_0_0, k0_pay2⟩ (by sl_kernel_rfl) (whole_mem inb_S8192x128_S8192x128_0_0) y

theorem cover_A2 (c : Dev nD) (t : Fin cfg0.N) (h : t.val % 4 = 0) (y : S8192x128.Idx) : ∃ p ∈ (storesA m c t h).2.2.1, y ∈ p.1.set :=
  cover_first _ ⟨Rect.unit ![0, 0] S8192x128.size inb_S8192x128_S8192x128_0_0, k0_pay3⟩ (by sl_kernel_rfl) (whole_mem inb_S8192x128_S8192x128_0_0) y

theorem cover_A3 (c : Dev nD) (t : Fin cfg0.N) (h : t.val % 4 = 0) (y : S2x5x640x128.Idx) : ∃ p ∈ (storesA m c t h).2.2.2.1, y ∈ p.1.set :=
  cover_first _ ⟨Rect.unit ![0, 0, 0, 0] S2x5x640x128.size inb_S2x5x640x128_S2x5x640x128_0_0_0_0, k0_pay4⟩ (by sl_kernel_rfl) (whole_mem inb_S2x5x640x128_S2x5x640x128_0_0_0_0) y

/-- Two readings of stores that fill a shape agree, whatever buffers hold them. -/
theorem left0_eq (M : Memref sig .tc .vmem S128x2048 .f32) (e) (L : List (View.Piece (Elt F) S128x2048 .f32)) (h : ∀ y, ∃ p ∈ L, y ∈ p.1.set) :
    View.read (Elt F) M.view (M.view.writes (Elt F) e L) = left0 L := View.read_writes_of_cover _ _ _ _ _ h
theorem left1_eq (M : Memref sig .tc .vmem S8192x128 .f32) (e) (L : List (View.Piece (Elt F) S8192x128 .f32)) (h : ∀ y, ∃ p ∈ L, y ∈ p.1.set) :
    View.read (Elt F) M.view (M.view.writes (Elt F) e L) = left1 L := View.read_writes_of_cover _ _ _ _ _ h
theorem left3_eq (M : Memref sig .tc .vmem S2x5x640x128 .f32) (e) (L : List (View.Piece (Elt F) S2x5x640x128 .f32)) (h : ∀ y, ∃ p ∈ L, y ∈ p.1.set) :
    View.read (Elt F) M.view (M.view.writes (Elt F) e L) = left3 L := View.read_writes_of_cover _ _ _ _ _ h

end Cert.NaIdeal.Hand

end
-- ==== Proof.NaFrame.lean ====
/- The frame of the attention's gradient: its body at every point of the grid and the launch. -/
module

public import proofs.«01_k».proof.Proof.NaStores
public import Idealize.ShloMosaic.Lib.Claim

@[expose] public section

set_option maxRecDepth 16384

noncomputable section

namespace Cert.NaIdeal.Hand

open Cert.NaIdeal Cert.NaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] storesA storesB

/-- What the body is called with, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t))

set_option maxHeartbeats 2400000 in
/-- The body at any point, by the run of its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8, after_9, after_10, after_11, after_12]
  by_cases h : t.val % 4 = 0
  · rw [outsAt_A m c t h]
    unfold outsA
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((storesA m c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, ⟨%e9, H9⟩, ⟨%e10, H10⟩, ⟨%e11, H11⟩, ⟨%e12, H12⟩⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact left0_eq _ _ _ (cover_A m c t h)
    isplitl [H10]
    · unfold owns; iexists _; isplitr
      swap; · iexact H10
      ipureintro; exact left1_eq _ _ _ (cover_A1 m c t h)
    isplitl [H11]
    · unfold owns; iexists _; isplitr
      swap; · iexact H11
      ipureintro; exact left1_eq _ _ _ (cover_A2 m c t h)
    unfold owns; iexists _; isplitr
    swap; · iexact H12
    ipureintro; exact left3_eq _ _ _ (cover_A3 m c t h)
  · rw [outsAt_B m c t h]
    unfold outsB
    simp only [before_10 m c t h, before_11 m c t h, before_12 m c t h]
    generalize outsAt m c (t.val - 1) (Nat.lt_of_le_of_lt (Nat.sub_le _ _) t.isLt) = p
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((storesB m c t h p.2.1 p.2.2.1 p.2.2.2).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    iintro ⟨H0, H1, H2, H3, H4, H5, H6, H7, H8, ⟨%e9, H9⟩, H10, H11, H12⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact left0_eq _ _ _ (cover_B m c t h _ _ _)
    isplitl [H10]
    · unfold owns; iexists _; isplitr
      swap; · iexact H10
      ipureintro; rfl
    isplitl [H11]
    · unfold owns; iexists _; isplitr
      swap; · iexact H11
      ipureintro; rfl
    unfold owns; iexists _; isplitr
    swap; · iexact H12
    ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every semaphore counter at zero in the end. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The frame: the program ends, its arguments unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.NaIdeal.Hand

end
-- ==== Proof.NaBits.lean ====
/- The frame of the attention's gradient over machine words: the two programs are one text, so the run written over any floats serves here too. -/
module

public import proofs.«01_k».proof.Proof.NaFrame
public import proofs.«01_k».proof.Proof.Gen.Na
public import proofs.«01_k».proof.Defs
public import Idealize.ShloMosaic.Lib.Tactic

@[expose] public section

set_option maxRecDepth 16384

noncomputable section

namespace Cert.NaIdeal.Hand

open Cert.NaIdeal
open Idealize.ShloMosaic Idealize.ShloMosaic.Tactic Idealize.SL.Sem

/-- The two programs say the same of a run. -/
theorem same_text : Cert.quiescent_Na (hNa := Cert.Na.Gen.facts)
    = ∀ (m : (ℓ : Loc nD τ sig) → Buf (Elt Bits) ℓ) (g : Dev nD → PrngReg), Cert.Pre_Na m →
      θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  sl_kernel_rfl

/-- The frame of the program as it is written. -/
theorem frame_bits : Cert.quiescent_Na (hNa := Cert.Na.Gen.facts) :=
  same_text.mpr fun m g _ => frame_any (F := Bits) m g

end Cert.NaIdeal.Hand

end
-- ==== Proof.NaSpec.lean ====
module

public import Mathlib.Analysis.SpecialFunctions.Exp
public import Mathlib.Algebra.BigOperators.Fin
public import Mathlib.Data.Fin.Tuple.Basic

/-! The gradient of the neighbourhood attention over the reals: of queries, keys, values, cotangent and bias table given as functions of
a token `64 row + column` and a channel `64 head + a`. -/

@[expose] public section

noncomputable section

namespace Cert.NaSpec

/-- Queries, keys, values, cotangent (by token and channel) and the bias table (by head, row and column difference). -/
structure Data where
  (q k v g : ℕ → ℕ → ℝ)
  b : ℕ → ℕ → ℕ → ℝ

/-- The first row that a query of row `r` sees, -/
def rs (r : ℕ) : ℕ := min (r - 4) 120
/-- the first column, -/
def cs (c : ℕ) : ℕ := min (c - 8) 48
/-- the first row of the window of rows `2 m` and `2 m + 1`. -/
def ws (m : ℕ) : ℕ := min (2 * m - 4) 118

/-- Whether the query at `r`, `c` sees the key at `r'`, `c'`. -/
def seen (r c r' c' : ℕ) : Prop := (rs r ≤ r' ∧ r' < rs r + 8) ∧ (cs c ≤ c' ∧ c' < cs c + 16)

instance (r c r' c' : ℕ) : Decidable (seen r c r' c') := by unfold seen; infer_instance

/-- A sum over all keys (or all queries). -/
def all (f : ℕ → ℕ → ℝ) : ℝ := ∑ r : Fin 128, ∑ c : Fin 64, f r.val c.val

/-- A sum over the channels of a head. -/
def chans (f : ℕ → ℝ) : ℝ := ∑ a : Fin 64, f a.val

variable (d : Data)

def qk (h r c r' c' : ℕ) : ℝ := chans fun a => d.q (64 * r + c) (64 * h + a) * d.k (64 * r' + c') (64 * h + a)
def score (h r c r' c' : ℕ) : ℝ := qk d h r c r' c' * 0.125 + d.b h (r' + 7 - r) (c' + 15 - c)
def wt (h r c r' c' : ℕ) : ℝ := if seen r c r' c' then Real.exp (score d h r c r' c') else 0
def wsum (h r c : ℕ) : ℝ := all (wt d h r c)
/-- The probabilities, -/
def prob (h r c r' c' : ℕ) : ℝ := wt d h r c r' c' / wsum d h r c
/-- the output, -/
def out (h r c a : ℕ) : ℝ := all fun r' c' => prob d h r c r' c' * d.v (64 * r' + c') (64 * h + a)
/-- the gradient of the probabilities, -/
def dprob (h r c r' c' : ℕ) : ℝ := chans fun a => d.g (64 * r + c) (64 * h + a) * d.v (64 * r' + c') (64 * h + a)
/-- its mean under the probabilities, -/
def delta (h r c : ℕ) : ℝ := all fun r' c' => prob d h r c r' c' * dprob d h r c r' c'
/-- the gradient of the scores. -/
def dscore (h r c r' c' : ℕ) : ℝ := prob d h r c r' c' * (dprob d h r c r' c' - delta d h r c)
/-- The gradients of the queries, -/
def dq (h r c a : ℕ) : ℝ := (all fun r' c' => dscore d h r c r' c' * d.k (64 * r' + c') (64 * h + a)) * 0.125
/-- of the keys -/
def dk (h r' c' a : ℕ) : ℝ := (all fun r c => dscore d h r c r' c' * d.q (64 * r + c) (64 * h + a)) * 0.125
/-- and of the values. -/
def dv (h r' c' a : ℕ) : ℝ := all fun r c => prob d h r c r' c' * d.g (64 * r + c) (64 * h + a)

/-- A sum over the rows of a window is one over all rows, where nothing is outside of the window. -/
theorem sum_window (w n : ℕ) (hw : w + n ≤ 128) (f : ℕ → ℝ) (hf : ∀ r, ¬ (w ≤ r ∧ r < w + n) → f r = 0) :
    ∑ b : Fin n, f (w + b.val) = ∑ r : Fin 128, f r.val := by
  rw [← Finset.sum_range (f := fun r => f r), ← Finset.sum_range (f := fun b => f (w + b))]
  have h1 : ∑ b ∈ Finset.range n, f (w + b) = ∑ r ∈ Finset.Ico w (w + n), f r := by
    rw [Finset.sum_Ico_eq_sum_range]; simp
  rw [h1]
  refine Finset.sum_subset (fun x hx => ?_) fun x _ hx => hf x (fun h => hx (Finset.mem_Ico.2 h))
  have := Finset.mem_Ico.1 hx
  exact Finset.mem_range.2 (by omega)

/-- The same of a sum over the keys of a window. -/
theorem all_window (w n : ℕ) (hw : w + n ≤ 128) (f : ℕ → ℕ → ℝ) (hf : ∀ r c, c < 64 → ¬ (w ≤ r ∧ r < w + n) → f r c = 0) :
    ∑ b : Fin n, ∑ c : Fin 64, f (w + b.val) c.val = all f :=
  sum_window w n hw (fun r => ∑ c : Fin 64, f r c.val) fun r h => Finset.sum_eq_zero fun c _ => hf r c.val c.isLt h

theorem rs_le (r : ℕ) : rs r + 8 ≤ 128 := by unfold rs; omega
theorem ws_le (m : ℕ) : ws m + 10 ≤ 128 := by unfold ws; omega

/-- The window of two rows holds what each of them sees. -/
theorem ws_rs (m e : ℕ) (hm : m < 64) (he : e < 2) : ws m ≤ rs (2 * m + e) ∧ rs (2 * m + e) + 8 ≤ ws m + 10 := by
  unfold ws rs; omega

theorem wt_eq_zero {h r c r' c' : ℕ} (hs : ¬ seen r c r' c') : wt d h r c r' c' = 0 := if_neg hs
theorem prob_eq_zero {h r c r' c' : ℕ} (hs : ¬ seen r c r' c') : prob d h r c r' c' = 0 := by
  unfold prob; rw [wt_eq_zero d hs, zero_div]
theorem dscore_eq_zero {h r c r' c' : ℕ} (hs : ¬ seen r c r' c') : dscore d h r c r' c' = 0 := by
  unfold dscore; rw [prob_eq_zero d hs, zero_mul]

/-- Each query sees a key: its own position. -/
theorem seen_self {r c : ℕ} (hr : r < 128) (hc : c < 64) : seen r c r c := by unfold seen rs cs; omega

theorem wt_nonneg (h r c r' c' : ℕ) : 0 ≤ wt d h r c r' c' := by unfold wt; split; exacts [(Real.exp_pos _).le, le_rfl]

theorem wsum_pos {h r c : ℕ} (hr : r < 128) (hc : c < 64) : 0 < wsum d h r c := by
  unfold wsum all
  refine Finset.sum_pos' (fun r' _ => Finset.sum_nonneg fun c' _ => wt_nonneg d ..) ⟨(⟨r, hr⟩ : Fin 128), Finset.mem_univ _, ?_⟩
  refine Finset.sum_pos' (fun c' _ => wt_nonneg d ..) ⟨(⟨c, hc⟩ : Fin 64), Finset.mem_univ _, ?_⟩
  unfold wt; rw [if_pos (seen_self hr hc)]; exact Real.exp_pos _

/-- The mean is the sum of cotangent times output. -/
theorem delta_eq (h r c : ℕ) : (chans fun a => d.g (64 * r + c) (64 * h + a) * out d h r c a) = delta d h r c := by
  unfold chans out delta dprob all chans
  simp only [Finset.mul_sum]
  rw [Finset.sum_comm]
  refine Finset.sum_congr rfl fun r' _ => ?_
  rw [Finset.sum_comm]
  refine Finset.sum_congr rfl fun c' _ => Finset.sum_congr rfl fun a _ => ?_
  ring

end Cert.NaSpec
end
-- ==== Proof.NaTable.lean ====
module

public import proofs.«01_k».proof.Proof.Gen.NaIdeal.Frame
public import Idealize.ShloMosaic.Lib.StableHlo.RunRead
public import Idealize.ShloMosaic.Lib.Pointwise
public import proofs.«01_k».proof.Proof.NaSpec
/-! The tables of rows, columns and masks that the host prepares for the attention's gradient: integers, read entry by entry. -/

@[expose] public section
set_option maxRecDepth 16384
noncomputable section
namespace Cert.NaTable
open Cert.NaIdeal Cert.NaIdeal.Gen Idealize.ShloMosaic Idealize.ShloMosaic.TcCoe Idealize.ShloMosaic.StableHlo
open Cert.NaSpec
variable (m : (ℓ : Loc nD τ sig) → Buf (Elt Ideal) ℓ)
/-- The pair of rows that stands for a bias case. -/
def repOf : Fin 5 → ℕ := ![0, 1, 2, 62, 63]

/-- Whether window row `b` of case `a` is seen by row `e` of the pair. -/
theorem v150 (c : Dev nD) : ∀ (a : Fin 5) (b : Fin 10) (e : Fin 2), @Eq (BitVec 1) (V m c main_v150 (ix3 a b e)) (if rs (2 * repOf a + e.val) ≤ ws (repOf a) + b.val ∧ ws (repOf a) + b.val < rs (2 * repOf a + e.val) + 8 then 1#1 else 0#1) := by
  after_reads_simp
  decide +kernel
/-- Whether column `k` is seen from column `q`. -/
theorem v175 (c : Dev nD) : ∀ (q k : Fin 64), @Eq (BitVec 1) (V m c main_v175 (ix2 q k)) (if cs q.val ≤ k.val ∧ k.val < cs q.val + 16 then 1#1 else 0#1) := by
  after_reads_simp
  decide +kernel
/-- The row differences, -/
theorem v191 (c : Dev nD) : ∀ (a : Fin 5) (b : Fin 10) (e : Fin 2), @Eq (BitVec 32) (V m c main_v191 (ix5 a b (0 : Fin 1) e (0 : Fin 1))) (BitVec.ofNat 32 (min (ws (repOf a) + b.val + 7 - (2 * repOf a + e.val)) 14)) := by
  after_reads_simp
  decide +kernel
/-- the column differences. -/
theorem v196 (c : Dev nD) : ∀ (q k : Fin 64), @Eq (BitVec 32) (V m c main_v196 (ix5 (0 : Fin 1) (0 : Fin 1) k (0 : Fin 1) q)) (BitVec.ofNat 32 (min (k.val + 15 - q.val) 30)) := by
  after_reads_simp
  decide +kernel
end Cert.NaTable
end
-- ==== Proof.NaHost.lean ====
module

public import proofs.«01_k».proof.Proof.NaTable
public import proofs.«01_k».proof.Proof.Gen.NaRefIdeal.Read
public import Idealize.ShloMosaic.Lib.Tactic
public import Idealize.ShloMosaic.Lib.ValueIdxRank6

/-! What the host prepares for the attention's gradient, entry by entry. -/

@[expose] public section

set_option maxRecDepth 16384

noncomputable section

namespace Cert.NaHost

open Cert.NaIdeal Cert.NaIdeal.Gen Idealize.ShloMosaic Idealize.ShloMosaic.TcCoe Idealize.ShloMosaic.StableHlo Cert.NaSpec Cert.NaTable

variable (m : (ℓ : Loc nD τ sig) → Buf (Elt Ideal) ℓ)

/-- The attention's output, of the same lines as the reference's. -/
theorem v97 (c : Dev nD) : V m c main_v97 = Cert.NaRefIdeal.Read.val_main_v112 (F := Ideal) (m ((c : Thread nD τ).loc main_arg0)) (m ((c : Thread nD τ).loc main_arg1)) (m ((c : Thread nD τ).loc main_arg2)) (m ((c : Thread nD τ).loc main_arg3)) := by
  after_reads_simp
  sl_kernel_rfl

theorem v214 (c : Dev nD) (n : Fin 8192) (a : Fin 512) : V m c main_v214 (ix2 n a) = @HMul.hMul EReal EReal EReal _ (m ((c : Thread nD τ).loc main_arg0) (ix2 n a)) (Ideal.ofBits .f32 0x3E000000#32) := by
  after_reads_simp
  pointwise
theorem v213 (c : Dev nD) (n : Fin 8192) (a : Fin 512) : V m c main_v213 (ix2 a n) = @HMul.hMul EReal EReal EReal _ (m ((c : Thread nD τ).loc main_arg0) (ix2 n a)) (Ideal.ofBits .f32 0x3E000000#32) := by
  after_reads_simp
  pointwise
theorem v216 (c : Dev nD) (n : Fin 8192) (a : Fin 512) : V m c main_v216 (ix2 a n) = m ((c : Thread nD τ).loc main_arg1) (ix2 n a) := by
  after_reads_simp
  pointwise
theorem v217 (c : Dev nD) (n : Fin 8192) (a : Fin 512) : V m c main_v217 (ix2 n a) = m ((c : Thread nD τ).loc main_arg1) (ix2 n a) := by
  after_reads_simp
  pointwise
theorem v218 (c : Dev nD) (n : Fin 8192) (a : Fin 512) : V m c main_v218 (ix2 n a) = m ((c : Thread nD τ).loc main_arg2) (ix2 n a) := by
  after_reads_simp
  pointwise
theorem v219' (c : Dev nD) : V m c main_v219 = transpose S512x8192 [1, 0] (V m c main_v97) transposes_S8192x512_S512x8192_1_0 := by
  after_reads_simp
theorem v219 (c : Dev nD) (n : Fin 8192) (a : Fin 512) : V m c main_v219 (ix2 a n) = V m c main_v97 (ix2 n a) := by
  rw [v219']
  generalize V m c main_v97 = y
  pointwise
theorem v220 (c : Dev nD) (n : Fin 8192) (a : Fin 512) : V m c main_v220 (ix2 a n) = m ((c : Thread nD τ).loc main_arg4) (ix2 n a) := by
  after_reads_simp
  pointwise
theorem v221 (c : Dev nD) (n : Fin 8192) (a : Fin 512) : V m c main_v221 (ix2 n a) = m ((c : Thread nD τ).loc main_arg4) (ix2 n a) := by
  after_reads_simp
  pointwise

end Cert.NaHost
end
-- ==== Proof.NaUnit.lean ====
/- One pair of rows of one head in the attention's gradient, as the operations that its body applies: scores, softmax, the gradient of the scores, and the three products. -/
module

public import proofs.«01_k».proof.Proof.NaOffs

@[expose] public section

set_option maxRecDepth 16384

noncomputable section

namespace Cert.NaIdeal.Hand

open Cert.NaIdeal Cert.NaIdeal.Gen
open Idealize.ShloMosaic Idealize.ShloMosaic.TcCoe Idealize.ShloMosaic.Tactic
open Idealize.SL.Sem

variable {F : FTy → Type} [FloatOps F]

/-- The head (0 or 1) of an index of a pair of heads, along axis `a` of a 128 by 128 array. -/
def headOf (x : IVec S128x128 32) : IVec S128x128 32 :=
  select
    (andi
      (cmpi .ne (subi (extui 32 (cmpi .sgt x (broadcast S128x128 0#32)) natLt_1_32) (extui 32 (cmpi .slt x (broadcast S128x128 0#32)) natLt_1_32))
        (broadcast S128x128 (Scalar.subi (Scalar.extui (Scalar.cmpi .sgt 64#32 0#32)) (Scalar.extui (Scalar.cmpi .slt 64#32 0#32)))))
      (cmpi .ne (remsi x (broadcast S128x128 64#32)) (broadcast S128x128 0#32)))
    (subi (divsi x (broadcast S128x128 64#32)) (broadcast S128x128 1#32))
    (divsi x (broadcast S128x128 64#32))

/-- A block of which only the rows of head `h` are kept, the others zero. -/
def headRows (h : BitVec 32) (x : FVec F S128x128 .bf16) : FVec F S128x128 .bf16 :=
  select (cmpi .eq (headOf (iota .tc S128x128 32 [0] iota_S128x128_d0_w32)) (broadcast S128x128 h)) x (broadcast S128x128 (Scalar.ofBits .bf16 0x0000#16))

/-- The same of the columns. -/
def headCols (h : BitVec 32) (x : FVec F S128x128 .bf16) : FVec F S128x128 .bf16 :=
  select (cmpi .eq (headOf (iota .tc S128x128 32 [1] iota_S128x128_d1_w32)) (broadcast S128x128 h)) x (broadcast S128x128 (Scalar.ofBits .bf16 0x0000#16))

/-- A window of keys (or values) times a block of queries (or cotangents) of head `h`. -/
def prodUnit (h : BitVec 32) (kw : Vec F S640x128 .bf16) (qt : Vec F S128x128 .bf16) : FVec F S640x128 .f32 :=
  matmul dot_S640x128_S128x128_S640x128_1_0_0_1_n_n none (shapeCast S640x128 kw shapeCasts_S640x128_S640x128) (headRows h qt)
    (constant S640x128 .f32 0x00000000#32)

/-- Rows `64 b` to `64 b + 64` of a window. -/
def rowsOf (x : FVec F S640x128 .f32) : (b : Fin 10) → FVec F S64x128 .f32 := fun b => match b with
    | ⟨0, _⟩ => extractStridedSlice S64x128 ![0, 0] x slices_S640x128_o0_0_S64x128
    | ⟨1, _⟩ => extractStridedSlice S64x128 ![64, 0] x slices_S640x128_o64_0_S64x128
    | ⟨2, _⟩ => extractStridedSlice S64x128 ![128, 0] x slices_S640x128_o128_0_S64x128
    | ⟨3, _⟩ => extractStridedSlice S64x128 ![192, 0] x slices_S640x128_o192_0_S64x128
    | ⟨4, _⟩ => extractStridedSlice S64x128 ![256, 0] x slices_S640x128_o256_0_S64x128
    | ⟨5, _⟩ => extractStridedSlice S64x128 ![320, 0] x slices_S640x128_o320_0_S64x128
    | ⟨6, _⟩ => extractStridedSlice S64x128 ![384, 0] x slices_S640x128_o384_0_S64x128
    | ⟨7, _⟩ => extractStridedSlice S64x128 ![448, 0] x slices_S640x128_o448_0_S64x128
    | ⟨8, _⟩ => extractStridedSlice S64x128 ![512, 0] x slices_S640x128_o512_0_S64x128
    | ⟨9, _⟩ => extractStridedSlice S64x128 ![576, 0] x slices_S640x128_o576_0_S64x128

/-- The scores of one row of keys, the bias added. -/
def scoreUnit (qk : FVec F S640x128 .f32) (bias : Fin 10 → Vec F S1x1x64x128 .f32) (b : Fin 10) : FVec F S64x128 .f32 :=
  addf (rowsOf qk b) (shapeCast S64x128 (bias b) shapeCasts_S1x1x64x128_S64x128)

/-- The largest score of each query. -/
def maxUnit (s : Fin 10 → FVec F S64x128 .f32) : FVec F S1x128 .f32 :=
  shapeCast S1x128 (multiReduction .maximumf [0] S128 (maximumf (maximumf (maximumf (maximumf (maximumf (maximumf (maximumf (maximumf (maximumf (maximumf (broadcast S64x128 (Scalar.ofBits .f32 0xFF800000#32)) (s 0)) (s 1)) (s 2)) (s 3)) (s 4)) (s 5)) (s 6)) (s 7)) (s 8)) (s 9)) 0xFF800000#32 reduces_S64x128_S128 (.inl rfl) rfl) shapeCasts_S128_S1x128

/-- The exponentials. -/
def expUnit (s : Fin 10 → FVec F S64x128 .f32) (b : Fin 10) : FVec F S64x128 .f32 :=
  exp (subf (s b) (broadcastTo S64x128 (maxUnit s) broadcasts_S1x128_S64x128))

/-- The inverse of their sum. -/
def invUnit (e : Fin 10 → FVec F S64x128 .f32) : FVec F S1x128 .f32 :=
  divf (broadcast S1x128 (Scalar.ofBits .f32 0x3F800000#32))
    (shapeCast S1x128 (multiReduction .add [0] S128 (addf (addf (addf (addf (addf (addf (addf (addf (addf (addf (broadcast S64x128 (Scalar.ofBits .f32 0x00000000#32)) (e 0)) (e 1)) (e 2)) (e 3)) (e 4)) (e 5)) (e 6)) (e 7)) (e 8)) (e 9)) 0x00000000#32 reduces_S64x128_S128 (.inl rfl) rfl) shapeCasts_S128_S1x128)

/-- The probabilities of one row of keys. -/
def probUnit (s : Fin 10 → FVec F S64x128 .f32) (b : Fin 10) : FVec F S64x128 .f32 :=
  mulf (expUnit s b) (broadcastTo S64x128 (invUnit (expUnit s)) broadcasts_S1x128_S64x128)

/-- The sum over a head's columns of cotangent times output. -/
def deltaUnit (dh oh : Vec F S64x128 .f32) : FVec F S1x128 .f32 :=
  shapeCast S1x128 (multiReduction .add [0] S128 (mulf (shapeCast S64x128 dh shapeCasts_S64x128_S64x128) (shapeCast S64x128 oh shapeCasts_S64x128_S64x128))
    0x00000000#32 reduces_S64x128_S128 (.inl rfl) rfl) shapeCasts_S128_S1x128

/-- The gradient of the scores of one row of keys. -/
def dsUnit (p : Fin 10 → FVec F S64x128 .f32) (dp : FVec F S640x128 .f32) (dl : FVec F S1x128 .f32) (b : Fin 10) : FVec F S64x128 .f32 :=
  mulf (p b) (subf (rowsOf dp b) (broadcastTo S64x128 dl broadcasts_S1x128_S64x128))

/-- The ten rows of keys one under the other, rounded. -/
def stack (x : Fin 10 → FVec F S64x128 .f32) : FVec F S640x128 .bf16 :=
  concatenate S640x128 0 [⟨S64x128, truncf .bf16 (x 0) bitsLt_bf16_f32⟩, ⟨S64x128, truncf .bf16 (x 1) bitsLt_bf16_f32⟩, ⟨S64x128, truncf .bf16 (x 2) bitsLt_bf16_f32⟩, ⟨S64x128, truncf .bf16 (x 3) bitsLt_bf16_f32⟩, ⟨S64x128, truncf .bf16 (x 4) bitsLt_bf16_f32⟩, ⟨S64x128, truncf .bf16 (x 5) bitsLt_bf16_f32⟩, ⟨S64x128, truncf .bf16 (x 6) bitsLt_bf16_f32⟩, ⟨S64x128, truncf .bf16 (x 7) bitsLt_bf16_f32⟩, ⟨S64x128, truncf .bf16 (x 8) bitsLt_bf16_f32⟩, ⟨S64x128, truncf .bf16 (x 9) bitsLt_bf16_f32⟩] concatenates_S64x128_S64x128_S64x128_S64x128_S64x128_S64x128_S64x128_S64x128_S64x128_S64x128_S640x128_d0

/-- The gradient of the queries. -/
def dqUnit (ktw : Vec F S64x640 .bf16) (ds : FVec F S640x128 .bf16) : FVec F S64x128 .f32 :=
  mulf (matmul dot_S64x640_S640x128_S64x128_1_0_0_1_n_n none (shapeCast S64x640 ktw shapeCasts_S64x640_S64x640) ds (constant S64x128 .f32 0x00000000#32))
    (broadcast S64x128 (Scalar.ofBits .f32 0x3E000000#32))

/-- What a pair of rows adds to the gradient of its window of keys (or values): the two heads side by side, times the queries (or cotangents) of each. -/
def dkUnit (d0 d1 : FVec F S640x128 .bf16) (qb : Vec F S128x128 .bf16) (acc : Vec F S640x128 .f32) : FVec F S640x128 .f32 :=
  addf (shapeCast S640x128 acc shapeCasts_S640x128_S640x128)
    (matmul dot_S640x256_S256x128_S640x128_1_0_0_1_n_n none
      (concatenate S640x256 1 [⟨S640x128, d0⟩, ⟨S640x128, d1⟩] concatenates_S640x128_S640x128_S640x256_d1)
      (concatenate S256x128 0 [⟨S128x128, headCols 0#32 (shapeCast S128x128 qb shapeCasts_S128x128_S128x128)⟩, ⟨S128x128, headCols 1#32 (shapeCast S128x128 qb shapeCasts_S128x128_S128x128)⟩] concatenates_S128x128_S128x128_S256x128_d0)
      (constant S640x128 .f32 0x00000000#32))

end Cert.NaIdeal.Hand

end
-- ==== Proof.NaLoads.lean ====
/- The loads of one pair of rows of one head in the attention's gradient, and what it stores. -/
module

public import proofs.«01_k».proof.Proof.NaUnit

@[expose] public section

set_option maxRecDepth 16384

noncomputable section

namespace Cert.NaIdeal.Hand

open Cert.NaIdeal Cert.NaIdeal.Gen
open Idealize.ShloMosaic Idealize.ShloMosaic.TcCoe Idealize.ShloMosaic.Tactic
open Idealize.SL.Sem

variable {F : FTy → Type} [FloatOps F]

variable (i : grid0.Coords) {arg2 : Memref sig .tc .vmem S128x2048 .bf16} (harg2 : arg2.IsWhole) {arg3 : Memref sig .tc .vmem S2048x128 .bf16} (harg3 : arg3.IsWhole) {arg4 : Memref sig .tc .vmem S128x8192 .bf16} (harg4 : arg4.IsWhole) {arg5 : Memref sig .tc .vmem S8192x128 .bf16} (harg5 : arg5.IsWhole) {arg6 : Memref sig .tc .vmem S8192x128 .bf16} (harg6 : arg6.IsWhole) {arg7 : Memref sig .tc .vmem S2x5x640x128 .f32} (harg7 : arg7.IsWhole) {arg8 : Memref sig .tc .vmem S128x2048 .f32} (harg8 : arg8.IsWhole) {arg9 : Memref sig .tc .vmem S128x2048 .f32} (harg9 : arg9.IsWhole) {arg10 : Memref sig .tc .vmem S2048x128 .bf16} (harg10 : arg10.IsWhole)
  (x0 : Vec F S128x2048 .bf16) (x1 : Vec F S2048x128 .bf16) (x2 : Vec F S128x8192 .bf16) (x3 : Vec F S8192x128 .bf16) (x4 : Vec F S8192x128 .bf16) (x5 : Vec F S2x5x640x128 .f32) (x6 : Vec F S128x2048 .f32) (x7 : Vec F S128x2048 .f32) (x8 : Vec F S2048x128 .bf16)

theorem inb_lanes (pp : Fin 16) : ∀ a, (![0, 128 * pp.val] : Fin 2 → ℕ) a + S128x128.size a ≤ S128x2048.size a := fun a => match a with
  | ⟨0, _⟩ => (by decide : 0 + 128 ≤ 128)
  | ⟨1, _⟩ => by have := pp.isLt; show 128 * pp.val + 128 ≤ 2048; omega

theorem inb_head (hh : Fin 2) (pp : Fin 16) : ∀ a, (![64 * hh.val, 128 * pp.val] : Fin 2 → ℕ) a + S64x128.size a ≤ S128x2048.size a := fun a => match a with
  | ⟨0, _⟩ => by have := hh.isLt; show 64 * hh.val + 64 ≤ 128; omega
  | ⟨1, _⟩ => by have := pp.isLt; show 128 * pp.val + 128 ≤ 2048; omega

theorem inb_tok (pp : Fin 16) : ∀ a, (![128 * pp.val, 0] : Fin 2 → ℕ) a + S128x128.size a ≤ S2048x128.size a := fun a => match a with
  | ⟨0, _⟩ => by have := pp.isLt; show 128 * pp.val + 128 ≤ 2048; omega
  | ⟨1, _⟩ => (by decide : 0 + 128 ≤ 128)

/-- The word of head `hh`. -/
def hw (hh : Fin 2) : BitVec 32 := BitVec.ofNat 32 hh.val

/-- The bias blocks that pair `pp` reads for head `hh`. -/
def biasAt (pp : Fin 16) : Fin 2 → Fin 10 → Vec F S1x1x64x128 .f32 :=
  ![![View.readAt (Elt F) arg7.view (Rect.unit (s := S2x5x640x128) (k0_off2 i (BitVec.ofNat 32 pp.val)) S1x1x64x128.size (k0_off2_inb i pp)).toLoadRect (harg7.unread x5), View.readAt (Elt F) arg7.view (Rect.unit (s := S2x5x640x128) (k0_off3 i (BitVec.ofNat 32 pp.val)) S1x1x64x128.size (k0_off3_inb i pp)).toLoadRect (harg7.unread x5), View.readAt (Elt F) arg7.view (Rect.unit (s := S2x5x640x128) (k0_off4 i (BitVec.ofNat 32 pp.val)) S1x1x64x128.size (k0_off4_inb i pp)).toLoadRect (harg7.unread x5), View.readAt (Elt F) arg7.view (Rect.unit (s := S2x5x640x128) (k0_off5 i (BitVec.ofNat 32 pp.val)) S1x1x64x128.size (k0_off5_inb i pp)).toLoadRect (harg7.unread x5), View.readAt (Elt F) arg7.view (Rect.unit (s := S2x5x640x128) (k0_off6 i (BitVec.ofNat 32 pp.val)) S1x1x64x128.size (k0_off6_inb i pp)).toLoadRect (harg7.unread x5), View.readAt (Elt F) arg7.view (Rect.unit (s := S2x5x640x128) (k0_off7 i (BitVec.ofNat 32 pp.val)) S1x1x64x128.size (k0_off7_inb i pp)).toLoadRect (harg7.unread x5), View.readAt (Elt F) arg7.view (Rect.unit (s := S2x5x640x128) (k0_off8 i (BitVec.ofNat 32 pp.val)) S1x1x64x128.size (k0_off8_inb i pp)).toLoadRect (harg7.unread x5), View.readAt (Elt F) arg7.view (Rect.unit (s := S2x5x640x128) (k0_off9 i (BitVec.ofNat 32 pp.val)) S1x1x64x128.size (k0_off9_inb i pp)).toLoadRect (harg7.unread x5), View.readAt (Elt F) arg7.view (Rect.unit (s := S2x5x640x128) (k0_off10 i (BitVec.ofNat 32 pp.val)) S1x1x64x128.size (k0_off10_inb i pp)).toLoadRect (harg7.unread x5), View.readAt (Elt F) arg7.view (Rect.unit (s := S2x5x640x128) (k0_off11 i (BitVec.ofNat 32 pp.val)) S1x1x64x128.size (k0_off11_inb i pp)).toLoadRect (harg7.unread x5)],
    ![View.readAt (Elt F) arg7.view (Rect.unit (s := S2x5x640x128) (k0_off13 i (BitVec.ofNat 32 pp.val)) S1x1x64x128.size (k0_off13_inb i pp)).toLoadRect (harg7.unread x5), View.readAt (Elt F) arg7.view (Rect.unit (s := S2x5x640x128) (k0_off14 i (BitVec.ofNat 32 pp.val)) S1x1x64x128.size (k0_off14_inb i pp)).toLoadRect (harg7.unread x5), View.readAt (Elt F) arg7.view (Rect.unit (s := S2x5x640x128) (k0_off15 i (BitVec.ofNat 32 pp.val)) S1x1x64x128.size (k0_off15_inb i pp)).toLoadRect (harg7.unread x5), View.readAt (Elt F) arg7.view (Rect.unit (s := S2x5x640x128) (k0_off16 i (BitVec.ofNat 32 pp.val)) S1x1x64x128.size (k0_off16_inb i pp)).toLoadRect (harg7.unread x5), View.readAt (Elt F) arg7.view (Rect.unit (s := S2x5x640x128) (k0_off17 i (BitVec.ofNat 32 pp.val)) S1x1x64x128.size (k0_off17_inb i pp)).toLoadRect (harg7.unread x5), View.readAt (Elt F) arg7.view (Rect.unit (s := S2x5x640x128) (k0_off18 i (BitVec.ofNat 32 pp.val)) S1x1x64x128.size (k0_off18_inb i pp)).toLoadRect (harg7.unread x5), View.readAt (Elt F) arg7.view (Rect.unit (s := S2x5x640x128) (k0_off19 i (BitVec.ofNat 32 pp.val)) S1x1x64x128.size (k0_off19_inb i pp)).toLoadRect (harg7.unread x5), View.readAt (Elt F) arg7.view (Rect.unit (s := S2x5x640x128) (k0_off20 i (BitVec.ofNat 32 pp.val)) S1x1x64x128.size (k0_off20_inb i pp)).toLoadRect (harg7.unread x5), View.readAt (Elt F) arg7.view (Rect.unit (s := S2x5x640x128) (k0_off21 i (BitVec.ofNat 32 pp.val)) S1x1x64x128.size (k0_off21_inb i pp)).toLoadRect (harg7.unread x5), View.readAt (Elt F) arg7.view (Rect.unit (s := S2x5x640x128) (k0_off22 i (BitVec.ofNat 32 pp.val)) S1x1x64x128.size (k0_off22_inb i pp)).toLoadRect (harg7.unread x5)]]

/-- The scores of pair `pp` and head `hh`. -/
def scoresAt (hh : Fin 2) (pp : Fin 16) : Fin 10 → FVec F S64x128 .f32 :=
  scoreUnit (prodUnit (hw hh) (View.readAt (Elt F) arg5.view (Rect.unit (s := S8192x128) (k0_off1 i (BitVec.ofNat 32 pp.val)) S640x128.size (k0_off1_inb i pp)).toLoadRect (harg5.unread x3))
      (shapeCast S128x128 (View.readAt (Elt F) arg2.view (Rect.unit (s := S128x2048) ![0, 128 * pp.val] S128x128.size (inb_lanes pp)).toLoadRect (harg2.unread x0)) shapeCasts_S128x128_S128x128))
    (biasAt i harg7 x5 pp hh)

/-- The gradient of the probabilities. -/
def dprobsAt (hh : Fin 2) (pp : Fin 16) : FVec F S640x128 .f32 :=
  prodUnit (hw hh) (View.readAt (Elt F) arg6.view (Rect.unit (s := S8192x128) (k0_off1 i (BitVec.ofNat 32 pp.val)) S640x128.size (k0_off1_inb i pp)).toLoadRect (harg6.unread x4))
    (truncf .bf16 (shapeCast S128x128 (View.readAt (Elt F) arg9.view (Rect.unit (s := S128x2048) ![0, 128 * pp.val] S128x128.size (inb_lanes pp)).toLoadRect (harg9.unread x7)) shapeCasts_S128x128_S128x128) bitsLt_bf16_f32)

/-- The sum of cotangent times output. -/
def deltaAt (hh : Fin 2) (pp : Fin 16) : FVec F S1x128 .f32 :=
  deltaUnit (View.readAt (Elt F) arg9.view (Rect.unit (s := S128x2048) ![64 * hh.val, 128 * pp.val] S64x128.size (inb_head hh pp)).toLoadRect (harg9.unread x7))
    (View.readAt (Elt F) arg8.view (Rect.unit (s := S128x2048) ![64 * hh.val, 128 * pp.val] S64x128.size (inb_head hh pp)).toLoadRect (harg8.unread x6))

/-- The probabilities -/
def probsAt (hh : Fin 2) (pp : Fin 16) : FVec F S640x128 .bf16 := stack (probUnit (scoresAt i harg2 harg5 harg7 x0 x3 x5 hh pp))

/-- and the gradient of the scores. -/
def dsAt (hh : Fin 2) (pp : Fin 16) : FVec F S640x128 .bf16 :=
  stack (dsUnit (probUnit (scoresAt i harg2 harg5 harg7 x0 x3 x5 hh pp)) (dprobsAt i harg6 harg9 x4 x7 hh pp) (deltaAt harg8 harg9 x6 x7 hh pp))

/-- What is stored as the gradient of the queries. -/
def dqAt (hh : Fin 2) (pp : Fin 16) : FVec F S64x128 .f32 :=
  dqUnit ((![View.readAt (Elt F) arg4.view (Rect.unit (s := S128x8192) (k0_off12 i (BitVec.ofNat 32 pp.val)) S64x640.size (k0_off12_inb i pp)).toLoadRect (harg4.unread x2),
      View.readAt (Elt F) arg4.view (Rect.unit (s := S128x8192) (k0_off23 i (BitVec.ofNat 32 pp.val)) S64x640.size (k0_off23_inb i pp)).toLoadRect (harg4.unread x2)] : Fin 2 → Vec F S64x640 .bf16) hh)
    (dsAt i harg2 harg5 harg6 harg7 harg8 harg9 x0 x3 x4 x5 x6 x7 hh pp)

/-- What pair `pp` adds to the gradient of the keys, -/
def dkAt (pp : Fin 16) (acc : Vec F S640x128 .f32) : FVec F S640x128 .f32 :=
  dkUnit (dsAt i harg2 harg5 harg6 harg7 harg8 harg9 x0 x3 x4 x5 x6 x7 0 pp) (dsAt i harg2 harg5 harg6 harg7 harg8 harg9 x0 x3 x4 x5 x6 x7 1 pp)
    (View.readAt (Elt F) arg3.view (Rect.unit (s := S2048x128) ![128 * pp.val, 0] S128x128.size (inb_tok pp)).toLoadRect (harg3.unread x1)) acc

/-- and to that of the values. -/
def dvAt (pp : Fin 16) (acc : Vec F S640x128 .f32) : FVec F S640x128 .f32 :=
  dkUnit (probsAt i harg2 harg5 harg7 x0 x3 x5 0 pp) (probsAt i harg2 harg5 harg7 x0 x3 x5 1 pp)
    (View.readAt (Elt F) arg10.view (Rect.unit (s := S2048x128) ![128 * pp.val, 0] S128x128.size (inb_tok pp)).toLoadRect (harg10.unread x8)) acc

/-- The stores of the gradient of the queries, the last first: pairs downwards, of each pair the second head first. -/
def dqList : (n : ℕ) → n ≤ 16 → List (View.Piece (Elt F) S128x2048 .f32)
  | 0, _ => []
  | n + 1, h => ⟨Rect.unit ![64 * (1 : Fin 2).val, 128 * n] S64x128.size (inb_head 1 ⟨n, h⟩), dqAt i harg2 harg4 harg5 harg6 harg7 harg8 harg9 x0 x2 x3 x4 x5 x6 x7 1 ⟨n, h⟩⟩
      :: ⟨Rect.unit ![64 * (0 : Fin 2).val, 128 * n] S64x128.size (inb_head 0 ⟨n, h⟩), dqAt i harg2 harg4 harg5 harg6 harg7 harg8 harg9 x0 x2 x3 x4 x5 x6 x7 0 ⟨n, h⟩⟩
      :: dqList n (Nat.le_of_succ_le h)

end Cert.NaIdeal.Hand

end
-- ==== Proof.NaPay.lean ====
module

public import proofs.«01_k».proof.Proof.NaLoads
public import proofs.«01_k».proof.Proof.Up
public import Idealize.ShloMosaic.Lib.Pointwise
public import Idealize.ShloMosaic.PureOps.Ideal.Laws

/-! One pair of rows of one head of the attention's gradient, over the reals: what each operation of NaUnit makes of real values. -/

@[expose] public section

set_option maxRecDepth 16384

noncomputable section

namespace Cert.NaPay

open Cert.NaIdeal Cert.NaIdeal.Gen Cert.NaIdeal.Hand Idealize.ShloMosaic Cert.Up

theorem word_bot : Ideal.ofBits .f32 0xFF800000#32 = (⊥ : EReal) := by simp [Ideal.ofBits, Ideal.ieee]
theorem word_eighth : Ideal.ofBits .f32 0x3E000000#32 = ((0.125 : ℝ) : EReal) := by
  simp [Ideal.ofBits, Ideal.ieee, -EReal.coe_mul]; norm_num

/-- The word that tells the head of index `a`. -/
def headWord (a : ℕ) : BitVec 32 :=
  Scalar.select
    (IntOp.andi
      (IntOp.cmpi .ne
        (IntOp.subi (BitVec.setWidth 32 (IntOp.cmpi .sgt (BitVec.ofNat 32 a) 0#32)) (BitVec.setWidth 32 (IntOp.cmpi .slt (BitVec.ofNat 32 a) 0#32)))
        (Scalar.subi (Scalar.extui (Scalar.cmpi .sgt 64#32 0#32)) (Scalar.extui (Scalar.cmpi .slt 64#32 0#32))))
      (IntOp.cmpi .ne (IntOp.remsi .vector (BitVec.ofNat 32 a) 64#32) 0#32))
    (IntOp.subi (IntOp.divsi .vector (BitVec.ofNat 32 a) 64#32) 1#32)
    (IntOp.divsi .vector (BitVec.ofNat 32 a) 64#32)

theorem headWord_eq : ∀ (a : Fin 128) (h : Fin 2), IntOp.cmpi .eq (headWord a.val) (hw h) = if a.val / 64 = h.val then 1#1 else 0#1 := by
  decide +kernel

theorem headRows_apply (h : Fin 2) (x : FVec Ideal S128x128 .bf16) (i : S128x128.Idx) :
    headRows (hw h) x i = if (i 0).val / 64 = h.val then x i else (0 : EReal) := by
  unfold headRows headOf
  pointwise []
  have e := headWord_eq (i 0) h
  unfold headWord at e
  refine (congrArg (fun c => Scalar.select c (x i) (0 : EReal)) e).trans ?_
  split <;> rfl

theorem headCols_apply (h : Fin 2) (x : FVec Ideal S128x128 .bf16) (i : S128x128.Idx) :
    headCols (hw h) x i = if (i 1).val / 64 = h.val then x i else (0 : EReal) := by
  unfold headCols headOf
  pointwise []
  have e := headWord_eq (i 1) h
  unfold headWord at e
  refine (congrArg (fun c => Scalar.select c (x i) (0 : EReal)) e).trans ?_
  split <;> rfl

/-- Row `k` of block `b` of a window of ten blocks. -/
def row (b : Fin 10) (k : Fin 64) : Fin 640 := ⟨64 * b.val + k.val, by omega⟩

theorem rows_apply (x : FVec Ideal S640x128 .f32) (b : Fin 10) (i : S64x128.Idx) : rowsOf x b i = x (ix2 (row b (i 0)) (i 1)) := by
  match b with
  | ⟨0, _⟩ => unfold rowsOf; dsimp only; pointwise; exact congrArg (fun t => x (ix2 t (i 1))) (Fin.ext (by simp [row]))
  | ⟨1, _⟩ => unfold rowsOf; dsimp only; pointwise; rfl
  | ⟨2, _⟩ => unfold rowsOf; dsimp only; pointwise; rfl
  | ⟨3, _⟩ => unfold rowsOf; dsimp only; pointwise; rfl
  | ⟨4, _⟩ => unfold rowsOf; dsimp only; pointwise; rfl
  | ⟨5, _⟩ => unfold rowsOf; dsimp only; pointwise; rfl
  | ⟨6, _⟩ => unfold rowsOf; dsimp only; pointwise; rfl
  | ⟨7, _⟩ => unfold rowsOf; dsimp only; pointwise; rfl
  | ⟨8, _⟩ => unfold rowsOf; dsimp only; pointwise; rfl
  | ⟨9, _⟩ => unfold rowsOf; dsimp only; pointwise; rfl

/-- The ten blocks, one under the other. -/
theorem stack_apply (s : Fin 10 → FVec Ideal S64x128 .f32) (b : Fin 10) (k : Fin 64) (l : Fin 128) :
    stack s (ix2 (row b k) l) = s b (ix2 k l) := by
  unfold stack
  pointwise []
  have hk := k.isLt
  have key : ∀ (n : Fin 10) (t : Fin 64), 64 * b.val + k.val = 64 * n.val + t.val → s n (ix2 t l) = s b (ix2 k l) := fun n t e => by
    obtain rfl : n = b := Fin.ext (by omega)
    obtain rfl : t = k := Fin.ext (by omega)
    rfl
  show (if h : (row b k).val < 64 then _ else _) = _
  by_cases c0 : (row b k).val < 64
  · rw [dif_pos c0]; exact key 0 _ (by show (row b k).val = 64 * 0 + ((row b k).val); omega)
  rw [dif_neg c0]
  by_cases c1 : (row b k).val - 64 < 64
  · rw [dif_pos c1]; exact key 1 _ (by show (row b k).val = 64 * 1 + ((row b k).val - 64); omega)
  rw [dif_neg c1]
  by_cases c2 : (row b k).val - 64 - 64 < 64
  · rw [dif_pos c2]; exact key 2 _ (by show (row b k).val = 64 * 2 + ((row b k).val - 64 - 64); omega)
  rw [dif_neg c2]
  by_cases c3 : (row b k).val - 64 - 64 - 64 < 64
  · rw [dif_pos c3]; exact key 3 _ (by show (row b k).val = 64 * 3 + ((row b k).val - 64 - 64 - 64); omega)
  rw [dif_neg c3]
  by_cases c4 : (row b k).val - 64 - 64 - 64 - 64 < 64
  · rw [dif_pos c4]; exact key 4 _ (by show (row b k).val = 64 * 4 + ((row b k).val - 64 - 64 - 64 - 64); omega)
  rw [dif_neg c4]
  by_cases c5 : (row b k).val - 64 - 64 - 64 - 64 - 64 < 64
  · rw [dif_pos c5]; exact key 5 _ (by show (row b k).val = 64 * 5 + ((row b k).val - 64 - 64 - 64 - 64 - 64); omega)
  rw [dif_neg c5]
  by_cases c6 : (row b k).val - 64 - 64 - 64 - 64 - 64 - 64 < 64
  · rw [dif_pos c6]; exact key 6 _ (by show (row b k).val = 64 * 6 + ((row b k).val - 64 - 64 - 64 - 64 - 64 - 64); omega)
  rw [dif_neg c6]
  by_cases c7 : (row b k).val - 64 - 64 - 64 - 64 - 64 - 64 - 64 < 64
  · rw [dif_pos c7]; exact key 7 _ (by show (row b k).val = 64 * 7 + ((row b k).val - 64 - 64 - 64 - 64 - 64 - 64 - 64); omega)
  rw [dif_neg c7]
  by_cases c8 : (row b k).val - 64 - 64 - 64 - 64 - 64 - 64 - 64 - 64 < 64
  · rw [dif_pos c8]; exact key 8 _ (by show (row b k).val = 64 * 8 + ((row b k).val - 64 - 64 - 64 - 64 - 64 - 64 - 64 - 64); omega)
  rw [dif_neg c8]
  exact key 9 _ (by show (row b k).val = 64 * 9 + ((row b k).val - 64 - 64 - 64 - 64 - 64 - 64 - 64 - 64 - 64); omega)

/-- The weight of a key: the exponential of its score, zero of a key that is not seen. -/
def weight (seen : Fin 10 → Fin 64 → Fin 128 → Prop) [∀ b k l, Decidable (seen b k l)] (S : Fin 10 → Fin 64 → Fin 128 → ℝ)
    (b : Fin 10) (k : Fin 64) (l : Fin 128) : ℝ := if seen b k l then Real.exp (S b k l) else 0

section Softmax

variable {s : Fin 10 → FVec Ideal S64x128 .f32} {seen : Fin 10 → Fin 64 → Fin 128 → Prop} [∀ b k l, Decidable (seen b k l)]
  {S : Fin 10 → Fin 64 → Fin 128 → ℝ}
  (hs : ∀ b k l, s b (ix2 k l) = if seen b k l then ((S b k l : ℝ) : EReal) else ⊥)
include hs

/-- Where some key is seen, the largest score is a real number. -/
theorem max_real (l : Fin 128) (h : ∃ b k, seen b k l) : ∃ M : ℝ, maxUnit s (ix2 (0 : Fin 1) l) = ((M : ℝ) : EReal) := by
  have lt : ∀ b k, s b (ix2 k l) < ⊤ := fun b k => by rw [hs]; split; exacts [EReal.coe_lt_top _, bot_lt_top]
  have hlt : maxUnit s (ix2 (0 : Fin 1) l) < ⊤ := by
    unfold maxUnit
    pointwise [word_bot]
    simp only [Finset.fold_max_lt, max_lt_iff, lt, bot_lt_top, and_self, implies_true]
  have hgt : ⊥ < maxUnit s (ix2 (0 : Fin 1) l) := by
    obtain ⟨b, k, hb⟩ := h
    have h1 : ⊥ < s b (ix2 k l) := by rw [hs, if_pos hb]; exact EReal.bot_lt_coe _
    refine lt_of_lt_of_le h1 ?_
    unfold maxUnit
    pointwise [word_bot]
    refine Finset.le_fold_max _ |>.2 (Or.inr ⟨k, Finset.mem_univ _, ?_⟩)
    fin_cases b <;> simp only [le_max_iff, Fin.zero_eta, Fin.mk_one, Fin.reduceFinMk, le_refl, true_or, or_true]
  exact ⟨_, (EReal.coe_toReal hlt.ne hgt.ne').symm⟩

omit hs in
theorem weight_pos (l : Fin 128) (h : ∃ b k, seen b k l) : 0 < ∑ k, ∑ b, weight seen S b k l := by
  obtain ⟨b, k, hb⟩ := h
  have nn : ∀ b k, 0 ≤ weight seen S b k l := fun b k => by unfold weight; split; exacts [(Real.exp_pos _).le, le_rfl]
  refine Finset.sum_pos' (fun k _ => Finset.sum_nonneg fun b _ => nn b k) ⟨k, Finset.mem_univ _, ?_⟩
  refine Finset.sum_pos' (fun b _ => nn b k) ⟨b, Finset.mem_univ _, ?_⟩
  unfold weight; rw [if_pos hb]; exact Real.exp_pos _

/-- The probabilities. -/
theorem prob_apply (hex : ∀ l, ∃ b k, seen b k l) (b : Fin 10) (k : Fin 64) (l : Fin 128) :
    probUnit s b (ix2 k l) = ((weight seen S b k l / ∑ k, ∑ b, weight seen S b k l : ℝ) : EReal) := by
  obtain ⟨M, hM⟩ := max_real hs l (hex l)
  have he : ∀ b k, expUnit s b (ix2 k l) = ((weight seen S b k l * Real.exp (-M) : ℝ) : EReal) := fun b k => by
    unfold expUnit
    pointwise [hM, hs]
    unfold weight
    split
    · rw [← EReal.coe_sub, Ideal.exp_coe, sub_eq_add_neg, Real.exp_add]
    · simp [sub_eq_add_neg]
  have hinv : invUnit (expUnit s) (ix2 (0 : Fin 1) l) = ((1 / ((∑ k, ∑ b, weight seen S b k l) * Real.exp (-M)) : ℝ) : EReal) := by
    unfold invUnit
    pointwise [he, ← EReal.coe_add, sum_up]
    have hp := (mul_pos (weight_pos (S := S) l (hex l)) (Real.exp_pos (-M))).ne'
    have e : ∀ x : Fin 64, weight seen S 0 x l * Real.exp (-M) + weight seen S 1 x l * Real.exp (-M) + weight seen S 2 x l * Real.exp (-M)
        + weight seen S 3 x l * Real.exp (-M) + weight seen S 4 x l * Real.exp (-M) + weight seen S 5 x l * Real.exp (-M)
        + weight seen S 6 x l * Real.exp (-M) + weight seen S 7 x l * Real.exp (-M) + weight seen S 8 x l * Real.exp (-M)
        + weight seen S 9 x l * Real.exp (-M) = (∑ b, weight seen S b x l) * Real.exp (-M) := fun x => by
      simp only [Fin.sum_univ_succ, Fin.sum_univ_zero, add_mul, zero_mul, add_zero, add_assoc]; rfl
    rw [Finset.sum_congr rfl fun x _ => e x, ← Finset.sum_mul, ← EReal.coe_one, div_up _ hp]
  unfold probUnit
  pointwise [hinv, he, ← EReal.coe_mul]
  refine congrArg _ ?_
  have := (weight_pos (S := S) l (hex l)).ne'
  have := (Real.exp_pos (-M)).ne'
  field_simp

end Softmax

/-- The scores of real queries and keys. -/
theorem prodUnit_apply {h : Fin 2} {kw : Vec Ideal S640x128 .bf16} {qt : Vec Ideal S128x128 .bf16} {K : Fin 640 → Fin 128 → ℝ} {Q : Fin 128 → Fin 128 → ℝ}
    (hk : ∀ x a, kw (ix2 x a) = ((K x a : ℝ) : EReal)) (hq : ∀ a l, qt (ix2 a l) = ((Q a l : ℝ) : EReal)) (x : Fin 640) (l : Fin 128) :
    prodUnit (hw h) kw qt (ix2 x l) = ((∑ a : Fin 128, (if a.val / 64 = h.val then K x a * Q a l else 0) : ℝ) : EReal) := by
  unfold prodUnit
  pointwise [headRows_apply]
  rw [← sum_up]
  refine Finset.sum_congr rfl fun a _ => ?_
  rw [hk]
  show ((K x a : ℝ) : EReal) * (if a.val / 64 = h.val then qt (ix2 a l) else 0) = _
  rw [hq]
  split
  · exact (EReal.coe_mul _ _).symm
  · rw [mul_zero]; rfl

theorem scoreUnit_apply {qk : FVec Ideal S640x128 .f32} {bias : Fin 10 → Vec Ideal S1x1x64x128 .f32} (b : Fin 10) (k : Fin 64) (l : Fin 128) :
    scoreUnit qk bias b (ix2 k l) = qk (ix2 (row b k) l) + bias b (ix4 (0 : Fin 1) (0 : Fin 1) k l) := by
  unfold scoreUnit
  pointwise [rows_apply]

theorem deltaUnit_apply {dh oh : Vec Ideal S64x128 .f32} {G O : Fin 64 → Fin 128 → ℝ} (hg : ∀ d l, dh (ix2 d l) = ((G d l : ℝ) : EReal))
    (ho : ∀ d l, oh (ix2 d l) = ((O d l : ℝ) : EReal)) (l : Fin 128) : deltaUnit dh oh (ix2 (0 : Fin 1) l) = ((∑ d, G d l * O d l : ℝ) : EReal) := by
  unfold deltaUnit
  pointwise [hg, ho, ← EReal.coe_mul, sum_up]

theorem dsUnit_apply {p : Fin 10 → FVec Ideal S64x128 .f32} {dp : FVec Ideal S640x128 .f32} {dl : FVec Ideal S1x128 .f32}
    {P : Fin 10 → Fin 64 → Fin 128 → ℝ} {DP : Fin 640 → Fin 128 → ℝ} {D : Fin 128 → ℝ}
    (hp : ∀ b k l, p b (ix2 k l) = ((P b k l : ℝ) : EReal)) (hdp : ∀ x l, dp (ix2 x l) = ((DP x l : ℝ) : EReal))
    (hd : ∀ l, dl (ix2 (0 : Fin 1) l) = ((D l : ℝ) : EReal)) (b : Fin 10) (k : Fin 64) (l : Fin 128) :
    dsUnit p dp dl b (ix2 k l) = ((P b k l * (DP (row b k) l - D l) : ℝ) : EReal) := by
  unfold dsUnit
  pointwise [rows_apply, hp, hdp, hd, ← EReal.coe_sub, ← EReal.coe_mul]

theorem dqUnit_apply {kt : Vec Ideal S64x640 .bf16} {ds : FVec Ideal S640x128 .bf16} {K : Fin 64 → Fin 640 → ℝ} {D : Fin 640 → Fin 128 → ℝ}
    (hk : ∀ d x, kt (ix2 d x) = ((K d x : ℝ) : EReal)) (hd : ∀ x l, ds (ix2 x l) = ((D x l : ℝ) : EReal)) (d : Fin 64) (l : Fin 128) :
    dqUnit kt ds (ix2 d l) = (((∑ x, K d x * D x l) * 0.125 : ℝ) : EReal) := by
  unfold dqUnit
  pointwise [hk, hd, word_eighth, ← EReal.coe_mul, sum_up]

theorem dkUnit_apply {d0 d1 : FVec Ideal S640x128 .bf16} {qb : Vec Ideal S128x128 .bf16} (acc : Vec Ideal S640x128 .f32)
    {D : Fin 2 → Fin 640 → Fin 128 → ℝ} {Q : Fin 128 → Fin 128 → ℝ} (h0 : ∀ x l, d0 (ix2 x l) = ((D 0 x l : ℝ) : EReal))
    (h1 : ∀ x l, d1 (ix2 x l) = ((D 1 x l : ℝ) : EReal)) (hq : ∀ l j, qb (ix2 l j) = ((Q l j : ℝ) : EReal)) (x : Fin 640) (j : Fin 128) :
    dkUnit d0 d1 qb acc (ix2 x j) = acc (ix2 x j) + ((∑ l, D ⟨j.val / 64, by omega⟩ x l * Q l j : ℝ) : EReal) := by
  unfold dkUnit
  pointwise [h0, h1]
  refine congrArg _ ?_
  have c : ∀ (h : Fin 2) (l : Fin 128), headCols (F := Ideal) (hw h) qb (ix2 l j) = (((if j.val / 64 = h.val then Q l j else 0 : ℝ)) : EReal) := fun h l => by
    rw [headCols_apply]
    show (if j.val / 64 = h.val then qb (ix2 l j) else 0) = _
    rw [hq]; split <;> rfl
  have c0 := c 0
  have c1 := c 1
  rw [show hw 0 = 0#32 from rfl] at c0
  rw [show hw 1 = 1#32 from rfl] at c1
  simp only [c0, c1, ← EReal.coe_mul, sum_up, ← EReal.coe_add]
  refine congrArg _ ?_
  have hj : j.val / 64 = 0 ∨ j.val / 64 = 1 := by omega
  rcases hj with e | e
  · simp only [e]; simp
  · simp only [e]; simp

end Cert.NaPay
end
-- ==== Proof.NaOff.lean ====
module

public import proofs.«01_k».proof.Proof.NaLoads
public import proofs.«01_k».proof.Proof.NaSpec

/-! Where a pair of rows reads and writes: its window, its bias case and its columns, by grid step and pair. -/

@[expose] public section

set_option maxRecDepth 16384

noncomputable section

namespace Cert.NaOff

open Cert.NaIdeal Cert.NaIdeal.Gen Cert.NaIdeal.Hand Idealize.ShloMosaic Cert.NaSpec

/-- The pair of rows of step `t`'s pair `pp`. -/
abbrev pairOf (t : Fin cfg0.N) (pp : Fin 16) : ℕ := 16 * (t.val % 4) + pp.val

/-- The bias case of a pair of rows: the two first pairs, the two last ones, and all between. -/
def caseOf (m : ℕ) : ℕ := if m = 0 then 0 else if m = 1 then 1 else if m = 62 then 3 else if m = 63 then 4 else 2

theorem off1 : ∀ (t : Fin cfg0.N) (pp : Fin 16), k0_off1 (grid0.coords t) (BitVec.ofNat 32 pp.val) = ![64 * ws (pairOf t pp), 0] := by decide +kernel
theorem off12 : ∀ (t : Fin cfg0.N) (pp : Fin 16), k0_off12 (grid0.coords t) (BitVec.ofNat 32 pp.val) = ![0, 64 * ws (pairOf t pp)] := by decide +kernel
theorem off23 : ∀ (t : Fin cfg0.N) (pp : Fin 16), k0_off23 (grid0.coords t) (BitVec.ofNat 32 pp.val) = ![64, 64 * ws (pairOf t pp)] := by decide +kernel
theorem off2 : ∀ (t : Fin cfg0.N) (pp : Fin 16), k0_off2 (grid0.coords t) (BitVec.ofNat 32 pp.val) = ![0, caseOf (pairOf t pp), 0, 0] := by decide +kernel
theorem off3 : ∀ (t : Fin cfg0.N) (pp : Fin 16), k0_off3 (grid0.coords t) (BitVec.ofNat 32 pp.val) = ![0, caseOf (pairOf t pp), 64, 0] := by decide +kernel
theorem off4 : ∀ (t : Fin cfg0.N) (pp : Fin 16), k0_off4 (grid0.coords t) (BitVec.ofNat 32 pp.val) = ![0, caseOf (pairOf t pp), 128, 0] := by decide +kernel
theorem off5 : ∀ (t : Fin cfg0.N) (pp : Fin 16), k0_off5 (grid0.coords t) (BitVec.ofNat 32 pp.val) = ![0, caseOf (pairOf t pp), 192, 0] := by decide +kernel
theorem off6 : ∀ (t : Fin cfg0.N) (pp : Fin 16), k0_off6 (grid0.coords t) (BitVec.ofNat 32 pp.val) = ![0, caseOf (pairOf t pp), 256, 0] := by decide +kernel
theorem off7 : ∀ (t : Fin cfg0.N) (pp : Fin 16), k0_off7 (grid0.coords t) (BitVec.ofNat 32 pp.val) = ![0, caseOf (pairOf t pp), 320, 0] := by decide +kernel
theorem off8 : ∀ (t : Fin cfg0.N) (pp : Fin 16), k0_off8 (grid0.coords t) (BitVec.ofNat 32 pp.val) = ![0, caseOf (pairOf t pp), 384, 0] := by decide +kernel
theorem off9 : ∀ (t : Fin cfg0.N) (pp : Fin 16), k0_off9 (grid0.coords t) (BitVec.ofNat 32 pp.val) = ![0, caseOf (pairOf t pp), 448, 0] := by decide +kernel
theorem off10 : ∀ (t : Fin cfg0.N) (pp : Fin 16), k0_off10 (grid0.coords t) (BitVec.ofNat 32 pp.val) = ![0, caseOf (pairOf t pp), 512, 0] := by decide +kernel
theorem off11 : ∀ (t : Fin cfg0.N) (pp : Fin 16), k0_off11 (grid0.coords t) (BitVec.ofNat 32 pp.val) = ![0, caseOf (pairOf t pp), 576, 0] := by decide +kernel
theorem off13 : ∀ (t : Fin cfg0.N) (pp : Fin 16), k0_off13 (grid0.coords t) (BitVec.ofNat 32 pp.val) = ![1, caseOf (pairOf t pp), 0, 0] := by decide +kernel
theorem off14 : ∀ (t : Fin cfg0.N) (pp : Fin 16), k0_off14 (grid0.coords t) (BitVec.ofNat 32 pp.val) = ![1, caseOf (pairOf t pp), 64, 0] := by decide +kernel
theorem off15 : ∀ (t : Fin cfg0.N) (pp : Fin 16), k0_off15 (grid0.coords t) (BitVec.ofNat 32 pp.val) = ![1, caseOf (pairOf t pp), 128, 0] := by decide +kernel
theorem off16 : ∀ (t : Fin cfg0.N) (pp : Fin 16), k0_off16 (grid0.coords t) (BitVec.ofNat 32 pp.val) = ![1, caseOf (pairOf t pp), 192, 0] := by decide +kernel
theorem off17 : ∀ (t : Fin cfg0.N) (pp : Fin 16), k0_off17 (grid0.coords t) (BitVec.ofNat 32 pp.val) = ![1, caseOf (pairOf t pp), 256, 0] := by decide +kernel
theorem off18 : ∀ (t : Fin cfg0.N) (pp : Fin 16), k0_off18 (grid0.coords t) (BitVec.ofNat 32 pp.val) = ![1, caseOf (pairOf t pp), 320, 0] := by decide +kernel
theorem off19 : ∀ (t : Fin cfg0.N) (pp : Fin 16), k0_off19 (grid0.coords t) (BitVec.ofNat 32 pp.val) = ![1, caseOf (pairOf t pp), 384, 0] := by decide +kernel
theorem off20 : ∀ (t : Fin cfg0.N) (pp : Fin 16), k0_off20 (grid0.coords t) (BitVec.ofNat 32 pp.val) = ![1, caseOf (pairOf t pp), 448, 0] := by decide +kernel
theorem off21 : ∀ (t : Fin cfg0.N) (pp : Fin 16), k0_off21 (grid0.coords t) (BitVec.ofNat 32 pp.val) = ![1, caseOf (pairOf t pp), 512, 0] := by decide +kernel
theorem off22 : ∀ (t : Fin cfg0.N) (pp : Fin 16), k0_off22 (grid0.coords t) (BitVec.ofNat 32 pp.val) = ![1, caseOf (pairOf t pp), 576, 0] := by decide +kernel

end Cert.NaOff
end
-- ==== Proof.NaBias.lean ====
module

public import proofs.«01_k».proof.Proof.NaHost
public import proofs.«01_k».proof.Proof.NaPay
public import proofs.«01_k».proof.Proof.NaOff

/-! The bias table of the attention's gradient: the bias of what is seen, −∞ elsewhere. -/

@[expose] public section

set_option maxRecDepth 16384

noncomputable section

namespace Cert.NaBias

open Cert.NaIdeal Cert.NaIdeal.Gen Idealize.ShloMosaic Idealize.ShloMosaic.TcCoe Idealize.ShloMosaic.StableHlo Cert.NaSpec Cert.NaTable Cert.NaPay

/-- The two difference tables, joined into one array of indices. -/
def diffs (ir : IVec S5x10x1x2x1 32) (ic : IVec S1x1x64x1x64 32) : IVec S5x10x64x2x64x2 32 :=
  concatenate S5x10x64x2x64x2 5 [⟨S5x10x64x2x64x1, broadcastInDim S5x10x64x2x64x1 ![0, 1, 2, 3, 4] bcast_S5x10x64x2x64_S5x10x64x2x64x1_0_1_2_3_4 (broadcastInDim S5x10x64x2x64 ![0, 1, 2, 3, 4] bcast_S5x10x1x2x1_S5x10x64x2x64_0_1_2_3_4 ir)⟩,
        ⟨S5x10x64x2x64x1, broadcastInDim S5x10x64x2x64x1 ![0, 1, 2, 3, 4] bcast_S5x10x64x2x64_S5x10x64x2x64x1_0_1_2_3_4 (broadcastInDim S5x10x64x2x64 ![0, 1, 2, 3, 4] bcast_S1x1x64x1x64_S5x10x64x2x64_0_1_2_3_4 ic)⟩] concatenates_S5x10x64x2x64x1_S5x10x64x2x64x1_S5x10x64x2x64x2_d5

/-- The two masks, joined. -/
def masks (mr : IVec S5x10x2 1) (mc : IVec S64x64 1) : IVec S5x10x64x2x64 1 :=
  andi (broadcastInDim S5x10x64x2x64 ![0, 1, 2, 3, 4] bcast_S5x10x1x2x1_S5x10x64x2x64_0_1_2_3_4 (broadcastInDim S5x10x1x2x1 ![0, 1, 3] bcast_S5x10x2_S5x10x1x2x1_0_1_3 mr))
        (broadcastInDim S5x10x64x2x64 ![0, 1, 2, 3, 4] bcast_S1x1x64x1x64_S5x10x64x2x64_0_1_2_3_4 (broadcastInDim S1x1x64x1x64 ![2, 4] bcast_S64x64_S1x1x64x1x64_2_4 (transpose S64x64 [1, 0] mc transposes_S64x64_S64x64_1_0)))

/-- The table by head, case, window row, key column, row of the pair and query column. -/
def wide (x3 : FVec Ideal S8x15x31 .f32) (mr : IVec S5x10x2 1) (mc : IVec S64x64 1) (ir : IVec S5x10x1x2x1 32) (ic : IVec S1x1x64x1x64 32) : FVec Ideal S8x5x10x64x2x64 .f32 :=
  select (broadcastInDim S8x5x10x64x2x64 ![0, 1, 2, 3, 4, 5] bcast_S1x5x10x64x2x64_S8x5x10x64x2x64_0_1_2_3_4_5
      (broadcastInDim S1x5x10x64x2x64 ![1, 2, 3, 4, 5] bcast_S5x10x64x2x64_S1x5x10x64x2x64_1_2_3_4_5 (masks mr mc)))
    (Host.gather gather_S8x15x31_S5x10x64x2x64x2_S8x5x10x64x2x64_0_12_n_n_12_5_811 x3 (diffs ir ic))
    (broadcastInDim S8x5x10x64x2x64 ![] bcast_S_S8x5x10x64x2x64 (constant (F := Ideal) S_ .f32 0xFF800000#32))

variable (m : (ℓ : Loc nD τ sig) → Buf (Elt Ideal) ℓ)

theorem v211 (c : Dev nD) : V m c main_v211 = shapeCast S8x5x640x128
    (wide (m ((c : Thread nD τ).loc main_arg3)) (V m c main_v150) (V m c main_v175) (V m c main_v191) (V m c main_v196)) shapeCasts_S8x5x10x64x2x64_S8x5x640x128 := by
  after_reads_simp
  sl_kernel_rfl

theorem diffs_0 (ir ic) (a : Fin 5) (b : Fin 10) (k : Fin 64) (e : Fin 2) (q : Fin 64) : diffs ir ic (ix6 a b k e q (0 : Fin 2)) = ir (ix5 a b (0 : Fin 1) e (0 : Fin 1)) := by
  unfold diffs
  pointwise
theorem diffs_1 (ir ic) (a : Fin 5) (b : Fin 10) (k : Fin 64) (e : Fin 2) (q : Fin 64) : diffs ir ic (ix6 a b k e q (1 : Fin 2)) = ic (ix5 (0 : Fin 1) (0 : Fin 1) k (0 : Fin 1) q) := by
  unfold diffs
  pointwise
theorem masks_apply (mr mc) (a : Fin 5) (b : Fin 10) (k : Fin 64) (e : Fin 2) (q : Fin 64) : masks mr mc (ix5 a b k e q) = IntOp.andi (mr (ix3 a b e)) (mc (ix2 q k)) := by
  unfold masks
  pointwise

local notation "GD" => gather_S8x15x31_S5x10x64x2x64x2_S8x5x10x64x2x64_0_12_n_n_12_5_811

/-- The gather reads the table at the two differences, clamped. -/
theorem gather_apply (x3 : FVec Ideal S8x15x31 .f32) (ix : IVec S5x10x64x2x64x2 32) (h : Fin 8) (a : Fin 5) (b : Fin 10) (k : Fin 64) (e : Fin 2) (q : Fin 64) :
    Host.gather gather_S8x15x31_S5x10x64x2x64x2_S8x5x10x64x2x64_0_12_n_n_12_5_811 x3 ix (ix6 h a b k e q)
      = x3 (ix3 h ⟨min (ix (ix6 a b k e q (0 : Fin 2))).toInt.toNat 14, by omega⟩ ⟨min (ix (ix6 a b k e q (1 : Fin 2))).toInt.toNat 30, by omega⟩) := by
  have hsi : ∀ (c : Fin 2), GatherDims.siIdx GD (ix6 h a b k e q) c = ix6 a b k e q c := fun c => by
    funext t; refine Fin.ext ?_
    match t with
    | ⟨0, _⟩ => rfl
    | ⟨1, _⟩ => rfl
    | ⟨2, _⟩ => rfl
    | ⟨3, _⟩ => rfl
    | ⟨4, _⟩ => rfl
    | ⟨5, _⟩ => rfl
  have s0 : GatherDims.start GD (ix6 h a b k e q) ix 0 = 0 := dif_neg (by decide)
  have s1 : GatherDims.start GD (ix6 h a b k e q) ix 1 = min (ix (ix6 a b k e q (0 : Fin 2))).toInt.toNat 14 :=
    (dif_pos (by decide)).trans (congrArg (fun z => min (ix z).toInt.toNat 14) (hsi 0))
  have s2 : GatherDims.start GD (ix6 h a b k e q) ix 2 = min (ix (ix6 a b k e q (1 : Fin 2))).toInt.toNat 30 :=
    (dif_pos (by decide)).trans (congrArg (fun z => min (ix z).toInt.toNat 30) (hsi 1))
  have f0 : GatherDims.offCoord GD (ix6 h a b k e q) 0 = h.val := (dif_pos (by decide)).trans rfl
  have f1 : GatherDims.offCoord GD (ix6 h a b k e q) 1 = 0 := dif_neg (by decide)
  have f2 : GatherDims.offCoord GD (ix6 h a b k e q) 2 = 0 := dif_neg (by decide)
  unfold Host.gather
  congr 1
  funext t
  refine Fin.ext ?_
  show GatherDims.start GD (ix6 h a b k e q) ix t + GatherDims.batchCoord GD (ix6 h a b k e q) t + GatherDims.offCoord GD (ix6 h a b k e q) t = _
  rw [GatherDims.batchCoord_eq_zero _ _ _ List.not_mem_nil]
  match t with
  | ⟨0, _⟩ => exact (congrArg₂ (fun x y => x + 0 + y) s0 f0).trans (Nat.zero_add _)
  | ⟨1, _⟩ => exact congrArg₂ (fun x y => x + 0 + y) s1 f1
  | ⟨2, _⟩ => exact congrArg₂ (fun x y => x + 0 + y) s2 f2

theorem word_small (n k : ℕ) (h : n ≤ k) (hk : k < 64) : min (BitVec.ofNat 32 n).toInt.toNat k = n := by
  have e : (BitVec.ofNat 32 n).toInt = (n : ℤ) := by
    rw [BitVec.toInt_eq_toNat_of_lt (by rw [BitVec.toNat_ofNat]; omega), BitVec.toNat_ofNat]
    congr 1; omega
  rw [e, Int.toNat_natCast]; omega

/-- The mask of what is seen. -/
theorem mask_and (P Q : Prop) [Decidable P] [Decidable Q] :
    (IntOp.andi (if P then 1#1 else 0#1) (if Q then 1#1 else 0#1) = 1#1) ↔ (P ∧ Q) := by
  by_cases h : P <;> by_cases h' : Q <;> simp [h, h', IntOp.andi]

theorem wide_apply (x3 : FVec Ideal S8x15x31 .f32) (mr mc ir ic) (h : Fin 8) (a : Fin 5) (b : Fin 10) (k : Fin 64) (e : Fin 2) (q : Fin 64) :
    wide x3 mr mc ir ic (ix6 h a b k e q) = if IntOp.andi (mr (ix3 a b e)) (mc (ix2 q k)) = 1#1
      then x3 (ix3 h ⟨min (ir (ix5 a b (0 : Fin 1) e (0 : Fin 1))).toInt.toNat 14, by omega⟩ ⟨min (ic (ix5 (0 : Fin 1) (0 : Fin 1) k (0 : Fin 1) q)).toInt.toNat 30, by omega⟩) else ⊥ := by
  unfold wide
  pointwise [masks_apply, gather_apply, diffs_0, diffs_1, word_bot]
  all_goals first | rfl | skip

end Cert.NaBias
end
-- ==== Proof.NaPair.lean ====
module

public import proofs.«01_k».proof.Proof.NaPay
public import proofs.«01_k».proof.Proof.NaSpec

/-! One pair of rows of one head: of the loads of real arrays, its probabilities, its gradient of the scores and of the queries. -/

@[expose] public section

set_option maxRecDepth 16384

noncomputable section

namespace Cert.NaPair

open Cert.NaIdeal Cert.NaIdeal.Gen Cert.NaIdeal.Hand Idealize.ShloMosaic Cert.Up Cert.NaPay Cert.NaSpec

theorem sum_rows (f : Fin 640 → ℝ) : ∑ x, f x = ∑ b : Fin 10, ∑ k : Fin 64, f (row b k) := by
  rw [← (finProdFinEquiv (m := 10) (n := 64)).sum_comp (g := fun x : Fin (10 * 64) => f x), Fintype.sum_prod_type]
  refine Finset.sum_congr rfl fun b _ => Finset.sum_congr rfl fun k _ => congrArg f (Fin.ext ?_)
  show k.val + 64 * b.val = 64 * b.val + k.val
  omega

/-- A sum over the channels of one head of a pair. -/
theorem sum_head (h : Fin 2) (f : ℕ → ℝ) : ∑ a : Fin 128, (if a.val / 64 = h.val then f a.val else 0) = ∑ a : Fin 64, f (64 * h.val + a.val) := by
  rw [← (finProdFinEquiv (m := 2) (n := 64)).sum_comp (g := fun x : Fin (2 * 64) => if x.val / 64 = h.val then f x.val else 0), Fintype.sum_prod_type]
  have e : ∀ (b : Fin 2) (k : Fin 64), (finProdFinEquiv (b, k)).val = k.val + 64 * b.val := fun _ _ => rfl
  simp only [e]
  rw [Finset.sum_eq_single h]
  · refine Finset.sum_congr rfl fun k _ => ?_
    rw [if_pos (by omega), Nat.add_comm]
  · intro b _ hb
    refine Finset.sum_eq_zero fun k _ => if_neg fun e => hb (Fin.ext (by omega))
  · exact fun h' => absurd (Finset.mem_univ _) h'

theorem stack_at (s : Fin 10 → FVec Ideal S64x128 .f32) (x : Fin 640) (l : Fin 128) :
    stack s (ix2 x l) = s ⟨x.val / 64, by omega⟩ (ix2 (⟨x.val % 64, by omega⟩ : Fin 64) l) :=
  (congrArg (fun t : Fin 640 => stack s (ix2 t l)) (Fin.ext (by show x.val = 64 * (x.val / 64) + x.val % 64; omega) : x = row ⟨x.val / 64, by omega⟩ ⟨x.val % 64, by omega⟩)).trans
    (stack_apply s _ _ l)

theorem token (m l : ℕ) : 64 * (2 * m + l / 64) + l % 64 = 128 * m + l := by omega

variable (d : Data) {m p : ℕ} (hm : m < 64) {hh : Fin 2}

/-- The bias blocks of a pair: the bias of what is seen, −∞ elsewhere. -/
def IsBias (H m : ℕ) (bias : Fin 10 → Vec Ideal S1x1x64x128 .f32) : Prop :=
  ∀ b k l, bias b (ix4 (0 : Fin 1) (0 : Fin 1) k l)
    = if seen (2 * m + l.val / 64) (l.val % 64) (ws m + b.val) k.val
      then ((d.b H (ws m + b.val + 7 - (2 * m + l.val / 64)) (k.val + 15 - l.val % 64) : ℝ) : EReal) else ⊥

variable {kw vw : Vec Ideal S640x128 .bf16} {qt gt : Vec Ideal S128x128 .bf16} {bias : Fin 10 → Vec Ideal S1x1x64x128 .f32}
  {gh oh : Vec Ideal S64x128 .f32} {kt : Vec Ideal S64x640 .bf16}
  (hk : ∀ x a, kw (ix2 x a) = ((d.k (64 * ws m + x.val) (128 * p + a.val) : ℝ) : EReal))
  (hv : ∀ x a, vw (ix2 x a) = ((d.v (64 * ws m + x.val) (128 * p + a.val) : ℝ) : EReal))
  (hq : ∀ a l, qt (ix2 a l) = ((d.q (128 * m + l.val) (128 * p + a.val) * 0.125 : ℝ) : EReal))
  (hg : ∀ a l, gt (ix2 a l) = ((d.g (128 * m + l.val) (128 * p + a.val) : ℝ) : EReal))
  (hb : IsBias d (2 * p + hh.val) m bias)
  (hgh : ∀ a l, gh (ix2 a l) = ((d.g (128 * m + l.val) (128 * p + 64 * hh.val + a.val) : ℝ) : EReal))
  (hoh : ∀ a l, oh (ix2 a l) = ((out d (2 * p + hh.val) (2 * m + l.val / 64) (l.val % 64) a.val : ℝ) : EReal))
  (hkt : ∀ a x, kt (ix2 a x) = ((d.k (64 * ws m + x.val) (128 * p + 64 * hh.val + a.val) : ℝ) : EReal))

include hk hq hb in
theorem score_apply (b : Fin 10) (k : Fin 64) (l : Fin 128) :
    scoreUnit (prodUnit (hw hh) kw qt) bias b (ix2 k l)
      = if seen (2 * m + l.val / 64) (l.val % 64) (ws m + b.val) k.val
        then ((score d (2 * p + hh.val) (2 * m + l.val / 64) (l.val % 64) (ws m + b.val) k.val : ℝ) : EReal) else ⊥ := by
  rw [scoreUnit_apply, prodUnit_apply hk hq, hb]
  split
  · rw [← EReal.coe_add]
    refine congrArg _ ?_
    unfold score qk chans
    rw [sum_head hh fun a => d.k (64 * ws m + (row b k).val) (128 * p + a) * (d.q (128 * m + l.val) (128 * p + a) * 0.125), Finset.sum_mul, token]
    refine congrArg (· + _) (Finset.sum_congr rfl fun a _ => ?_)
    beta_reduce
    rw [show 64 * (2 * p + hh.val) + a.val = 128 * p + (64 * hh.val + a.val) by omega,
      show 64 * (ws m + b.val) + k.val = 64 * ws m + (row b k).val by show _ = 64 * ws m + (64 * b.val + k.val); omega]
    ring
  · exact EReal.add_bot _

include hm in
theorem sees (l : Fin 128) : ∃ (b : Fin 10) (k : Fin 64), seen (2 * m + l.val / 64) (l.val % 64) (ws m + b.val) k.val := by
  have hl := l.isLt
  have h1 := ws_rs m (l.val / 64) hm (by omega)
  have h2 := seen_self (r := 2 * m + l.val / 64) (c := l.val % 64) (by omega) (by omega)
  have h3 := h2.1
  refine ⟨⟨2 * m + l.val / 64 - ws m, by omega⟩, ⟨l.val % 64, by omega⟩, ?_⟩
  show seen _ _ (ws m + (2 * m + l.val / 64 - ws m)) _
  rw [show ws m + (2 * m + l.val / 64 - ws m) = 2 * m + l.val / 64 by omega]
  exact h2

/-- A sum over a pair's window is one over all keys. -/
theorem all_pair (l : Fin 128) (hm : m < 64) (f : ℕ → ℕ → ℝ) (hf : ∀ r' c', ¬ seen (2 * m + l.val / 64) (l.val % 64) r' c' → f r' c' = 0) :
    ∑ b : Fin 10, ∑ k : Fin 64, f (ws m + b.val) k.val = all f :=
  all_window (ws m) 10 (ws_le m) f fun r c _ h => hf r c fun hs => h (by
    have h1 := ws_rs m (l.val / 64) hm (by have := l.isLt; omega)
    have h2 := hs.1
    omega)

include hm hk hq hb in
/-- The probabilities. -/
theorem prob_apply (b : Fin 10) (k : Fin 64) (l : Fin 128) :
    probUnit (scoreUnit (prodUnit (hw hh) kw qt) bias) b (ix2 k l)
      = ((prob d (2 * p + hh.val) (2 * m + l.val / 64) (l.val % 64) (ws m + b.val) k.val : ℝ) : EReal) := by
  rw [NaPay.prob_apply (seen := fun b k l => seen (2 * m + l.val / 64) (l.val % 64) (ws m + b.val) k.val)
    (S := fun b k l => score d (2 * p + hh.val) (2 * m + l.val / 64) (l.val % 64) (ws m + b.val) k.val)
    (score_apply d hk hq hb) (sees hm)]
  refine congrArg _ ?_
  unfold prob
  refine congrArg₂ (· / ·) rfl ?_
  rw [Finset.sum_comm]
  exact all_pair l hm (wt d _ _ _) fun r' c' hs => wt_eq_zero d hs

include hv hg in
theorem dprob_apply (x : Fin 640) (l : Fin 128) : prodUnit (hw hh) vw gt (ix2 x l)
      = ((chans fun a => d.g (128 * m + l.val) (64 * (2 * p + hh.val) + a) * d.v (64 * ws m + x.val) (64 * (2 * p + hh.val) + a) : ℝ) : EReal) := by
  rw [prodUnit_apply hv hg]
  refine congrArg _ ?_
  unfold chans
  rw [sum_head hh fun a => d.v (64 * ws m + x.val) (128 * p + a) * d.g (128 * m + l.val) (128 * p + a)]
  refine Finset.sum_congr rfl fun a _ => ?_
  beta_reduce
  rw [show 64 * (2 * p + hh.val) + a.val = 128 * p + (64 * hh.val + a.val) by omega]
  ring

include hgh hoh in
theorem delta_apply (l : Fin 128) : deltaUnit gh oh (ix2 (0 : Fin 1) l) = ((delta d (2 * p + hh.val) (2 * m + l.val / 64) (l.val % 64) : ℝ) : EReal) := by
  rw [deltaUnit_apply hgh hoh, ← delta_eq]
  refine congrArg _ (Finset.sum_congr rfl fun a _ => ?_)
  show _ = d.g (64 * (2 * m + l.val / 64) + l.val % 64) (64 * (2 * p + hh.val) + a.val) * _
  rw [token, show 64 * (2 * p + hh.val) + a.val = 128 * p + 64 * hh.val + a.val by omega]

include hm hk hv hq hg hb hgh hoh in
/-- The gradient of the scores. -/
theorem ds_apply (b : Fin 10) (k : Fin 64) (l : Fin 128) :
    dsUnit (probUnit (scoreUnit (prodUnit (hw hh) kw qt) bias)) (prodUnit (hw hh) vw gt) (deltaUnit gh oh) b (ix2 k l)
      = ((dscore d (2 * p + hh.val) (2 * m + l.val / 64) (l.val % 64) (ws m + b.val) k.val : ℝ) : EReal) := by
  rw [dsUnit_apply (prob_apply d hm hk hq hb) (dprob_apply d hv hg) (delta_apply d hgh hoh)]
  refine congrArg _ ?_
  unfold dscore dprob
  rw [token, show 64 * (ws m + b.val) + k.val = 64 * ws m + (row b k).val by show _ = 64 * ws m + (64 * b.val + k.val); omega]

include hm hk hv hq hg hb hgh hoh in
theorem ds_stack (x : Fin 640) (l : Fin 128) :
    stack (dsUnit (probUnit (scoreUnit (prodUnit (hw hh) kw qt) bias)) (prodUnit (hw hh) vw gt) (deltaUnit gh oh)) (ix2 x l)
      = ((dscore d (2 * p + hh.val) (2 * m + l.val / 64) (l.val % 64) (ws m + x.val / 64) (x.val % 64) : ℝ) : EReal) := by
  rw [stack_at, ds_apply d hm hk hv hq hg hb hgh hoh]

include hm hk hq hb in
theorem prob_stack (x : Fin 640) (l : Fin 128) :
    stack (probUnit (scoreUnit (prodUnit (hw hh) kw qt) bias)) (ix2 x l)
      = ((prob d (2 * p + hh.val) (2 * m + l.val / 64) (l.val % 64) (ws m + x.val / 64) (x.val % 64) : ℝ) : EReal) := by
  rw [stack_at, prob_apply d hm hk hq hb]

include hm hk hv hq hg hb hgh hoh hkt in
/-- The gradient of the queries. -/
theorem dq_apply (a : Fin 64) (l : Fin 128) :
    dqUnit kt (stack (dsUnit (probUnit (scoreUnit (prodUnit (hw hh) kw qt) bias)) (prodUnit (hw hh) vw gt) (deltaUnit gh oh))) (ix2 a l)
      = ((dq d (2 * p + hh.val) (2 * m + l.val / 64) (l.val % 64) a.val : ℝ) : EReal) := by
  rw [dqUnit_apply hkt (ds_stack d hm hk hv hq hg hb hgh hoh), sum_rows]
  refine congrArg _ (congrArg (· * 0.125) ?_)
  rw [← all_pair l hm (fun r' c' => dscore d (2 * p + hh.val) (2 * m + l.val / 64) (l.val % 64) r' c' * d.k (64 * r' + c') (64 * (2 * p + hh.val) + a.val))
    fun r' c' hs => by rw [dscore_eq_zero d hs, zero_mul]]
  refine Finset.sum_congr rfl fun b _ => Finset.sum_congr rfl fun k _ => ?_
  have e1 : (row b k).val / 64 = b.val := by show (64 * b.val + k.val) / 64 = _; omega
  have e2 : (row b k).val % 64 = k.val := by show (64 * b.val + k.val) % 64 = _; omega
  rw [e1, e2, show 64 * ws m + (row b k).val = 64 * (ws m + b.val) + k.val by show 64 * ws m + (64 * b.val + k.val) = _; omega,
    show 128 * p + 64 * hh.val + a.val = 64 * (2 * p + hh.val) + a.val by omega]
  ring

end Cert.NaPair
end
-- ==== Proof.NaTab.lean ====
module

public import proofs.«01_k».proof.Proof.NaBias
public import proofs.«01_k».proof.Proof.NaPair
public import Idealize.ShloMosaic.Lib.ValueIdxRank6

/-! The bias table that the attention's gradient reads: for every pair of rows, the bias of what is seen and −∞ elsewhere. -/

@[expose] public section

set_option maxRecDepth 16384

noncomputable section

namespace Cert.NaTab

open Cert.NaIdeal Cert.NaIdeal.Gen Idealize.ShloMosaic Idealize.ShloMosaic.TcCoe Cert.NaSpec Cert.NaTable Cert.NaPay Cert.NaBias Cert.NaOff

theorem case_lt (m : ℕ) : caseOf m < 5 := by unfold caseOf; split_ifs <;> omega

/-- A pair sees, row by row of its window, what the pair that stands for its case sees. -/
theorem case_seen : ∀ (m : Fin 64) (e : Fin 2) (b : Fin 10), ((rs (2 * m.val + e.val) ≤ ws m.val + b.val ∧ ws m.val + b.val < rs (2 * m.val + e.val) + 8) ↔
    (rs (2 * repOf ⟨caseOf m.val, case_lt _⟩ + e.val) ≤ ws (repOf ⟨caseOf m.val, case_lt _⟩) + b.val ∧ ws (repOf ⟨caseOf m.val, case_lt _⟩) + b.val < rs (2 * repOf ⟨caseOf m.val, case_lt _⟩ + e.val) + 8))
    ∧ ws m.val + b.val + 7 - (2 * m.val + e.val) = ws (repOf ⟨caseOf m.val, case_lt _⟩) + b.val + 7 - (2 * repOf ⟨caseOf m.val, case_lt _⟩ + e.val) := by
  decide +kernel

variable (m : (ℓ : Loc nD τ sig) → Buf (Elt Ideal) ℓ) (c : Dev nD) (d : Data)

theorem table (hb : ∀ h r k, (m ((c : Thread nD τ).loc main_arg3) : FVec Ideal S8x15x31 .f32) (ix3 h r k) = ((d.b h.val r.val k.val : ℝ) : EReal))
    (H : Fin 8) (mm : Fin 64) (b : Fin 10) (k : Fin 64) (l : Fin 128) :
    V m c main_v211 (ix4 H (⟨caseOf mm.val, case_lt _⟩ : Fin 5) (row b k) l)
      = if seen (2 * mm.val + l.val / 64) (l.val % 64) (ws mm.val + b.val) k.val
        then ((d.b H (ws mm.val + b.val + 7 - (2 * mm.val + l.val / 64)) (k.val + 15 - l.val % 64) : ℝ) : EReal) else ⊥ := by
  obtain ⟨hs, hd⟩ := case_seen mm ⟨l.val / 64, by omega⟩ b
  rw [v211, shapeCast_apply _ _ _ (ix6 H (⟨caseOf mm.val, case_lt _⟩ : Fin 5) b k (⟨l.val / 64, by omega⟩ : Fin 2) (⟨l.val % 64, by omega⟩ : Fin 64)) (by
    rw [Shape.rowMajor_val_six, Shape.rowMajor_val_four]
    show ((((H.val * 5 + caseOf mm.val) * 10 + b.val) * 64 + k.val) * 2 + l.val / 64) * 64 + l.val % 64
      = ((H.val * 5 + caseOf mm.val) * 640 + (64 * b.val + k.val)) * 128 + l.val
    omega), wide_apply, v150, v175, hb]
  by_cases h : seen (2 * mm.val + l.val / 64) (l.val % 64) (ws mm.val + b.val) k.val
  · obtain ⟨h1, h2⟩ := h
    rw [if_pos ((mask_and _ _).mpr ⟨hs.mp h1, h2⟩), if_pos ⟨h1, h2⟩]
    refine congrArg (fun x : ℝ => (x : EReal)) (congrArg₂ (d.b H.val) ?_ ?_)
    · show min (V m c main_v191 _ : BitVec 32).toInt.toNat 14 = _
      rw [v191, word_small _ _ (min_le_right _ _) (by decide)]
      have e : l.val / 64 < 2 := by omega
      simp only [] at hd h1
      have : rs (2 * mm.val + l.val / 64) ≤ 2 * mm.val + l.val / 64 := by unfold rs; omega
      rw [← hd]; omega
    · show min (V m c main_v196 _ : BitVec 32).toInt.toNat 30 = _
      rw [v196, word_small _ _ (min_le_right _ _) (by decide)]
      have : cs (l.val % 64) ≤ l.val % 64 := by unfold cs; omega
      show min (k.val + 15 - l.val % 64) 30 = _
      omega
  · rw [if_neg h, if_neg fun h' => h ?_]
    have := (mask_and _ _).mp h'
    exact ⟨hs.mpr this.1, this.2⟩

end Cert.NaTab
end
-- ==== Proof.NaBlocks.lean ====
module

public import proofs.«01_k».proof.Proof.NaStores
public import proofs.«01_k».proof.Proof.NaTab
public import Idealize.ShloMosaic.Lib.WholeRead

/-! What the loads of the attention's gradient hold, of finite arguments: windows of the real arrays. -/

@[expose] public section

set_option maxRecDepth 16384

noncomputable section

namespace Cert.NaBlocks

open Cert.NaIdeal Cert.NaIdeal.Gen Cert.NaIdeal.Hand Idealize.ShloMosaic Idealize.ShloMosaic.TcCoe Cert.Up Cert.NaSpec Cert.NaPay Cert.NaOff Cert.NaPair

variable (m : (ℓ : Loc nD τ sig) → Buf (Elt Ideal) ℓ) (c : Dev nD) {d : Data}

/-- The device's arguments hold the real ones, and the host's array of outputs the real outputs. -/
structure Holds (d : Data) : Prop where
  q : ∀ (n : Fin 8192) (a : Fin 512), m ((c : Thread nD τ).loc main_arg0) (ix2 n a) = ((d.q n.val a.val : ℝ) : EReal)
  k : ∀ (n : Fin 8192) (a : Fin 512), m ((c : Thread nD τ).loc main_arg1) (ix2 n a) = ((d.k n.val a.val : ℝ) : EReal)
  v : ∀ (n : Fin 8192) (a : Fin 512), m ((c : Thread nD τ).loc main_arg2) (ix2 n a) = ((d.v n.val a.val : ℝ) : EReal)
  b : ∀ h r k, (m ((c : Thread nD τ).loc main_arg3) : FVec Ideal S8x15x31 .f32) (ix3 h r k) = ((d.b h.val r.val k.val : ℝ) : EReal)
  g : ∀ (n : Fin 8192) (a : Fin 512), m ((c : Thread nD τ).loc main_arg4) (ix2 n a) = ((d.g n.val a.val : ℝ) : EReal)
  o : ∀ (n : Fin 8192) (a : Fin 512), V m c main_v97 (ix2 n a) = ((out d (a.val / 64) (n.val / 64) (n.val % 64) (a.val % 64) : ℝ) : EReal)

theorem idx : ∀ t : Fin cfg0.N, win0_0.index t = ![t.val / 4, t.val % 4] ∧ win0_1.index t = ![t.val % 4, t.val / 4] ∧ win0_2.index t = ![t.val / 4, 0]
    ∧ win0_3.index t = ![0, t.val / 4] ∧ win0_4.index t = ![0, t.val / 4] ∧ win0_5.index t = ![t.val / 4, 0, 0, 0] ∧ win0_6.index t = ![t.val / 4, t.val % 4]
    ∧ win0_7.index t = ![t.val / 4, t.val % 4] ∧ win0_8.index t = ![t.val % 4, t.val / 4] ∧ win0_9.index t = ![t.val / 4, t.val % 4]
    ∧ win0_10.index t = ![0, t.val / 4] ∧ win0_11.index t = ![0, t.val / 4] := by
  decide +kernel

/-- Channel `a` of the pair of heads of step `t`, -/
def chan (t : Fin cfg0.N) (a : Fin 128) : Fin 512 := ⟨128 * (t.val / 4) + a.val, by have := Nat.lt_of_lt_of_eq t.isLt N_0; omega⟩
/-- position `l` of step `t` -/
def tok (t : Fin cfg0.N) (l : Fin 2048) : Fin 8192 := ⟨2048 * (t.val % 4) + l.val, by omega⟩
/-- and head `h` of its pair. -/
def head (t : Fin cfg0.N) (h : Fin 2) : Fin 8 := ⟨2 * (t.val / 4) + h.val, by have := Nat.lt_of_lt_of_eq t.isLt N_0; omega⟩

section
variable {m c} (hd : Holds m c d)
include hd

theorem blk0 (t : Fin cfg0.N) (i : S128x2048.Idx) : iblk m c 0 t i = ((d.q (tok t (i 1)).val (chan t (i 0)).val * 0.125 : ℝ) : EReal) := by
  have e : iblk m c 0 t i = V m c main_v213 (ix2 (chan t (i 0)) (tok t (i 1))) := by unfold chan tok; blk_ext [iblk, idx t]
  rw [e, NaHost.v213, hd.q, word_eighth, ← EReal.coe_mul]
theorem blk1 (t : Fin cfg0.N) (i : S2048x128.Idx) : iblk m c 1 t i = ((d.q (tok t (i 0)).val (chan t (i 1)).val * 0.125 : ℝ) : EReal) := by
  have e : iblk m c 1 t i = V m c main_v214 (ix2 (tok t (i 0)) (chan t (i 1))) := by unfold chan tok; blk_ext [iblk, idx t]
  rw [e, NaHost.v214, hd.q, word_eighth, ← EReal.coe_mul]
theorem blk2 (t : Fin cfg0.N) (i : S128x8192.Idx) : iblk m c 2 t i = ((d.k (i 1).val (chan t (i 0)).val : ℝ) : EReal) := by
  have e : iblk m c 2 t i = V m c main_v216 (ix2 (chan t (i 0)) (i 1)) := by unfold chan; blk_ext [iblk, idx t]
  exact e.trans ((NaHost.v216 m c (i 1) (chan t (i 0))).trans (hd.k _ _))
theorem blk3 (t : Fin cfg0.N) (i : S8192x128.Idx) : iblk m c 3 t i = ((d.k (i 0).val (chan t (i 1)).val : ℝ) : EReal) := by
  have e : iblk m c 3 t i = V m c main_v217 (ix2 (i 0) (chan t (i 1))) := by unfold chan; blk_ext [iblk, idx t]
  exact e.trans ((NaHost.v217 m c (i 0) (chan t (i 1))).trans (hd.k _ _))
theorem blk4 (t : Fin cfg0.N) (i : S8192x128.Idx) : iblk m c 4 t i = ((d.v (i 0).val (chan t (i 1)).val : ℝ) : EReal) := by
  have e : iblk m c 4 t i = V m c main_v218 (ix2 (i 0) (chan t (i 1))) := by unfold chan; blk_ext [iblk, idx t]
  exact e.trans ((NaHost.v218 m c (i 0) (chan t (i 1))).trans (hd.v _ _))
omit hd in
theorem blk5 (t : Fin cfg0.N) (i : S2x5x640x128.Idx) : iblk m c 5 t i = V m c main_v211 (ix4 (head t (i 0)) (i 1) (i 2) (i 3)) := by
  unfold head; blk_ext [iblk, idx t]
theorem blk6 (t : Fin cfg0.N) (i : S128x2048.Idx) : iblk m c 6 t i
    = ((out d ((chan t (i 0)).val / 64) ((tok t (i 1)).val / 64) ((tok t (i 1)).val % 64) ((chan t (i 0)).val % 64) : ℝ) : EReal) := by
  have e : iblk m c 6 t i = V m c main_v219 (ix2 (chan t (i 0)) (tok t (i 1))) := by unfold chan tok; blk_ext [iblk, idx t]
  rw [e, NaHost.v219, hd.o]
theorem blk7 (t : Fin cfg0.N) (i : S128x2048.Idx) : iblk m c 7 t i = ((d.g (tok t (i 1)).val (chan t (i 0)).val : ℝ) : EReal) := by
  have e : iblk m c 7 t i = V m c main_v220 (ix2 (chan t (i 0)) (tok t (i 1))) := by unfold chan tok; blk_ext [iblk, idx t]
  rw [e, NaHost.v220, hd.g]
theorem blk8 (t : Fin cfg0.N) (i : S2048x128.Idx) : iblk m c 8 t i = ((d.g (tok t (i 0)).val (chan t (i 1)).val : ℝ) : EReal) := by
  have e : iblk m c 8 t i = V m c main_v221 (ix2 (tok t (i 0)) (chan t (i 1))) := by unfold chan tok; blk_ext [iblk, idx t]
  rw [e, NaHost.v221, hd.g]
end
end Cert.NaBlocks
end
-- ==== Proof.NaPairAt.lean ====
module

public import proofs.«01_k».proof.Proof.NaBlocks

/-! One pair of rows of one head at a grid step: its probabilities, its gradient of the scores and of the queries, and what it adds
to the gradients of keys and values. -/

@[expose] public section

set_option maxRecDepth 16384

noncomputable section

namespace Cert.NaPairAt

open Cert.NaIdeal Cert.NaIdeal.Gen Cert.NaIdeal.Hand Idealize.ShloMosaic Idealize.ShloMosaic.TcCoe Cert.Up Cert.NaSpec Cert.NaPay Cert.NaOff Cert.NaPair Cert.NaBlocks

variable {m : (ℓ : Loc nD τ sig) → Buf (Elt Ideal) ℓ} {c : Dev nD} {d : Data} (hd : Holds m c d) (t : Fin cfg0.N) (pp : Fin 16)
  {arg2 : Memref sig .tc .vmem S128x2048 .bf16} (harg2 : arg2.IsWhole) {arg3 : Memref sig .tc .vmem S2048x128 .bf16} (harg3 : arg3.IsWhole) {arg4 : Memref sig .tc .vmem S128x8192 .bf16} (harg4 : arg4.IsWhole) {arg5 : Memref sig .tc .vmem S8192x128 .bf16} (harg5 : arg5.IsWhole) {arg6 : Memref sig .tc .vmem S8192x128 .bf16} (harg6 : arg6.IsWhole) {arg7 : Memref sig .tc .vmem S2x5x640x128 .f32} (harg7 : arg7.IsWhole) {arg8 : Memref sig .tc .vmem S128x2048 .f32} (harg8 : arg8.IsWhole) {arg9 : Memref sig .tc .vmem S128x2048 .f32} (harg9 : arg9.IsWhole) {arg10 : Memref sig .tc .vmem S2048x128 .bf16} (harg10 : arg10.IsWhole)

theorem pair_lt : pairOf t pp < 64 := by unfold pairOf; omega

include hd

theorem load_k (x : Fin 640) (a : Fin 128) :
    View.readAt (Elt Ideal) arg5.view (Rect.unit (s := S8192x128) (k0_off1 (grid0.coords t) (BitVec.ofNat 32 pp.val)) S640x128.size (k0_off1_inb (grid0.coords t) pp)).toLoadRect (harg5.unread (iblk m c 3 t)) (ix2 x a)
      = ((d.k (64 * ws (pairOf t pp) + x.val) (128 * (t.val / 4) + a.val) : ℝ) : EReal) := by
  rw [Memref.IsWhole.readAt_unread, blk3 hd]
  refine congrArg (fun r : ℝ => (r : EReal)) (congrArg₂ d.k ?_ ?_)
  · show k0_off1 (grid0.coords t) (BitVec.ofNat 32 pp.val) 0 + 1 * x.val = _
    rw [off1]; show 64 * ws (pairOf t pp) + 1 * x.val = _; omega
  · show 128 * (t.val / 4) + (k0_off1 (grid0.coords t) (BitVec.ofNat 32 pp.val) 1 + 1 * a.val) = _
    rw [off1]; show _ + (0 + 1 * a.val) = _; omega

theorem load_v (x : Fin 640) (a : Fin 128) :
    View.readAt (Elt Ideal) arg6.view (Rect.unit (s := S8192x128) (k0_off1 (grid0.coords t) (BitVec.ofNat 32 pp.val)) S640x128.size (k0_off1_inb (grid0.coords t) pp)).toLoadRect (harg6.unread (iblk m c 4 t)) (ix2 x a)
      = ((d.v (64 * ws (pairOf t pp) + x.val) (128 * (t.val / 4) + a.val) : ℝ) : EReal) := by
  rw [Memref.IsWhole.readAt_unread, blk4 hd]
  refine congrArg (fun r : ℝ => (r : EReal)) (congrArg₂ d.v ?_ ?_)
  · show k0_off1 (grid0.coords t) (BitVec.ofNat 32 pp.val) 0 + 1 * x.val = _
    rw [off1]; show 64 * ws (pairOf t pp) + 1 * x.val = _; omega
  · show 128 * (t.val / 4) + (k0_off1 (grid0.coords t) (BitVec.ofNat 32 pp.val) 1 + 1 * a.val) = _
    rw [off1]; show _ + (0 + 1 * a.val) = _; omega

theorem load_q (a l : Fin 128) :
    shapeCast S128x128 (View.readAt (Elt Ideal) arg2.view (Rect.unit (s := S128x2048) ![0, 128 * pp.val] S128x128.size (inb_lanes pp)).toLoadRect (harg2.unread (iblk m c 0 t))) shapeCasts_S128x128_S128x128 (ix2 a l)
      = ((d.q (128 * pairOf t pp + l.val) (128 * (t.val / 4) + a.val) * 0.125 : ℝ) : EReal) := by
  rw [shapeCast_apply _ _ _ (ix2 a l) rfl, Memref.IsWhole.readAt_unread, blk0 hd]
  refine congrArg (fun r : ℝ => ((r * 0.125 : ℝ) : EReal)) (congrArg₂ d.q ?_ ?_)
  · show 2048 * (t.val % 4) + (128 * pp.val + 1 * l.val) = _
    unfold pairOf; omega
  · show 128 * (t.val / 4) + (0 + 1 * a.val) = _; omega

theorem load_g (a l : Fin 128) :
    truncf (F := Ideal) .bf16 (shapeCast S128x128 (View.readAt (Elt Ideal) arg9.view (Rect.unit (s := S128x2048) ![0, 128 * pp.val] S128x128.size (inb_lanes pp)).toLoadRect (harg9.unread (iblk m c 7 t))) shapeCasts_S128x128_S128x128) bitsLt_bf16_f32 (ix2 a l)
      = ((d.g (128 * pairOf t pp + l.val) (128 * (t.val / 4) + a.val) : ℝ) : EReal) := by
  have e : ∀ (x : FVec Ideal S128x128 .f32) i, truncf (F := Ideal) .bf16 x bitsLt_bf16_f32 i = x i := fun _ _ => rfl
  rw [e, shapeCast_apply _ _ _ (ix2 a l) rfl, Memref.IsWhole.readAt_unread, blk7 hd]
  refine congrArg (fun r : ℝ => (r : EReal)) (congrArg₂ d.g ?_ ?_)
  · show 2048 * (t.val % 4) + (128 * pp.val + 1 * l.val) = _
    unfold pairOf; omega
  · show 128 * (t.val / 4) + (0 + 1 * a.val) = _; omega

theorem load_gh (hh : Fin 2) (a : Fin 64) (l : Fin 128) :
    View.readAt (Elt Ideal) arg9.view (Rect.unit (s := S128x2048) ![64 * hh.val, 128 * pp.val] S64x128.size (inb_head hh pp)).toLoadRect (harg9.unread (iblk m c 7 t)) (ix2 a l)
      = ((d.g (128 * pairOf t pp + l.val) (128 * (t.val / 4) + 64 * hh.val + a.val) : ℝ) : EReal) := by
  rw [Memref.IsWhole.readAt_unread, blk7 hd]
  refine congrArg (fun r : ℝ => (r : EReal)) (congrArg₂ d.g ?_ ?_)
  · show 2048 * (t.val % 4) + (128 * pp.val + 1 * l.val) = _
    unfold pairOf; omega
  · show 128 * (t.val / 4) + (64 * hh.val + 1 * a.val) = _; omega

theorem load_oh (hh : Fin 2) (a : Fin 64) (l : Fin 128) :
    View.readAt (Elt Ideal) arg8.view (Rect.unit (s := S128x2048) ![64 * hh.val, 128 * pp.val] S64x128.size (inb_head hh pp)).toLoadRect (harg8.unread (iblk m c 6 t)) (ix2 a l)
      = ((out d (2 * (t.val / 4) + hh.val) (2 * pairOf t pp + l.val / 64) (l.val % 64) a.val : ℝ) : EReal) := by
  rw [Memref.IsWhole.readAt_unread, blk6 hd]
  have e1 : 2048 * (t.val % 4) + (128 * pp.val + 1 * l.val) = 64 * (2 * pairOf t pp + l.val / 64) + l.val % 64 := by unfold pairOf; omega
  have e0 : 128 * (t.val / 4) + (64 * hh.val + 1 * a.val) = 64 * (2 * (t.val / 4) + hh.val) + a.val := by omega
  show ((out d ((128 * (t.val / 4) + (64 * hh.val + 1 * a.val)) / 64) ((2048 * (t.val % 4) + (128 * pp.val + 1 * l.val)) / 64) ((2048 * (t.val % 4) + (128 * pp.val + 1 * l.val)) % 64) ((128 * (t.val / 4) + (64 * hh.val + 1 * a.val)) % 64) : ℝ) : EReal) = _
  rw [e0, e1, show (64 * (2 * (t.val / 4) + hh.val) + a.val) / 64 = 2 * (t.val / 4) + hh.val by omega, show (64 * (2 * (t.val / 4) + hh.val) + a.val) % 64 = a.val by omega,
    show (64 * (2 * pairOf t pp + l.val / 64) + l.val % 64) / 64 = 2 * pairOf t pp + l.val / 64 by omega, show (64 * (2 * pairOf t pp + l.val / 64) + l.val % 64) % 64 = l.val % 64 by omega]

theorem load_kt (hh : Fin 2) (a : Fin 64) (x : Fin 640) :
    (![View.readAt (Elt Ideal) arg4.view (Rect.unit (s := S128x8192) (k0_off12 (grid0.coords t) (BitVec.ofNat 32 pp.val)) S64x640.size (k0_off12_inb (grid0.coords t) pp)).toLoadRect (harg4.unread (iblk m c 2 t)),
      View.readAt (Elt Ideal) arg4.view (Rect.unit (s := S128x8192) (k0_off23 (grid0.coords t) (BitVec.ofNat 32 pp.val)) S64x640.size (k0_off23_inb (grid0.coords t) pp)).toLoadRect (harg4.unread (iblk m c 2 t))] : Fin 2 → Vec Ideal S64x640 .bf16) hh (ix2 a x)
      = ((d.k (64 * ws (pairOf t pp) + x.val) (128 * (t.val / 4) + 64 * hh.val + a.val) : ℝ) : EReal) := by
  have key : ∀ (off : Fin 2 → ℕ) (inb), off = ![64 * hh.val, 64 * ws (pairOf t pp)] →
      View.readAt (Elt Ideal) arg4.view (Rect.unit (s := S128x8192) off S64x640.size inb).toLoadRect (harg4.unread (iblk m c 2 t)) (ix2 a x)
      = ((d.k (64 * ws (pairOf t pp) + x.val) (128 * (t.val / 4) + 64 * hh.val + a.val) : ℝ) : EReal) := fun off inb ho => by
    subst ho
    rw [Memref.IsWhole.readAt_unread, blk2 hd]
    refine congrArg (fun r : ℝ => (r : EReal)) (congrArg₂ d.k ?_ ?_)
    · show 64 * ws (pairOf t pp) + 1 * x.val = _; omega
    · show 128 * (t.val / 4) + (64 * hh.val + 1 * a.val) = _; omega
  match hh with
  | ⟨0, _⟩ => exact key _ _ (off12 t pp)
  | ⟨1, _⟩ => exact key _ _ (off23 t pp)

theorem read_bias (hh : Fin 2) (b : Fin 10) (off : Fin 4 → ℕ) (inb) (ho : off = ![hh.val, caseOf (pairOf t pp), 64 * b.val, 0]) (k : Fin 64) (l : Fin 128) :
    View.readAt (Elt Ideal) arg7.view (Rect.unit (s := S2x5x640x128) off S1x1x64x128.size inb).toLoadRect (harg7.unread (iblk m c 5 t)) (ix4 (0 : Fin 1) (0 : Fin 1) k l)
      = if seen (2 * pairOf t pp + l.val / 64) (l.val % 64) (ws (pairOf t pp) + b.val) k.val
        then ((d.b (2 * (t.val / 4) + hh.val) (ws (pairOf t pp) + b.val + 7 - (2 * pairOf t pp + l.val / 64)) (k.val + 15 - l.val % 64) : ℝ) : EReal) else ⊥ := by
  subst ho
  rw [Memref.IsWhole.readAt_unread, blk5]
  refine Eq.trans (congrArg (V m c main_v211) ?_) (NaTab.table m c d hd.b (head t hh) ⟨pairOf t pp, pair_lt t pp⟩ b k l)
  funext a
  refine Fin.ext ?_
  match a with
  | ⟨0, _⟩ => show 2 * (t.val / 4) + (hh.val + 1 * 0) = 2 * (t.val / 4) + hh.val; omega
  | ⟨1, _⟩ => show caseOf (pairOf t pp) + 1 * 0 = caseOf (pairOf t pp); omega
  | ⟨2, _⟩ => show 64 * b.val + 1 * k.val = 64 * b.val + k.val; omega
  | ⟨3, _⟩ => show 0 + 1 * l.val = l.val; omega

set_option maxHeartbeats 1000000 in
theorem load_bias_0 : IsBias d (2 * (t.val / 4) + ((0 : Fin 2)).val) (pairOf t pp) (biasAt (F := Ideal) (grid0.coords t) harg7 (iblk m c 5 t) pp 0) := by
  intro b k l
  match b with
  | ⟨0, _⟩ => exact read_bias hd t pp harg7 0 0 _ (k0_off2_inb (grid0.coords t) pp) (off2 t pp) k l
  | ⟨1, _⟩ => exact read_bias hd t pp harg7 0 1 _ (k0_off3_inb (grid0.coords t) pp) (off3 t pp) k l
  | ⟨2, _⟩ => exact read_bias hd t pp harg7 0 2 _ (k0_off4_inb (grid0.coords t) pp) (off4 t pp) k l
  | ⟨3, _⟩ => exact read_bias hd t pp harg7 0 3 _ (k0_off5_inb (grid0.coords t) pp) (off5 t pp) k l
  | ⟨4, _⟩ => exact read_bias hd t pp harg7 0 4 _ (k0_off6_inb (grid0.coords t) pp) (off6 t pp) k l
  | ⟨5, _⟩ => exact read_bias hd t pp harg7 0 5 _ (k0_off7_inb (grid0.coords t) pp) (off7 t pp) k l
  | ⟨6, _⟩ => exact read_bias hd t pp harg7 0 6 _ (k0_off8_inb (grid0.coords t) pp) (off8 t pp) k l
  | ⟨7, _⟩ => exact read_bias hd t pp harg7 0 7 _ (k0_off9_inb (grid0.coords t) pp) (off9 t pp) k l
  | ⟨8, _⟩ => exact read_bias hd t pp harg7 0 8 _ (k0_off10_inb (grid0.coords t) pp) (off10 t pp) k l
  | ⟨9, _⟩ => exact read_bias hd t pp harg7 0 9 _ (k0_off11_inb (grid0.coords t) pp) (off11 t pp) k l

set_option maxHeartbeats 1000000 in
theorem load_bias_1 : IsBias d (2 * (t.val / 4) + ((1 : Fin 2)).val) (pairOf t pp) (biasAt (F := Ideal) (grid0.coords t) harg7 (iblk m c 5 t) pp 1) := by
  intro b k l
  match b with
  | ⟨0, _⟩ => exact read_bias hd t pp harg7 1 0 _ (k0_off13_inb (grid0.coords t) pp) (off13 t pp) k l
  | ⟨1, _⟩ => exact read_bias hd t pp harg7 1 1 _ (k0_off14_inb (grid0.coords t) pp) (off14 t pp) k l
  | ⟨2, _⟩ => exact read_bias hd t pp harg7 1 2 _ (k0_off15_inb (grid0.coords t) pp) (off15 t pp) k l
  | ⟨3, _⟩ => exact read_bias hd t pp harg7 1 3 _ (k0_off16_inb (grid0.coords t) pp) (off16 t pp) k l
  | ⟨4, _⟩ => exact read_bias hd t pp harg7 1 4 _ (k0_off17_inb (grid0.coords t) pp) (off17 t pp) k l
  | ⟨5, _⟩ => exact read_bias hd t pp harg7 1 5 _ (k0_off18_inb (grid0.coords t) pp) (off18 t pp) k l
  | ⟨6, _⟩ => exact read_bias hd t pp harg7 1 6 _ (k0_off19_inb (grid0.coords t) pp) (off19 t pp) k l
  | ⟨7, _⟩ => exact read_bias hd t pp harg7 1 7 _ (k0_off20_inb (grid0.coords t) pp) (off20 t pp) k l
  | ⟨8, _⟩ => exact read_bias hd t pp harg7 1 8 _ (k0_off21_inb (grid0.coords t) pp) (off21 t pp) k l
  | ⟨9, _⟩ => exact read_bias hd t pp harg7 1 9 _ (k0_off22_inb (grid0.coords t) pp) (off22 t pp) k l

theorem load_bias (hh : Fin 2) : IsBias d (2 * (t.val / 4) + hh.val) (pairOf t pp) (biasAt (F := Ideal) (grid0.coords t) harg7 (iblk m c 5 t) pp hh) :=
  match hh with
  | ⟨0, _⟩ => load_bias_0 hd t pp harg7
  | ⟨1, _⟩ => load_bias_1 hd t pp harg7

theorem probs_at (hh : Fin 2) (x : Fin 640) (l : Fin 128) :
    probsAt (F := Ideal) (grid0.coords t) harg2 harg5 harg7 (iblk m c 0 t) (iblk m c 3 t) (iblk m c 5 t) hh pp (ix2 x l)
      = ((prob d (2 * (t.val / 4) + hh.val) (2 * pairOf t pp + l.val / 64) (l.val % 64) (ws (pairOf t pp) + x.val / 64) (x.val % 64) : ℝ) : EReal) :=
  prob_stack d (pair_lt t pp) (load_k hd t pp harg5) (load_q hd t pp harg2) (load_bias hd t pp harg7 hh) x l

theorem ds_at (hh : Fin 2) (x : Fin 640) (l : Fin 128) :
    dsAt (F := Ideal) (grid0.coords t) harg2 harg5 harg6 harg7 harg8 harg9 (iblk m c 0 t) (iblk m c 3 t) (iblk m c 4 t) (iblk m c 5 t) (iblk m c 6 t) (iblk m c 7 t) hh pp (ix2 x l)
      = ((dscore d (2 * (t.val / 4) + hh.val) (2 * pairOf t pp + l.val / 64) (l.val % 64) (ws (pairOf t pp) + x.val / 64) (x.val % 64) : ℝ) : EReal) :=
  ds_stack d (pair_lt t pp) (load_k hd t pp harg5) (load_v hd t pp harg6) (load_q hd t pp harg2) (load_g hd t pp harg9) (load_bias hd t pp harg7 hh)
    (load_gh hd t pp harg9 hh) (load_oh hd t pp harg8 hh) x l

theorem dq_at (hh : Fin 2) (a : Fin 64) (l : Fin 128) :
    dqAt (F := Ideal) (grid0.coords t) harg2 harg4 harg5 harg6 harg7 harg8 harg9 (iblk m c 0 t) (iblk m c 2 t) (iblk m c 3 t) (iblk m c 4 t) (iblk m c 5 t) (iblk m c 6 t) (iblk m c 7 t) hh pp (ix2 a l)
      = ((dq d (2 * (t.val / 4) + hh.val) (2 * pairOf t pp + l.val / 64) (l.val % 64) a.val : ℝ) : EReal) :=
  dq_apply d (pair_lt t pp) (load_k hd t pp harg5) (load_v hd t pp harg6) (load_q hd t pp harg2) (load_g hd t pp harg9) (load_bias hd t pp harg7 hh)
    (load_gh hd t pp harg9 hh) (load_oh hd t pp harg8 hh) (load_kt hd t pp harg4 hh) a l

end Cert.NaPairAt
end
-- ==== Proof.NaPiecesA.lean ====
/- What the stores of a first step of the attention's gradient hold: each pair of rows and each head is the one computation of `dqAt`, `dkAt`, `dvAt`. -/
module

public import proofs.«01_k».proof.Proof.NaLoads
public import proofs.«01_k».proof.Proof.NaRunA
public import Idealize.ShloMosaic.Lib.WindowSumWrites

@[expose] public section

set_option maxRecDepth 16384

noncomputable section

namespace Cert.NaIdeal.Hand

open Cert.NaIdeal Cert.NaIdeal.Gen
open Idealize.ShloMosaic Idealize.ShloMosaic.TcCoe Idealize.ShloMosaic.Tactic
open Idealize.SL.Sem

variable {F : FTy → Type} [FloatOps F]

/-- The stores of the gradient of the queries. -/
theorem runA_dq (c : Dev nD) (i : grid0.Coords) (arg2 : Memref sig .tc .vmem S128x2048 .bf16) (harg2 : arg2.IsWhole) (arg3 : Memref sig .tc .vmem S2048x128 .bf16) (harg3 : arg3.IsWhole) (arg4 : Memref sig .tc .vmem S128x8192 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S2x5x640x128 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S2048x128 .bf16) (harg10 : arg10.IsWhole) (arg11 : Memref sig .tc .vmem S128x2048 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S2x5x640x128 .f32) (harg14 : arg14.IsWhole) (hc : (Scalar.cmpi .ne (Scalar.extui (Scalar.cmpi .eq (BitVec.ofNat 32 (i 1).val) 0#32)) 0#32) = 1#1) (x0 : Vec F S128x2048 .bf16) (x1 : Vec F S2048x128 .bf16) (x2 : Vec F S128x8192 .bf16) (x3 : Vec F S8192x128 .bf16) (x4 : Vec F S8192x128 .bf16) (x5 : Vec F S2x5x640x128 .f32) (x6 : Vec F S128x2048 .f32) (x7 : Vec F S128x2048 .f32) (x8 : Vec F S2048x128 .bf16) :
    (runA c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).1 = dqList i harg2 harg4 harg5 harg6 harg7 harg8 harg9 x0 x2 x3 x4 x5 x6 x7 16 (Nat.le_refl 16) := by
  sl_kernel_rfl

/-- The stores of the gradient of the keys, -/
theorem runA_dk (c : Dev nD) (i : grid0.Coords) (arg2 : Memref sig .tc .vmem S128x2048 .bf16) (harg2 : arg2.IsWhole) (arg3 : Memref sig .tc .vmem S2048x128 .bf16) (harg3 : arg3.IsWhole) (arg4 : Memref sig .tc .vmem S128x8192 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S2x5x640x128 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S2048x128 .bf16) (harg10 : arg10.IsWhole) (arg11 : Memref sig .tc .vmem S128x2048 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S2x5x640x128 .f32) (harg14 : arg14.IsWhole) (hc : (Scalar.cmpi .ne (Scalar.extui (Scalar.cmpi .eq (BitVec.ofNat 32 (i 1).val) 0#32)) 0#32) = 1#1) (x0 : Vec F S128x2048 .bf16) (x1 : Vec F S2048x128 .bf16) (x2 : Vec F S128x8192 .bf16) (x3 : Vec F S8192x128 .bf16) (x4 : Vec F S8192x128 .bf16) (x5 : Vec F S2x5x640x128 .f32) (x6 : Vec F S128x2048 .f32) (x7 : Vec F S128x2048 .f32) (x8 : Vec F S2048x128 .bf16) :
    (runA c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.1 = View.accPieces arg12.view arg12.view.junk [⟨Rect.unit ![0, 0] S8192x128.size inb_S8192x128_S8192x128_0_0, k0_pay2⟩] S640x128.size (fun pp : Fin 16 => k0_off1 i (BitVec.ofNat 32 pp.val)) (fun pp => k0_off1_inb i pp)
      (fun pp acc => dkAt i harg2 harg3 harg5 harg6 harg7 harg8 harg9 x0 x1 x3 x4 x5 x6 x7 pp acc) 16 (Nat.le_refl 16) := by
  sl_kernel_rfl

/-- and of the values. -/
theorem runA_dv (c : Dev nD) (i : grid0.Coords) (arg2 : Memref sig .tc .vmem S128x2048 .bf16) (harg2 : arg2.IsWhole) (arg3 : Memref sig .tc .vmem S2048x128 .bf16) (harg3 : arg3.IsWhole) (arg4 : Memref sig .tc .vmem S128x8192 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S2x5x640x128 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S2048x128 .bf16) (harg10 : arg10.IsWhole) (arg11 : Memref sig .tc .vmem S128x2048 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S2x5x640x128 .f32) (harg14 : arg14.IsWhole) (hc : (Scalar.cmpi .ne (Scalar.extui (Scalar.cmpi .eq (BitVec.ofNat 32 (i 1).val) 0#32)) 0#32) = 1#1) (x0 : Vec F S128x2048 .bf16) (x1 : Vec F S2048x128 .bf16) (x2 : Vec F S128x8192 .bf16) (x3 : Vec F S8192x128 .bf16) (x4 : Vec F S8192x128 .bf16) (x5 : Vec F S2x5x640x128 .f32) (x6 : Vec F S128x2048 .f32) (x7 : Vec F S128x2048 .f32) (x8 : Vec F S2048x128 .bf16) :
    (runA c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.1 = View.accPieces arg13.view arg13.view.junk [⟨Rect.unit ![0, 0] S8192x128.size inb_S8192x128_S8192x128_0_0, k0_pay3⟩] S640x128.size (fun pp : Fin 16 => k0_off1 i (BitVec.ofNat 32 pp.val)) (fun pp => k0_off1_inb i pp)
      (fun pp acc => dvAt i harg2 harg5 harg7 harg10 x0 x3 x5 x8 pp acc) 16 (Nat.le_refl 16) := by
  sl_kernel_rfl

end Cert.NaIdeal.Hand

end
-- ==== Proof.NaPiecesB.lean ====
/- What the stores of a later step of the attention's gradient hold: each pair of rows and each head is the one computation of `dqAt`, `dkAt`, `dvAt`. -/
module

public import proofs.«01_k».proof.Proof.NaLoads
public import proofs.«01_k».proof.Proof.NaRunB
public import Idealize.ShloMosaic.Lib.WindowSumWrites

@[expose] public section

set_option maxRecDepth 16384

noncomputable section

namespace Cert.NaIdeal.Hand

open Cert.NaIdeal Cert.NaIdeal.Gen
open Idealize.ShloMosaic Idealize.ShloMosaic.TcCoe Idealize.ShloMosaic.Tactic
open Idealize.SL.Sem

variable {F : FTy → Type} [FloatOps F]

/-- The stores of the gradient of the queries. -/
theorem runB_dq (c : Dev nD) (i : grid0.Coords) (arg2 : Memref sig .tc .vmem S128x2048 .bf16) (harg2 : arg2.IsWhole) (arg3 : Memref sig .tc .vmem S2048x128 .bf16) (harg3 : arg3.IsWhole) (arg4 : Memref sig .tc .vmem S128x8192 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S2x5x640x128 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S2048x128 .bf16) (harg10 : arg10.IsWhole) (arg11 : Memref sig .tc .vmem S128x2048 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S2x5x640x128 .f32) (harg14 : arg14.IsWhole) (hc : ¬((Scalar.cmpi .ne (Scalar.extui (Scalar.cmpi .eq (BitVec.ofNat 32 (i 1).val) 0#32)) 0#32) = 1#1)) (x0 : Vec F S128x2048 .bf16) (x1 : Vec F S2048x128 .bf16) (x2 : Vec F S128x8192 .bf16) (x3 : Vec F S8192x128 .bf16) (x4 : Vec F S8192x128 .bf16) (x5 : Vec F S2x5x640x128 .f32) (x6 : Vec F S128x2048 .f32) (x7 : Vec F S128x2048 .f32) (x8 : Vec F S2048x128 .bf16) (xo10 : Vec F S8192x128 .f32) (xo11 : Vec F S8192x128 .f32) (xo12 : Vec F S2x5x640x128 .f32) :
    (runB c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xo10 xo11 xo12).1 = dqList i harg2 harg4 harg5 harg6 harg7 harg8 harg9 x0 x2 x3 x4 x5 x6 x7 16 (Nat.le_refl 16) := by
  sl_kernel_rfl

/-- The stores of the gradient of the keys, -/
theorem runB_dk (c : Dev nD) (i : grid0.Coords) (arg2 : Memref sig .tc .vmem S128x2048 .bf16) (harg2 : arg2.IsWhole) (arg3 : Memref sig .tc .vmem S2048x128 .bf16) (harg3 : arg3.IsWhole) (arg4 : Memref sig .tc .vmem S128x8192 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S2x5x640x128 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S2048x128 .bf16) (harg10 : arg10.IsWhole) (arg11 : Memref sig .tc .vmem S128x2048 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S2x5x640x128 .f32) (harg14 : arg14.IsWhole) (hc : ¬((Scalar.cmpi .ne (Scalar.extui (Scalar.cmpi .eq (BitVec.ofNat 32 (i 1).val) 0#32)) 0#32) = 1#1)) (x0 : Vec F S128x2048 .bf16) (x1 : Vec F S2048x128 .bf16) (x2 : Vec F S128x8192 .bf16) (x3 : Vec F S8192x128 .bf16) (x4 : Vec F S8192x128 .bf16) (x5 : Vec F S2x5x640x128 .f32) (x6 : Vec F S128x2048 .f32) (x7 : Vec F S128x2048 .f32) (x8 : Vec F S2048x128 .bf16) (xo10 : Vec F S8192x128 .f32) (xo11 : Vec F S8192x128 .f32) (xo12 : Vec F S2x5x640x128 .f32) :
    (runB c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xo10 xo11 xo12).2.1 = View.accPieces arg12.view (harg12.unread xo10) [] S640x128.size (fun pp : Fin 16 => k0_off1 i (BitVec.ofNat 32 pp.val)) (fun pp => k0_off1_inb i pp)
      (fun pp acc => dkAt i harg2 harg3 harg5 harg6 harg7 harg8 harg9 x0 x1 x3 x4 x5 x6 x7 pp acc) 16 (Nat.le_refl 16) := by
  sl_kernel_rfl

/-- and of the values. -/
theorem runB_dv (c : Dev nD) (i : grid0.Coords) (arg2 : Memref sig .tc .vmem S128x2048 .bf16) (harg2 : arg2.IsWhole) (arg3 : Memref sig .tc .vmem S2048x128 .bf16) (harg3 : arg3.IsWhole) (arg4 : Memref sig .tc .vmem S128x8192 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S2x5x640x128 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S2048x128 .bf16) (harg10 : arg10.IsWhole) (arg11 : Memref sig .tc .vmem S128x2048 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S2x5x640x128 .f32) (harg14 : arg14.IsWhole) (hc : ¬((Scalar.cmpi .ne (Scalar.extui (Scalar.cmpi .eq (BitVec.ofNat 32 (i 1).val) 0#32)) 0#32) = 1#1)) (x0 : Vec F S128x2048 .bf16) (x1 : Vec F S2048x128 .bf16) (x2 : Vec F S128x8192 .bf16) (x3 : Vec F S8192x128 .bf16) (x4 : Vec F S8192x128 .bf16) (x5 : Vec F S2x5x640x128 .f32) (x6 : Vec F S128x2048 .f32) (x7 : Vec F S128x2048 .f32) (x8 : Vec F S2048x128 .bf16) (xo10 : Vec F S8192x128 .f32) (xo11 : Vec F S8192x128 .f32) (xo12 : Vec F S2x5x640x128 .f32) :
    (runB c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xo10 xo11 xo12).2.2.1 = View.accPieces arg13.view (harg13.unread xo11) [] S640x128.size (fun pp : Fin 16 => k0_off1 i (BitVec.ofNat 32 pp.val)) (fun pp => k0_off1_inb i pp)
      (fun pp acc => dvAt i harg2 harg5 harg7 harg10 x0 x3 x5 x8 pp acc) 16 (Nat.le_refl 16) := by
  sl_kernel_rfl

end Cert.NaIdeal.Hand

end
-- ==== Proof.NaOuts.lean ====
module

public import proofs.«01_k».proof.Proof.NaPairAt
public import proofs.«01_k».proof.Proof.NaPiecesA
public import proofs.«01_k».proof.Proof.NaPiecesB
public import Idealize.ShloMosaic.Lib.WindowSumWrites

/-! What the kernel's three outputs hold: the gradients of queries, keys and values. -/

@[expose] public section

set_option maxRecDepth 16384

noncomputable section

namespace Cert.NaOuts

open Cert.NaIdeal Cert.NaIdeal.Gen Cert.NaIdeal.Hand Idealize.ShloMosaic Idealize.ShloMosaic.TcCoe Cert.Up Cert.NaSpec Cert.NaPay Cert.NaOff Cert.NaPair Cert.NaBlocks Cert.NaPairAt

attribute [local irreducible] storesA storesB

/-! ## The queries -/

/-- The gradient of the queries at an element of the block of step `t`. -/
def dqBlk (d : Data) (t : Fin cfg0.N) (y : S128x2048.Idx) : EReal :=
  ((dq d (2 * (t.val / 4) + (y 0).val / 64) (32 * (t.val % 4) + (y 1).val / 64) ((y 1).val % 64) ((y 0).val % 64) : ℝ) : EReal)

section pieces
variable {m : (ℓ : Loc nD τ sig) → Buf (Elt Ideal) ℓ} {c : Dev nD} {d : Data} (hd : Holds m c d) (t : Fin cfg0.N)
  {arg2 : Memref sig .tc .vmem S128x2048 .bf16} (harg2 : arg2.IsWhole) {arg3 : Memref sig .tc .vmem S2048x128 .bf16} (harg3 : arg3.IsWhole) {arg4 : Memref sig .tc .vmem S128x8192 .bf16} (harg4 : arg4.IsWhole) {arg5 : Memref sig .tc .vmem S8192x128 .bf16} (harg5 : arg5.IsWhole) {arg6 : Memref sig .tc .vmem S8192x128 .bf16} (harg6 : arg6.IsWhole) {arg7 : Memref sig .tc .vmem S2x5x640x128 .f32} (harg7 : arg7.IsWhole) {arg8 : Memref sig .tc .vmem S128x2048 .f32} (harg8 : arg8.IsWhole) {arg9 : Memref sig .tc .vmem S128x2048 .f32} (harg9 : arg9.IsWhole) {arg10 : Memref sig .tc .vmem S2048x128 .bf16} (harg10 : arg10.IsWhole)
include hd

/-- One store of the gradient of the queries holds it. -/
theorem dq_piece (hh : Fin 2) (pp : Fin 16) (inb) (x : S64x128.Idx) :
    dqAt (F := Ideal) (grid0.coords t) harg2 harg4 harg5 harg6 harg7 harg8 harg9 (iblk m c 0 t) (iblk m c 2 t) (iblk m c 3 t) (iblk m c 4 t) (iblk m c 5 t) (iblk m c 6 t) (iblk m c 7 t) hh pp x
      = dqBlk d t ((Rect.unit (s := S128x2048) ![64 * hh.val, 128 * pp.val] S64x128.size inb).emb x) := by
  obtain ⟨a, l, rfl⟩ : ∃ a l, x = ix2 a l := ⟨x 0, x 1, eq_ix2 x⟩
  rw [dq_at hd t pp harg2 harg4 harg5 harg6 harg7 harg8 harg9 hh a l]
  refine congrArg (fun r : ℝ => (r : EReal)) ?_
  unfold pairOf
  refine congr (congr (congr (congrArg (dq d) ?_) ?_) ?_) ?_
  · show _ = 2 * (t.val / 4) + (64 * hh.val + 1 * a.val) / 64; omega
  · show _ = 32 * (t.val % 4) + (128 * pp.val + 1 * l.val) / 64; omega
  · show _ = (128 * pp.val + 1 * l.val) % 64; omega
  · show _ = (64 * hh.val + 1 * a.val) % 64; omega
/-- All stores hold it. -/
theorem dq_list : ∀ (n : ℕ) (hn : n ≤ 16), ∀ p ∈ dqList (F := Ideal) (grid0.coords t) harg2 harg4 harg5 harg6 harg7 harg8 harg9 (iblk m c 0 t) (iblk m c 2 t) (iblk m c 3 t) (iblk m c 4 t) (iblk m c 5 t) (iblk m c 6 t) (iblk m c 7 t) n hn,
    ∀ x : p.1.shape.Idx, p.2 x = dqBlk d t (p.1.emb x)
  | 0, _ => fun p hp => absurd hp List.not_mem_nil
  | n + 1, hn => by
    intro p hp
    unfold dqList at hp
    rcases List.mem_cons.1 hp with rfl | hp
    · exact fun x => dq_piece hd t harg2 harg4 harg5 harg6 harg7 harg8 harg9 1 ⟨n, hn⟩ (inb_head 1 ⟨n, hn⟩) x
    rcases List.mem_cons.1 hp with rfl | hp
    · exact fun x => dq_piece hd t harg2 harg4 harg5 harg6 harg7 harg8 harg9 0 ⟨n, hn⟩ (inb_head 0 ⟨n, hn⟩) x
    · exact dq_list n _ p hp
end pieces

variable {m : (ℓ : Loc nD τ sig) → Buf (Elt Ideal) ℓ} {c : Dev nD} {d : Data} (hd : Holds m c d)

include hd
/-- The stores of a first step hold the gradient of the queries, -/
theorem storesA_dq (t : Fin cfg0.N) (h : t.val % 4 = 0) : ∀ p ∈ (storesA m c t h).1, ∀ x : p.1.shape.Idx, p.2 x = dqBlk d t (p.1.emb x) := by
  unfold storesA
  rw [runA_dq]
  exact dq_list hd t _ _ _ _ _ _ _ _ _
/-- and those of a later one. -/
theorem storesB_dq (t : Fin cfg0.N) (h : ¬t.val % 4 = 0) (a b e) : ∀ p ∈ (storesB m c t h a b e).1, ∀ x : p.1.shape.Idx, p.2 x = dqBlk d t (p.1.emb x) := by
  unfold storesB
  rw [runB_dq]
  exact dq_list hd t _ _ _ _ _ _ _ _ _
/-- What the block of the queries' gradient holds after a step. -/
theorem after_dq (t : Fin cfg0.N) (y : S128x2048.Idx) : (outsAt m c t.val t.isLt).1 y = dqBlk d t y := by
  rcases Decidable.em (t.val % 4 = 0) with h | h
  · rw [outsAt_A m c t h]
    show left0 (storesA m c t h).1 y = _
    exact View.read_writes_apply_of_pieces _ _ (dqBlk d t) _ (storesA_dq hd t h) y (cover_A m c t h y)
  · rw [outsAt_B m c t h]
    show left0 (storesB m c t h _ _ _).1 y = _
    exact View.read_writes_apply_of_pieces _ _ (dqBlk d t) _ (storesB_dq hd t h _ _ _) y (cover_B m c t h _ _ _ y)
/-- The array of the queries' gradient. -/
theorem out9 : (dats m 0 c).arrAt 9 cfg0.N = fun i => ((dq d ((i 0).val / 64) ((i 1).val / 64) ((i 1).val % 64) ((i 0).val % 64) : ℝ) : EReal) := by
  refine (dats m 0 c).arrAt_eq_of_covers 9 _ (by decide +kernel) fun t hf y => ?_
  have e : ((cfg0.win 9).blk t).view.emb y = ix2 (chan t (y 0)) (tok t (y 1)) := by unfold chan tok; blk_ext [idx t]
  rw [e]
  blk_simp
  rw [after_9]
  refine (after_dq hd t y).trans (congrArg (fun r : ℝ => (r : EReal)) ?_)
  have h0 : (y 0).val < 128 := (y 0).isLt
  have h1 : (y 1).val < 2048 := (y 1).isLt
  refine congr (congr (congr (congrArg (dq d) ?_) ?_) ?_) ?_
  · show _ = (128 * (t.val / 4) + (y 0).val) / 64; omega
  · show _ = (2048 * (t.val % 4) + (y 1).val) / 64; omega
  · show _ = (2048 * (t.val % 4) + (y 1).val) % 64; omega
  · show _ = (128 * (t.val / 4) + (y 0).val) % 64; omega

/-! ## The keys and the values: sums over the pairs of rows -/

omit hd
/-- What the pair of rows `2 m`, `2 m + 1` adds of `f`. -/
def pairSum (f : ℕ → ℕ → ℝ) (mm : ℕ) : ℝ := ∑ l : Fin 128, f (2 * mm + l.val / 64) (l.val % 64)

/-- The pairs together are all rows. -/
theorem sum_pairs (f : ℕ → ℕ → ℝ) : ∑ mm ∈ Finset.range 64, pairSum f mm = all f := by
  have e1 : all f = ∑ n : Fin (64 * 128), f (n.val / 64) (n.val % 64) := by
    unfold all
    rw [show (∑ n : Fin (64 * 128), f (n.val / 64) (n.val % 64)) = ∑ n : Fin (128 * 64), f (n.val / 64) (n.val % 64) from rfl, ← Equiv.sum_comp finProdFinEquiv, Fintype.sum_prod_type]
    refine Finset.sum_congr rfl fun r _ => Finset.sum_congr rfl fun c _ => ?_
    have : (finProdFinEquiv (r, c)).val = c.val + 64 * r.val := rfl
    rw [this]
    exact congrArg₂ f (by omega) (by omega)
  rw [e1, ← Equiv.sum_comp finProdFinEquiv, Fintype.sum_prod_type, ← Finset.sum_range (f := fun mm => pairSum f mm) |>.symm]
  refine Finset.sum_congr rfl fun r _ => Finset.sum_congr rfl fun c _ => ?_
  have : (finProdFinEquiv (r, c)).val = c.val + 128 * r.val := rfl
  rw [this]
  exact congrArg₂ f (by omega) (by omega)

/-- What a query at `r`, `c` adds to the gradient of the key at row `R`, channel `j` of a pair of heads, -/
def fk (d : Data) (p j R r c : ℕ) : ℝ := dscore d (2 * p + j / 64) r c (R / 64) (R % 64) * (d.q (64 * r + c) (128 * p + j) * 0.125)
/-- and to that of the value. -/
def fv (d : Data) (p j R r c : ℕ) : ℝ := prob d (2 * p + j / 64) r c (R / 64) (R % 64) * d.g (64 * r + c) (128 * p + j)

/-- Outside of the window of a pair nothing is added. -/
theorem pair_zero (f : ℕ → ℕ → ℝ) (mm : ℕ) (hm : mm < 64) (R : ℕ) (hf : ∀ r c, ¬ seen r c (R / 64) (R % 64) → f r c = 0)
    (hR : ¬ (64 * ws mm ≤ R ∧ R < 64 * ws mm + 640)) : pairSum f mm = 0 :=
  Finset.sum_eq_zero fun l _ => hf _ _ fun hs => by
    have h1 := ws_rs mm (l.val / 64) hm (by omega)
    have h2 := hs.1
    omega

/-- The windows of the pairs of a step, at one row. -/
theorem window_pairs (t : Fin cfg0.N) (f : ℕ → ℕ → ℕ → ℝ) (R : ℕ) (hf : ∀ r c, ¬ seen r c (R / 64) (R % 64) → f R r c = 0) :
    WindowSum.windowSum 640 (fun pp : Fin 16 => 64 * ws (pairOf t pp)) Finset.univ (fun pp x => ((pairSum (f (64 * ws (pairOf t pp) + x.val)) (pairOf t pp) : ℝ) : EReal)) R
      = ((∑ pp : Fin 16, pairSum (f R) (pairOf t pp) : ℝ) : EReal) := by
  unfold WindowSum.windowSum
  rw [← sum_up]
  refine Finset.sum_congr rfl fun pp _ => ?_
  by_cases h : 64 * ws (pairOf t pp) ≤ R ∧ R < 64 * ws (pairOf t pp) + 640
  · rw [dif_pos h]
    show ((pairSum (f (64 * ws (pairOf t pp) + (R - 64 * ws (pairOf t pp)))) (pairOf t pp) : ℝ) : EReal) = _
    rw [show 64 * ws (pairOf t pp) + (R - 64 * ws (pairOf t pp)) = R by omega]
  · rw [dif_neg h, pair_zero _ _ (pair_lt t pp) R hf h]; rfl

section adds
variable (t : Fin cfg0.N)
  {arg2 : Memref sig .tc .vmem S128x2048 .bf16} (harg2 : arg2.IsWhole) {arg3 : Memref sig .tc .vmem S2048x128 .bf16} (harg3 : arg3.IsWhole) {arg4 : Memref sig .tc .vmem S128x8192 .bf16} (harg4 : arg4.IsWhole) {arg5 : Memref sig .tc .vmem S8192x128 .bf16} (harg5 : arg5.IsWhole) {arg6 : Memref sig .tc .vmem S8192x128 .bf16} (harg6 : arg6.IsWhole) {arg7 : Memref sig .tc .vmem S2x5x640x128 .f32} (harg7 : arg7.IsWhole) {arg8 : Memref sig .tc .vmem S128x2048 .f32} (harg8 : arg8.IsWhole) {arg9 : Memref sig .tc .vmem S128x2048 .f32} (harg9 : arg9.IsWhole) {arg10 : Memref sig .tc .vmem S2048x128 .bf16} (harg10 : arg10.IsWhole)
include hd

/-- The queries of a pair, by row, -/
theorem load_qt (pp : Fin 16) (l j : Fin 128) :
    View.readAt (Elt Ideal) arg3.view (Rect.unit (s := S2048x128) ![128 * pp.val, 0] S128x128.size (inb_tok pp)).toLoadRect (harg3.unread (iblk m c 1 t)) (ix2 l j)
      = ((d.q (128 * pairOf t pp + l.val) (128 * (t.val / 4) + j.val) * 0.125 : ℝ) : EReal) := by
  rw [Memref.IsWhole.readAt_unread, blk1 hd]
  refine congrArg (fun r : ℝ => ((r * 0.125 : ℝ) : EReal)) (congrArg₂ d.q ?_ ?_)
  · show 2048 * (t.val % 4) + (128 * pp.val + 1 * l.val) = _
    unfold pairOf; omega
  · show 128 * (t.val / 4) + (0 + 1 * j.val) = _; omega
/-- and the cotangent. -/
theorem load_gt (pp : Fin 16) (l j : Fin 128) :
    View.readAt (Elt Ideal) arg10.view (Rect.unit (s := S2048x128) ![128 * pp.val, 0] S128x128.size (inb_tok pp)).toLoadRect (harg10.unread (iblk m c 8 t)) (ix2 l j)
      = ((d.g (128 * pairOf t pp + l.val) (128 * (t.val / 4) + j.val) : ℝ) : EReal) := by
  rw [Memref.IsWhole.readAt_unread, blk8 hd]
  refine congrArg (fun r : ℝ => (r : EReal)) (congrArg₂ d.g ?_ ?_)
  · show 2048 * (t.val % 4) + (128 * pp.val + 1 * l.val) = _
    unfold pairOf; omega
  · show 128 * (t.val / 4) + (0 + 1 * j.val) = _; omega

/-- What a pair adds to the keys, -/
theorem dk_add (pp : Fin 16) (acc : Vec Ideal S640x128 .f32) (x : Fin 640) (j : Fin 128) :
    dkAt (F := Ideal) (grid0.coords t) harg2 harg3 harg5 harg6 harg7 harg8 harg9 (iblk m c 0 t) (iblk m c 1 t) (iblk m c 3 t) (iblk m c 4 t) (iblk m c 5 t) (iblk m c 6 t) (iblk m c 7 t) pp acc (ix2 x j)
      = acc (ix2 x j) + ((pairSum (fk d (t.val / 4) j.val (64 * ws (pairOf t pp) + x.val)) (pairOf t pp) : ℝ) : EReal) := by
  unfold dkAt
  rw [dkUnit_apply acc (D := fun hh x l => dscore d (2 * (t.val / 4) + hh.val) (2 * pairOf t pp + l.val / 64) (l.val % 64) (ws (pairOf t pp) + x.val / 64) (x.val % 64))
    (ds_at hd t pp harg2 harg5 harg6 harg7 harg8 harg9 0) (ds_at hd t pp harg2 harg5 harg6 harg7 harg8 harg9 1) (load_qt hd t harg3 pp)]
  refine congrArg (fun r : ℝ => acc (ix2 x j) + (r : EReal)) (Finset.sum_congr rfl fun l _ => ?_)
  unfold fk
  rw [show (64 * ws (pairOf t pp) + x.val) / 64 = ws (pairOf t pp) + x.val / 64 by omega, show (64 * ws (pairOf t pp) + x.val) % 64 = x.val % 64 by omega,
    show 64 * (2 * pairOf t pp + l.val / 64) + l.val % 64 = 128 * pairOf t pp + l.val by omega]
/-- and to the values. -/
theorem dv_add (pp : Fin 16) (acc : Vec Ideal S640x128 .f32) (x : Fin 640) (j : Fin 128) :
    dvAt (F := Ideal) (grid0.coords t) harg2 harg5 harg7 harg10 (iblk m c 0 t) (iblk m c 3 t) (iblk m c 5 t) (iblk m c 8 t) pp acc (ix2 x j)
      = acc (ix2 x j) + ((pairSum (fv d (t.val / 4) j.val (64 * ws (pairOf t pp) + x.val)) (pairOf t pp) : ℝ) : EReal) := by
  unfold dvAt
  rw [dkUnit_apply acc (D := fun hh x l => prob d (2 * (t.val / 4) + hh.val) (2 * pairOf t pp + l.val / 64) (l.val % 64) (ws (pairOf t pp) + x.val / 64) (x.val % 64))
    (probs_at hd t pp harg2 harg5 harg7 0) (probs_at hd t pp harg2 harg5 harg7 1) (load_gt hd t harg10 pp)]
  refine congrArg (fun r : ℝ => acc (ix2 x j) + (r : EReal)) (Finset.sum_congr rfl fun l _ => ?_)
  unfold fv
  rw [show (64 * ws (pairOf t pp) + x.val) / 64 = ws (pairOf t pp) + x.val / 64 by omega, show (64 * ws (pairOf t pp) + x.val) % 64 = x.val % 64 by omega,
    show 64 * (2 * pairOf t pp + l.val / 64) + l.val % 64 = 128 * pairOf t pp + l.val by omega]
end adds

omit hd
/-- The first store covers all, -/
theorem in_whole (pay : Vec Ideal S8192x128 .f32) (y : S8192x128.Idx) :
    ∃ p ∈ ([⟨Rect.unit ![0, 0] S8192x128.size inb_S8192x128_S8192x128_0_0, pay⟩] : List (View.Piece (Elt Ideal) S8192x128 .f32)), y ∈ p.1.set :=
  cover_first _ _ rfl (whole_mem inb_S8192x128_S8192x128_0_0) y
/-- and what it leaves is zero. -/
theorem read_whole (M : Memref sig .tc .vmem S8192x128 .f32) (pay : Vec Ideal S8192x128 .f32) (hpay : ∀ i, pay i = 0) (y : S8192x128.Idx) :
    M.view.read (Elt Ideal) (M.view.writes (Elt Ideal) M.view.junk [⟨Rect.unit ![0, 0] S8192x128.size inb_S8192x128_S8192x128_0_0, pay⟩]) y = (0 : EReal) :=
  View.read_writes_apply_of_pieces _ _ (fun _ => (0 : EReal)) _ (fun p hp x => by cases List.mem_singleton.1 hp; exact hpay x) y (in_whole pay y)
/-- A window's additions over a buffer that was filled with zeros, read of any buffer, -/
theorem read_first (t : Fin cfg0.N) (M : Memref sig .tc .vmem S8192x128 .f32) (pay : Vec Ideal S8192x128 .f32) (hpay : ∀ i, pay i = 0)
    (X : Fin 16 → Vec Ideal S640x128 .f32 → Vec Ideal S640x128 .f32) (f : ℕ → ℕ → ℕ → ℕ → ℝ) (hf : ∀ j R r c, ¬ seen r c (R / 64) (R % 64) → f j R r c = 0)
    (hX : ∀ pp acc (x : Fin 640) (j : Fin 128), X pp acc (ix2 x j) = acc (ix2 x j) + ((pairSum (f j.val (64 * ws (pairOf t pp) + x.val)) (pairOf t pp) : ℝ) : EReal))
    (R : Fin 8192) (j : Fin 128) :
    left1 (View.accPieces (Val := Elt Ideal) (e := .f32) M.view M.view.junk [⟨Rect.unit ![0, 0] S8192x128.size inb_S8192x128_S8192x128_0_0, pay⟩] S640x128.size (fun pp : Fin 16 => k0_off1 (grid0.coords t) (BitVec.ofNat 32 pp.val)) (fun pp => k0_off1_inb (grid0.coords t) pp) X 16 (Nat.le_refl 16)) (ix2 R j)
      = ((∑ pp : Fin 16, pairSum (f j.val R.val) (pairOf t pp) : ℝ) : EReal) := by
  refine (View.read_accPieces_cov_ix2 (Val := Elt Ideal) (e := .f32) (N := 8192) (K := 128) (W := 640) M.view M.view.junk _ _ (fun pp => k0_off1_inb (grid0.coords t) pp) X (fun pp : Fin 16 => 64 * ws (pairOf t pp)) (fun pp => off1 t pp)
    (fun pp x j => ((pairSum (f j.val (64 * ws (pairOf t pp) + x.val)) (pairOf t pp) : ℝ) : EReal)) hX (fun _ _ => (0 : EReal))
    (fun R c => read_whole M pay hpay _) _ _ (in_whole pay) _ _ R j).trans ((WindowSum.windowAcc_all _ _ _ _ _).trans ?_)
  exact (zero_add _).trans (window_pairs t (f j.val) R.val (hf j.val R.val))
/-- and over a buffer that holds `x`. -/
theorem read_later (t : Fin cfg0.N) (M : Memref sig .tc .vmem S8192x128 .f32) (h : M.IsWhole) (x : Vec Ideal S8192x128 .f32)
    (X : Fin 16 → Vec Ideal S640x128 .f32 → Vec Ideal S640x128 .f32) (f : ℕ → ℕ → ℕ → ℕ → ℝ) (hf : ∀ j R r c, ¬ seen r c (R / 64) (R % 64) → f j R r c = 0)
    (hX : ∀ pp acc (x : Fin 640) (j : Fin 128), X pp acc (ix2 x j) = acc (ix2 x j) + ((pairSum (f j.val (64 * ws (pairOf t pp) + x.val)) (pairOf t pp) : ℝ) : EReal))
    (R : Fin 8192) (j : Fin 128) :
    over M h x (View.accPieces (Val := Elt Ideal) (e := .f32) M.view (h.unread x) [] S640x128.size (fun pp : Fin 16 => k0_off1 (grid0.coords t) (BitVec.ofNat 32 pp.val)) (fun pp => k0_off1_inb (grid0.coords t) pp) X 16 (Nat.le_refl 16)) (ix2 R j)
      = x (ix2 R j) + ((∑ pp : Fin 16, pairSum (f j.val R.val) (pairOf t pp) : ℝ) : EReal) := by
  refine (View.read_accPieces_ix2 (Val := Elt Ideal) (e := .f32) (N := 8192) (K := 128) (W := 640) M.view (h.unread x) [] _ (fun pp => k0_off1_inb (grid0.coords t) pp) X (fun pp : Fin 16 => 64 * ws (pairOf t pp)) (fun pp => off1 t pp)
    (fun pp x j => ((pairSum (f j.val (64 * ws (pairOf t pp) + x.val)) (pairOf t pp) : ℝ) : EReal)) hX (fun R c => if hR : R < 8192 then x (ix2 ⟨R, hR⟩ c) else 0)
    (fun R c => by rw [dif_pos R.isLt]; exact congrFun (h.read_unread x) _) _ _ R j).trans ((WindowSum.windowAcc_all _ _ _ _ _).trans ?_)
  exact congrArg₂ (· + ·) (dif_pos R.isLt) (window_pairs t (f j.val) R.val (hf j.val R.val))

theorem zeros2 (i) : k0_pay2 (F := Ideal) i = (0 : EReal) := by unfold k0_pay2; exact Ideal.ofBits_zero_f32
theorem zeros3 (i) : k0_pay3 (F := Ideal) i = (0 : EReal) := by unfold k0_pay3; exact Ideal.ofBits_zero_f32

theorem fk_zero (p j R r c : ℕ) (hs : ¬ seen r c (R / 64) (R % 64)) : fk d p j R r c = 0 := by unfold fk; rw [dscore_eq_zero d hs, zero_mul]
theorem fv_zero (p j R r c : ℕ) (hs : ¬ seen r c (R / 64) (R % 64)) : fv d p j R r c = 0 := by unfold fv; rw [prob_eq_zero d hs, zero_mul]

/-- The pairs of one more step. -/
theorem more_pairs (t : Fin cfg0.N) (f : ℕ → ℝ) : ∑ mm ∈ Finset.range (16 * (t.val % 4 + 1)), f mm
    = ∑ mm ∈ Finset.range (16 * (t.val % 4)), f mm + ∑ pp : Fin 16, f (pairOf t pp) := by
  rw [show 16 * (t.val % 4 + 1) = 16 * (t.val % 4) + 16 by ring, Finset.sum_range_add, Finset.sum_range (n := 16)]

include hd
/-- The keys' gradient after a step, -/
theorem first_dk (t : Fin cfg0.N) (h : t.val % 4 = 0) (R : Fin 8192) (j : Fin 128) :
    (outsA m c t h).2.1 (ix2 R j) = ((∑ pp : Fin 16, pairSum (fk d (t.val / 4) j.val R.val) (pairOf t pp) : ℝ) : EReal) := by
  show left1 (storesA m c t h).2.1 (ix2 R j) = _
  unfold storesA
  rw [runA_dk]
  exact read_first t _ _ zeros2 _ (fk d (t.val / 4)) (fk_zero (t.val / 4)) (dk_add hd t _ _ _ _ _ _ _) R j
theorem later_dk (t : Fin cfg0.N) (h : ¬t.val % 4 = 0) (p) (R : Fin 8192) (j : Fin 128) :
    (outsB m c t h p).2.1 (ix2 R j) = p.2.1 (ix2 R j) + ((∑ pp : Fin 16, pairSum (fk d (t.val / 4) j.val R.val) (pairOf t pp) : ℝ) : EReal) := by
  show over (win0_10.stage (cfg0.slots t 10)) (hstage0_10 ((cfg0.slots t 10).cast nbuf0_10)) p.2.1 (storesB m c t h p.2.1 p.2.2.1 p.2.2.2).2.1 (ix2 R j) = _
  unfold storesB
  rw [runB_dk]
  exact read_later t _ _ _ _ (fk d (t.val / 4)) (fk_zero (t.val / 4)) (dk_add hd t _ _ _ _ _ _ _) R j
/-- and the values'. -/
theorem first_dv (t : Fin cfg0.N) (h : t.val % 4 = 0) (R : Fin 8192) (j : Fin 128) :
    (outsA m c t h).2.2.1 (ix2 R j) = ((∑ pp : Fin 16, pairSum (fv d (t.val / 4) j.val R.val) (pairOf t pp) : ℝ) : EReal) := by
  show left1 (storesA m c t h).2.2.1 (ix2 R j) = _
  unfold storesA
  rw [runA_dv]
  exact read_first t _ _ zeros3 _ (fv d (t.val / 4)) (fv_zero (t.val / 4)) (dv_add hd t _ _ _ _) R j
theorem later_dv (t : Fin cfg0.N) (h : ¬t.val % 4 = 0) (p) (R : Fin 8192) (j : Fin 128) :
    (outsB m c t h p).2.2.1 (ix2 R j) = p.2.2.1 (ix2 R j) + ((∑ pp : Fin 16, pairSum (fv d (t.val / 4) j.val R.val) (pairOf t pp) : ℝ) : EReal) := by
  show over (win0_11.stage (cfg0.slots t 11)) (hstage0_11 ((cfg0.slots t 11).cast nbuf0_11)) p.2.2.1 (storesB m c t h p.2.1 p.2.2.1 p.2.2.2).2.2.1 (ix2 R j) = _
  unfold storesB
  rw [runB_dv]
  exact read_later t _ _ _ _ (fv d (t.val / 4)) (fv_zero (t.val / 4)) (dv_add hd t _ _ _ _) R j

/-- Both sums, over the steps of a pair of heads. -/
theorem after_sums (n : ℕ) : ∀ (hn : n < cfg0.N) (R : Fin 8192) (j : Fin 128),
    (outsAt m c n hn).2.1 (ix2 R j) = ((∑ mm ∈ Finset.range (16 * (n % 4 + 1)), pairSum (fk d (n / 4) j.val R.val) mm : ℝ) : EReal)
      ∧ (outsAt m c n hn).2.2.1 (ix2 R j) = ((∑ mm ∈ Finset.range (16 * (n % 4 + 1)), pairSum (fv d (n / 4) j.val R.val) mm : ℝ) : EReal) := by
  induction n with
  | zero =>
    intro hn R j
    have e := fun f => more_pairs ⟨0, hn⟩ f
    rw [e, e]
    simp only [Nat.zero_mod, Nat.mul_zero, Finset.range_zero, Finset.sum_empty, zero_add]
    exact ⟨first_dk hd ⟨0, hn⟩ rfl R j, first_dv hd ⟨0, hn⟩ rfl R j⟩
  | succ n ih =>
    intro hn R j
    have e := fun f => more_pairs ⟨n + 1, hn⟩ f
    rw [e, e]
    by_cases h : (n + 1) % 4 = 0
    · have a := outsAt_A m c ⟨n + 1, hn⟩ h
      rw [show outsAt m c (n + 1) hn = _ from a]
      simp only [h, Nat.mul_zero, Finset.range_zero, Finset.sum_empty, zero_add]
      exact ⟨first_dk hd ⟨n + 1, hn⟩ h R j, first_dv hd ⟨n + 1, hn⟩ h R j⟩
    · have a := outsAt_B m c ⟨n + 1, hn⟩ h
      have i := ih (Nat.lt_of_succ_lt hn) R j
      rw [show n % 4 + 1 = (n + 1) % 4 by omega, show n / 4 = (n + 1) / 4 by omega] at i
      rw [show outsAt m c (n + 1) hn = _ from a]
      rw [EReal.coe_add, EReal.coe_add]
      exact ⟨(later_dk hd ⟨n + 1, hn⟩ h _ R j).trans (congrArg (· + _) i.1), (later_dv hd ⟨n + 1, hn⟩ h _ R j).trans (congrArg (· + _) i.2)⟩

omit hd
/-- The index of the block that holds the keys' gradient, -/
theorem idx10 : ∀ t : Fin cfg0.N, win0_10.index t = ![0, t.val / 4] := by decide +kernel
/-- and the values'. -/
theorem idx11 : ∀ t : Fin cfg0.N, win0_11.index t = ![0, t.val / 4] := by decide +kernel

/-- The sums of all rows are the gradients. -/
theorem whole_dk (d : Data) (p : ℕ) (j : Fin 128) (R : ℕ) : all (fk d p j.val R) = dk d ((128 * p + j.val) / 64) (R / 64) (R % 64) ((128 * p + j.val) % 64) := by
  have e1 : (128 * p + j.val) / 64 = 2 * p + j.val / 64 := by omega
  have e2 : 64 * (2 * p + j.val / 64) + (128 * p + j.val) % 64 = 128 * p + j.val := by omega
  unfold dk all fk
  rw [Finset.sum_mul]
  refine Finset.sum_congr rfl fun r _ => ?_
  rw [Finset.sum_mul]
  refine Finset.sum_congr rfl fun c _ => ?_
  rw [e1, e2]; ring
theorem whole_dv (d : Data) (p : ℕ) (j : Fin 128) (R : ℕ) : all (fv d p j.val R) = dv d ((128 * p + j.val) / 64) (R / 64) (R % 64) ((128 * p + j.val) % 64) := by
  have e1 : (128 * p + j.val) / 64 = 2 * p + j.val / 64 := by omega
  have e2 : 64 * (2 * p + j.val / 64) + (128 * p + j.val) % 64 = 128 * p + j.val := by omega
  unfold dv fv
  rw [e1, e2]

include hd
/-- The array of the keys' gradient, -/
theorem out10 : (dats m 0 c).arrAt 10 cfg0.N = fun i => ((dk d ((i 1).val / 64) ((i 0).val / 64) ((i 0).val % 64) ((i 1).val % 64) : ℝ) : EReal) := by
  refine (dats m 0 c).arrAt_eq_of_covers 10 _ (by decide +kernel) fun t hf y => ?_
  have h3 : t.val % 4 = 3 := (flush0_10 t).mp hf
  have e : ((cfg0.win 10).blk t).view.emb y = ix2 (⟨(y 0).val, (y 0).isLt⟩ : Fin 8192) (chan t (y 1)) := by
    unfold chan
    blk_ext [idx10 t]
  rw [e]
  blk_simp
  rw [after_10]
  refine (congrArg (outsAt m c t.val t.isLt).2.1 (eq_ix2 (show S8192x128.Idx from y))).trans ((after_sums hd t.val t.isLt (y 0) (y 1)).1.trans (congrArg (fun r : ℝ => (r : EReal)) ?_))
  rw [h3]
  refine (sum_pairs _).trans ?_
  exact whole_dk d (t.val / 4) (y 1) (y 0).val
/-- and that of the values'. -/
theorem out11 : (dats m 0 c).arrAt 11 cfg0.N = fun i => ((dv d ((i 1).val / 64) ((i 0).val / 64) ((i 0).val % 64) ((i 1).val % 64) : ℝ) : EReal) := by
  refine (dats m 0 c).arrAt_eq_of_covers 11 _ (by decide +kernel) fun t hf y => ?_
  have h3 : t.val % 4 = 3 := (flush0_11 t).mp hf
  have e : ((cfg0.win 11).blk t).view.emb y = ix2 (⟨(y 0).val, (y 0).isLt⟩ : Fin 8192) (chan t (y 1)) := by
    unfold chan
    blk_ext [idx11 t]
  rw [e]
  blk_simp
  rw [after_11]
  refine (congrArg (outsAt m c t.val t.isLt).2.2.1 (eq_ix2 (show S8192x128.Idx from y))).trans ((after_sums hd t.val t.isLt (y 0) (y 1)).2.trans (congrArg (fun r : ℝ => (r : EReal)) ?_))
  rw [h3]
  refine (sum_pairs _).trans ?_
  exact whole_dv d (t.val / 4) (y 1) (y 0).val

end Cert.NaOuts
end
-- ==== Proof.NaRefTable.lean ====
module

public import proofs.«01_k».proof.Proof.Gen.NaRefIdeal.Read
public import Idealize.ShloMosaic.Lib.Pointwise
public import proofs.«01_k».proof.Proof.NaSpec
public import proofs.«01_k».proof.Proof.Up

/-! The reference's tables of rows, columns and masks: integers, read entry by entry; and what its gathers read by them. -/

@[expose] public section

set_option maxRecDepth 16384

noncomputable section

namespace Cert.NaRefTable

open Cert.NaRefIdeal Cert.NaRefIdeal.Gen Cert.NaRefIdeal.Read Idealize.ShloMosaic Idealize.ShloMosaic.TcCoe Cert.NaSpec

/-- The rows of a window, -/
theorem v18 : ∀ (r : Fin 128) (i : Fin 8), @Eq (BitVec 32) (val_main_v18 (F := Ideal) (ix3 r i (0 : Fin 1))) (BitVec.ofNat 32 (rs r.val + i.val)) := by
  decide +kernel
theorem v108 : ∀ (r : Fin 128) (i : Fin 8), @Eq (BitVec 32) (val_main_v108 (F := Ideal) (ix3 r i (0 : Fin 1))) (BitVec.ofNat 32 (rs r.val + i.val)) := by
  decide +kernel
/-- the columns of one, -/
theorem v36 : ∀ (q k : Fin 64), @Eq (BitVec 1) (val_main_v36 (F := Ideal) (ix2 q k)) (if cs q.val ≤ k.val ∧ k.val < cs q.val + 16 then 1#1 else 0#1) := by
  decide +kernel
/-- the differences of rows -/
theorem v56 : ∀ (r : Fin 128) (i : Fin 8), @Eq (BitVec 32) (val_main_v56 (F := Ideal) (ix4 r (0 : Fin 1) i (0 : Fin 1))) (BitVec.ofNat 32 (rs r.val + i.val + 7 - r.val)) := by
  decide +kernel
/-- and of columns. -/
theorem v61 : ∀ (q k : Fin 64), @Eq (BitVec 32) (val_main_v61 (F := Ideal) (ix4 (0 : Fin 1) q (0 : Fin 1) k)) (BitVec.ofNat 32 (min (k.val + 15 - q.val) 30)) := by
  decide +kernel

theorem word_small (n k : ℕ) (h : n ≤ k) (hk : k < 128) : min (BitVec.ofNat 32 n).toInt.toNat k = n := by
  have e : (BitVec.ofNat 32 n).toInt = (n : ℤ) := by
    rw [BitVec.toInt_eq_toNat_of_lt (by rw [BitVec.toNat_ofNat]; omega), BitVec.toNat_ofNat]
    congr 1; omega
  rw [e, Int.toNat_natCast]; omega

local notation "GK" => gather_S128x64x8x64_S128x8x1_S128x8x64x8x64_234_0_n_n_0_2_164864
local notation "GB" => gather_S8x15x31_S128x64x8x64x2_S8x128x64x8x64_0_12_n_n_12_4_811

/-- The gather of rows reads the row that the index names, clamped. -/
theorem gather_rows (x : FVec Ideal S128x64x8x64 .f32) (ix : IVec S128x8x1 32) (j : S128x8x64x8x64.Idx) :
    Host.gather gather_S128x64x8x64_S128x8x1_S128x8x64x8x64_234_0_n_n_0_2_164864 x ix j
      = x (ix4 (⟨min (ix (ix3 (j 0) (j 1) (0 : Fin 1))).toInt.toNat 127, by omega⟩ : Fin 128) (j 2) (j 3) (j 4)) := by
  have hsi : ∀ (c : Fin 1), GatherDims.siIdx GK j c = ix3 (j 0) (j 1) c := fun c => by
    funext t; refine Fin.ext ?_
    match t with
    | ⟨0, _⟩ => rfl
    | ⟨1, _⟩ => rfl
    | ⟨2, _⟩ => rfl
  have s0 : GatherDims.start GK j ix 0 = min (ix (ix3 (j 0) (j 1) (0 : Fin 1))).toInt.toNat 127 :=
    (dif_pos (by decide)).trans (congrArg (fun z => min (ix z).toInt.toNat 127) (hsi 0))
  have s1 : GatherDims.start GK j ix 1 = 0 := dif_neg (by decide)
  have s2 : GatherDims.start GK j ix 2 = 0 := dif_neg (by decide)
  have s3 : GatherDims.start GK j ix 3 = 0 := dif_neg (by decide)
  have f0 : GatherDims.offCoord GK j 0 = 0 := dif_neg (by decide)
  have f1 : GatherDims.offCoord GK j 1 = (j 2).val := (dif_pos (by decide)).trans rfl
  have f2 : GatherDims.offCoord GK j 2 = (j 3).val := (dif_pos (by decide)).trans rfl
  have f3 : GatherDims.offCoord GK j 3 = (j 4).val := (dif_pos (by decide)).trans rfl
  unfold Host.gather
  congr 1
  funext t
  refine Fin.ext ?_
  show GatherDims.start GK j ix t + GatherDims.batchCoord GK j t + GatherDims.offCoord GK j t = _
  rw [GatherDims.batchCoord_eq_zero _ _ _ List.not_mem_nil]
  match t with
  | ⟨0, _⟩ => exact congrArg₂ (fun x y => x + 0 + y) s0 f0
  | ⟨1, _⟩ => exact (congrArg₂ (fun x y => x + 0 + y) s1 f1).trans (Nat.zero_add _)
  | ⟨2, _⟩ => exact (congrArg₂ (fun x y => x + 0 + y) s2 f2).trans (Nat.zero_add _)
  | ⟨3, _⟩ => exact (congrArg₂ (fun x y => x + 0 + y) s3 f3).trans (Nat.zero_add _)

/-- The gather of biases reads the table at the two differences, clamped. -/
theorem gather_bias (x : FVec Ideal S8x15x31 .f32) (ix : IVec S128x64x8x64x2 32) (j : S8x128x64x8x64.Idx) :
    Host.gather gather_S8x15x31_S128x64x8x64x2_S8x128x64x8x64_0_12_n_n_12_4_811 x ix j
      = x (ix3 (j 0) ⟨min (ix (ix5 (j 1) (j 2) (j 3) (j 4) (0 : Fin 2))).toInt.toNat 14, by omega⟩ ⟨min (ix (ix5 (j 1) (j 2) (j 3) (j 4) (1 : Fin 2))).toInt.toNat 30, by omega⟩) := by
  have hsi : ∀ (c : Fin 2), GatherDims.siIdx GB j c = ix5 (j 1) (j 2) (j 3) (j 4) c := fun c => by
    funext t; refine Fin.ext ?_
    match t with
    | ⟨0, _⟩ => rfl
    | ⟨1, _⟩ => rfl
    | ⟨2, _⟩ => rfl
    | ⟨3, _⟩ => rfl
    | ⟨4, _⟩ => rfl
  have s0 : GatherDims.start GB j ix 0 = 0 := dif_neg (by decide)
  have s1 : GatherDims.start GB j ix 1 = min (ix (ix5 (j 1) (j 2) (j 3) (j 4) (0 : Fin 2))).toInt.toNat 14 :=
    (dif_pos (by decide)).trans (congrArg (fun z => min (ix z).toInt.toNat 14) (hsi 0))
  have s2 : GatherDims.start GB j ix 2 = min (ix (ix5 (j 1) (j 2) (j 3) (j 4) (1 : Fin 2))).toInt.toNat 30 :=
    (dif_pos (by decide)).trans (congrArg (fun z => min (ix z).toInt.toNat 30) (hsi 1))
  have f0 : GatherDims.offCoord GB j 0 = (j 0).val := (dif_pos (by decide)).trans rfl
  have f1 : GatherDims.offCoord GB j 1 = 0 := dif_neg (by decide)
  have f2 : GatherDims.offCoord GB j 2 = 0 := dif_neg (by decide)
  unfold Host.gather
  congr 1
  funext t
  refine Fin.ext ?_
  show GatherDims.start GB j ix t + GatherDims.batchCoord GB j t + GatherDims.offCoord GB j t = _
  rw [GatherDims.batchCoord_eq_zero _ _ _ List.not_mem_nil]
  match t with
  | ⟨0, _⟩ => exact (congrArg₂ (fun x y => x + 0 + y) s0 f0).trans (Nat.zero_add _)
  | ⟨1, _⟩ => exact congrArg₂ (fun x y => x + 0 + y) s1 f1
  | ⟨2, _⟩ => exact congrArg₂ (fun x y => x + 0 + y) s2 f2

/-- The indices of the bias: a difference of rows -/
theorem v66_0 (r : Fin 128) (c : Fin 64) (i : Fin 8) (k : Fin 64) : val_main_v66 (F := Ideal) (ix5 r c i k (0 : Fin 2)) = val_main_v56 (F := Ideal) (ix4 r (0 : Fin 1) i (0 : Fin 1)) := by
  unfold val_main_v66 val_main_v64 val_main_v62
  pointwise
/-- and one of columns. -/
theorem v66_1 (r : Fin 128) (c : Fin 64) (i : Fin 8) (k : Fin 64) : val_main_v66 (F := Ideal) (ix5 r c i k (1 : Fin 2)) = val_main_v61 (F := Ideal) (ix4 (0 : Fin 1) c (0 : Fin 1) k) := by
  unfold val_main_v66 val_main_v65 val_main_v63
  pointwise

end Cert.NaRefTable
end
-- ==== Proof.NaRefScore.lean ====
module

public import proofs.«01_k».proof.Proof.NaRefTable
public import proofs.«01_k».proof.Proof.NaPay

/-! The reference's attention, of finite arguments: its scores, its probabilities and its output, as real functions. -/

@[expose] public section

set_option maxRecDepth 16384

noncomputable section

namespace Cert.NaRefScore

open Cert.NaRefIdeal Cert.NaRefIdeal.Gen Cert.NaRefIdeal.Read Idealize.ShloMosaic Idealize.ShloMosaic.TcCoe Cert.NaSpec Cert.NaRefTable Cert.Up

/-- What drops to `j` in a reduction over the two last of five axes. -/
theorem fiber {n3 n4 : ℕ} (h : (⟨5, ![8, 128, 64, n3, n4]⟩ : Shape).ReducesTo [3, 4] S8x128x64) (j : S8x128x64.Idx) (i : (⟨5, ![8, 128, 64, n3, n4]⟩ : Shape).Idx) :
    h.drop i = j ↔ ∃ k : Fin n3 × Fin n4, ix5 (j 0) (j 1) (j 2) k.1 k.2 = i := by
  constructor
  · intro e
    refine ⟨(i 3, i 4), funext fun a => Fin.ext ?_⟩
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
  · rintro ⟨k, rfl⟩
    refine funext fun a => Fin.ext ?_
    match a with
    | ⟨0, _⟩ => rfl
    | ⟨1, _⟩ => rfl
    | ⟨2, _⟩ => rfl

/-- The sum over the two last of five axes, -/
theorem reduce_sum {n3 n4 : ℕ} (h : (⟨5, ![8, 128, 64, n3, n4]⟩ : Shape).ReducesTo [3, 4] S8x128x64) (x : (⟨5, ![8, 128, 64, n3, n4]⟩ : Shape).Idx → EReal) (z : EReal) (j : S8x128x64.Idx) :
    Ideal.hostReduceAdd h x z j = z + ∑ i : Fin n3, ∑ k : Fin n4, x (ix5 (j 0) (j 1) (j 2) i k) := by
  unfold Ideal.hostReduceAdd
  rw [Finset.sum_filter_eq_sum_of_fiber (fun i => h.drop i = j) (fun k : Fin n3 × Fin n4 => (ix5 (j 0) (j 1) (j 2) k.1 k.2 : (⟨5, ![8, 128, 64, n3, n4]⟩ : Shape).Idx)) (fun _ _ e => Prod.ext (congrFun e 3) (congrFun e 4)) (fiber h j), Fintype.sum_prod_type]
/-- and the maximum. -/
theorem reduce_max {n3 n4 : ℕ} (h : (⟨5, ![8, 128, 64, n3, n4]⟩ : Shape).ReducesTo [3, 4] S8x128x64) (x : (⟨5, ![8, 128, 64, n3, n4]⟩ : Shape).Idx → EReal) (z : EReal) (j : S8x128x64.Idx) :
    Finset.fold max z x {i | h.drop i = j} = Finset.fold max z (fun k : Fin n3 × Fin n4 => x (ix5 (j 0) (j 1) (j 2) k.1 k.2)) Finset.univ :=
  Finset.fold_filter_eq_fold_of_fiber max (fun i => h.drop i = j) (fun k : Fin n3 × Fin n4 => (ix5 (j 0) (j 1) (j 2) k.1 k.2 : (⟨5, ![8, 128, 64, n3, n4]⟩ : Shape).Idx)) (fun _ _ e => Prod.ext (congrFun e 3) (congrFun e 4)) (fiber h j) _ _

/-- The arguments are those of `d`. -/
structure Args (d : Data) (x0 x1 x2 x4 : FVec Ideal S8192x512 .f32) (x3 : FVec Ideal S8x15x31 .f32) : Prop where
  q : ∀ i, x0 i = ((d.q (i 0).val (i 1).val : ℝ) : EReal)
  k : ∀ i, x1 i = ((d.k (i 0).val (i 1).val : ℝ) : EReal)
  v : ∀ i, x2 i = ((d.v (i 0).val (i 1).val : ℝ) : EReal)
  g : ∀ i, x4 i = ((d.g (i 0).val (i 1).val : ℝ) : EReal)
  b : ∀ i, x3 i = ((d.b (i 0).val (i 1).val (i 2).val : ℝ) : EReal)

variable {d : Data} {x0 x1 x2 x4 : FVec Ideal S8192x512 .f32} {x3 : FVec Ideal S8x15x31 .f32} (H : Args d x0 x1 x2 x4 x3)

theorem lin0 (j : S128x64x8x64.Idx) : (((((j 0).val * 64 + (j 1).val) * 8 + (j 2).val) * 64 + (j 3).val) / 512) = 64 * (j 0).val + (j 1).val := by
  have h0 : (j 2).val < 8 := (j 2).isLt
  have h1 : (j 3).val < 64 := (j 3).isLt
  omega
theorem lin1 (j : S128x64x8x64.Idx) : (((((j 0).val * 64 + (j 1).val) * 8 + (j 2).val) * 64 + (j 3).val) % 512) = 64 * (j 2).val + (j 3).val := by
  have h0 : (j 2).val < 8 := (j 2).isLt
  have h1 : (j 3).val < 64 := (j 3).isLt
  omega

include H
/-- The arguments by row, column, head and channel: `q`, -/
theorem v0 (j : S128x64x8x64.Idx) : val_main_v0 (F := Ideal) x0 j = ((d.q (64 * (j 0).val + (j 1).val) (64 * (j 2).val + (j 3).val) : ℝ) : EReal) := by
  rw [val_main_v0_apply, H.q]
  exact congrArg (fun r : ℝ => (r : EReal)) (congrArg₂ d.q (lin0 j) (lin1 j))
/-- `k`, -/
theorem v12 (j : S128x64x8x64.Idx) : val_main_v12 (F := Ideal) x1 j = ((d.k (64 * (j 0).val + (j 1).val) (64 * (j 2).val + (j 3).val) : ℝ) : EReal) := by
  rw [val_main_v12_apply, H.k]
  exact congrArg (fun r : ℝ => (r : EReal)) (congrArg₂ d.k (lin0 j) (lin1 j))
/-- `v`, -/
theorem v102 (j : S128x64x8x64.Idx) : val_main_v102 (F := Ideal) x2 j = ((d.v (64 * (j 0).val + (j 1).val) (64 * (j 2).val + (j 3).val) : ℝ) : EReal) := by
  rw [val_main_v102_apply, H.v]
  exact congrArg (fun r : ℝ => (r : EReal)) (congrArg₂ d.v (lin0 j) (lin1 j))
/-- and the cotangent. -/
theorem v113 (j : S128x64x8x64.Idx) : val_main_v113 (F := Ideal) x4 j = ((d.g (64 * (j 0).val + (j 1).val) (64 * (j 2).val + (j 3).val) : ℝ) : EReal) := by
  rw [val_main_v113_apply, H.g]
  exact congrArg (fun r : ℝ => (r : EReal)) (congrArg₂ d.g (lin0 j) (lin1 j))
omit H
theorem row_word (r : Fin 128) (i : Fin 8) : min (BitVec.ofNat 32 (rs r.val + i.val)).toInt.toNat 127 = rs r.val + i.val :=
  word_small _ _ (by unfold rs; omega) (by omega)
theorem row18 (r : Fin 128) (i : Fin 8) : min (val_main_v18 (F := Ideal) (ix3 r i (0 : Fin 1))).toInt.toNat 127 = rs r.val + i.val := by
  rw [NaRefTable.v18, row_word]
theorem row108 (r : Fin 128) (i : Fin 8) : min (val_main_v108 (F := Ideal) (ix3 r i (0 : Fin 1))).toInt.toNat 127 = rs r.val + i.val := by
  rw [NaRefTable.v108, row_word]
theorem row66 (r : Fin 128) (c : Fin 64) (i : Fin 8) (k : Fin 64) : min (val_main_v66 (F := Ideal) (ix5 r c i k (0 : Fin 2))).toInt.toNat 14 = rs r.val + i.val + 7 - r.val := by
  rw [NaRefTable.v66_0, NaRefTable.v56]
  exact word_small _ _ (by unfold rs; omega) (by omega)
theorem col66 (r : Fin 128) (c : Fin 64) (i : Fin 8) (k : Fin 64) : min (val_main_v66 (F := Ideal) (ix5 r c i k (1 : Fin 2))).toInt.toNat 30 = min (k.val + 15 - c.val) 30 := by
  rw [NaRefTable.v66_1, NaRefTable.v61]
  exact word_small _ _ (by omega) (by omega)
include H
/-- The rows that a query sees, of `k` -/
theorem v19 (j : S128x8x64x8x64.Idx) : val_main_v19 (F := Ideal) x1 j = ((d.k (64 * (rs (j 0).val + (j 1).val) + (j 2).val) (64 * (j 3).val + (j 4).val) : ℝ) : EReal) := by
  unfold val_main_v19
  rw [gather_rows, v12 H]
  exact congrArg (fun r : ℝ => (r : EReal)) (congrArg₂ d.k (congrArg (fun n => 64 * n + (j 2).val) (row18 (j 0) (j 1))) rfl)
/-- and of `v`. -/
theorem v109 (j : S128x8x64x8x64.Idx) : val_main_v109 (F := Ideal) x2 j = ((d.v (64 * (rs (j 0).val + (j 1).val) + (j 2).val) (64 * (j 3).val + (j 4).val) : ℝ) : EReal) := by
  unfold val_main_v109
  rw [gather_rows, v102 H]
  exact congrArg (fun r : ℝ => (r : EReal)) (congrArg₂ d.v (congrArg (fun n => 64 * n + (j 2).val) (row108 (j 0) (j 1))) rfl)
/-- The bias of a pair. -/
theorem v67 (j : S8x128x64x8x64.Idx) : val_main_v67 (F := Ideal) x3 j = ((d.b (j 0).val (rs (j 1).val + (j 3).val + 7 - (j 1).val) (min ((j 4).val + 15 - (j 2).val) 30) : ℝ) : EReal) := by
  unfold val_main_v67
  rw [gather_bias, H.b]
  exact congrArg (fun r : ℝ => (r : EReal)) (congrArg₂ (d.b (j 0).val) (row66 (j 1) (j 2) (j 3) (j 4)) (col66 (j 1) (j 2) (j 3) (j 4)))
/-- The product of a query with a key that it sees. -/
theorem v68 (j : S8x128x64x8x64.Idx) : val_main_v68 (F := Ideal) x0 x1 j = ((qk d (j 0).val (j 1).val (j 2).val (rs (j 1).val + (j 3).val) (j 4).val : ℝ) : EReal) := by
  rw [val_main_v68_apply]; simp only [v0 H, v19 H, ← EReal.coe_mul, sum_up]; rfl
omit H
theorem mask (j : S64x64.Idx) : @Eq (BitVec 1) (val_main_v36 (F := Ideal) j) (if cs (j 0).val ≤ (j 1).val ∧ (j 1).val < cs (j 0).val + 16 then 1#1 else 0#1) := by
  obtain ⟨a, b, rfl⟩ : ∃ a b, j = ix2 a b := ⟨j 0, j 1, eq_ix2 j⟩
  exact NaRefTable.v36 a b
/-- Whether the key of window row `j 3` and column `j 4` is seen. -/
abbrev Seen (j : S8x128x64x8x64.Idx) : Prop := seen (j 1).val (j 2).val (rs (j 1).val + (j 3).val) (j 4).val
theorem mask_seen (j : S8x128x64x8x64.Idx) : @Eq (BitVec 1) (val_main_v73_1 (F := Ideal) j) (if Seen j then 1#1 else 0#1) := by
  rw [val_main_v73_1_apply, val_main_v72_apply, mask]
  refine if_congr ?_ rfl rfl
  have hi : (j 3).val < 8 := (j 3).isLt
  show (cs (j 2).val ≤ (j 4).val ∧ (j 4).val < cs (j 2).val + 16) ↔ _
  unfold Seen seen
  omega
include H
/-- The scores, that are `−∞` where nothing is seen. -/
theorem v73 (j : S8x128x64x8x64.Idx) : val_main_v73_0 (F := Ideal) x0 x1 x3 j
    = if Seen j then ((score d (j 0).val (j 1).val (j 2).val (rs (j 1).val + (j 3).val) (j 4).val : ℝ) : EReal) else ⊥ := by
  rw [val_main_v73_0_apply, mask_seen]
  by_cases hs : Seen j
  · rw [if_pos hs, if_pos hs]
    simp only [if_true, val_main_v71_apply, val_main_v70_apply, val_main_v69_apply, val_main_cst_apply, v68 H, v67 H, Ideal.addf_def, Ideal.mulf_def, Ideal.ofBits_def, NaPay.word_eighth, ← EReal.coe_mul, ← EReal.coe_add]
    refine congrArg (fun r : ℝ => (r : EReal)) (congrArg (fun n => qk d (j 0).val (j 1).val (j 2).val (rs (j 1).val + (j 3).val) (j 4).val * 0.125 + d.b (j 0).val (rs (j 1).val + (j 3).val + 7 - (j 1).val) n) ?_)
    have hk : (j 2).val < 64 := (j 2).isLt
    have := hs.2
    unfold cs at this
    omega
  · rw [if_neg hs, if_neg hs]
    simp only [val_main_call3_v2_apply, val_main_call3_v0_apply, val_main_call3_v0_apply, val_main_cst_16_apply, Ideal.ofBits_def, NaPay.word_bot]
    rfl

omit H
/-- The largest of some values is a real number, where none is `∞` and one is not `−∞`. -/
theorem fold_real {ι : Type*} [Fintype ι] (f : ι → EReal) (hf : ∀ k, f k < ⊤) (k : ι) (hk : ⊥ < f k) : ∃ M : ℝ, max ⊥ (Finset.fold max ⊥ f Finset.univ) = ((M : ℝ) : EReal) := by
  rw [max_eq_right bot_le]
  have hlt : Finset.fold max ⊥ f Finset.univ < ⊤ := (Finset.fold_max_lt _).2 ⟨bot_lt_top, fun k _ => hf k⟩
  have hgt : ⊥ < Finset.fold max ⊥ f Finset.univ := lt_of_lt_of_le hk ((Finset.le_fold_max _).2 (Or.inr ⟨k, Finset.mem_univ _, le_rfl⟩))
  exact ⟨_, (EReal.coe_toReal hlt.ne hgt.ne').symm⟩
/-- The maximum of the program, of any scores. -/
theorem v74_max (y : FVec Ideal S8x128x64x8x64 .f32) (z : FVec Ideal S_ .f32) (hz : ∀ i, z i = ⊥) (j : S8x128x64.Idx) :
    Host.reduce FloatOps.maximumf y z reducesTo_S8x128x64x8x64_S8x128x64_d3_4 h_S_ j = Finset.fold max ⊥ (fun k : Fin 8 × Fin 64 => y (ix5 (j 0) (j 1) (j 2) k.1 k.2)) Finset.univ := by
  pointwise [hz]
  exact reduce_max _ y ⊥ j
theorem self_row (r : Fin 128) : r.val - rs r.val < 8 := by unfold rs; omega
theorem seen_own (h : Fin 8) (r : Fin 128) (c : Fin 64) : Seen (ix5 h r c (⟨r.val - rs r.val, self_row r⟩ : Fin 8) c) := by
  show seen r.val c.val (rs r.val + (r.val - rs r.val)) c.val
  rw [show rs r.val + (r.val - rs r.val) = r.val from by unfold rs; omega]
  exact seen_self r.isLt c.isLt
include H
/-- The largest score of a query is a real number. -/
theorem max_real (h : Fin 8) (r : Fin 128) (c : Fin 64) : ∃ M : ℝ, val_main_v81 (F := Ideal) x0 x1 x3 (ix3 h r c) = ((M : ℝ) : EReal) := by
  have e : val_main_v81 (F := Ideal) x0 x1 x3 (ix3 h r c) = max ⊥ (Finset.fold max ⊥ (fun k : Fin 8 × Fin 64 => val_main_v73_0 (F := Ideal) x0 x1 x3 (ix5 h r c k.1 k.2)) Finset.univ) := by
    rw [val_main_v81_apply, Ideal.maximumf_def]
    refine congrArg₂ max ?_ ?_
    · rw [val_main_v80_apply, val_main_cst_19_apply, Ideal.ofBits_def, NaPay.word_bot]
    · unfold val_main_v74
      exact v74_max _ _ (fun i => by rw [val_main_cst_17_apply, Ideal.ofBits_def, NaPay.word_bot]) _
  rw [e]
  refine fold_real _ (fun k => ?_) (⟨r.val - rs r.val, self_row r⟩, c) ?_
  · rw [v73 H]; split; exacts [EReal.coe_lt_top _, bot_lt_top]
  · rw [v73 H, if_pos (seen_own h r c)]; exact EReal.bot_lt_coe _

omit H
/-- The largest score of a query, -/
def mx (x0 x1 : FVec Ideal S8192x512 .f32) (x3 : FVec Ideal S8x15x31 .f32) (h r c : ℕ) : ℝ :=
  if hh : h < 8 ∧ r < 128 ∧ c < 64 then (val_main_v81 (F := Ideal) x0 x1 x3 (ix3 ⟨h, hh.1⟩ ⟨r, hh.2.1⟩ ⟨c, hh.2.2⟩)).toReal else 0
include H
/-- read of the program. -/
theorem v81 (j : S8x128x64.Idx) : val_main_v81 (F := Ideal) x0 x1 x3 j = ((mx x0 x1 x3 (j 0).val (j 1).val (j 2).val : ℝ) : EReal) := by
  obtain ⟨h, r, c, rfl⟩ : ∃ h r c, j = ix3 h r c := ⟨j 0, j 1, j 2, eq_ix3 j⟩
  obtain ⟨M, hM⟩ := max_real H h r c
  have e : mx x0 x1 x3 h.val r.val c.val = (val_main_v81 (F := Ideal) x0 x1 x3 (ix3 h r c)).toReal := dif_pos ⟨h.isLt, r.isLt, c.isLt⟩
  show _ = ((mx x0 x1 x3 h.val r.val c.val : ℝ) : EReal)
  rw [e, hM, EReal.toReal_coe]

/-- The weights before the division, -/
theorem v94 (j : S8x128x64x8x64.Idx) : val_main_v94 (F := Ideal) x0 x1 x3 j
    = ((wt d (j 0).val (j 1).val (j 2).val (rs (j 1).val + (j 3).val) (j 4).val * Real.exp (-mx x0 x1 x3 (j 0).val (j 1).val (j 2).val) : ℝ) : EReal) := by
  simp only [val_main_v94_apply, val_main_v93_apply, val_main_v92_apply, val_main_v91_apply, v81 H, v73 H, Ideal.hostUnary_exp_def, Ideal.subf_def]
  unfold wt
  by_cases hs : Seen j
  · rw [if_pos hs, if_pos hs, ← EReal.coe_sub, Ideal.exp_coe, sub_eq_add_neg, Real.exp_add]
  · rw [if_neg hs, if_neg hs]; simp [sub_eq_add_neg]

omit H
/-- The sum of the program, of any weights. -/
theorem sum_keys (y : FVec Ideal S8x128x64x8x64 .f32) (z : FVec Ideal S_ .f32) (hz : ∀ i, z i = 0) (j : S8x128x64.Idx) :
    Host.reduceAdd (F := Ideal) y z reducesTo_S8x128x64x8x64_S8x128x64_d3_4 h_S_ j = ∑ b : Fin 8, ∑ k : Fin 64, y (ix5 (j 0) (j 1) (j 2) b k) := by
  pointwise [hz]
  exact (reduce_sum _ y 0 j).trans (zero_add _)
/-- A sum over the window of a query is one over all keys. -/
theorem window (r c : ℕ) (f : ℕ → ℕ → ℝ) (hf : ∀ r' c', ¬ seen r c r' c' → f r' c' = 0) :
    ∑ b : Fin 8, ∑ k : Fin 64, f (rs r + b.val) k.val = all f :=
  all_window _ _ (rs_le r) f fun r' c' _ hn => hf r' c' fun hs => hn hs.1
include H
/-- their sum, -/
theorem v95 (j : S8x128x64.Idx) : val_main_v95 (F := Ideal) x0 x1 x3 j
    = ((wsum d (j 0).val (j 1).val (j 2).val * Real.exp (-mx x0 x1 x3 (j 0).val (j 1).val (j 2).val) : ℝ) : EReal) := by
  have e : val_main_v95 (F := Ideal) x0 x1 x3 j = ∑ i : Fin 8, ∑ k : Fin 64, val_main_v94 (F := Ideal) x0 x1 x3 (ix5 (j 0) (j 1) (j 2) i k) := by
    unfold val_main_v95
    exact sum_keys _ _ (fun i => by rw [val_main_cst_25_apply, Ideal.ofBits_def, Ideal.ofBits_zero_f32]) _
  rw [e]
  simp only [v94 H, sum_up]
  refine congrArg (fun r : ℝ => (r : EReal)) ?_
  unfold wsum
  rw [← window (j 1).val (j 2).val (wt d (j 0).val (j 1).val (j 2).val) fun _ _ hs => wt_eq_zero d hs]
  simp only [Finset.sum_mul]
  rfl
omit H
theorem den_ne (h : Fin 8) (r : Fin 128) (c : Fin 64) (M : ℝ) : wsum d h.val r.val c.val * Real.exp (-M) ≠ 0 :=
  (mul_pos (wsum_pos d r.isLt c.isLt) (Real.exp_pos _)).ne'
include H
/-- and the probabilities. -/
theorem v98 (j : S8x128x64x8x64.Idx) : val_main_v98 (F := Ideal) x0 x1 x3 j
    = ((prob d (j 0).val (j 1).val (j 2).val (rs (j 1).val + (j 3).val) (j 4).val : ℝ) : EReal) := by
  simp only [val_main_v98_apply, val_main_v97_apply, val_main_v96_apply, v95 H, v94 H, Ideal.hostDivf_def]
  refine (div_up _ (den_ne (d := d) (j 0) (j 1) (j 2) _)).trans (congrArg (fun r : ℝ => (r : EReal)) ?_)
  exact mul_div_mul_right _ _ (Real.exp_pos _).ne'

end Cert.NaRefScore
end
-- ==== Proof.NaRefGrad.lean ====
module

public import proofs.«01_k».proof.Proof.NaRefScore

/-! The reference's output and gradients, of finite arguments, as real functions. -/

@[expose] public section

set_option maxRecDepth 16384

noncomputable section

namespace Cert.NaRefGrad

open Cert.NaRefIdeal Cert.NaRefIdeal.Gen Cert.NaRefIdeal.Read Idealize.ShloMosaic Idealize.ShloMosaic.TcCoe Cert.NaSpec Cert.NaRefTable Cert.NaRefScore Cert.Up

variable {d : Data} {x0 x1 x2 x4 : FVec Ideal S8192x512 .f32} {x3 : FVec Ideal S8x15x31 .f32} (H : Args d x0 x1 x2 x4 x3)

/-- A product over the keys of a window, by its two operands. -/
theorem dot_keys (y : FVec Ideal S128x8x64x8x64 .f32) (z : FVec Ideal S8x128x64x8x64 .f32) (j : S128x8x64x64.Idx) :
    Host.dotGeneral (F := Ideal) dot_S128x8x64x8x64_S8x128x64x8x64_S128x8x64x64_12_34_4_2_03_10 none y z j
      = ∑ b : Fin 8, ∑ k : Fin 64, y (ix5 (j 0) b k (j 1) (j 2)) * z (ix5 (j 1) (j 0) (j 3) b k) := by
  pointwise
/-- The same, of the gradient of the queries. -/
theorem dot_query (y : FVec Ideal S8x128x64x8x64 .f32) (z : FVec Ideal S128x8x64x8x64 .f32) (j : S8x128x64x64.Idx) :
    Host.dotGeneral (F := Ideal) dot_S8x128x64x8x64_S128x8x64x8x64_S8x128x64x64_34_12_2_4_01_30 none y z j
      = ∑ b : Fin 8, ∑ k : Fin 64, y (ix5 (j 0) (j 1) (j 2) b k) * z (ix5 (j 1) b k (j 0) (j 3)) := by
  pointwise

/-- A sum over two axes of length one. -/
theorem sum_one (y : FVec Ideal S8x128x64x1x1 .f32) (z : FVec Ideal S_ .f32) (hz : ∀ i, z i = 0) (j : S8x128x64.Idx) :
    Host.reduceAdd (F := Ideal) y z reducesTo_S8x128x64x1x1_S8x128x64_d3_4 h_S_ j = y (ix5 (j 0) (j 1) (j 2) (0 : Fin 1) (0 : Fin 1)) := by
  pointwise [hz]
  exact (reduce_sum _ y 0 j).trans (by rw [zero_add, Fin.sum_univ_one, Fin.sum_univ_one])

include H
/-- The output by row, head, channel and column, -/
theorem v110 (j : S128x8x64x64.Idx) : val_main_v110 (F := Ideal) x0 x1 x2 x3 j
    = ((out d (j 1).val (j 0).val (j 3).val (j 2).val : ℝ) : EReal) := by
  unfold val_main_v110
  rw [dot_keys]
  simp only [NaRefScore.v109 H, v98 H, ← EReal.coe_mul, sum_up]
  refine congrArg (fun r : ℝ => (r : EReal)) ?_
  unfold out
  rw [← window (j 0).val (j 3).val _ fun _ _ hs => by rw [prob_eq_zero d hs, zero_mul]]
  exact Finset.sum_congr rfl fun b _ => Finset.sum_congr rfl fun k _ => mul_comm _ _
/-- and by token and channel. -/
theorem v112 (j : S8192x512.Idx) : val_main_v112 (F := Ideal) x0 x1 x2 x3 j
    = ((out d ((j 1).val / 64) ((j 0).val / 64) ((j 0).val % 64) ((j 1).val % 64) : ℝ) : EReal) := by
  rw [val_main_v112_apply, val_main_v111_apply, v110 H]
  refine congrArg (fun r : ℝ => (r : EReal)) ?_
  have hn : (j 0).val < 8192 := (j 0).isLt
  have ha : (j 1).val < 512 := (j 1).isLt
  refine congr (congr (congr (congrArg (out d) ?_) ?_) ?_) ?_
  · show ((j 0).val * 512 + (j 1).val) / 64 % 8 = _; omega
  · show ((j 0).val * 512 + (j 1).val) / 32768 = _; omega
  · show ((j 0).val * 512 + (j 1).val) / 512 % 64 = _; omega
  · show ((j 0).val * 512 + (j 1).val) % 64 = _; omega

/-- The cotangent of a probability. -/
theorem v116 (j : S8x128x64x8x64.Idx) : val_main_v116 (F := Ideal) x2 x4 j
    = ((dprob d (j 0).val (j 1).val (j 2).val (rs (j 1).val + (j 3).val) (j 4).val : ℝ) : EReal) := by
  rw [val_main_v116_apply, val_main_v115_apply]
  simp only [val_main_v114_apply, v113 H, NaRefScore.v109 H, ← EReal.coe_mul, sum_up]
  rfl

/-- The inverse square of the sum of the weights. -/
theorem v101 (j : S8x128x64x1x1.Idx) : val_main_v101 (F := Ideal) x0 x1 x3 j
    = ((1 / ((wsum d (j 0).val (j 1).val (j 2).val * Real.exp (-mx x0 x1 x3 (j 0).val (j 1).val (j 2).val)) * (wsum d (j 0).val (j 1).val (j 2).val * Real.exp (-mx x0 x1 x3 (j 0).val (j 1).val (j 2).val))) : ℝ) : EReal) := by
  simp only [val_main_v101_apply, val_main_v100_apply, val_main_cst_26_apply, val_main_v99_apply, val_main_v96_apply, v95 H, Ideal.hostDivf_def, Ideal.mulf_def, Ideal.ofBits_def, word_1, ← EReal.coe_mul]
  exact div_up _ (mul_ne_zero (den_ne (d := d) (j 0) (j 1) (j 2) _) (den_ne (d := d) (j 0) (j 1) (j 2) _))

/-- The cotangent of the sum of the weights, negated. -/
theorem v125 (j : S8x128x64.Idx) : val_main_v125 (F := Ideal) x0 x1 x2 x3 x4 j
    = ((delta d (j 0).val (j 1).val (j 2).val / (wsum d (j 0).val (j 1).val (j 2).val * Real.exp (-mx x0 x1 x3 (j 0).val (j 1).val (j 2).val)) : ℝ) : EReal) := by
  have e : val_main_v125 (F := Ideal) x0 x1 x2 x3 x4 j = ∑ i : Fin 8, ∑ k : Fin 64, val_main_v124 (F := Ideal) x0 x1 x2 x3 x4 (ix5 (j 0) (j 1) (j 2) i k) := by
    unfold val_main_v125
    exact sum_keys _ _ (fun i => by rw [val_main_cst_30_apply, Ideal.ofBits_def, Ideal.ofBits_zero_f32]) _
  rw [e]
  simp only [val_main_v124_apply, val_main_v123_apply, val_main_v122_apply, v116 H, v101 H, v94 H, Ideal.mulf_def, ← EReal.coe_mul, sum_up]
  refine congrArg (fun r : ℝ => (r : EReal)) ?_
  unfold delta
  rw [← window (j 1).val (j 2).val _ fun _ _ hs => by rw [prob_eq_zero d hs, zero_mul]]
  simp only [Finset.sum_div]
  refine Finset.sum_congr rfl fun b _ => Finset.sum_congr rfl fun k _ => ?_
  unfold prob
  have h1 := (Real.exp_pos (-mx x0 x1 x3 (j 0).val (j 1).val (j 2).val)).ne'
  have h2 : wsum d (j 0).val (j 1).val (j 2).val ≠ 0 := (wsum_pos d (j 1).isLt (j 2).isLt).ne'
  show dprob d (j 0).val (j 1).val (j 2).val (rs (j 1).val + b.val) k.val * (1 / ((wsum d (j 0).val (j 1).val (j 2).val * Real.exp (-mx x0 x1 x3 (j 0).val (j 1).val (j 2).val)) * (wsum d (j 0).val (j 1).val (j 2).val * Real.exp (-mx x0 x1 x3 (j 0).val (j 1).val (j 2).val)))) * (wt d (j 0).val (j 1).val (j 2).val (rs (j 1).val + b.val) k.val * Real.exp (-mx x0 x1 x3 (j 0).val (j 1).val (j 2).val)) = _
  field_simp

omit H
theorem one_idx (j : S8x128x64.Idx) : idx_main_v126 (ix5 (j 0) (j 1) (j 2) (0 : Fin 1) (0 : Fin 1)) = j := by
  have h0 : (j 0).val < 8 := (j 0).isLt
  have h1 : (j 1).val < 128 := (j 1).isLt
  have h2 : (j 2).val < 64 := (j 2).isLt
  funext a
  refine Fin.ext ?_
  match a with
  | ⟨0, _⟩ => show (((((j 0).val * 128 + (j 1).val) * 64 + (j 2).val) * 1 + 0) * 1 + 0) / 8192 = (j 0).val; omega
  | ⟨1, _⟩ => show (((((j 0).val * 128 + (j 1).val) * 64 + (j 2).val) * 1 + 0) * 1 + 0) / 64 % 128 = (j 1).val; omega
  | ⟨2, _⟩ => show (((((j 0).val * 128 + (j 1).val) * 64 + (j 2).val) * 1 + 0) * 1 + 0) % 64 = (j 2).val; omega
include H
/-- The same, summed over its two axes of length one. -/
theorem v130 (j : S8x128x64.Idx) : val_main_v130 (F := Ideal) x0 x1 x2 x3 x4 j
    = ((-(delta d (j 0).val (j 1).val (j 2).val / (wsum d (j 0).val (j 1).val (j 2).val * Real.exp (-mx x0 x1 x3 (j 0).val (j 1).val (j 2).val))) : ℝ) : EReal) := by
  have e : val_main_v130 (F := Ideal) x0 x1 x2 x3 x4 j = val_main_v127 (F := Ideal) x0 x1 x2 x3 x4 (ix5 (j 0) (j 1) (j 2) (0 : Fin 1) (0 : Fin 1)) := by
    unfold val_main_v130
    exact sum_one _ _ (fun i => by rw [val_main_cst_31_apply, Ideal.ofBits_def, Ideal.ofBits_zero_f32]) _
  rw [e, val_main_v127_apply]
  have e2 : val_main_v126 (F := Ideal) x0 x1 x2 x3 x4 (ix5 (j 0) (j 1) (j 2) (0 : Fin 1) (0 : Fin 1)) = val_main_v125 (F := Ideal) x0 x1 x2 x3 x4 j :=
    (val_main_v126_apply ..).trans (congrArg _ (one_idx j))
  exact (congrArg (FloatOps.hostNegf (F := Ideal) (φ := .f32)) (e2.trans (v125 H j))).trans (EReal.coe_neg _).symm

/-- The gradient of a score, scaled. -/
theorem v136 (j : S8x128x64x8x64.Idx) : val_main_v136 (F := Ideal) x0 x1 x2 x3 x4 j
    = ((dscore d (j 0).val (j 1).val (j 2).val (rs (j 1).val + (j 3).val) (j 4).val * 0.125 : ℝ) : EReal) := by
  have e : val_main_v134 (F := Ideal) x0 x1 x2 x3 x4 j = ((dscore d (j 0).val (j 1).val (j 2).val (rs (j 1).val + (j 3).val) (j 4).val : ℝ) : EReal) := by
    rw [val_main_v134_apply, mask_seen]
    by_cases hs : Seen j
    · rw [if_pos hs]
      simp only [val_main_v133_apply, val_main_v132_apply, val_main_v129_apply, val_main_v128_apply, val_main_v131_apply, val_main_v96_apply, v116 H, v130 H, v95 H, v94 H, Ideal.hostDivf_def, Ideal.addf_def, Ideal.mulf_def]
      rw [div_up _ (den_ne (d := d) (j 0) (j 1) (j 2) _), ← EReal.coe_add, ← EReal.coe_mul]
      refine congrArg (fun r : ℝ => (r : EReal)) ?_
      unfold dscore prob
      have h1 := (Real.exp_pos (-mx x0 x1 x3 (j 0).val (j 1).val (j 2).val)).ne'
      have h2 : wsum d (j 0).val (j 1).val (j 2).val ≠ 0 := (wsum_pos d (j 1).isLt (j 2).isLt).ne'
      field_simp
      ring
    · rw [if_neg hs, dscore_eq_zero d hs]
      simp only [val_main_call4_v0_apply, val_main_call4_cst_apply, Ideal.ofBits_def, Ideal.ofBits_zero_f32]
      rfl
  simp only [val_main_v136_apply, val_main_v135_apply, val_main_cst_32_apply, e, Ideal.mulf_def, Ideal.ofBits_def, NaPay.word_eighth, ← EReal.coe_mul]

/-- The gradient of a query, -/
theorem v139 (j : S8x128x64x64.Idx) : val_main_v139 (F := Ideal) x0 x1 x2 x3 x4 j
    = ((dq d (j 0).val (j 1).val (j 2).val (j 3).val : ℝ) : EReal) := by
  unfold val_main_v139
  rw [dot_query]
  simp only [NaRefScore.v19 H, v136 H, ← EReal.coe_mul, sum_up]
  refine congrArg (fun r : ℝ => (r : EReal)) ?_
  unfold dq
  rw [← window (j 1).val (j 2).val _ fun _ _ hs => by rw [dscore_eq_zero d hs, zero_mul]]
  simp only [Finset.sum_mul]
  refine Finset.sum_congr rfl fun b _ => Finset.sum_congr rfl fun k _ => ?_
  exact mul_right_comm _ _ _
/-- and by channel and token. -/
theorem v145 (j : S512x8192.Idx) : val_main_v145 (F := Ideal) x0 x1 x2 x3 x4 j
    = ((dq d ((j 0).val / 64) ((j 1).val / 64) ((j 1).val % 64) ((j 0).val % 64) : ℝ) : EReal) := by
  rw [val_main_v145_apply, val_main_v144_apply, val_main_v140_apply, v139 H]
  refine congrArg (fun r : ℝ => (r : EReal)) ?_
  have ha : (j 0).val < 512 := (j 0).isLt
  have hn : (j 1).val < 8192 := (j 1).isLt
  refine congr (congr (congr (congrArg (dq d) ?_) ?_) ?_) ?_
  · show ((j 1).val * 512 + (j 0).val) / 64 % 8 = _; omega
  · show ((j 1).val * 512 + (j 0).val) / 32768 = _; omega
  · show ((j 1).val * 512 + (j 0).val) / 512 % 64 = _; omega
  · show ((j 1).val * 512 + (j 0).val) % 64 = _; omega

end Cert.NaRefGrad
end
-- ==== Proof.NaRefScatter.lean ====
module

public import proofs.«01_k».proof.Proof.NaRefGrad

/-! The reference's gradients of the keys and of the values: what the queries that see a row add to it. -/

@[expose] public section

set_option maxRecDepth 16384

noncomputable section

namespace Cert.NaRefScatter

open Cert.NaRefIdeal Cert.NaRefIdeal.Gen Cert.NaRefIdeal.Read Idealize.ShloMosaic Idealize.ShloMosaic.TcCoe Cert.NaSpec Cert.NaRefTable Cert.NaRefScore Cert.NaRefGrad Cert.Up

/-- Where an update lands. -/
theorem lands {s si u : Shape} {w : ℕ} (D : ScatterDims s si u) (j : u.Idx) (idx : IVec si w) (i : s.Idx) :
    D.resultIdx? j idx = some i ↔ ∀ a, D.start j idx a + D.window j a = ((i a).val : ℤ) := by
  unfold ScatterDims.resultIdx?
  constructor
  · intro e a
    split at e
    · rename_i h
      have e1 := congrArg Fin.val (congrFun (Option.some.inj e) a)
      have := (h a).1
      rw [← e1]; exact (Int.toNat_of_nonneg this).symm
    · exact absurd e (by simp)
  · intro e
    have h : ∀ a, 0 ≤ D.start j idx a + D.window j a ∧ D.start j idx a + D.window j a < s.size a := fun a => by
      rw [e a]; exact ⟨Int.natCast_nonneg _, Int.ofNat_lt.2 (i a).isLt⟩
    rw [dif_pos h]
    refine congrArg some (funext fun a => Fin.ext ?_)
    show (D.start j idx a + D.window j a).toNat = _
    rw [e a]; rfl

/-- The scatter's dimensions. -/
abbrev dims : ScatterDims S128x64x8x64 S128x8x1 S128x8x64x8x64 := scatter_S128x64x8x64_S128x8x1_S128x8x64x8x64_234_0_0_2

theorem start0 (j : S128x8x64x8x64.Idx) (idx : IVec S128x8x1 32) : dims.start j idx 0 = (idx (ix3 (j 0) (j 1) (0 : Fin 1))).toInt := by
  unfold ScatterDims.start
  rw [dif_pos (by decide)]
  refine congrArg (fun k => (idx k).toInt) (funext fun a => ?_)
  match a with
  | ⟨0, _⟩ => rfl
  | ⟨1, _⟩ => rfl
  | ⟨2, _⟩ => rfl
theorem start_other (j : S128x8x64x8x64.Idx) (idx : IVec S128x8x1 32) (a : Fin 4) (ha : a ≠ 0) : dims.start j idx a = 0 := by
  unfold ScatterDims.start
  rw [dif_neg]
  revert a; decide
theorem window0 (j : S128x8x64x8x64.Idx) : dims.window j 0 = 0 := rfl
theorem window1 (j : S128x8x64x8x64.Idx) : dims.window j 1 = (j 2).val := rfl
theorem window2 (j : S128x8x64x8x64.Idx) : dims.window j 2 = (j 3).val := rfl
theorem window3 (j : S128x8x64x8x64.Idx) : dims.window j 3 = (j 4).val := rfl

theorem lands_row (r : Fin 128) (e : Fin 8) (c : Fin 64) (h : Fin 8) (a : Fin 64) (idx : IVec S128x8x1 32) (i : S128x64x8x64.Idx) :
    dims.resultIdx? (ix5 r e c h a) idx = some i ↔ ((idx (ix3 r e (0 : Fin 1))).toInt = ((i 0).val : ℤ) ∧ c = i 1 ∧ h = i 2 ∧ a = i 3) := by
  rw [lands]
  constructor
  · intro H
    have h0 := H 0; have h1 := H 1; have h2 := H 2; have h3 := H 3
    rw [start0, window0] at h0
    rw [start_other _ _ _ (by decide), window1] at h1
    rw [start_other _ _ _ (by decide), window2] at h2
    rw [start_other _ _ _ (by decide), window3] at h3
    refine ⟨by simpa using h0, Fin.ext ?_, Fin.ext ?_, Fin.ext ?_⟩
    · exact Int.ofNat.inj ((zero_add _).symm.trans h1)
    · exact Int.ofNat.inj ((zero_add _).symm.trans h2)
    · exact Int.ofNat.inj ((zero_add _).symm.trans h3)
  · rintro ⟨h0, h1, h2, h3⟩ b
    match b with
    | ⟨0, _⟩ => exact (congrArg₂ (· + ·) (start0 _ idx) rfl).trans ((add_zero _).trans h0)
    | ⟨1, _⟩ => exact (congrArg₂ (· + ·) (start_other _ idx 1 (by decide)) rfl).trans ((zero_add _).trans (congrArg (fun k : Fin 64 => (k.val : ℤ)) h1))
    | ⟨2, _⟩ => exact (congrArg₂ (· + ·) (start_other _ idx 2 (by decide)) rfl).trans ((zero_add _).trans (congrArg (fun k : Fin 8 => (k.val : ℤ)) h2))
    | ⟨3, _⟩ => exact (congrArg₂ (· + ·) (start_other _ idx 3 (by decide)) rfl).trans ((zero_add _).trans (congrArg (fun k : Fin 64 => (k.val : ℤ)) h3))

/-- The scatter over rows, of zeros: each row gets the updates that are sent to it. -/
theorem scatter_rows (x : FVec Ideal S128x64x8x64 .f32) (hx : ∀ i, x i = 0) (idx : IVec S128x8x1 32) (u : FVec Ideal S128x8x64x8x64 .f32) (i : S128x64x8x64.Idx) :
    Host.scatterAdd (F := Ideal) dims x idx u i = ∑ r : Fin 128, ∑ e : Fin 8, (if (idx (ix3 r e (0 : Fin 1))).toInt = ((i 0).val : ℤ) then u (ix5 r e (i 1) (i 2) (i 3)) else 0 : EReal) := by
  show x i + ∑ j ∈ Finset.univ.filter (fun j => dims.resultIdx? j idx = some i), u j = _
  rw [hx, Finset.sum_filter]
  refine (zero_add _).trans ((sum_idx5 _).trans ?_)
  refine Finset.sum_congr rfl fun r _ => Finset.sum_congr rfl fun e _ => ?_
  have L := fun c h a => lands_row r e c h a idx i
  by_cases h : (idx (ix3 r e (0 : Fin 1))).toInt = ((i 0).val : ℤ)
  · rw [if_pos h]
    refine (Finset.sum_eq_single (i 1) (fun c _ hc => ?_) (fun hc => absurd (Finset.mem_univ _) hc)).trans ?_
    · exact Finset.sum_eq_zero fun _ _ => Finset.sum_eq_zero fun _ _ => if_neg fun g => hc ((L _ _ _).1 g).2.1
    refine (Finset.sum_eq_single (i 2) (fun c _ hc => ?_) (fun hc => absurd (Finset.mem_univ _) hc)).trans ?_
    · exact Finset.sum_eq_zero fun _ _ => if_neg fun g => hc ((L _ _ _).1 g).2.2.1
    refine (Finset.sum_eq_single (i 3) (fun c _ hc => ?_) (fun hc => absurd (Finset.mem_univ _) hc)).trans ?_
    · exact if_neg fun g => hc ((L _ _ _).1 g).2.2.2
    exact if_pos ((L _ _ _).2 ⟨h, rfl, rfl, rfl⟩)
  · rw [if_neg h]
    exact Finset.sum_eq_zero fun _ _ => Finset.sum_eq_zero fun _ _ => Finset.sum_eq_zero fun _ _ => if_neg fun g => h ((L _ _ _).1 g).1

/-- A row among the eight that a query sees is one of them. -/
theorem one_of_eight (r R : ℕ) (f : ℕ → ℝ) (hf : ¬ (rs r ≤ R ∧ R < rs r + 8) → f R = 0) :
    ∑ e : Fin 8, (if rs r + e.val = R then f (rs r + e.val) else 0) = f R := by
  by_cases h : rs r ≤ R ∧ R < rs r + 8
  · refine (Finset.sum_eq_single (⟨R - rs r, by omega⟩ : Fin 8) (fun e _ he => if_neg fun g => he (Fin.ext ?_)) (fun hc => absurd (Finset.mem_univ _) hc)).trans ?_
    · show e.val = R - rs r; omega
    · have : rs r + (R - rs r) = R := by omega
      show (if rs r + (R - rs r) = R then f (rs r + (R - rs r)) else 0) = f R
      rw [if_pos this, this]
  · rw [hf h]
    exact Finset.sum_eq_zero fun e _ => if_neg fun g => h (by omega)

/-- The rows that an update is sent to. -/
theorem row_int (r : Fin 128) (e : Fin 8) : (BitVec.ofNat 32 (rs r.val + e.val)).toInt = ((rs r.val + e.val : ℕ) : ℤ) := by
  have := rs_le r.val
  rw [BitVec.toInt_eq_toNat_of_lt (by rw [BitVec.toNat_ofNat]; omega), BitVec.toNat_ofNat]
  congr 1; omega
theorem to18 (r : Fin 128) (e : Fin 8) : (val_main_v18 (F := Ideal) (ix3 r e (0 : Fin 1))).toInt = ((rs r.val + e.val : ℕ) : ℤ) := by
  rw [NaRefTable.v18, row_int]
theorem to108 (r : Fin 128) (e : Fin 8) : (val_main_v108 (F := Ideal) (ix3 r e (0 : Fin 1))).toInt = ((rs r.val + e.val : ℕ) : ℤ) := by
  rw [NaRefTable.v108, row_int]

/-- The updates sent to a row, where an update depends on the row that it is sent to. -/
theorem scatter_real (x : FVec Ideal S128x64x8x64 .f32) (hx : ∀ i, x i = 0) (idx : IVec S128x8x1 32) (hidx : ∀ r e, (idx (ix3 r e (0 : Fin 1))).toInt = ((rs r.val + e.val : ℕ) : ℤ))
    (u : FVec Ideal S128x8x64x8x64 .f32) (f : ℕ → ℕ → ℕ → ℕ → ℕ → ℝ) (hu : ∀ j, u j = ((f (j 0).val (rs (j 0).val + (j 1).val) (j 2).val (j 3).val (j 4).val : ℝ) : EReal))
    (hf : ∀ r R k h a, ¬ (rs r ≤ R ∧ R < rs r + 8) → f r R k h a = 0) (i : S128x64x8x64.Idx) :
    Host.scatterAdd (F := Ideal) dims x idx u i = ((∑ r : Fin 128, f r.val (i 0).val (i 1).val (i 2).val (i 3).val : ℝ) : EReal) := by
  rw [scatter_rows x hx, ← sum_up]
  refine Finset.sum_congr rfl fun r _ => ?_
  rw [← one_of_eight r.val (i 0).val (fun R => f r.val R (i 1).val (i 2).val (i 3).val) (fun h => hf _ _ _ _ _ h), ← sum_up]
  refine Finset.sum_congr rfl fun e _ => ?_
  rw [hidx, hu]
  by_cases h : rs r.val + e.val = (i 0).val
  · exact (if_pos (congrArg (fun n : ℕ => (n : ℤ)) h)).trans (congrArg (fun r : ℝ => (r : EReal)) (if_pos h)).symm
  · exact (if_neg fun g => h (Int.ofNat.inj g)).trans (congrArg (fun r : ℝ => (r : EReal)) (if_neg h)).symm

variable {d : Data} {x0 x1 x2 x4 : FVec Ideal S8192x512 .f32} {x3 : FVec Ideal S8x15x31 .f32} (H : Args d x0 x1 x2 x4 x3)
include H

/-- What a row of queries adds to the gradient of the values, -/
theorem v118 (j : S128x8x64x8x64.Idx) : val_main_v118 (F := Ideal) x0 x1 x3 x4 j
    = ((∑ c : Fin 64, prob d (j 3).val (j 0).val c.val (rs (j 0).val + (j 1).val) (j 2).val * d.g (64 * (j 0).val + c.val) (64 * (j 3).val + (j 4).val) : ℝ) : EReal) := by
  rw [val_main_v118_apply, val_main_v117_apply]
  simp only [val_main_v114_apply, v113 H, v98 H, ← EReal.coe_mul, sum_up]
  exact congrArg (fun r : ℝ => (r : EReal)) (Finset.sum_congr rfl fun c _ => mul_comm _ _)
/-- and of the keys. -/
theorem v138 (j : S128x8x64x8x64.Idx) : val_main_v138 (F := Ideal) x0 x1 x2 x3 x4 j
    = ((∑ c : Fin 64, dscore d (j 3).val (j 0).val c.val (rs (j 0).val + (j 1).val) (j 2).val * 0.125 * d.q (64 * (j 0).val + c.val) (64 * (j 3).val + (j 4).val) : ℝ) : EReal) := by
  rw [val_main_v138_apply, val_main_v137_apply]
  simp only [v0 H, v136 H, ← EReal.coe_mul, sum_up]

/-- The values' gradient by row, column, head and channel, -/
theorem v120 (j : S128x64x8x64.Idx) : val_main_v120 (F := Ideal) x0 x1 x3 x4 j
    = ((dv d (j 2).val (j 0).val (j 1).val (j 3).val : ℝ) : EReal) := by
  unfold val_main_v120
  exact scatter_real _ (fun i => by rw [val_main_v119_apply, val_main_cst_29_apply, Ideal.ofBits_def, Ideal.ofBits_zero_f32]) _ to108 _
    (fun r R k h a => ∑ c : Fin 64, prob d h r c.val R k * d.g (64 * r + c.val) (64 * h + a)) (v118 H)
    (fun r R k h a hn => Finset.sum_eq_zero fun c _ => by rw [prob_eq_zero d (fun hs => hn hs.1), zero_mul]) j
/-- as an array, -/
theorem v121 (j : S8192x512.Idx) : val_main_v121 (F := Ideal) x0 x1 x3 x4 j
    = ((dv d ((j 1).val / 64) ((j 0).val / 64) ((j 0).val % 64) ((j 1).val % 64) : ℝ) : EReal) := by
  rw [val_main_v121_apply, v120 H]
  refine congrArg (fun r : ℝ => (r : EReal)) ?_
  have hn : (j 0).val < 8192 := (j 0).isLt
  have ha : (j 1).val < 512 := (j 1).isLt
  refine congr (congr (congr (congrArg (dv d) ?_) ?_) ?_) ?_
  · show ((j 0).val * 512 + (j 1).val) / 64 % 8 = _; omega
  · show ((j 0).val * 512 + (j 1).val) / 32768 = _; omega
  · show ((j 0).val * 512 + (j 1).val) / 512 % 64 = _; omega
  · show ((j 0).val * 512 + (j 1).val) % 64 = _; omega

/-- and the keys'. -/
theorem v142 (j : S128x64x8x64.Idx) : val_main_v142 (F := Ideal) x0 x1 x2 x3 x4 j
    = ((dk d (j 2).val (j 0).val (j 1).val (j 3).val : ℝ) : EReal) := by
  unfold val_main_v142
  refine (scatter_real _ (fun i => by rw [val_main_v141_apply, val_main_cst_33_apply, Ideal.ofBits_def, Ideal.ofBits_zero_f32]) _ to18 _
    (fun r R k h a => ∑ c : Fin 64, dscore d h r c.val R k * 0.125 * d.q (64 * r + c.val) (64 * h + a)) (v138 H)
    (fun r R k h a hn => Finset.sum_eq_zero fun c _ => by rw [dscore_eq_zero d (fun hs => hn hs.1), zero_mul, zero_mul]) j).trans ?_
  refine congrArg (fun r : ℝ => (r : EReal)) ?_
  unfold dk all
  rw [Finset.sum_mul]
  refine Finset.sum_congr rfl fun r _ => ?_
  rw [Finset.sum_mul]
  exact Finset.sum_congr rfl fun c _ => by ring
theorem v143 (j : S8192x512.Idx) : val_main_v143 (F := Ideal) x0 x1 x2 x3 x4 j
    = ((dk d ((j 1).val / 64) ((j 0).val / 64) ((j 0).val % 64) ((j 1).val % 64) : ℝ) : EReal) := by
  rw [val_main_v143_apply, v142 H]
  refine congrArg (fun r : ℝ => (r : EReal)) ?_
  have hn : (j 0).val < 8192 := (j 0).isLt
  have ha : (j 1).val < 512 := (j 1).isLt
  refine congr (congr (congr (congrArg (dk d) ?_) ?_) ?_) ?_
  · show ((j 0).val * 512 + (j 1).val) / 64 % 8 = _; omega
  · show ((j 0).val * 512 + (j 1).val) / 32768 = _; omega
  · show ((j 0).val * 512 + (j 1).val) / 512 % 64 = _; omega
  · show ((j 0).val * 512 + (j 1).val) % 64 = _; omega

end Cert.NaRefScatter
end
-- ==== Proof.NaClaims.lean ====
module

public import proofs.«01_k».proof.Defs
public import proofs.«01_k».proof.Proof.Finite
public import proofs.«01_k».proof.Proof.NaOuts
public import proofs.«01_k».proof.Proof.NaRefScatter
public import proofs.«01_k».proof.Proof.NaFrame
public import proofs.«01_k».proof.Proof.Gen.Pre_na_finite

/-! The claims about the attention's backward pass: the kernel and the reference run to an end, and of finite arguments they
    leave the same gradients of the queries, the keys and the values. -/

@[expose] public section

set_option maxRecDepth 16384

noncomputable section

namespace Cert.NaClaims

open Idealize.ShloMosaic Idealize.ShloMosaic.TcCoe Idealize.SL.Sem Cert.NaSpec Cert.Finite Cert.Up

/-- The real number at a row and a column of an array, zero outside of it, -/
def num2 {a b : ℕ} (x : (⟨2, ![a, b]⟩ : Shape).Idx → EReal) (n k : ℕ) : ℝ := if h : n < a ∧ k < b then re x (ix2 ⟨n, h.1⟩ ⟨k, h.2⟩) else 0
/-- and the same for an array of three axes. -/
def num3 {a b c : ℕ} (x : (⟨3, ![a, b, c]⟩ : Shape).Idx → EReal) (n k l : ℕ) : ℝ :=
  if h : n < a ∧ k < b ∧ l < c then re x (ix3 ⟨n, h.1⟩ ⟨k, h.2.1⟩ ⟨l, h.2.2⟩) else 0

theorem num2_at {a b : ℕ} {x : (⟨2, ![a, b]⟩ : Shape).Idx → EReal} (h : ∀ i, x i = ((re x i : ℝ) : EReal)) (i : (⟨2, ![a, b]⟩ : Shape).Idx) :
    x i = ((num2 x (i 0).val (i 1).val : ℝ) : EReal) := by
  unfold num2
  rw [dif_pos ⟨(i 0).isLt, (i 1).isLt⟩]
  exact (h i).trans (congrArg (fun j => ((re x j : ℝ) : EReal)) (eq_ix2 i))
theorem num3_at {a b c : ℕ} {x : (⟨3, ![a, b, c]⟩ : Shape).Idx → EReal} (h : ∀ i, x i = ((re x i : ℝ) : EReal)) (i : (⟨3, ![a, b, c]⟩ : Shape).Idx) :
    x i = ((num3 x (i 0).val (i 1).val (i 2).val : ℝ) : EReal) := by
  unfold num3
  rw [dif_pos ⟨(i 0).isLt, (i 1).isLt, (i 2).isLt⟩]
  exact (h i).trans (congrArg (fun j => ((re x j : ℝ) : EReal)) (eq_ix3 i))

/-- The real numbers that device `c`'s arguments hold. -/
def args (m : (ℓ : Loc Cert.NaIdeal.nD Cert.NaIdeal.τ Cert.NaIdeal.sig) → Buf (Elt Ideal) ℓ) (c : Dev Cert.NaIdeal.nD) : Data where
  q := num2 (a := 8192) (b := 512) (m ((c : Thread Cert.NaIdeal.nD Cert.NaIdeal.τ).loc Cert.NaIdeal.main_arg0))
  k := num2 (a := 8192) (b := 512) (m ((c : Thread Cert.NaIdeal.nD Cert.NaIdeal.τ).loc Cert.NaIdeal.main_arg1))
  v := num2 (a := 8192) (b := 512) (m ((c : Thread Cert.NaIdeal.nD Cert.NaIdeal.τ).loc Cert.NaIdeal.main_arg2))
  b := num3 (a := 8) (b := 15) (c := 31) (m ((c : Thread Cert.NaIdeal.nD Cert.NaIdeal.τ).loc Cert.NaIdeal.main_arg3))
  g := num2 (a := 8192) (b := 512) (m ((c : Thread Cert.NaIdeal.nD Cert.NaIdeal.τ).loc Cert.NaIdeal.main_arg4))

/-- Under the precondition every argument holds real numbers, -/
theorem holds_args (m : (ℓ : Loc Cert.NaIdeal.nD Cert.NaIdeal.τ Cert.NaIdeal.sig) → Buf (Elt Ideal) ℓ) (c : Dev Cert.NaIdeal.nD)
    (h : Cert.Pre_NaIdeal_na_finite (hPre_na_finite := Cert.Pre_na_finite.Gen.facts) m) :
    NaRefScore.Args (args m c) (m ((c : Thread Cert.NaIdeal.nD Cert.NaIdeal.τ).loc Cert.NaIdeal.main_arg0)) (m ((c : Thread Cert.NaIdeal.nD Cert.NaIdeal.τ).loc Cert.NaIdeal.main_arg1)) (m ((c : Thread Cert.NaIdeal.nD Cert.NaIdeal.τ).loc Cert.NaIdeal.main_arg2))
      (m ((c : Thread Cert.NaIdeal.nD Cert.NaIdeal.τ).loc Cert.NaIdeal.main_arg4)) (m ((c : Thread Cert.NaIdeal.nD Cert.NaIdeal.τ).loc Cert.NaIdeal.main_arg3)) := by
  obtain ⟨h0, h1, h2, h3, h4⟩ := h c
  constructor
  · exact fun i => num2_at (real h0) i
  · exact fun i => num2_at (real h1) i
  · exact fun i => num2_at (real h2) i
  · exact fun i => num2_at (real h4) i
  · exact fun i => num3_at (real h3) i

/-- and the kernel gets the attention's output of them. -/
theorem holds (m : (ℓ : Loc Cert.NaIdeal.nD Cert.NaIdeal.τ Cert.NaIdeal.sig) → Buf (Elt Ideal) ℓ) (c : Dev Cert.NaIdeal.nD)
    (h : Cert.Pre_NaIdeal_na_finite (hPre_na_finite := Cert.Pre_na_finite.Gen.facts) m) : NaBlocks.Holds m c (args m c) := by
  have H := holds_args m c h
  constructor
  · exact fun n a => H.q (ix2 n a)
  · exact fun n a => H.k (ix2 n a)
  · exact fun n a => H.v (ix2 n a)
  · exact fun a b k => H.b (ix3 a b k)
  · exact fun n a => H.g (ix2 n a)
  · exact fun n a => (congrFun (NaHost.v97 m c) (ix2 n a)).trans (NaRefGrad.v112 H (ix2 n a))

/-- The reference runs to an end and keeps its arguments. -/
theorem frame_ref : Cert.quiescent_NaRefIdeal (hNaRefIdeal := Cert.NaRefIdeal.Gen.facts) := by
  intro m ρ _
  refine (θ_run _ _ _).mono (fun r h => ⟨fun c => (h c).2.2.2, ?_⟩) (Cert.NaRefIdeal.Value.run m ρ)
  exact Idealize.ShloMosaic.sem_eq_zero_of_no_sems (by decide) r.2

open Cert.NaIdeal Cert.NaIdeal.Gen Cert.NaIdeal.Hand in
/-- The kernel's run: it leaves the three gradients and keeps its arguments. -/
theorem run (m : (ℓ : Loc Cert.NaIdeal.nD Cert.NaIdeal.τ Cert.NaIdeal.sig) → Buf (Elt Ideal) ℓ) (ρ : Dev Cert.NaIdeal.nD → PrngReg) (d : Dev Cert.NaIdeal.nD → Data) (K : ∀ c, NaBlocks.Holds m c (d c)) :
    θ_run (Cert.NaIdeal.defs (F := Ideal)) (onTc (τ := Cert.NaIdeal.τ) (Cert.NaIdeal.main (F := Ideal))) ⟨m, fun _ => 0, ρ⟩ (fun r => ∀ c : Dev Cert.NaIdeal.nD,
      r.2.mem ((c : Thread Cert.NaIdeal.nD Cert.NaIdeal.τ).loc Cert.NaIdeal.main_v222_0) = (fun i => ((dq (d c) ((i 0).val / 64) ((i 1).val / 64) ((i 1).val % 64) ((i 0).val % 64) : ℝ) : EReal))
      ∧ r.2.mem ((c : Thread Cert.NaIdeal.nD Cert.NaIdeal.τ).loc Cert.NaIdeal.main_v222_1) = (fun i => ((dk (d c) ((i 1).val / 64) ((i 0).val / 64) ((i 0).val % 64) ((i 1).val % 64) : ℝ) : EReal))
      ∧ r.2.mem ((c : Thread Cert.NaIdeal.nD Cert.NaIdeal.τ).loc Cert.NaIdeal.main_v222_2) = (fun i => ((dv (d c) ((i 1).val / 64) ((i 0).val / 64) ((i 0).val % 64) ((i 1).val % 64) : ℝ) : EReal))) :=
  (θ_run _ _ _).mono (fun r h c => ⟨((h c).1 9).trans (NaOuts.out9 (K c)), ((h c).1 10).trans (NaOuts.out10 (K c)), ((h c).1 11).trans (NaOuts.out11 (K c))⟩) (run_main m ρ)

/-- Of finite arguments the kernel and the reference leave the same gradients. -/
theorem algebraic : Cert.algebraic_NaIdeal_NaRefIdeal_pre_na_finite (hNaIdeal := Cert.NaIdeal.Gen.facts)
    (hNaRefIdeal := Cert.NaRefIdeal.Gen.facts) (hPre_na_finite := Cert.Pre_na_finite.Gen.facts) := by
  intro m g m' g' hp ha
  refine ⟨fun c i => ((dq (args m c) ((i 0).val / 64) ((i 1).val / 64) ((i 1).val % 64) ((i 0).val % 64) : ℝ) : EReal),
    fun c i => ((dk (args m c) ((i 1).val / 64) ((i 0).val / 64) ((i 0).val % 64) ((i 1).val % 64) : ℝ) : EReal),
    fun c i => ((dv (args m c) ((i 1).val / 64) ((i 0).val / 64) ((i 0).val % 64) ((i 1).val % 64) : ℝ) : EReal), ?_, ?_⟩
  · refine (θ_run _ _ _).mono (fun r h c => ?_) (θ_run_and (run m g (args m) fun c => holds m c hp) (Cert.NaIdeal.Hand.frame_any m g))
    exact ⟨(h.1 c).1, (h.1 c).2.1, (h.1 c).2.2, h.2.1 c⟩
  · refine (θ_run _ _ _).mono (fun r h c => ?_) (Cert.NaRefIdeal.Value.run m' g')
    obtain ⟨h0, h1, h2, hk⟩ := h c
    obtain ⟨a0, a1, a2, a3, a4⟩ := ha c
    have H := holds_args m c hp
    rw [← a0, ← a1, ← a2, ← a3, ← a4] at H
    refine ⟨h0.trans ?_, h1.trans ?_, h2.trans ?_, hk⟩
    · rw [Cert.NaRefIdeal.Read.val_main_v145_eq]; exact funext (NaRefGrad.v145 H)
    · rw [Cert.NaRefIdeal.Read.val_main_v143_eq]; exact funext (NaRefScatter.v143 H)
    · rw [Cert.NaRefIdeal.Read.val_main_v121_eq]; exact funext (NaRefScatter.v121 H)

end Cert.NaClaims

end
-- ==== Proof.ProjSpec.lean ====
module

public import proofs.«01_k».proof.Proof.Norm

/-! The norm in front of the mixing layer and the input projection over the reals: the gradients of the projection's weight and of the
    norm's gain. -/

@[expose] public section

noncomputable section

namespace Cert.ProjSpec

open Cert.Up

/-- The arguments over the reals: the input `x`, the norm's gain `g`, the projection's weight `w`, the cotangent `d` of the projection. -/
structure Args where
  x : Fin 8192 → Fin 1024 → ℝ
  g : Fin 1024 → ℝ
  w : Fin 1024 → Fin 3072 → ℝ
  d : Fin 8192 → Fin 3072 → ℝ

variable (A : Args) (r : Fin 8192) (k : Fin 1024) (j : Fin 3072)

namespace Args

/-- The normalised row. -/
def n : ℝ := A.x r k * rinv (A.x r)
/-- The gradient of the weight, its gain left out. -/
def raw : ℝ := ∑ r, A.n r k * A.d r j
def dw : ℝ := A.raw k j * A.g k
def dg : ℝ := ∑ j, A.raw k j * A.w k j

/-- The gain's gradient, summed over the columns first. -/
theorem dg_rows : ∑ r, A.n r k * ∑ j, A.d r j * A.w k j = A.dg k := by
  unfold dg raw
  simp only [Finset.mul_sum, Finset.sum_mul]
  rw [Finset.sum_comm]
  exact Finset.sum_congr rfl fun j _ => Finset.sum_congr rfl fun r _ => by ring

/-- The weight's gradient, the gain multiplied into the rows. -/
theorem dw_rows : ∑ r, A.d r j * (A.n r k * A.g k) = A.dw k j := by
  unfold dw raw
  rw [Finset.sum_mul]
  exact Finset.sum_congr rfl fun r _ => by ring

end Args

/-- Column `b` of shard `s`. -/
def col (s : Fin 4) (b : Fin 768) : Fin 3072 := ⟨768 * s.val + b.val, by omega⟩
/-- Column `b` of part `p`. -/
def part (p : Fin 6) (b : Fin 512) : Fin 3072 := ⟨512 * p.val + b.val, by omega⟩

/-- A sum over the columns, shard by shard. -/
theorem sum_shards (f : Fin 3072 → ℝ) : ∑ b, f (col 0 b) + ∑ b, f (col 1 b) + ∑ b, f (col 2 b) + ∑ b, f (col 3 b) = ∑ j, f j := by
  have e : ∑ s : Fin 4, ∑ b : Fin 768, f (col s b) = ∑ j, f j :=
    Fin.sum_mul_add_congr (L := 3072) (n := 768) (fun s b h => congrArg f (Fin.ext (by show 768 * s.val + b.val = s.val * 768 + b.val; omega))) rfl
  rw [← e, Fin.sum_univ_four]

end Cert.ProjSpec

end
-- ==== Proof.ProjPay.lean ====
module

public import proofs.«01_k».proof.Proof.ProjSpec
public import proofs.«01_k».proof.Proof.Gen.ProjIdeal.Skeleton
public import Idealize.ShloMosaic.Lib.Pointwise

/-! One tile of the kernel's projection gradient, over the reals: what the body adds to each piece of the weight's gradient, and what the
    last tile makes of the whole. -/

@[expose] public section

set_option maxRecDepth 16384

noncomputable section

namespace Cert.ProjPay

open Cert.ProjIdeal Cert.ProjIdeal.Gen Idealize.ShloMosaic Cert.Up Cert.ProjSpec

variable {A : Args} {ρ : Fin 512 → Fin 8192}

/-- The tile of rows holds the real function `f` of row and column. -/
abbrev IsX (v : S512x1024.Idx → EReal) (f : Fin 512 → Fin 1024 → ℝ) : Prop := ∀ i : S512x1024.Idx, v i = ((f (i 0) (i 1) : ℝ) : EReal)
/-- The square array holds the real function `f` of row and column. -/
abbrev Is (v : S512x512.Idx → EReal) (f : Fin 512 → Fin 512 → ℝ) : Prop := ∀ i : S512x512.Idx, v i = ((f (i 0) (i 1) : ℝ) : EReal)

theorem n {v : S512x1024.Idx → EReal} {f : Fin 512 → Fin 1024 → ℝ} (h : IsX v f) : IsX (k0_pay14 (F := Ideal) v) fun a k => f a k * rinv (f a) := fun i => by
  unfold k0_pay14
  pointwise [h, ← EReal.coe_mul, sum_up, word_1024, word_eps, div_up _ (show (1024 : ℝ) ≠ 0 by norm_num), ← EReal.coe_add]
  refine (congrArg (((f (i 0) (i 1) : ℝ) : EReal) * ·) (rsqrt_up (ms_pos (f (i 0))))).trans ?_
  rw [← EReal.coe_mul]; rfl

/-! ## The pieces of the weight's gradient -/

/-- What a tile adds at row `k`, column `b` of the part `d`. -/
abbrev adds (f : Fin 512 → Fin 1024 → ℝ) (d : Fin 512 → Fin 512 → ℝ) (k : Fin 1024) (b : Fin 512) : EReal :=
  ∑ a : Fin 512, ((f a k * d a b : ℝ) : EReal)

/-- The first and the second half of a part's columns. -/
def lo (b : Fin 256) : Fin 512 := ⟨b.val, by omega⟩
def hi (b : Fin 256) : Fin 512 := ⟨256 + b.val, by omega⟩

section Pieces
variable {v14 : S512x1024.Idx → EReal} {f : Fin 512 → Fin 1024 → ℝ} (h14 : IsX v14 f) {d : Fin 512 → Fin 512 → ℝ} {v : S512x512.Idx → EReal}
  (w : S1x1024x512.Idx → EReal) (i : S1x1024x512.Idx) (w' : S1x1024x256.Idx → EReal) (i' : S1x1024x256.Idx)

theorem pay15 {v3 : S512x1024.Idx → EReal} (h3 : IsX (k0_pay14 (F := Ideal) v3) f) (h : Is v d) :
    k0_pay15 (F := Ideal) v3 v w i = w i + adds f d (i 1) (i 2) := by
  unfold k0_pay15; pointwise [h3, h, ← EReal.coe_mul]

theorem pay17 {v3 : S512x1024.Idx → EReal} (h3 : IsX (k0_pay14 (F := Ideal) v3) f) (h : Is v d) :
    k0_pay18 (F := Ideal) (k0_pay17 v3 v w') i' = w' i' + adds f d (i' 1) (lo (i' 2)) := by
  unfold k0_pay18 k0_pay17 k0_pay16; pointwise [h3, h, ← EReal.coe_mul]; rfl

include h14

theorem pay19 (h : Is v d) : k0_pay19 (F := Ideal) v14 (k0_pay16 v) w' i' = w' i' + adds f d (i' 1) (hi (i' 2)) := by
  unfold k0_pay19 k0_pay16; pointwise [h14, h, ← EReal.coe_mul]; rfl

theorem pay20 (h : Is v d) : k0_pay20 (F := Ideal) v14 v w i = w i + adds f d (i 1) (i 2) := by
  unfold k0_pay20; pointwise [h14, h, ← EReal.coe_mul]

theorem pay22 (h : Is v d) : k0_pay22 (F := Ideal) v14 v w' i' = w' i' + adds f d (i' 1) (lo (i' 2)) := by
  unfold k0_pay22 k0_pay21; pointwise [h14, h, ← EReal.coe_mul]; rfl

theorem pay23 (h : Is v d) : k0_pay23 (F := Ideal) v14 (k0_pay21 v) w' i' = w' i' + adds f d (i' 1) (hi (i' 2)) := by
  unfold k0_pay23 k0_pay21; pointwise [h14, h, ← EReal.coe_mul]; rfl

/-- The part whose tile comes transposed. -/
theorem pay24 (h : ∀ i : S512x512.Idx, v i = ((d (i 1) (i 0) : ℝ) : EReal)) : k0_pay24 (F := Ideal) v14 v w i = w i + adds f d (i 1) (i 2) := by
  unfold k0_pay24; pointwise [h14, h, ← EReal.coe_mul]

/-- Column `b` of plane `s`, of the 512 columns. -/
def pcol (s : Fin 4) (b : Fin 128) : Fin 512 := ⟨128 * s.val + b.val, by omega⟩
/-- The plane holds columns `128 s …` of the real function `f`. -/
abbrev IsP (s : Fin 4) (v : S1x512x128.Idx → EReal) (f : Fin 512 → Fin 512 → ℝ) : Prop :=
  ∀ i : S1x512x128.Idx, v i = ((f (i 1) (pcol s (i 2)) : ℝ) : EReal)

/-- The part whose tile comes in four planes. -/
theorem pay96 {p0 p1 p2 p3 : S1x512x128.Idx → EReal} (h0 : IsP 0 p0 d) (h1 : IsP 1 p1 d) (h2 : IsP 2 p2 d) (h3 : IsP 3 p3 d) :
    k0_pay1 (F := Ideal) (k0_pay96 v14 p0 p1 p2 p3 w) i = w i + adds f d (i 1) (i 2) := by
  have key : ∀ (s : Fin 4) (b : Fin 128) (a : Fin 512), (i 2).val = 128 * s.val + b.val → d a (pcol s b) = d a (i 2) := fun s b a e => by
    have : pcol s b = i 2 := Fin.ext e.symm
    rw [this]
  unfold k0_pay1 k0_pay96
  pointwise [h14, h0, h1, h2, h3]
  refine congrArg (w i + ·) (Finset.sum_congr rfl fun a _ => ?_)
  rw [EReal.coe_mul]
  refine congrArg (((f a (i 1) : ℝ) : EReal) * ·) ?_
  have hi : (i 2).val < 512 := (i 2).isLt
  by_cases c0 : (i 2).val < 128
  · rw [dif_pos c0]; exact congrArg _ (key 0 ⟨(i 2).val, c0⟩ a (by simp))
  rw [dif_neg c0]
  by_cases c1 : (i 2).val - 128 < 128
  · rw [dif_pos c1]; exact congrArg _ (key 1 ⟨(i 2).val - 128, c1⟩ a (by show (i 2).val = 128 * 1 + ((i 2).val - 128); omega))
  rw [dif_neg c1]
  by_cases c2 : (i 2).val - 128 - 128 < 128
  · rw [dif_pos c2]; exact congrArg _ (key 2 ⟨(i 2).val - 128 - 128, c2⟩ a (by show (i 2).val = 128 * 2 + ((i 2).val - 128 - 128); omega))
  rw [dif_neg c2]
  exact congrArg _ (key 3 ⟨(i 2).val - 128 - 128 - 128, by omega⟩ a (by show (i 2).val = 128 * 3 + ((i 2).val - 128 - 128 - 128); omega))

end Pieces

/-! ## The last tile -/

/-- The column holds the real vector `f`. -/
abbrev IsG (v : S1024x1.Idx → EReal) (f : Fin 1024 → ℝ) : Prop := ∀ i : S1024x1.Idx, v i = ((f (i 0) : ℝ) : EReal)
/-- The slab holds shard `s` of the real matrix `f`. -/
abbrev IsS (s : Fin 4) (v : S1x1024x768.Idx → EReal) (f : Fin 1024 → Fin 3072 → ℝ) : Prop :=
  ∀ i : S1x1024x768.Idx, v i = ((f (i 1) (col s (i 2)) : ℝ) : EReal)

section Last
variable {g : Fin 1024 → ℝ} {v484 : S1024x1.Idx → EReal} (hg : IsG v484 g) {s : Fin 4} {f w : Fin 1024 → Fin 3072 → ℝ} {v : S1x1024x768.Idx → EReal} (h : IsS s v f)
include hg h

theorem pay9 : IsS s (k0_pay9 (F := Ideal) v484 v) fun k j => f k j * g k := fun i => by
  unfold k0_pay9 k0_pay7 k0_pay8; pointwise [hg, h, ← EReal.coe_mul]
theorem pay12 : IsS s (k0_pay12 (F := Ideal) v484 v) fun k j => f k j * g k := fun i => by
  unfold k0_pay12 k0_pay7 k0_pay10; pointwise [hg, h, ← EReal.coe_mul]
theorem pay3 : IsS s (k0_pay3 (F := Ideal) (k0_pay7 v484) v) fun k j => f k j * g k := fun i => by
  unfold k0_pay3 k0_pay7 k0_pay2; pointwise [hg, h, ← EReal.coe_mul]
theorem pay6 : IsS s (k0_pay6 (F := Ideal) (k0_pay7 v484) v) fun k j => f k j * g k := fun i => by
  unfold k0_pay6 k0_pay7 k0_pay4; pointwise [hg, h, ← EReal.coe_mul]
end Last

/-- The gain's gradient. -/
theorem pay5 {f w : Fin 1024 → Fin 3072 → ℝ} {a0 a1 a2 a3 w0 w1 w2 w3 : S1x1024x768.Idx → EReal} (h0 : IsS 0 a0 f) (h1 : IsS 1 a1 f) (h2 : IsS 2 a2 f) (h3 : IsS 3 a3 f)
    (g0 : IsS 0 w0 w) (g1 : IsS 1 w1 w) (g2 : IsS 2 w2 w) (g3 : IsS 3 w3 w) (i : S1024x1.Idx) :
    k0_pay5 (F := Ideal) (k0_pay11 a0 w0 a1 w1) a2 w2 a3 w3 i = ((∑ j, f (i 0) j * w (i 0) j : ℝ) : EReal) := by
  unfold k0_pay5 k0_pay11 k0_pay2 k0_pay4 k0_pay8 k0_pay10
  pointwise [h0, h1, h2, h3, g0, g1, g2, g3, ← EReal.coe_mul, sum_up, word_0, ← EReal.coe_add]
  refine congrArg _ ?_
  exact sum_shards fun j => f (i 0) j * w (i 0) j

end Cert.ProjPay

end
-- ==== Proof.ProjRefValue.lean ====
module

public import proofs.«01_k».proof.Proof.ProjSpec
public import proofs.«01_k».proof.Proof.Gen.ProjRefIdeal.Read
public import Idealize.ShloMosaic.Lib.Pointwise

/-! What the reference of the input projection computes, of finite arguments: the real functions of ProjSpec. -/

@[expose] public section

set_option maxRecDepth 16384

noncomputable section

namespace Cert.ProjRefValue

open Cert.ProjRefIdeal Cert.ProjRefIdeal.Read Idealize.ShloMosaic Cert.Up Cert.ProjSpec

/-- The array holds part `p` of the cotangent. -/
abbrev IsPart (A : Args) (p : Fin 6) (x : S8192x512.Idx → EReal) : Prop := ∀ i, x i = ((A.d (i 0) (part p (i 1)) : ℝ) : EReal)

/-- The arrays hold the real arguments. -/
structure Holds (A : Args) (x0 : S8192x1024.Idx → EReal) (x1 : S1024.Idx → EReal) (x2 : S1024x3072.Idx → EReal) (x3 x4 x5 x6 x7 x8 : S8192x512.Idx → EReal) : Prop where
  x : ∀ i, x0 i = ((A.x (i 0) (i 1) : ℝ) : EReal)
  g : ∀ i, x1 i = ((A.g (i 0) : ℝ) : EReal)
  w : ∀ i, x2 i = ((A.w (i 0) (i 1) : ℝ) : EReal)
  d0 : IsPart A 0 x3
  d1 : IsPart A 1 x4
  d2 : IsPart A 2 x5
  d3 : IsPart A 3 x6
  d4 : IsPart A 4 x7
  d5 : IsPart A 5 x8

variable {A : Args} {x0 : S8192x1024.Idx → EReal} {x1 : S1024.Idx → EReal} {x2 : S1024x3072.Idx → EReal} {x3 x4 x5 x6 x7 x8 : S8192x512.Idx → EReal}
  (H : Holds A x0 x1 x2 x3 x4 x5 x6 x7 x8)
include H

theorem n (i : S8192x1024.Idx) : val_main_v9 (F := Ideal) x0 i = ((A.n (i 0) (i 1) : ℝ) : EReal) := by
  simp only [val_main_v9_apply, val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply, H.x, Ideal.mulf_def, Ideal.addf_def,
    Ideal.hostDivf_def, Ideal.ofBits_def, word_0, word_1024, word_eps, ← EReal.coe_mul, sum_up, ← EReal.coe_add, zero_add, div_up _ (show (1024 : ℝ) ≠ 0 by norm_num)]
  refine (congrArg (((A.x (i 0) (i 1) : ℝ) : EReal) * ·) (rsqrt_up (ms_pos (A.x (i 0))))).trans ?_
  rw [← EReal.coe_mul]; rfl

theorem hn (i : S8192x1024.Idx) : val_main_v12 (F := Ideal) x0 x1 i = ((A.n (i 0) (i 1) * A.g (i 1) : ℝ) : EReal) := by
  simp only [val_main_v12_apply, val_main_v11_apply, val_main_v10_apply, n H, H.g, Ideal.mulf_def, ← EReal.coe_mul]
  rfl

/-- The six parts of the cotangent side by side. -/
theorem d (i : S8192x3072.Idx) : val_main_v20 (F := Ideal) x3 x4 x5 x6 x7 x8 i = ((A.d (i 0) (i 1) : ℝ) : EReal) := by
  unfold val_main_v20
  have e : ∀ (p : Fin 6) (b : Fin 512), (i 1).val = 512 * p.val + b.val → ((A.d (i 0) (part p b) : ℝ) : EReal) = ((A.d (i 0) (i 1) : ℝ) : EReal) := fun p b h => by
    have : part p b = i 1 := Fin.ext h.symm
    rw [this]
  have hi : (i 1).val < 3072 := (i 1).isLt
  pointwise
  by_cases c0 : (i 1).val < 512
  · exact (dif_pos c0).trans ((H.d0 _).trans (e 0 ⟨(i 1).val, c0⟩ (by show (i 1).val = 512 * 0 + ((i 1).val); omega)))
  refine (dif_neg c0).trans ?_
  by_cases c1 : (i 1).val - 512 < 512
  · exact (dif_pos c1).trans ((H.d1 _).trans (e 1 ⟨(i 1).val - 512, c1⟩ (by show (i 1).val = 512 * 1 + ((i 1).val - 512); omega)))
  refine (dif_neg c1).trans ?_
  by_cases c2 : (i 1).val - 512 - 512 < 512
  · exact (dif_pos c2).trans ((H.d2 _).trans (e 2 ⟨(i 1).val - 512 - 512, c2⟩ (by show (i 1).val = 512 * 2 + ((i 1).val - 512 - 512); omega)))
  refine (dif_neg c2).trans ?_
  by_cases c3 : (i 1).val - 512 - 512 - 512 < 512
  · exact (dif_pos c3).trans ((H.d3 _).trans (e 3 ⟨(i 1).val - 512 - 512 - 512, c3⟩ (by show (i 1).val = 512 * 3 + ((i 1).val - 512 - 512 - 512); omega)))
  refine (dif_neg c3).trans ?_
  by_cases c4 : (i 1).val - 512 - 512 - 512 - 512 < 512
  · exact (dif_pos c4).trans ((H.d4 _).trans (e 4 ⟨(i 1).val - 512 - 512 - 512 - 512, c4⟩ (by show (i 1).val = 512 * 4 + ((i 1).val - 512 - 512 - 512 - 512); omega)))
  refine (dif_neg c4).trans ?_
  exact (H.d5 _).trans (e 5 ⟨(i 1).val - 512 - 512 - 512 - 512 - 512, by omega⟩ (by show (i 1).val = 512 * 5 + ((i 1).val - 512 - 512 - 512 - 512 - 512); omega))

theorem dw (i : S1024x3072.Idx) : val_main_v22 (F := Ideal) x0 x1 x3 x4 x5 x6 x7 x8 i = ((A.dw (i 0) (i 1) : ℝ) : EReal) := by
  simp only [val_main_v22_apply, val_main_v21_apply, d H, hn H, ← EReal.coe_mul, sum_up]
  exact congrArg _ (A.dw_rows (i 0) (i 1))

theorem dw_shards (i : S4x1024x768.Idx) : val_main_v29 (F := Ideal) x0 x1 x3 x4 x5 x6 x7 x8 i = ((A.dw (i 1) (col (i 0) (i 2)) : ℝ) : EReal) := by
  have h0 : (i 0).val < 4 := (i 0).isLt
  have h1 : (i 1).val < 1024 := (i 1).isLt
  have h2 : (i 2).val < 768 := (i 2).isLt
  simp only [val_main_v29_apply, val_main_v28_apply, dw H]
  refine congrArg _ (congrArg₂ A.dw (Fin.ext ?_) (Fin.ext ?_))
  · simp; omega
  · simp [col]; omega

theorem dg (i : S1024x1.Idx) : val_main_v30 (F := Ideal) x0 x2 x3 x4 x5 x6 x7 x8 i = ((A.dg (i 0) : ℝ) : EReal) := by
  simp only [val_main_v30_apply, val_main_v27_apply, val_main_v26_apply, val_main_v25_apply, val_main_v24_apply, val_main_v23_apply, val_main_cst_2_apply,
    val_main_cst_3_apply, n H, d H, H.w, Ideal.mulf_def, Ideal.ofBits_def, word_0, ← EReal.coe_mul, sum_up, EReal.coe_zero, zero_add]
  refine congrArg _ ?_
  rw [Fin.sum_univ_one]
  have h0 : (i 0).val < 1024 := (i 0).isLt
  refine (A.dg_rows (idx_main_v25 (idx_main_v26 (idx_main_v27 (idx_main_v30 i) 0)) 0 1)).trans (congrArg A.dg (Fin.ext ?_))
  simp

end Cert.ProjRefValue

end
-- ==== Proof.ProjKernel.lean ====
module

public import proofs.«01_k».proof.Proof.ProjPay
public import proofs.«01_k».proof.Proof.ProjRefValue
public import proofs.«01_k».proof.Proof.BranchScratch
public import proofs.«01_k».proof.Proof.Gen.ProjIdeal.Value
public import Idealize.ShloMosaic.Lib.Pipeline.CanonAppend

/-! What one tile of the kernel's projection gradient adds to the weight's gradient, of finite arguments. -/

@[expose] public section

set_option maxRecDepth 16384

noncomputable section

namespace Cert.ProjKernel

open Cert.ProjIdeal Cert.ProjIdeal.Gen Idealize.ShloMosaic Idealize.ShloMosaic.TcCoe Idealize.ShloMosaic.Tactic Idealize.SL Idealize.SL.Sem
open Cert.Up Cert.ProjSpec Cert.ProjPay Cert.BranchScratch

/-- Row `a` of tile `t`. -/
def row (t : Fin cfg0.N) (a : Fin 512) : Fin 8192 := ⟨512 * t.val + a.val, by have := Nat.lt_of_lt_of_eq t.isLt N_0; omega⟩

variable (m : (ℓ : Loc nD τ sig) → Buf (Elt Ideal) ℓ) (c : Dev nD) {A : Args}

/-- The device's arguments hold the real ones. -/
abbrev Holds (A : Args) : Prop :=
  ProjRefValue.Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))

theorem idx : ∀ t : Fin cfg0.N, win0_0.index t = ![t.val, 0] ∧ win0_1.index t = ![0, 0] ∧ win0_2.index t = ![0, 0, 0] ∧ win0_3.index t = ![0, t.val, 0]
    ∧ win0_4.index t = ![t.val, 0] ∧ win0_5.index t = ![0, t.val] ∧ win0_6.index t = ![t.val, 0] ∧ win0_7.index t = ![t.val, 0] ∧ win0_8.index t = ![t.val, 0] := by
  decide +kernel

theorem blk0 (t : Fin cfg0.N) (i : S512x1024.Idx) : iblk m c 0 t i = m ((c : Thread nD τ).loc main_arg0) (ix2 (row t (i 0)) (i 1)) := by
  rw [← V_main_arg0 m c]
  unfold row
  blk_ext [iblk, idx t]

theorem blk6 (t : Fin cfg0.N) (i : S512x512.Idx) : iblk m c 6 t i = m ((c : Thread nD τ).loc main_arg6) (ix2 (row t (i 0)) (i 1)) := by
  rw [← V_main_arg6 m c]
  unfold row
  blk_ext [iblk, idx t]

theorem blk7 (t : Fin cfg0.N) (i : S512x512.Idx) : iblk m c 7 t i = m ((c : Thread nD τ).loc main_arg7) (ix2 (row t (i 0)) (i 1)) := by
  rw [← V_main_arg7 m c]
  unfold row
  blk_ext [iblk, idx t]

theorem blk4 (t : Fin cfg0.N) (i : S512x512.Idx) : iblk m c 4 t i = m ((c : Thread nD τ).loc main_arg4) (ix2 (row t (i 0)) (i 1)) := by
  show iblk m c 4 t i = V m c main_v15 (ix2 (row t (i 0)) (i 1))
  unfold row
  blk_ext [iblk, idx t]

theorem blk8 (t : Fin cfg0.N) (i : S512x512.Idx) : iblk m c 8 t i = m ((c : Thread nD τ).loc main_arg8) (ix2 (row t (i 0)) (i 1)) := by
  show iblk m c 8 t i = V m c main_v17 (ix2 (row t (i 0)) (i 1))
  unfold row
  blk_ext [iblk, idx t]

theorem blk5 (t : Fin cfg0.N) (i : S512x512.Idx) : iblk m c 5 t i = m ((c : Thread nD τ).loc main_arg5) (ix2 (row t (i 1)) (i 0)) := by
  have e : iblk m c 5 t i = V m c main_v16 (ix2 (i 0) (row t (i 1))) := by unfold row; blk_ext [iblk, idx t]
  rw [e]
  show transpose S512x8192 [1, 0] (m ((c : Thread nD τ).loc main_arg5)) transposes_S8192x512_S512x8192_1_0 _ = _
  pointwise

theorem blk1 (t : Fin cfg0.N) (i : S1024x1.Idx) : iblk m c 1 t i = m ((c : Thread nD τ).loc main_arg1) (ix1 (i 0)) := by
  have e : iblk m c 1 t i = V m c main_v13 i := by blk_ext [iblk, idx t]
  rw [e]
  show shapeCast S1024x1 (m ((c : Thread nD τ).loc main_arg1)) shapeCasts_S1024_S1024x1 i = _
  pointwise

/-- The weight's shards, stacked. -/
theorem stack (x : S1024x3072.Idx → EReal) (i : S4x1024x768.Idx) :
    concatenate S4x1024x768 0 [⟨S1x1024x768, broadcastInDim S1x1024x768 ![1, 2] bcast_S1024x768_S1x1024x768_1_2 (extractStridedSlice S1024x768 ![0, 0] x slices_S1024x3072_S1024x768_0_0)⟩,
      ⟨S1x1024x768, broadcastInDim S1x1024x768 ![1, 2] bcast_S1024x768_S1x1024x768_1_2 (extractStridedSlice S1024x768 ![0, 768] x slices_S1024x3072_S1024x768_0_768)⟩,
      ⟨S1x1024x768, broadcastInDim S1x1024x768 ![1, 2] bcast_S1024x768_S1x1024x768_1_2 (extractStridedSlice S1024x768 ![0, 1536] x slices_S1024x3072_S1024x768_0_1536)⟩,
      ⟨S1x1024x768, broadcastInDim S1x1024x768 ![1, 2] bcast_S1024x768_S1x1024x768_1_2 (extractStridedSlice S1024x768 ![0, 2304] x slices_S1024x3072_S1024x768_0_2304)⟩]
      concatenates_S1x1024x768_S1x1024x768_S1x1024x768_S1x1024x768_S4x1024x768_d0 i = x (ix2 (i 1) (col (i 0) (i 2))) := by
  concat_tiles j h
  all_goals
    pointwise
    exact congrArg x (congrArg₂ ix2 (Fin.ext (by first | rfl | (simp; omega))) (Fin.ext (by first | rfl | (simp [col]; omega))))

theorem blk2 (t : Fin cfg0.N) (i : S4x1024x768.Idx) : iblk m c 2 t i = m ((c : Thread nD τ).loc main_arg2) (ix2 (i 1) (col (i 0) (i 2))) := by
  have e : iblk m c 2 t i = V m c main_v12 i := by blk_ext [iblk, idx t]
  exact e.trans (stack _ i)

/-- The packed rows: row `16 a + h`, at column `128 s + n`, lies in row `a` of plane `s` at column `128 h + n`. -/
theorem packed (x : S8192x512.Idx → EReal) (j : S4x512x2048.Idx) (r : Fin 8192) (k : Fin 512) (hr : r.val = 16 * (j 1).val + (j 2).val / 128)
    (hk : k.val = 128 * (j 0).val + (j 2).val % 128) :
    shapeCast S4x512x2048 (transpose S4x512x16x128 [2, 0, 1, 3] (shapeCast S512x16x4x128 x shapeCasts_S8192x512_S512x16x4x128)
      transposes_S512x16x4x128_S4x512x16x128_2_0_1_3) shapeCasts_S4x512x16x128_S4x512x2048 j = x (ix2 r k) := by
  have h0 : (j 0).val < 4 := (j 0).isLt
  have h1 : (j 1).val < 512 := (j 1).isLt
  have h2 : (j 2).val < 2048 := (j 2).isLt
  pointwise
  refine congrArg x ?_
  exact congrArg₂ ix2 (Fin.ext (by rw [hr]; show (j 1).val * 16 + (j 2).val / 128 = _; omega)) (Fin.ext (by rw [hk]; show (j 0).val * 128 + (j 2).val % 128 = _; omega))

/-- The packed block holds rows of the tile. -/
theorem blk3 (t : Fin cfg0.N) (i : S4x32x2048.Idx) (r : Fin 8192) (k : Fin 512) (hr : r.val = 16 * (32 * t.val + (i 1).val) + (i 2).val / 128)
    (hk : k.val = 128 * (i 0).val + (i 2).val % 128) : iblk m c 3 t i = m ((c : Thread nD τ).loc main_arg3) (ix2 r k) := by
  have ht := Nat.lt_of_lt_of_eq t.isLt N_0
  have h1 : (i 1).val < 32 := (i 1).isLt
  have e : iblk m c 3 t i = V m c main_v14 (ix3 (i 0) (⟨32 * t.val + (i 1).val, by omega⟩ : Fin 512) (i 2)) := by blk_ext [iblk, idx t]
  exact e.trans (packed _ _ r k hr hk)

theorem rows_blk (t : Fin cfg0.N) (s : Fin 4) (a : Fin 512) (n : Fin 128) :
    unpack (iblk m c 3 t) (ix3 s a n) = m ((c : Thread nD τ).loc main_arg3) (ix2 (row t a) (pcol s n)) := by
  rw [unpack_ix3]
  exact blk3 m c t _ _ _ (by show 512 * t.val + a.val = 16 * (32 * t.val + a.val / 16) + (128 * (a.val % 16) + n.val) / 128; omega)
    (by show 128 * s.val + n.val = 128 * s.val + (128 * (a.val % 16) + n.val) % 128; omega)

/-- One plane read back from the unpacked scratch. -/
abbrev plane (t : Fin cfg0.N) (s : Fin 4) (inb : ∀ a : Fin S4x512x128.rank, ![s.val, 0, 0] a + ![1, 512, 128] a ≤ S4x512x128.size a) : S1x512x128.Idx → EReal :=
  (View.whole cc0_scratch0).readCov (Val := Elt Ideal) (pieces (iblk m c 3 t)) (Rect.unit (s := S4x512x128) ![s.val, 0, 0] ![1, 512, 128] inb).toLoadRect

/-- The pieces stored by the body at tile `t`, over what was there. -/
abbrev tilePieces (t : Fin cfg0.N) (acc : S4x1024x768.Idx → EReal) (L : List (View.Piece (Elt Ideal) S4x1024x768 .f32)) : List (View.Piece (Elt Ideal) S4x1024x768 .f32) :=
  ⟨Rect.unit ![0, 0, 0] ![1, 1024, 512] inb_S4x1024x768_S1x1024x512_0_0_0, k0_pay1 (k0_pay96 (k0_pay14 (F := Ideal) (iblk m c 0 t))
      (plane m c t 0 inb_S4x512x128_S1x512x128_0_0_0) (plane m c t 1 inb_S4x512x128_S1x512x128_1_0_0) (plane m c t 2 inb_S4x512x128_S1x512x128_2_0_0) (plane m c t 3 inb_S4x512x128_S1x512x128_3_0_0)
      (View.ld (Val := Elt Ideal) (e' := .f32) acc (Rect.unit ![0, 0, 0] ![1, 1024, 512] inb_S4x1024x768_S1x1024x512_0_0_0)))⟩ ::
    ⟨Rect.unit ![1, 0, 256] ![1, 1024, 512] inb_S4x1024x768_S1x1024x512_1_0_256, k0_pay24 (k0_pay14 (F := Ideal) (iblk m c 0 t)) (iblk m c 5 t)
      (View.ld (Val := Elt Ideal) (e' := .f32) acc (Rect.unit ![1, 0, 256] ![1, 1024, 512] inb_S4x1024x768_S1x1024x512_1_0_256))⟩ ::
    ⟨Rect.unit ![1, 0, 0] ![1, 1024, 256] inb_S4x1024x768_S1x1024x256_1_0_0, k0_pay23 (k0_pay14 (F := Ideal) (iblk m c 0 t)) (k0_pay21 (F := Ideal) (iblk m c 4 t))
      (View.ld (Val := Elt Ideal) (e' := .f32) acc (Rect.unit ![1, 0, 0] ![1, 1024, 256] inb_S4x1024x768_S1x1024x256_1_0_0))⟩ ::
    ⟨Rect.unit ![0, 0, 512] ![1, 1024, 256] inb_S4x1024x768_S1x1024x256_0_0_512, k0_pay22 (k0_pay14 (F := Ideal) (iblk m c 0 t)) (iblk m c 4 t)
      (View.ld (Val := Elt Ideal) (e' := .f32) acc (Rect.unit ![0, 0, 512] ![1, 1024, 256] inb_S4x1024x768_S1x1024x256_0_0_512))⟩ ::
    ⟨Rect.unit ![3, 0, 256] ![1, 1024, 512] inb_S4x1024x768_S1x1024x512_3_0_256, k0_pay20 (k0_pay14 (F := Ideal) (iblk m c 0 t)) (iblk m c 8 t)
      (View.ld (Val := Elt Ideal) (e' := .f32) acc (Rect.unit ![3, 0, 256] ![1, 1024, 512] inb_S4x1024x768_S1x1024x512_3_0_256))⟩ ::
    ⟨Rect.unit ![3, 0, 0] ![1, 1024, 256] inb_S4x1024x768_S1x1024x256_3_0_0, k0_pay19 (k0_pay14 (F := Ideal) (iblk m c 0 t)) (k0_pay16 (F := Ideal) (iblk m c 7 t))
      (View.ld (Val := Elt Ideal) (e' := .f32) acc (Rect.unit ![3, 0, 0] ![1, 1024, 256] inb_S4x1024x768_S1x1024x256_3_0_0))⟩ ::
    ⟨Rect.unit ![2, 0, 512] ![1, 1024, 256] inb_S4x1024x768_S1x1024x256_2_0_512, k0_pay18 (k0_pay17 (F := Ideal) (iblk m c 0 t) (iblk m c 7 t)
      (View.ld (Val := Elt Ideal) (e' := .f32) acc (Rect.unit ![2, 0, 512] ![1, 1024, 256] inb_S4x1024x768_S1x1024x256_2_0_512)))⟩ ::
    ⟨Rect.unit ![2, 0, 0] ![1, 1024, 512] inb_S4x1024x768_S1x1024x512_2_0_0, k0_pay15 (F := Ideal) (iblk m c 0 t) (iblk m c 6 t)
      (View.ld (Val := Elt Ideal) (e' := .f32) acc (Rect.unit ![2, 0, 0] ![1, 1024, 512] inb_S4x1024x768_S1x1024x512_2_0_0))⟩ :: L

/-- What a tile adds to the weight's gradient. -/
abbrev term (A : Args) (t : Fin cfg0.N) (j : S4x1024x768.Idx) : EReal :=
  ∑ a : Fin 512, ((A.n (row t a) (j 1) * A.d (row t a) (col (j 0) (j 2)) : ℝ) : EReal)
/-- The weight's gradient after a tile: what was there, and the tile's rows. -/
abbrev after (A : Args) (t : Fin cfg0.N) (acc : S4x1024x768.Idx → EReal) (j : S4x1024x768.Idx) : EReal := acc j + term A t j

theorem slab (t : Fin cfg0.N) (acc : S4x1024x768.Idx → EReal) (s : Fin 4) (o W : Nat) (inb : ∀ a : Fin S4x1024x768.rank, ![s.val, 0, o] a + ![1, 1024, W] a ≤ S4x1024x768.size a)
    (p : Fin 6) (i : (⟨3, ![1, 1024, W]⟩ : Shape).Idx) (b : Fin 512) (hb : 768 * s.val + (o + (i 2).val) = 512 * p.val + b.val) :
    View.ld (Val := Elt Ideal) (e' := .f32) acc (Rect.unit (s := S4x1024x768) ![s.val, 0, o] ![1, 1024, W] inb) i
        + adds (fun a => A.n (row t a)) (fun a b => A.d (row t a) (part p b)) (i 1) b
      = after A t acc ((Rect.unit (s := S4x1024x768) ![s.val, 0, o] ![1, 1024, W] inb).emb i) := by
  have i0 : (i 0).val < 1 := (i 0).isLt
  have i2 : (i 2).val < W := (i 2).isLt
  have hW : o + W ≤ 768 := inb 2
  have e : (Rect.unit (s := S4x1024x768) ![s.val, 0, o] ![1, 1024, W] inb).emb i = ix3 s (i 1) (⟨o + (i 2).val, by omega⟩ : Fin 768) :=
    ix3_ext (by simp) (by simp) (by simp)
  have e' : part p b = col s ⟨o + (i 2).val, by omega⟩ := Fin.ext hb.symm
  rw [View.ld_apply, e]
  refine congrArg₂ (· + ·) (congrArg acc e) (Finset.sum_congr rfl fun a _ => ?_)
  exact congrArg (fun q => ((A.n (row t a) (i 1) * A.d (row t a) q : ℝ) : EReal)) e'

variable {m c} (H : Holds m c A)
include H

theorem nT (t : Fin cfg0.N) : IsX (k0_pay14 (F := Ideal) (iblk m c 0 t)) fun a => A.n (row t a) :=
  n (f := fun a => A.x (row t a)) fun i => (blk0 m c t i).trans (H.x _)
theorem d0T (t : Fin cfg0.N) (s : Fin 4) (inb) : IsP s (plane m c t s inb) fun a b => A.d (row t a) (part 0 b) := fun i => by
  rw [plane, read_plane]; exact (rows_blk m c t s (i 1) (i 2)).trans (H.d0 _)
theorem d1T (t : Fin cfg0.N) : Is (iblk m c 4 t) fun a b => A.d (row t a) (part 1 b) := fun i => (blk4 m c t i).trans (H.d1 _)
theorem d2T (t : Fin cfg0.N) (i : S512x512.Idx) : iblk m c 5 t i = ((A.d (row t (i 1)) (part 2 (i 0)) : ℝ) : EReal) := (blk5 m c t i).trans (H.d2 _)
theorem d3T (t : Fin cfg0.N) : Is (iblk m c 6 t) fun a b => A.d (row t a) (part 3 b) := fun i => (blk6 m c t i).trans (H.d3 _)
theorem d4T (t : Fin cfg0.N) : Is (iblk m c 7 t) fun a b => A.d (row t a) (part 4 b) := fun i => (blk7 m c t i).trans (H.d4 _)
theorem d5T (t : Fin cfg0.N) : Is (iblk m c 8 t) fun a b => A.d (row t a) (part 5 b) := fun i => (blk8 m c t i).trans (H.d5 _)
theorem gT (t : Fin cfg0.N) : IsG (iblk m c 1 t) A.g := fun i => (blk1 m c t i).trans (H.g _)
theorem wT (t : Fin cfg0.N) (s : Fin 4) {inb} : IsS s (View.ld (iblk m c 2 t) (Rect.unit (s := S4x1024x768) ![s.val, 0, 0] ![1, 1024, 768] inb)) A.w := fun i => by
  have i0 : (i 0).val < 1 := (i 0).isLt
  have e : (Rect.unit (s := S4x1024x768) ![s.val, 0, 0] ![1, 1024, 768] inb).idx i = ix3 s (i 1) (i 2) := ix3_ext (by simp) (by simp) (by simp)
  rw [View.ld_apply, e]; exact (blk2 m c t _).trans (H.w _)

/-- The pieces of a tile over anything stored before. -/
theorem tile (t : Fin cfg0.N) (acc : S4x1024x768.Idx → EReal) (L : List (View.Piece (Elt Ideal) S4x1024x768 .f32)) (j : S4x1024x768.Idx) :
    View.canon (tilePieces m c t acc L) j = after A t acc j := by
  refine View.canon_append_of_pieces (after A t acc) L (tilePieces m c t acc []) ?_ j (View.cover_of_tiledBy (tilePieces m c t acc []) ![1, 1024, 256] (by sl_kernel_rfl) j)
  simp only [List.forall_mem_cons, List.not_mem_nil, false_imp_iff, implies_true, and_true]
  refine ⟨fun x => ?_, fun x => ?_, fun x => ?_, fun x => ?_, fun x => ?_, fun x => ?_, fun x => ?_, fun x => ?_⟩
  · exact (pay96 (nT H t) _ x (d0T H t 0 _) (d0T H t 1 _) (d0T H t 2 _) (d0T H t 3 _)).trans (slab t acc 0 0 512 _ 0 x (x 2) (by show 768 * 0 + (0 + (x 2).val) = 512 * 0 + (x 2).val; omega))
  · exact (pay24 (nT H t) _ x (d2T H t)).trans (slab t acc 1 256 512 _ 2 x (x 2) (by show 768 * 1 + (256 + (x 2).val) = 512 * 2 + (x 2).val; omega))
  · exact (pay23 (nT H t) _ x (d1T H t)).trans (slab t acc 1 0 256 _ 1 x (hi (x 2)) (by show 768 * 1 + (0 + (x 2).val) = 512 * 1 + (256 + (x 2).val); omega))
  · exact (pay22 (nT H t) _ x (d1T H t)).trans (slab t acc 0 512 256 _ 1 x (lo (x 2)) (by show 768 * 0 + (512 + (x 2).val) = 512 * 1 + (x 2).val; omega))
  · exact (pay20 (nT H t) _ x (d5T H t)).trans (slab t acc 3 256 512 _ 5 x (x 2) (by show 768 * 3 + (256 + (x 2).val) = 512 * 5 + (x 2).val; omega))
  · exact (pay19 (nT H t) _ x (d4T H t)).trans (slab t acc 3 0 256 _ 4 x (hi (x 2)) (by show 768 * 3 + (0 + (x 2).val) = 512 * 4 + (256 + (x 2).val); omega))
  · exact (pay17 _ x (nT H t) (d4T H t)).trans (slab t acc 2 512 256 _ 4 x (lo (x 2)) (by show 768 * 2 + (512 + (x 2).val) = 512 * 4 + (x 2).val; omega))
  · exact (pay15 _ x (nT H t) (d3T H t)).trans (slab t acc 2 0 512 _ 3 x (x 2) (by show 768 * 2 + (0 + (x 2).val) = 512 * 3 + (x 2).val; omega))

end Cert.ProjKernel

end
-- ==== Proof.ProjOut.lean ====
module

public import proofs.«01_k».proof.Proof.ProjKernel
public import Idealize.ShloMosaic.Lib.Pipeline.ReadBack

/-! What the kernel's projection gradient leaves in its two results, of finite arguments: the tiles are added up, and the last tile multiplies
    the gain into the weight's gradient and sums up the gain's own. -/

@[expose] public section

set_option maxRecDepth 16384

noncomputable section

namespace Cert.ProjKernel

open Cert.ProjIdeal Cert.ProjIdeal.Gen Idealize.ShloMosaic Idealize.ShloMosaic.TcCoe Idealize.ShloMosaic.Tactic Idealize.SL Idealize.SL.Sem
open Cert.Up Cert.ProjSpec Cert.ProjPay Cert.BranchScratch

variable {m : (ℓ : Loc nD τ sig) → Buf (Elt Ideal) ℓ} {c : Dev nD} {A : Args} (H : Holds m c A)

theorem zeros (j : S4x1024x768.Idx) : k0_pay13 (F := Ideal) j = 0 := by unfold k0_pay13; exact word_0

/-- The sum over the tiles is the sum over all rows. -/
theorem sum_terms (j : S4x1024x768.Idx) {N : Nat} (hN : N = 16) (hle : N ≤ 16) :
    ∑ k : Fin N, term A ⟨k.val, Nat.lt_of_lt_of_eq (Nat.lt_of_lt_of_le k.isLt hle) N_0.symm⟩ j = ((A.raw (j 1) (col (j 0) (j 2)) : ℝ) : EReal) := by
  subst hN
  unfold Args.raw
  rw [← sum_up]
  exact Fin.sum_mul_add_congr (L := 8192) (n := 512)
    (fun s b h => congrArg (fun r => ((A.n r (j 1) * A.d r (col (j 0) (j 2)) : ℝ) : EReal)) (Fin.ext (by show 512 * s.val + b.val = s.val * 512 + b.val; omega))) rfl

/-- A shard's place in the stack of shards. -/
theorem shard (s : Fin 4) (inb : ∀ a : Fin S4x1024x768.rank, ![s.val, 0, 0] a + ![1, 1024, 768] a ≤ S4x1024x768.size a) (x : S1x1024x768.Idx) :
    ((A.raw (x 1) (col s (x 2)) * A.g (x 1) : ℝ) : EReal)
      = (fun j : S4x1024x768.Idx => ((A.dw (j 1) (col (j 0) (j 2)) : ℝ) : EReal)) ((Rect.unit (s := S4x1024x768) ![s.val, 0, 0] ![1, 1024, 768] inb).emb x) := by
  have i0 : (x 0).val < 1 := (x 0).isLt
  have e : (Rect.unit (s := S4x1024x768) ![s.val, 0, 0] ![1, 1024, 768] inb).emb x = ix3 s (x 1) (x 2) := ix3_ext (by simp) (by simp) (by simp)
  rw [e]; rfl

include H

set_option maxHeartbeats 1600000 in
/-- The first tile starts from zero. -/
theorem step_first (t : Fin cfg0.N) (h0 : t.val % 16 = 0) (h1 : ¬t.val % 16 = 15) (j : S4x1024x768.Idx) : (outsAt0 m c t.val t.isLt).1 j = term A t j := by
  rw [outsAt0_A m c t h0 h1]; frame_open
  simp (disch := decide) only [↓ View.readCov_skip (s := S4x1024x768), ↓ View.readCov_cons_toLoadRect (s := S4x1024x768), ↓ View.readCov_fill (s := S4x1024x768)]
  frame_out
  have key := tile H t (k0_pay13 (F := Ideal)) [⟨Rect.unit ![0, 0, 0] ![4, 1024, 768] inb_S4x1024x768_S4x1024x768_0_0_0, k0_pay13 (F := Ideal)⟩] j
  rw [after, zeros, zero_add] at key
  exact key

set_option maxHeartbeats 1600000 in
/-- A later tile adds to what the one before left. -/
theorem step_next (t : Fin cfg0.N) (h0 : ¬t.val % 16 = 0) (h1 : ¬t.val % 16 = 15) (j : S4x1024x768.Idx) :
    (outsAt0 m c t.val t.isLt).1 j = after A t (outsAt0 m c (t.val - 1) (Nat.lt_of_le_of_lt (Nat.sub_le _ _) t.isLt)).1 j := by
  rw [outsAt0_B m c t h0 h1]; frame_out
  exact tile H t _ [] j

/-- The tiles before the last, added up. -/
theorem acc_sum (j : S4x1024x768.Idx) : ∀ (n : Nat) (hn : n < 15), (outsAt0 m c n (Nat.lt_of_lt_of_eq (Nat.lt_succ_of_lt hn) N_0.symm)).1 j
      = ∑ k : Fin (n + 1), term A ⟨k.val, Nat.lt_of_lt_of_eq (Nat.lt_of_lt_of_le k.isLt (by omega)) N_0.symm⟩ j
  | 0, hn => by
    rw [Fin.sum_univ_one]
    exact step_first H ⟨0, Nat.lt_of_lt_of_eq (by decide) N_0.symm⟩ rfl (by decide) j
  | n + 1, hn => by
    rw [Fin.sum_univ_castSucc]
    refine (step_next H ⟨n + 1, Nat.lt_of_lt_of_eq (Nat.lt_succ_of_lt hn) N_0.symm⟩ (by show ¬(n + 1) % 16 = 0; omega) (by show ¬(n + 1) % 16 = 15; omega) j).trans ?_
    exact congrArg (· + _) (acc_sum j n (by omega))

/-- The last tile makes the sum over all rows. -/
theorem raw (t : Fin cfg0.N) (ht : t.val = 15) (j : S4x1024x768.Idx) :
    after A t (outsAt0 m c (t.val - 1) (Nat.lt_of_le_of_lt (Nat.sub_le _ _) t.isLt)).1 j = ((A.raw (j 1) (col (j 0) (j 2)) : ℝ) : EReal) := by
  obtain ⟨n, hn⟩ := t
  obtain _ | n := n
  · exact absurd ht (by show ¬0 = 15; decide)
  have ht : n = 14 := Nat.succ.inj ht
  refine (congrArg (· + term A ⟨n + 1, hn⟩ j) (acc_sum H j n (by omega))).trans ?_
  exact (Fin.sum_univ_castSucc fun k : Fin (n + 1 + 1) => term A ⟨k.val, Nat.lt_of_lt_of_eq (Nat.lt_of_lt_of_le k.isLt (by omega)) N_0.symm⟩ j).symm.trans
    (sum_terms j (by omega) (by omega))

variable (m c) in
/-- One shard read back over the pieces of a tile. -/
abbrev back (t : Fin cfg0.N) (acc : S4x1024x768.Idx → EReal) (s : Fin 4) (inb : ∀ a : Fin S4x1024x768.rank, ![s.val, 0, 0] a + ![1, 1024, 768] a ≤ S4x1024x768.size a) :
    S1x1024x768.Idx → EReal :=
  (ms0_9 t).view.readCov (Val := Elt Ideal) (tilePieces m c t acc []) (Rect.unit (s := S4x1024x768) ![s.val, 0, 0] ![1, 1024, 768] inb).toLoadRect

theorem back_raw (t : Fin cfg0.N) (ht : t.val = 15) (s : Fin 4) (inb) :
    IsS s (back m c t (outsAt0 m c (t.val - 1) (Nat.lt_of_le_of_lt (Nat.sub_le _ _) t.isLt)).1 s inb) A.raw := fun i => by
  have i0 : (i 0).val < 1 := (i 0).isLt
  have e : (Rect.unit (s := S4x1024x768) ![s.val, 0, 0] ![1, 1024, 768] inb).toLoadRect.idx i = ix3 s (i 1) (i 2) := ix3_ext (by simp) (by simp) (by simp)
  rw [back, View.readCov_eq_canon']
  refine (congrArg _ e).trans ?_
  exact (tile H t _ [] _).trans (raw H t ht _)

set_option maxHeartbeats 3200000 in
/-- The weight's gradient after the last tile. -/
theorem lastW (t : Fin cfg0.N) (h0 : ¬t.val % 16 = 0) (h1 : t.val % 16 = 15) (ht : t.val = 15) (j : S4x1024x768.Idx) :
    (outsAt0 m c t.val t.isLt).1 j = ((A.dw (j 1) (col (j 0) (j 2)) : ℝ) : EReal) := by
  have r0 := back_raw H t ht 0 inb_S4x1024x768_S1x1024x768_0_0_0
  have r1 := back_raw H t ht 1 inb_S4x1024x768_S1x1024x768_1_0_0
  have r2 := back_raw H t ht 2 inb_S4x1024x768_S1x1024x768_2_0_0
  have r3 := back_raw H t ht 3 inb_S4x1024x768_S1x1024x768_3_0_0
  unfold back tilePieces at r0 r1 r2 r3
  simp (disch := decide) only [↓ View.readCov_skip (s := S4x1024x768)] at r0 r1 r2 r3
  rw [outsAt0_C m c t h0 h1]; frame_open
  simp (disch := decide) only [↓ View.readCov_skip (s := S4x1024x768)]
  frame_out
  refine View.canon_append_of_pieces (Val := Elt Ideal) (e := .f32) (S := S4x1024x768) (fun j : S4x1024x768.Idx => ((A.dw (j 1) (col (j 0) (j 2)) : ℝ) : EReal)) _ [_, _, _, _] ?_ j
    (View.cover_of_tiledBy _ ![1, 1024, 768] (by sl_kernel_rfl) j)
  simp only [List.forall_mem_cons, List.not_mem_nil, false_imp_iff, implies_true, and_true]
  refine ⟨fun x => ?_, fun x => ?_, fun x => ?_, fun x => ?_⟩
  · exact (pay6 (gT H t) r3 x).trans (shard 3 _ x)
  · exact (pay3 (gT H t) r2 x).trans (shard 2 _ x)
  · exact (pay12 (gT H t) r1 x).trans (shard 1 _ x)
  · exact (pay9 (gT H t) r0 x).trans (shard 0 _ x)

set_option maxHeartbeats 3200000 in
/-- The gain's gradient after the last tile. -/
theorem lastG (t : Fin cfg0.N) (h0 : ¬t.val % 16 = 0) (h1 : t.val % 16 = 15) (ht : t.val = 15) (j : S1024x1.Idx) :
    (outsAt0 m c t.val t.isLt).2 j = ((A.dg (j 0) : ℝ) : EReal) := by
  have r0 := back_raw H t ht 0 inb_S4x1024x768_S1x1024x768_0_0_0
  have r1 := back_raw H t ht 1 inb_S4x1024x768_S1x1024x768_1_0_0
  have r2 := back_raw H t ht 2 inb_S4x1024x768_S1x1024x768_2_0_0
  have r3 := back_raw H t ht 3 inb_S4x1024x768_S1x1024x768_3_0_0
  unfold back tilePieces at r0 r1 r2 r3
  simp (disch := decide) only [↓ View.readCov_skip (s := S4x1024x768)] at r0 r1 r2 r3
  rw [outsAt0_C m c t h0 h1]; frame_open
  simp (disch := decide) only [↓ View.readCov_skip (s := S4x1024x768)]
  frame_out
  exact pay5 r0 r1 r2 r3 (wT H t 0) (wT H t 1) (wT H t 2) (wT H t 3) j

variable (m c) in
/-- The weight's gradient in the result array. -/
theorem out9 : (dats m 0 c).arrAt 9 cfg0.N = fun i => ((A.dw (i 1) (col (i 0) (i 2)) : ℝ) : EReal) := by
  refine (dats m 0 c).arrAt_eq_of_after_last 9 t0_15 (by decide +kernel) _ fun j => ?_
  blk_simp
  rw [after0_9]
  exact lastW H t0_15 (by decide) (by decide) rfl _

variable (m c) in
/-- The gain's gradient in the result array. -/
theorem out10 : (dats m 0 c).arrAt 10 cfg0.N = fun i => ((A.dg (i 0) : ℝ) : EReal) := by
  refine (dats m 0 c).arrAt_eq_of_after_last 10 t0_15 (by decide +kernel) _ fun j => ?_
  blk_simp
  rw [after0_10]
  exact lastG H t0_15 (by decide) (by decide) rfl _

end Cert.ProjKernel

end
-- ==== Proof.ProjClaims.lean ====
module

public import proofs.«01_k».proof.Proof.BranchClaims
public import proofs.«01_k».proof.Proof.ProjOut
public import proofs.«01_k».proof.Proof.Gen.ProjRefIdeal.Run
public import proofs.«01_k».proof.Proof.Gen.ProjRefIdeal.Read
public import proofs.«01_k».proof.Proof.Gen.ProjIdeal.Frame
public import proofs.«01_k».proof.Proof.Gen.Pre_proj_finite

/-! The claims about the input projection: the reference runs to an end, and of finite arguments the kernel and the reference leave the
    same gradients of the projection's weight and of the norm's gain. -/

@[expose] public section

set_option maxRecDepth 16384

noncomputable section

namespace Cert.ProjClaims

open Idealize.ShloMosaic Idealize.ShloMosaic.TcCoe Idealize.SL.Sem Cert.ProjSpec Cert.Finite Cert.Up Cert.HeadClaims Cert.BranchClaims

/-- Six parts of 512 columns, side by side. -/
def beside (f : Fin 6 → Fin 8192 → Fin 512 → ℝ) (r : Fin 8192) (j : Fin 3072) : ℝ := f ⟨j.val / 512, by omega⟩ r ⟨j.val % 512, by omega⟩

/-- Reading a part back. -/
theorem beside_part (f : Fin 6 → Fin 8192 → Fin 512 → ℝ) (r : Fin 8192) (p : Fin 6) (b : Fin 512) : beside f r (part p b) = f p r b := by
  have hp : (⟨(part p b).val / 512, by omega⟩ : Fin 6) = p := Fin.ext (by show (512 * p.val + b.val) / 512 = p.val; omega)
  have hb : (⟨(part p b).val % 512, by omega⟩ : Fin 512) = b := Fin.ext (by show (512 * p.val + b.val) % 512 = b.val; omega)
  unfold beside
  rw [hp, hb]

/-- A part of the cotangent, row by row. -/
abbrev rowsOf (x : (⟨2, ![8192, 512]⟩ : Shape).Idx → EReal) (r : Fin 8192) (k : Fin 512) : ℝ := re x (ix2 r k)

/-- The six parts of device `c`'s cotangent. -/
def parts (m : (ℓ : Loc Cert.ProjIdeal.nD Cert.ProjIdeal.τ Cert.ProjIdeal.sig) → Buf (Elt Ideal) ℓ) (c : Dev Cert.ProjIdeal.nD) :
    Fin 6 → Fin 8192 → Fin 512 → ℝ :=
  ![rowsOf (m ((c : Thread Cert.ProjIdeal.nD Cert.ProjIdeal.τ).loc Cert.ProjIdeal.main_arg3)),
    rowsOf (m ((c : Thread Cert.ProjIdeal.nD Cert.ProjIdeal.τ).loc Cert.ProjIdeal.main_arg4)),
    rowsOf (m ((c : Thread Cert.ProjIdeal.nD Cert.ProjIdeal.τ).loc Cert.ProjIdeal.main_arg5)),
    rowsOf (m ((c : Thread Cert.ProjIdeal.nD Cert.ProjIdeal.τ).loc Cert.ProjIdeal.main_arg6)),
    rowsOf (m ((c : Thread Cert.ProjIdeal.nD Cert.ProjIdeal.τ).loc Cert.ProjIdeal.main_arg7)),
    rowsOf (m ((c : Thread Cert.ProjIdeal.nD Cert.ProjIdeal.τ).loc Cert.ProjIdeal.main_arg8))]

/-- The real numbers that device `c`'s arguments hold. -/
def args (m : (ℓ : Loc Cert.ProjIdeal.nD Cert.ProjIdeal.τ Cert.ProjIdeal.sig) → Buf (Elt Ideal) ℓ) (c : Dev Cert.ProjIdeal.nD) : Args where
  x r k := re (s := Cert.ProjIdeal.S8192x1024) (m ((c : Thread Cert.ProjIdeal.nD Cert.ProjIdeal.τ).loc Cert.ProjIdeal.main_arg0)) (ix2 r k)
  g k := re (s := Cert.ProjIdeal.S1024) (m ((c : Thread Cert.ProjIdeal.nD Cert.ProjIdeal.τ).loc Cert.ProjIdeal.main_arg1)) (ix1 k)
  w r k := re (s := Cert.ProjIdeal.S1024x3072) (m ((c : Thread Cert.ProjIdeal.nD Cert.ProjIdeal.τ).loc Cert.ProjIdeal.main_arg2)) (ix2 r k)
  d := beside (parts m c)

/-- Under the precondition every argument holds real numbers. -/
theorem holds (m : (ℓ : Loc Cert.ProjIdeal.nD Cert.ProjIdeal.τ Cert.ProjIdeal.sig) → Buf (Elt Ideal) ℓ) (c : Dev Cert.ProjIdeal.nD)
    (h : Cert.Pre_ProjIdeal_proj_finite (hPre_proj_finite := Cert.Pre_proj_finite.Gen.facts) m) : ProjKernel.Holds m c (args m c) := by
  obtain ⟨h0, h1, h2, h3, h4, h5, h6, h7, h8⟩ := h c
  constructor
  · exact fun i => at_self (real h0) i
  · exact fun i => at_one (real h1) i
  · exact fun i => at_self (real h2) i
  · exact fun i => (at_self (real h3) i).trans (congrArg _ (beside_part (parts m c) _ 0 _).symm)
  · exact fun i => (at_self (real h4) i).trans (congrArg _ (beside_part (parts m c) _ 1 _).symm)
  · exact fun i => (at_self (real h5) i).trans (congrArg _ (beside_part (parts m c) _ 2 _).symm)
  · exact fun i => (at_self (real h6) i).trans (congrArg _ (beside_part (parts m c) _ 3 _).symm)
  · exact fun i => (at_self (real h7) i).trans (congrArg _ (beside_part (parts m c) _ 4 _).symm)
  · exact fun i => (at_self (real h8) i).trans (congrArg _ (beside_part (parts m c) _ 5 _).symm)

/-- The reference runs to an end and keeps its arguments. -/
theorem frame_ref : Cert.quiescent_ProjRefIdeal (hProjRefIdeal := Cert.ProjRefIdeal.Gen.facts) := by
  intro m ρ _
  refine (θ_run _ _ _).mono (fun r h => ⟨fun c => (h c).2.2, ?_⟩) (Cert.ProjRefIdeal.Value.run m ρ)
  exact Idealize.ShloMosaic.sem_eq_zero_of_no_sems (by decide) r.2

/-- Of finite arguments the kernel and the reference leave the same two arrays. -/
theorem algebraic : Cert.algebraic_ProjIdeal_ProjRefIdeal_pre_proj_finite (hProjIdeal := Cert.ProjIdeal.Gen.facts)
    (hProjRefIdeal := Cert.ProjRefIdeal.Gen.facts) (hPre_proj_finite := Cert.Pre_proj_finite.Gen.facts) := by
  intro m g m' g' hp ha
  have K := fun c => holds m c hp
  refine ⟨fun c i => (((args m c).dw (i 1) (col (i 0) (i 2)) : ℝ) : EReal), fun c i => (((args m c).dg (i 0) : ℝ) : EReal), ?_, ?_⟩
  · refine (θ_run _ _ _).mono (fun r h c => ?_) (Cert.ProjIdeal.Value.run_blocks m g)
    obtain ⟨h0, h1, hk⟩ := h c
    exact ⟨h0.trans (ProjKernel.out9 m c (K c)), h1.trans (ProjKernel.out10 m c (K c)), hk⟩
  · refine (θ_run _ _ _).mono (fun r h c => ?_) (Cert.ProjRefIdeal.Value.run m' g')
    obtain ⟨h0, h1, hk⟩ := h c
    obtain ⟨a0, a1, a2, a3, a4, a5, a6, a7, a8⟩ := ha c
    have H : ProjRefValue.Holds (args m c) (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) (m' ((c : Thread Cert.ProjRefIdeal.nD Cert.ProjRefIdeal.τ).loc Cert.ProjRefIdeal.main_arg2)) (m' ((c : Thread Cert.ProjRefIdeal.nD Cert.ProjRefIdeal.τ).loc Cert.ProjRefIdeal.main_arg3)) (m' ((c : Thread Cert.ProjRefIdeal.nD Cert.ProjRefIdeal.τ).loc Cert.ProjRefIdeal.main_arg4)) (m' ((c : Thread Cert.ProjRefIdeal.nD Cert.ProjRefIdeal.τ).loc Cert.ProjRefIdeal.main_arg5)) (m' ((c : Thread Cert.ProjRefIdeal.nD Cert.ProjRefIdeal.τ).loc Cert.ProjRefIdeal.main_arg6)) (m' ((c : Thread Cert.ProjRefIdeal.nD Cert.ProjRefIdeal.τ).loc Cert.ProjRefIdeal.main_arg7)) (m' ((c : Thread Cert.ProjRefIdeal.nD Cert.ProjRefIdeal.τ).loc Cert.ProjRefIdeal.main_arg8)) := by
      rw [a0, a1, a2, a3, a4, a5, a6, a7, a8]; exact K c
    refine ⟨h0.trans ?_, h1.trans ?_, hk⟩
    · rw [Cert.ProjRefIdeal.Read.val_main_v29_eq]; exact funext (ProjRefValue.dw_shards H)
    · rw [Cert.ProjRefIdeal.Read.val_main_v30_eq]; exact funext (ProjRefValue.dg H)

end Cert.ProjClaims

end
-- ==== Proof.DxSpec.lean ====
module

public import proofs.«01_k».proof.Proof.ProjSpec

/-! The gradient of the input of the mixing layer over the reals: through the norm and the input projection, and past them. -/

@[expose] public section

noncomputable section

namespace Cert.DxSpec

open Cert.Up Cert.ProjSpec

/-- The arguments over the reals: those of the projection's gradients, and the gradient `dh1` that reaches the input as it is. -/
structure Args extends ProjSpec.Args where
  dh1 : Fin 8192 → Fin 1024 → ℝ

variable (A : Args) (r : Fin 8192) (k : Fin 1024)

namespace Args

/-- The gradient of the norm's output. -/
def dhn : ℝ := ∑ j, A.d r j * A.w k j
def dx : ℝ := A.dh1 r k + rmsGrad (rinv (A.x r)) (fun k => A.dhn r k * A.g k) (A.n r) k

end Args

/-- The first and the second half of a part's columns. -/
def left (b : Fin 256) : Fin 512 := ⟨b.val, by omega⟩
def right (b : Fin 256) : Fin 512 := ⟨256 + b.val, by omega⟩

/-- A part's sum, one half after the other. -/
theorem sum_halves (f : Fin 512 → ℝ) : ∑ b, f (left b) + ∑ b, f (right b) = ∑ b, f b := by
  have e : ∑ h : Fin 2, ∑ b : Fin 256, f ⟨256 * h.val + b.val, by omega⟩ = ∑ b, f b :=
    Fin.sum_mul_add_congr (L := 512) (n := 256) (fun h b p => congrArg f (Fin.ext (by show 256 * h.val + b.val = h.val * 256 + b.val; omega))) rfl
  rw [← e, Fin.sum_univ_two]
  refine congrArg₂ (· + ·) (Finset.sum_congr rfl fun b _ => congrArg f (Fin.ext ?_)) (Finset.sum_congr rfl fun b _ => congrArg f (Fin.ext ?_))
  · show b.val = 256 * 0 + b.val; omega
  · show 256 + b.val = 256 * 1 + b.val; omega

/-- A sum over the columns, part by part. -/
theorem sum_parts (f : Fin 3072 → ℝ) : ∑ b, f (part 3 b) + ∑ b, f (part 4 b) + ∑ b, f (part 5 b) + ∑ b, f (part 1 b) + ∑ b, f (part 2 b) + ∑ b, f (part 0 b)
    = ∑ j, f j := by
  have e : ∑ p : Fin 6, ∑ b : Fin 512, f (part p b) = ∑ j, f j :=
    Fin.sum_mul_add_congr (L := 3072) (n := 512) (fun p b h => congrArg f (Fin.ext (by show 512 * p.val + b.val = p.val * 512 + b.val; omega))) rfl
  rw [← e, Fin.sum_univ_six]; ring

end Cert.DxSpec

end
-- ==== Proof.DxPay.lean ====
module

public import proofs.«01_k».proof.Proof.DxSpec
public import proofs.«01_k».proof.Proof.Gen.DxIdeal.Skeleton
public import Idealize.ShloMosaic.Lib.Pointwise

/-! One tile of the kernel's input gradient, over the reals: the projection's transpose piece by piece, then the norm's gradient. -/

@[expose] public section

set_option maxRecDepth 16384

noncomputable section

namespace Cert.DxPay

open Cert.DxIdeal Cert.DxIdeal.Gen Idealize.ShloMosaic Cert.Up Cert.DxSpec
open Cert.ProjSpec hiding Args

/-- The tile of rows holds the real function `f` of row and column. -/
abbrev IsX (v : S512x1024.Idx → EReal) (f : Fin 512 → Fin 1024 → ℝ) : Prop := ∀ i : S512x1024.Idx, v i = ((f (i 0) (i 1) : ℝ) : EReal)
/-- The column holds the real vector `f`. -/
abbrev IsR (v : S512x1.Idx → EReal) (f : Fin 512 → ℝ) : Prop := ∀ i : S512x1.Idx, v i = ((f (i 0) : ℝ) : EReal)
/-- The tile holds part `p` of the rows `D` of the cotangent. -/
abbrev IsD (p : Fin 6) (v : S512x512.Idx → EReal) (D : Fin 512 → Fin 3072 → ℝ) : Prop := ∀ i : S512x512.Idx, v i = ((D (i 0) (part p (i 1)) : ℝ) : EReal)
/-- Plane `s` holds the columns `128 s …` of the first part. -/
abbrev IsPl (s : Fin 4) (v : S1x512x128.Idx → EReal) (D : Fin 512 → Fin 3072 → ℝ) : Prop :=
  ∀ i : S1x512x128.Idx, v i = ((D (i 1) (part 0 ⟨128 * s.val + (i 2).val, by have := (i 2).isLt; change (i 2).val < 128 at this; omega⟩) : ℝ) : EReal)
/-- The slab holds part `p` of the weight's columns, or one half of them. -/
abbrev IsW (p : Fin 6) (v : S1x1024x512.Idx → EReal) (w : Fin 1024 → Fin 3072 → ℝ) : Prop := ∀ i : S1x1024x512.Idx, v i = ((w (i 1) (part p (i 2)) : ℝ) : EReal)
abbrev IsL (p : Fin 6) (v : S1x1024x256.Idx → EReal) (w : Fin 1024 → Fin 3072 → ℝ) : Prop := ∀ i : S1x1024x256.Idx, v i = ((w (i 1) (part p (left (i 2))) : ℝ) : EReal)
abbrev IsH (p : Fin 6) (v : S1x1024x256.Idx → EReal) (w : Fin 1024 → Fin 3072 → ℝ) : Prop := ∀ i : S1x1024x256.Idx, v i = ((w (i 1) (part p (right (i 2))) : ℝ) : EReal)

/-! ## The norm -/

section Norm
variable {v : S512x1024.Idx → EReal} {f : Fin 512 → Fin 1024 → ℝ} (h : IsX v f)
include h

theorem pay78 : IsR (k0_pay78 (F := Ideal) v) fun a => rinv (f a) := fun i => by
  unfold k0_pay78
  pointwise [h, ← EReal.coe_mul, sum_up, word_1024, word_eps, div_up _ (show (1024 : ℝ) ≠ 0 by norm_num), ← EReal.coe_add]
  exact rsqrt_up (ms_pos (f (i 0)))

theorem pay79 : IsX (k0_pay79 (F := Ideal) v) fun a k => f a k * rinv (f a) := fun i => by
  unfold k0_pay79
  pointwise [h, pay78 h, ← EReal.coe_mul]
end Norm

/-- The norm's gradient, and what reaches the input past it. -/
theorem pay1 {v440 v451 v452 : S512x1024.Idx → EReal} {v449 : S512x1.Idx → EReal} {v453 : S1x1024.Idx → EReal} {dh n d1 : Fin 512 → Fin 1024 → ℝ} {r : Fin 512 → ℝ}
    {g : Fin 1024 → ℝ} (h440 : IsX v440 dh) (h449 : IsR v449 r) (h451 : IsX v451 n) (h452 : IsX v452 d1) (h453 : ∀ i : S1x1024.Idx, v453 i = ((g (i 1) : ℝ) : EReal)) :
    IsX (k0_pay1 (F := Ideal) v440 v449 v451 v452 v453) fun a k => d1 a k + rmsGrad (r a) (fun k => dh a k * g k) (n a) k := fun i => by
  unfold k0_pay1
  pointwise [h440, h449, h451, h452, h453, ← EReal.coe_mul, sum_up, word_1024, div_up _ (show (1024 : ℝ) ≠ 0 by norm_num), ← EReal.coe_sub, ← EReal.coe_add]
  rfl

/-! ## The projection, transposed -/

section Proj
variable {D : Fin 512 → Fin 3072 → ℝ} {w : Fin 1024 → Fin 3072 → ℝ}

/-- What part `p` adds, and each half of it. -/
abbrev whole (D : Fin 512 → Fin 3072 → ℝ) (w : Fin 1024 → Fin 3072 → ℝ) (a : Fin 512) (k : Fin 1024) (p : Fin 6) : ℝ := ∑ b : Fin 512, D a (part p b) * w k (part p b)
abbrev first (D : Fin 512 → Fin 3072 → ℝ) (w : Fin 1024 → Fin 3072 → ℝ) (a : Fin 512) (k : Fin 1024) (p : Fin 6) : ℝ := ∑ b : Fin 256, D a (part p (left b)) * w k (part p (left b))
abbrev second (D : Fin 512 → Fin 3072 → ℝ) (w : Fin 1024 → Fin 3072 → ℝ) (a : Fin 512) (k : Fin 1024) (p : Fin 6) : ℝ := ∑ b : Fin 256, D a (part p (right b)) * w k (part p (right b))

theorem pay3 {v0 v5 v17 v23 : S512x512.Idx → EReal} {v2 v19 : S1x1024x512.Idx → EReal} {v8 v13 v26 : S1x1024x256.Idx → EReal} (h0 : IsD 3 v0 D) (h2 : IsW 3 v2 w)
    (h5 : IsD 4 v5 D) (h8 : IsL 4 v8 w) (h13 : IsH 4 v13 w) (h17 : IsD 5 v17 D) (h19 : IsW 5 v19 w) (h23 : IsD 1 v23 D) (h26 : IsL 1 v26 w) :
    IsX (k0_pay3 (F := Ideal) v0 v2 v5 v8 v13 v17 v19 v23 v26) fun a k =>
      whole D w a k 3 + first D w a k 4 + second D w a k 4 + whole D w a k 5 + first D w a k 1 := fun i => by
  unfold k0_pay3 k0_pay2
  pointwise [h0, h2, h5, h8, h13, h17, h19, h23, h26, ← EReal.coe_mul, sum_up, ← EReal.coe_add]
  rfl

theorem pay5 {v29 : S512x1024.Idx → EReal} {v23 v35 : S512x512.Idx → EReal} {v31 : S1x1024x256.Idx → EReal} {v39 : S1x1024x512.Idx → EReal} {f : Fin 512 → Fin 1024 → ℝ}
    (h29 : IsX v29 f) (h23 : IsD 1 v23 D) (h31 : IsH 1 v31 w) (h35 : ∀ i : S512x512.Idx, v35 i = ((D (i 1) (part 2 (i 0)) : ℝ) : EReal)) (h39 : IsW 2 v39 w) :
    IsX (k0_pay5 (F := Ideal) v29 (k0_pay4 (F := Ideal) v23) v31 v35 v39) fun a k => f a k + second D w a k 1 + whole D w a k 2 := fun i => by
  unfold k0_pay5 k0_pay4 k0_pay2
  pointwise [h29, h23, h31, h35, h39, ← EReal.coe_mul, sum_up, ← EReal.coe_add]
  rfl

theorem pay77 {v42 : S512x1024.Idx → EReal} {p0 p1 p2 p3 : S1x512x128.Idx → EReal} {v437 : S1x1024x512.Idx → EReal} {f : Fin 512 → Fin 1024 → ℝ}
    (h42 : IsX v42 f) (h0 : IsPl 0 p0 D) (h1 : IsPl 1 p1 D) (h2 : IsPl 2 p2 D) (h3 : IsPl 3 p3 D) (h437 : IsW 0 v437 w) :
    IsX (k0_pay77 (F := Ideal) v42 p0 p1 p2 p3 v437) fun a k => f a k + whole D w a k 0 := fun i => by
  have key : ∀ b b' : Fin 512, b.val = b'.val → ((D (i 0) (part 0 b) : ℝ) : EReal) = ((D (i 0) (part 0 b') : ℝ) : EReal) := fun b b' e => by rw [Fin.ext e]
  unfold k0_pay77
  pointwise [h42, h0, h1, h2, h3, h437]
  rw [EReal.coe_add, ← sum_up]
  refine congrArg (((f (i 0) (i 1) : ℝ) : EReal) + ·) (Finset.sum_congr rfl fun b _ => ?_)
  rw [EReal.coe_mul]
  refine congrArg (· * ((w (i 1) (part 0 b) : ℝ) : EReal)) ?_
  by_cases c0 : b.val < 128
  · rw [dif_pos c0]
  rw [dif_neg c0]
  by_cases c1 : b.val - 128 < 128
  · rw [dif_pos c1]; exact key _ _ (by show 128 * 1 + (b.val - 128) = b.val; omega)
  rw [dif_neg c1]
  by_cases c2 : b.val - 128 - 128 < 128
  · rw [dif_pos c2]; exact key _ _ (by show 128 * 2 + (b.val - 128 - 128) = b.val; omega)
  rw [dif_neg c2]
  exact key _ _ (by show 128 * 3 + (b.val - 128 - 128 - 128) = b.val; omega)

end Proj

end Cert.DxPay

end
-- ==== Proof.DxRefValue.lean ====
module

public import proofs.«01_k».proof.Proof.DxSpec
public import proofs.«01_k».proof.Proof.Gen.DxRefIdeal.Read
public import Idealize.ShloMosaic.Lib.Pointwise

/-! What the reference of the input's gradient computes, of finite arguments: the real function of DxSpec. -/

@[expose] public section

set_option maxRecDepth 16384

noncomputable section

namespace Cert.DxRefValue

open Cert.DxRefIdeal Cert.DxRefIdeal.Read Idealize.ShloMosaic Cert.Up Cert.DxSpec
open Cert.ProjSpec hiding Args

/-- The array holds part `p` of the cotangent. -/
abbrev IsPart (A : Args) (p : Fin 6) (x : S8192x512.Idx → EReal) : Prop := ∀ i, x i = ((A.d (i 0) (part p (i 1)) : ℝ) : EReal)

/-- The arrays hold the real arguments. -/
structure Holds (A : Args) (x0 : S8192x1024.Idx → EReal) (x1 : S1024.Idx → EReal) (x2 : S1024x3072.Idx → EReal) (x3 : S8192x1024.Idx → EReal)
    (x4 x5 x6 x7 x8 x9 : S8192x512.Idx → EReal) : Prop where
  x : ∀ i, x0 i = ((A.x (i 0) (i 1) : ℝ) : EReal)
  g : ∀ i, x1 i = ((A.g (i 0) : ℝ) : EReal)
  w : ∀ i, x2 i = ((A.w (i 0) (i 1) : ℝ) : EReal)
  dh1 : ∀ i, x3 i = ((A.dh1 (i 0) (i 1) : ℝ) : EReal)
  d0 : IsPart A 0 x4
  d1 : IsPart A 1 x5
  d2 : IsPart A 2 x6
  d3 : IsPart A 3 x7
  d4 : IsPart A 4 x8
  d5 : IsPart A 5 x9

variable {A : Args} {x0 : S8192x1024.Idx → EReal} {x1 : S1024.Idx → EReal} {x2 : S1024x3072.Idx → EReal} {x3 : S8192x1024.Idx → EReal}
  {x4 x5 x6 x7 x8 x9 : S8192x512.Idx → EReal} (H : Holds A x0 x1 x2 x3 x4 x5 x6 x7 x8 x9)
include H

theorem mean (i : S8192x1.Idx) : val_main_v6 (F := Ideal) x0 i = ((ms (A.x (i 0)) : ℝ) : EReal) := by
  simp only [val_main_v6_apply, val_main_v5_apply, val_main_v4_apply, val_main_v3_apply, val_main_v2_apply, val_main_v1_apply, val_main_v0_apply,
    val_main_cst_apply, val_main_cst_0_apply, val_main_cst_1_apply, H.x, Ideal.mulf_def, Ideal.addf_def, Ideal.hostDivf_def, Ideal.ofBits_def,
    word_0, word_1024, word_eps, ← EReal.coe_mul, sum_up, ← EReal.coe_add, zero_add, div_up _ (show (1024 : ℝ) ≠ 0 by norm_num)]
  rfl

theorem root (i : S8192x1.Idx) : val_main_v7 (F := Ideal) x0 i = ((rinv (A.x (i 0)) : ℝ) : EReal) := by
  rw [val_main_v7_apply, mean H]; exact rsqrt_up (ms_pos (A.x (i 0)))

/-- A column of the concatenation, from the part in which it lies. -/
theorem of_part (f : Fin 3072 → ℝ) (j : Fin 3072) (p : Fin 6) (b : Fin 512) (h : j.val = 512 * p.val + b.val) : ((f (part p b) : ℝ) : EReal) = ((f j : ℝ) : EReal) := by
  have : part p b = j := Fin.ext h.symm
  rw [this]

/-- The six parts of the cotangent side by side. -/
theorem parts (i : S8192x3072.Idx) : val_main_v23 (F := Ideal) x4 x5 x6 x7 x8 x9 i = ((A.d (i 0) (i 1) : ℝ) : EReal) := by
  have e := of_part H (A.d (i 0)) (i 1)
  have hi : (i 1).val < 3072 := (i 1).isLt
  unfold val_main_v23
  pointwise
  by_cases c0 : (i 1).val < 512
  · exact (dif_pos c0).trans ((H.d0 _).trans (e 0 ⟨(i 1).val, c0⟩ (by show (i 1).val = 512 * 0 + ((i 1).val); omega)))
  refine (dif_neg c0).trans ?_
  by_cases c1 : (i 1).val - 512 < 512
  · exact (dif_pos c1).trans ((H.d1 _).trans (e 1 ⟨(i 1).val - 512, c1⟩ (by show (i 1).val = 512 * 1 + ((i 1).val - 512); omega)))
  refine (dif_neg c1).trans ?_
  by_cases c2 : (i 1).val - 512 - 512 < 512
  · exact (dif_pos c2).trans ((H.d2 _).trans (e 2 ⟨(i 1).val - 512 - 512, c2⟩ (by show (i 1).val = 512 * 2 + ((i 1).val - 512 - 512); omega)))
  refine (dif_neg c2).trans ?_
  by_cases c3 : (i 1).val - 512 - 512 - 512 < 512
  · exact (dif_pos c3).trans ((H.d3 _).trans (e 3 ⟨(i 1).val - 512 - 512 - 512, c3⟩ (by show (i 1).val = 512 * 3 + ((i 1).val - 512 - 512 - 512); omega)))
  refine (dif_neg c3).trans ?_
  by_cases c4 : (i 1).val - 512 - 512 - 512 - 512 < 512
  · exact (dif_pos c4).trans ((H.d4 _).trans (e 4 ⟨(i 1).val - 512 - 512 - 512 - 512, c4⟩ (by show (i 1).val = 512 * 4 + ((i 1).val - 512 - 512 - 512 - 512); omega)))
  refine (dif_neg c4).trans ?_
  exact (H.d5 _).trans (e 5 ⟨(i 1).val - 512 - 512 - 512 - 512 - 512, by omega⟩ (by show (i 1).val = 512 * 5 + ((i 1).val - 512 - 512 - 512 - 512 - 512); omega))

/-- The gradient of the normalised row. -/
theorem dn (i : S8192x1024.Idx) : val_main_v26 (F := Ideal) x1 x2 x4 x5 x6 x7 x8 x9 i = ((A.dhn (i 0) (i 1) * A.g (i 1) : ℝ) : EReal) := by
  simp only [val_main_v26_apply, val_main_v25_apply, val_main_v24_apply, val_main_v13_apply, parts H, H.w, H.g, Ideal.mulf_def, ← EReal.coe_mul, sum_up]
  rfl

theorem rowSum (i : S8192x1.Idx) : val_main_v29 (F := Ideal) x0 x1 x2 x4 x5 x6 x7 x8 x9 i
    = ((∑ k, A.x (i 0) k * (A.dhn (i 0) k * A.g k) : ℝ) : EReal) := by
  have e : idx_main_v29 i = ix1 (n0 := 8192) (i 0) := by
    have h1 : (i 1).val < 1 := (i 1).isLt
    funext a; match a with
    | ⟨0, _⟩ => exact Fin.ext (show (i 0).val * 1 + (i 1).val = (i 0).val by omega)
  simp only [val_main_v29_apply, val_main_v28_apply, val_main_v27_apply, val_main_cst_3_apply, e, H.x, dn H, Ideal.mulf_def, Ideal.ofBits_def, word_0,
    ← EReal.coe_mul, sum_up, ← EReal.coe_add, zero_add]
  rfl

theorem dx (i : S8192x1024.Idx) : val_main_v41 (F := Ideal) x0 x1 x2 x3 x4 x5 x6 x7 x8 x9 i = ((A.dx (i 0) (i 1) : ℝ) : EReal) := by
  simp only [val_main_v41_apply, val_main_v40_apply, val_main_v39_apply, val_main_v38_apply, val_main_v37_apply, val_main_v36_apply, val_main_v35_apply,
    val_main_v34_apply, val_main_v33_apply, val_main_v32_apply, val_main_v31_apply, val_main_v30_apply, val_main_v10_apply, val_main_v9_apply, val_main_v8_apply,
    val_main_cst_2_apply, val_main_cst_4_apply, val_main_cst_5_apply, rowSum H, dn H, H.x, H.dh1, root H, mean H, Ideal.addf_def, Ideal.mulf_def,
    Ideal.hostDivf_def, Ideal.ofBits_def, word_0, word_1024, word_neg_half, ← EReal.coe_mul, sum_up, ← EReal.coe_add, zero_add,
    div_up _ (show (1024 : ℝ) ≠ 0 by norm_num), div_up _ (ms_pos _).ne', Fin.sum_univ_one]
  refine congrArg _ ?_
  have assoc : ∀ a b c d : ℝ, a + b + c + d = a + (b + c + d) := fun a b c d => by ring
  exact (assoc _ _ _ _).trans (congrArg (A.dh1 (i 0) (i 1) + ·) (rmsGrad_chain (A.x (i 0)) (fun k => A.dhn (i 0) k * A.g k) (i 1)))

end Cert.DxRefValue

end
-- ==== Proof.DxKernel.lean ====
module

public import proofs.«01_k».proof.Proof.DxPay
public import proofs.«01_k».proof.Proof.DxRefValue
public import proofs.«01_k».proof.Proof.ProjKernel
public import proofs.«01_k».proof.Proof.Gen.DxIdeal.Value

/-! What the kernel leaves of the input's gradient, of finite arguments. -/

@[expose] public section

set_option maxRecDepth 16384

noncomputable section

namespace Cert.DxKernel

open Cert.DxIdeal Cert.DxIdeal.Gen Idealize.ShloMosaic Idealize.ShloMosaic.TcCoe Idealize.ShloMosaic.Tactic Idealize.SL Idealize.SL.Sem
open Cert.Up Cert.DxSpec Cert.DxPay Cert.BranchScratch
open Cert.ProjSpec hiding Args

/-- Row `a` of tile `t`. -/
def row (t : Fin cfg0.N) (a : Fin 512) : Fin 8192 := ⟨512 * t.val + a.val, by have := Nat.lt_of_lt_of_eq t.isLt N_0; omega⟩

variable (m : (ℓ : Loc nD τ sig) → Buf (Elt Ideal) ℓ) (c : Dev nD) {A : Args}

/-- The device's arguments hold the real ones. -/
abbrev Holds (A : Args) : Prop :=
  DxRefValue.Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

theorem idx : ∀ t : Fin cfg0.N, win0_0.index t = ![t.val, 0] ∧ win0_1.index t = ![0, 0] ∧ win0_2.index t = ![0, 0, 0] ∧ win0_3.index t = ![t.val, 0]
    ∧ win0_4.index t = ![0, t.val, 0] ∧ win0_5.index t = ![t.val, 0] ∧ win0_6.index t = ![0, t.val] ∧ win0_7.index t = ![t.val, 0] ∧ win0_8.index t = ![t.val, 0]
    ∧ win0_9.index t = ![t.val, 0] ∧ win0_10.index t = ![t.val, 0] := by
  decide +kernel

/-! ## The tile's arrays are parts of the arguments -/

theorem x_blk (t : Fin cfg0.N) (i : S512x1024.Idx) : iblk m c 0 t i = m ((c : Thread nD τ).loc main_arg0) (ix2 (row t (i 0)) (i 1)) := by
  rw [← V_main_arg0 m c]
  unfold row
  blk_ext [iblk, idx t]

theorem past_blk (t : Fin cfg0.N) (i : S512x1024.Idx) : iblk m c 3 t i = m ((c : Thread nD τ).loc main_arg3) (ix2 (row t (i 0)) (i 1)) := by
  rw [← V_main_arg3 m c]
  unfold row
  blk_ext [iblk, idx t]

theorem d3_blk (t : Fin cfg0.N) (i : S512x512.Idx) : iblk m c 7 t i = m ((c : Thread nD τ).loc main_arg7) (ix2 (row t (i 0)) (i 1)) := by
  rw [← V_main_arg7 m c]
  unfold row
  blk_ext [iblk, idx t]

theorem d4_blk (t : Fin cfg0.N) (i : S512x512.Idx) : iblk m c 8 t i = m ((c : Thread nD τ).loc main_arg8) (ix2 (row t (i 0)) (i 1)) := by
  rw [← V_main_arg8 m c]
  unfold row
  blk_ext [iblk, idx t]

theorem d1_blk (t : Fin cfg0.N) (i : S512x512.Idx) : iblk m c 5 t i = m ((c : Thread nD τ).loc main_arg5) (ix2 (row t (i 0)) (i 1)) := by
  show iblk m c 5 t i = V m c main_v15 (ix2 (row t (i 0)) (i 1))
  unfold row
  blk_ext [iblk, idx t]

theorem d5_blk (t : Fin cfg0.N) (i : S512x512.Idx) : iblk m c 9 t i = m ((c : Thread nD τ).loc main_arg9) (ix2 (row t (i 0)) (i 1)) := by
  show iblk m c 9 t i = V m c main_v17 (ix2 (row t (i 0)) (i 1))
  unfold row
  blk_ext [iblk, idx t]

theorem d2_blk (t : Fin cfg0.N) (i : S512x512.Idx) : iblk m c 6 t i = m ((c : Thread nD τ).loc main_arg6) (ix2 (row t (i 1)) (i 0)) := by
  have e : iblk m c 6 t i = V m c main_v16 (ix2 (i 0) (row t (i 1))) := by unfold row; blk_ext [iblk, idx t]
  rw [e]
  show transpose S512x8192 [1, 0] (m ((c : Thread nD τ).loc main_arg6)) transposes_S8192x512_S512x8192_1_0 _ = _
  pointwise

theorem g_blk (t : Fin cfg0.N) (i : S1x1024.Idx) : iblk m c 1 t i = m ((c : Thread nD τ).loc main_arg1) (ix1 (i 1)) := by
  have e : iblk m c 1 t i = V m c main_v13 i := by blk_ext [iblk, idx t]
  rw [e]
  show shapeCast S1x1024 (m ((c : Thread nD τ).loc main_arg1)) shapeCasts_S1024_S1x1024 i = _
  pointwise

theorem w_blk (t : Fin cfg0.N) (i : S4x1024x768.Idx) : iblk m c 2 t i = m ((c : Thread nD τ).loc main_arg2) (ix2 (i 1) (col (i 0) (i 2))) := by
  have e : iblk m c 2 t i = V m c main_v12 i := by blk_ext [iblk, idx t]
  exact e.trans (ProjKernel.stack _ i)

theorem d0_blk (t : Fin cfg0.N) (s : Fin 4) (a : Fin 512) (n : Fin 128) :
    unpack (iblk m c 4 t) (ix3 s a n) = m ((c : Thread nD τ).loc main_arg4) (ix2 (row t a) (⟨128 * s.val + n.val, by omega⟩ : Fin 512)) := by
  have ht := Nat.lt_of_lt_of_eq t.isLt N_0
  rw [unpack_ix3]
  have e : iblk m c 4 t (ix3 s (⟨a.val / 16, by omega⟩ : Fin 32) (⟨128 * (a.val % 16) + n.val, by omega⟩ : Fin 2048))
      = V m c main_v14 (ix3 s (⟨32 * t.val + a.val / 16, by omega⟩ : Fin 512) (⟨128 * (a.val % 16) + n.val, by omega⟩ : Fin 2048)) := by blk_ext [iblk, idx t]
  refine e.trans (ProjKernel.packed _ _ _ _ ?_ ?_)
  · show 512 * t.val + a.val = 16 * (32 * t.val + a.val / 16) + (128 * (a.val % 16) + n.val) / 128; omega
  · show 128 * s.val + n.val = 128 * s.val + (128 * (a.val % 16) + n.val) % 128; omega

/-- One plane read back from the unpacked scratch. -/
abbrev plane (t : Fin cfg0.N) (s : Fin 4) (inb : ∀ a : Fin S4x512x128.rank, ![s.val, 0, 0] a + ![1, 512, 128] a ≤ S4x512x128.size a) : S1x512x128.Idx → EReal :=
  (View.whole cc0_scratch0).readCov (Val := Elt Ideal) (pieces (iblk m c 4 t)) (Rect.unit (s := S4x512x128) ![s.val, 0, 0] ![1, 512, 128] inb).toLoadRect

/-- What the body leaves of a tile. -/
abbrev body (m : (ℓ : Loc nD τ sig) → Buf (Elt Ideal) ℓ) (c : Dev nD) (t : Fin cfg0.N) : S512x1024.Idx → EReal :=
  k0_pay1 (F := Ideal) (k0_pay77 (k0_pay5 (k0_pay3 (iblk m c 7 t) (View.ld (iblk m c 2 t) (Rect.unit ![2, 0, 0] ![1, 1024, 512] inb_S4x1024x768_S1x1024x512_2_0_0))
      (iblk m c 8 t) (View.ld (iblk m c 2 t) (Rect.unit ![2, 0, 512] ![1, 1024, 256] inb_S4x1024x768_S1x1024x256_2_0_512))
      (View.ld (iblk m c 2 t) (Rect.unit ![3, 0, 0] ![1, 1024, 256] inb_S4x1024x768_S1x1024x256_3_0_0))
      (iblk m c 9 t) (View.ld (iblk m c 2 t) (Rect.unit ![3, 0, 256] ![1, 1024, 512] inb_S4x1024x768_S1x1024x512_3_0_256))
      (iblk m c 5 t) (View.ld (iblk m c 2 t) (Rect.unit ![0, 0, 512] ![1, 1024, 256] inb_S4x1024x768_S1x1024x256_0_0_512)))
      (k0_pay4 (iblk m c 5 t)) (View.ld (iblk m c 2 t) (Rect.unit ![1, 0, 0] ![1, 1024, 256] inb_S4x1024x768_S1x1024x256_1_0_0))
      (iblk m c 6 t) (View.ld (iblk m c 2 t) (Rect.unit ![1, 0, 256] ![1, 1024, 512] inb_S4x1024x768_S1x1024x512_1_0_256)))
      (plane m c t 0 inb_S4x512x128_S1x512x128_0_0_0) (plane m c t 1 inb_S4x512x128_S1x512x128_1_0_0) (plane m c t 2 inb_S4x512x128_S1x512x128_2_0_0)
      (plane m c t 3 inb_S4x512x128_S1x512x128_3_0_0) (View.ld (iblk m c 2 t) (Rect.unit ![0, 0, 0] ![1, 1024, 512] inb_S4x1024x768_S1x1024x512_0_0_0)))
    (k0_pay78 (iblk m c 0 t)) (k0_pay79 (iblk m c 0 t)) (iblk m c 3 t) (iblk m c 1 t)

variable {m c} (H : Holds m c A)
include H

/-! ## Of the real arguments -/

/-- The rows of a tile. -/
abbrev rowsOf (A : Args) (t : Fin cfg0.N) (a : Fin 512) : Fin 3072 → ℝ := A.d (row t a)

theorem xT (t : Fin cfg0.N) : IsX (iblk m c 0 t) fun a => A.x (row t a) := fun i => (x_blk m c t i).trans (H.x _)
theorem pastT (t : Fin cfg0.N) : IsX (iblk m c 3 t) fun a => A.dh1 (row t a) := fun i => (past_blk m c t i).trans (H.dh1 _)
theorem d0T (t : Fin cfg0.N) (s : Fin 4) (inb) : IsPl s (plane m c t s inb) (rowsOf A t) := fun i => by
  rw [plane, read_plane]; exact (d0_blk m c t s (i 1) (i 2)).trans (H.d0 _)
theorem d1T (t : Fin cfg0.N) : IsD 1 (iblk m c 5 t) (rowsOf A t) := fun i => (d1_blk m c t i).trans (H.d1 _)
theorem d2T (t : Fin cfg0.N) (i : S512x512.Idx) : iblk m c 6 t i = ((A.d (row t (i 1)) (part 2 (i 0)) : ℝ) : EReal) := (d2_blk m c t i).trans (H.d2 _)
theorem d3T (t : Fin cfg0.N) : IsD 3 (iblk m c 7 t) (rowsOf A t) := fun i => (d3_blk m c t i).trans (H.d3 _)
theorem d4T (t : Fin cfg0.N) : IsD 4 (iblk m c 8 t) (rowsOf A t) := fun i => (d4_blk m c t i).trans (H.d4 _)
theorem d5T (t : Fin cfg0.N) : IsD 5 (iblk m c 9 t) (rowsOf A t) := fun i => (d5_blk m c t i).trans (H.d5 _)
theorem gT (t : Fin cfg0.N) (i : S1x1024.Idx) : iblk m c 1 t i = ((A.g (i 1) : ℝ) : EReal) := (g_blk m c t i).trans (H.g _)

/-- Columns `o …` of shard `s` are columns of part `p`. -/
theorem wT (t : Fin cfg0.N) (s : Fin 4) (o W : Nat) (inb : ∀ a : Fin S4x1024x768.rank, ![s.val, 0, o] a + ![1, 1024, W] a ≤ S4x1024x768.size a) (p : Fin 6)
    (i : (⟨3, ![1, 1024, W]⟩ : Shape).Idx) (b : Fin 512) (hb : 768 * s.val + (o + (i 2).val) = 512 * p.val + b.val) :
    View.ld (Val := Elt Ideal) (e' := .bf16) (iblk m c 2 t) (Rect.unit (s := S4x1024x768) ![s.val, 0, o] ![1, 1024, W] inb) i = ((A.w (i 1) (part p b) : ℝ) : EReal) := by
  have i0 : (i 0).val < 1 := (i 0).isLt
  have i2 : (i 2).val < W := (i 2).isLt
  have hW : o + W ≤ 768 := inb 2
  have e : (Rect.unit (s := S4x1024x768) ![s.val, 0, o] ![1, 1024, W] inb).idx i = ix3 s (i 1) (⟨o + (i 2).val, by omega⟩ : Fin 768) :=
    ix3_ext (by simp) (by simp) (by simp)
  have e' : col s ⟨o + (i 2).val, by omega⟩ = part p b := Fin.ext hb
  rw [View.ld_apply, e]
  exact (w_blk m c t _).trans ((H.w _).trans (congrArg (fun q => ((A.w (i 1) q : ℝ) : EReal)) e'))

/-- The whole of the tile's projection, transposed. -/
theorem dhn_parts (t : Fin cfg0.N) (a : Fin 512) (k : Fin 1024) :
    whole (rowsOf A t) A.w a k 3 + first (rowsOf A t) A.w a k 4 + second (rowsOf A t) A.w a k 4 + whole (rowsOf A t) A.w a k 5 + first (rowsOf A t) A.w a k 1
      + second (rowsOf A t) A.w a k 1 + whole (rowsOf A t) A.w a k 2 + whole (rowsOf A t) A.w a k 0 = A.dhn (row t a) k := by
  have h4 := sum_halves fun b => A.d (row t a) (part 4 b) * A.w k (part 4 b)
  have h1 := sum_halves fun b => A.d (row t a) (part 1 b) * A.w k (part 1 b)
  refine Eq.trans ?_ (sum_parts fun j => A.d (row t a) j * A.w k j)
  rw [← h4, ← h1]
  ring

theorem tile (t : Fin cfg0.N) : IsX (body m c t) fun a => A.dx (row t a) := by
  have k3 := pay3 (d3T H t) (fun i => wT H t 2 0 512 inb_S4x1024x768_S1x1024x512_2_0_0 3 i (i 2) (by show 768 * 2 + (0 + (i 2).val) = 512 * 3 + (i 2).val; omega))
    (d4T H t) (fun i => wT H t 2 512 256 inb_S4x1024x768_S1x1024x256_2_0_512 4 i (left (i 2)) (by show 768 * 2 + (512 + (i 2).val) = 512 * 4 + (i 2).val; omega))
    (fun i => wT H t 3 0 256 inb_S4x1024x768_S1x1024x256_3_0_0 4 i (right (i 2)) (by show 768 * 3 + (0 + (i 2).val) = 512 * 4 + (256 + (i 2).val); omega))
    (d5T H t) (fun i => wT H t 3 256 512 inb_S4x1024x768_S1x1024x512_3_0_256 5 i (i 2) (by show 768 * 3 + (256 + (i 2).val) = 512 * 5 + (i 2).val; omega))
    (d1T H t) (fun i => wT H t 0 512 256 inb_S4x1024x768_S1x1024x256_0_0_512 1 i (left (i 2)) (by show 768 * 0 + (512 + (i 2).val) = 512 * 1 + (i 2).val; omega))
  have k5 := pay5 k3 (d1T H t) (fun i => wT H t 1 0 256 inb_S4x1024x768_S1x1024x256_1_0_0 1 i (right (i 2)) (by show 768 * 1 + (0 + (i 2).val) = 512 * 1 + (256 + (i 2).val); omega))
    (d2T H t) (fun i => wT H t 1 256 512 inb_S4x1024x768_S1x1024x512_1_0_256 2 i (i 2) (by show 768 * 1 + (256 + (i 2).val) = 512 * 2 + (i 2).val; omega))
  have k77 := pay77 k5 (d0T H t 0 inb_S4x512x128_S1x512x128_0_0_0) (d0T H t 1 inb_S4x512x128_S1x512x128_1_0_0) (d0T H t 2 inb_S4x512x128_S1x512x128_2_0_0)
    (d0T H t 3 inb_S4x512x128_S1x512x128_3_0_0) (fun i => wT H t 0 0 512 inb_S4x1024x768_S1x1024x512_0_0_0 0 i (i 2) (by show 768 * 0 + (0 + (i 2).val) = 512 * 0 + (i 2).val; omega))
  have dh : IsX _ fun a => A.dhn (row t a) := fun i => (k77 i).trans (congrArg (fun q : ℝ => (q : EReal)) (dhn_parts H t (i 0) (i 1)))
  exact pay1 dh (pay78 (xT H t)) (pay79 (xT H t)) (pastT H t) (gT H t)

omit H in
set_option maxHeartbeats 2000000 in

/-- What the body leaves of a tile, read out of the pipeline's contents. -/
theorem left_behind (t : Fin cfg0.N) (j : S512x1024.Idx) : outsAt0 m c t j = body m c t j := by
  unfold outsAt0
  frame_out
  unfold body
  refine congrFun (congrArg (fun q => k0_pay1 (F := Ideal) q _ _ _ _) ?_) j
  have planes : ∀ {v : FVec Ideal S512x1024 .f32} {a a' b b' d d' e e' : S1x512x128.Idx → EReal} {w : Vec Ideal S1x1024x512 .bf16}, a = a' → b = b' → d = d' → e = e' →
      k0_pay77 (F := Ideal) v a b d e w = k0_pay77 (F := Ideal) v a' b' d' e' w := by
    rintro _ _ _ _ _ _ _ _ _ _ rfl rfl rfl rfl; rfl
  refine planes ?_ ?_ ?_ ?_
  · rfl
  · rfl
  · rfl
  · rfl

theorem out10 : (dats m 0 c).arrAt 10 cfg0.N = fun i => ((A.dx (i 0) (i 1) : ℝ) : EReal) := by
  refine (dats m 0 c).arrAt_eq_of_covers 10 _ (by decide +kernel) fun t hf y => ?_
  have e : ((cfg0.win 10).blk t).view.emb y = ix2 (row t (y 0)) (y 1) := by unfold row; blk_ext [idx t]
  rw [e]
  have key := (left_behind t y).trans (tile H t y)
  blk_simp
  rw [after0_10]
  exact key

end Cert.DxKernel

end
-- ==== Proof.DxClaims.lean ====
module

public import proofs.«01_k».proof.Proof.ProjClaims
public import proofs.«01_k».proof.Proof.DxKernel
public import proofs.«01_k».proof.Proof.Gen.DxRefIdeal.Run
public import proofs.«01_k».proof.Proof.Gen.DxRefIdeal.Read
public import proofs.«01_k».proof.Proof.Gen.DxIdeal.Frame
public import proofs.«01_k».proof.Proof.Gen.Pre_dx_finite

/-! The claims about the input's gradient: the reference runs to an end, and of finite arguments the kernel and the reference leave the
    same array. -/

@[expose] public section

set_option maxRecDepth 16384

noncomputable section

namespace Cert.DxClaims

open Idealize.ShloMosaic Idealize.ShloMosaic.TcCoe Idealize.SL.Sem Cert.DxSpec Cert.Finite Cert.Up Cert.HeadClaims Cert.BranchClaims
open Cert.ProjClaims (beside beside_part rowsOf)

/-- The six parts of device `c`'s cotangent. -/
def parts (m : (ℓ : Loc Cert.DxIdeal.nD Cert.DxIdeal.τ Cert.DxIdeal.sig) → Buf (Elt Ideal) ℓ) (c : Dev Cert.DxIdeal.nD) :
    Fin 6 → Fin 8192 → Fin 512 → ℝ :=
  ![rowsOf (m ((c : Thread Cert.DxIdeal.nD Cert.DxIdeal.τ).loc Cert.DxIdeal.main_arg4)),
    rowsOf (m ((c : Thread Cert.DxIdeal.nD Cert.DxIdeal.τ).loc Cert.DxIdeal.main_arg5)),
    rowsOf (m ((c : Thread Cert.DxIdeal.nD Cert.DxIdeal.τ).loc Cert.DxIdeal.main_arg6)),
    rowsOf (m ((c : Thread Cert.DxIdeal.nD Cert.DxIdeal.τ).loc Cert.DxIdeal.main_arg7)),
    rowsOf (m ((c : Thread Cert.DxIdeal.nD Cert.DxIdeal.τ).loc Cert.DxIdeal.main_arg8)),
    rowsOf (m ((c : Thread Cert.DxIdeal.nD Cert.DxIdeal.τ).loc Cert.DxIdeal.main_arg9))]

/-- The real numbers that device `c`'s arguments hold. -/
def args (m : (ℓ : Loc Cert.DxIdeal.nD Cert.DxIdeal.τ Cert.DxIdeal.sig) → Buf (Elt Ideal) ℓ) (c : Dev Cert.DxIdeal.nD) : Args where
  x r k := re (s := Cert.DxIdeal.S8192x1024) (m ((c : Thread Cert.DxIdeal.nD Cert.DxIdeal.τ).loc Cert.DxIdeal.main_arg0)) (ix2 r k)
  g k := re (s := Cert.DxIdeal.S1024) (m ((c : Thread Cert.DxIdeal.nD Cert.DxIdeal.τ).loc Cert.DxIdeal.main_arg1)) (ix1 k)
  w r k := re (s := Cert.DxIdeal.S1024x3072) (m ((c : Thread Cert.DxIdeal.nD Cert.DxIdeal.τ).loc Cert.DxIdeal.main_arg2)) (ix2 r k)
  dh1 r k := re (s := Cert.DxIdeal.S8192x1024) (m ((c : Thread Cert.DxIdeal.nD Cert.DxIdeal.τ).loc Cert.DxIdeal.main_arg3)) (ix2 r k)
  d := beside (parts m c)

/-- Under the precondition every argument holds real numbers. -/
theorem holds (m : (ℓ : Loc Cert.DxIdeal.nD Cert.DxIdeal.τ Cert.DxIdeal.sig) → Buf (Elt Ideal) ℓ) (c : Dev Cert.DxIdeal.nD)
    (h : Cert.Pre_DxIdeal_dx_finite (hPre_dx_finite := Cert.Pre_dx_finite.Gen.facts) m) : DxKernel.Holds m c (args m c) := by
  obtain ⟨h0, h1, h2, h3, h4, h5, h6, h7, h8, h9⟩ := h c
  constructor
  · exact fun i => at_self (real h0) i
  · exact fun i => at_one (real h1) i
  · exact fun i => at_self (real h2) i
  · exact fun i => at_self (real h3) i
  · exact fun i => (at_self (real h4) i).trans (congrArg _ (beside_part (parts m c) _ 0 _).symm)
  · exact fun i => (at_self (real h5) i).trans (congrArg _ (beside_part (parts m c) _ 1 _).symm)
  · exact fun i => (at_self (real h6) i).trans (congrArg _ (beside_part (parts m c) _ 2 _).symm)
  · exact fun i => (at_self (real h7) i).trans (congrArg _ (beside_part (parts m c) _ 3 _).symm)
  · exact fun i => (at_self (real h8) i).trans (congrArg _ (beside_part (parts m c) _ 4 _).symm)
  · exact fun i => (at_self (real h9) i).trans (congrArg _ (beside_part (parts m c) _ 5 _).symm)

/-- The reference runs to an end and keeps its arguments. -/
theorem frame_ref : Cert.quiescent_DxRefIdeal (hDxRefIdeal := Cert.DxRefIdeal.Gen.facts) := by
  intro m ρ _
  refine (θ_run _ _ _).mono (fun r h => ⟨fun c => (h c).2, ?_⟩) (Cert.DxRefIdeal.Value.run m ρ)
  exact Idealize.ShloMosaic.sem_eq_zero_of_no_sems (by decide) r.2

/-- Of finite arguments the kernel and the reference leave the same array. -/
theorem algebraic : Cert.algebraic_DxIdeal_DxRefIdeal_pre_dx_finite (hDxIdeal := Cert.DxIdeal.Gen.facts)
    (hDxRefIdeal := Cert.DxRefIdeal.Gen.facts) (hPre_dx_finite := Cert.Pre_dx_finite.Gen.facts) := by
  intro m g m' g' hp ha
  have K := fun c => holds m c hp
  refine ⟨fun c i => (((args m c).dx (i 0) (i 1) : ℝ) : EReal), ?_, ?_⟩
  · refine (θ_run _ _ _).mono (fun r h c => ?_) (Cert.DxIdeal.Value.run_blocks m g)
    obtain ⟨h0, hk⟩ := h c
    exact ⟨h0.trans (DxKernel.out10 (K c)), hk⟩
  · refine (θ_run _ _ _).mono (fun r h c => ?_) (Cert.DxRefIdeal.Value.run m' g')
    obtain ⟨h0, hk⟩ := h c
    obtain ⟨a0, a1, a2, a3, a4, a5, a6, a7, a8, a9⟩ := ha c
    have H : DxRefValue.Holds (args m c) (m' ((c : Thread Cert.DxRefIdeal.nD Cert.DxRefIdeal.τ).loc Cert.DxRefIdeal.main_arg0))
        (m' ((c : Thread Cert.DxRefIdeal.nD Cert.DxRefIdeal.τ).loc Cert.DxRefIdeal.main_arg1)) (m' ((c : Thread Cert.DxRefIdeal.nD Cert.DxRefIdeal.τ).loc Cert.DxRefIdeal.main_arg2))
        (m' ((c : Thread Cert.DxRefIdeal.nD Cert.DxRefIdeal.τ).loc Cert.DxRefIdeal.main_arg3)) (m' ((c : Thread Cert.DxRefIdeal.nD Cert.DxRefIdeal.τ).loc Cert.DxRefIdeal.main_arg4))
        (m' ((c : Thread Cert.DxRefIdeal.nD Cert.DxRefIdeal.τ).loc Cert.DxRefIdeal.main_arg5)) (m' ((c : Thread Cert.DxRefIdeal.nD Cert.DxRefIdeal.τ).loc Cert.DxRefIdeal.main_arg6))
        (m' ((c : Thread Cert.DxRefIdeal.nD Cert.DxRefIdeal.τ).loc Cert.DxRefIdeal.main_arg7)) (m' ((c : Thread Cert.DxRefIdeal.nD Cert.DxRefIdeal.τ).loc Cert.DxRefIdeal.main_arg8))
        (m' ((c : Thread Cert.DxRefIdeal.nD Cert.DxRefIdeal.τ).loc Cert.DxRefIdeal.main_arg9)) := by
      rw [a0, a1, a2, a3, a4, a5, a6, a7, a8, a9]; exact K c
    refine ⟨h0.trans ?_, hk⟩
    rw [Cert.DxRefIdeal.Read.val_main_v41_eq]; exact funext (DxRefValue.dx H)

end Cert.DxClaims

end
-- ==== Proof.lean ====
module

public import proofs.«01_k».proof.Defs
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadIdeal.Value
public import proofs.«01_k».proof.Proof.Gen.HeadRefIdeal
public import proofs.«01_k».proof.Proof.Gen.HeadRefIdeal.Run
public import proofs.«01_k».proof.Proof.Gen.HeadRefIdeal.Read
public import proofs.«01_k».proof.Proof.Gen.Pre_head_finite
public import proofs.«01_k».proof.Proof.Gen.Branch
public import proofs.«01_k».proof.Proof.Gen.Branch.Frame
public import proofs.«01_k».proof.Proof.Gen.BranchIdeal
public import proofs.«01_k».proof.Proof.Gen.BranchIdeal.Frame
public import proofs.«01_k».proof.Proof.Gen.BranchIdeal.Value
public import proofs.«01_k».proof.Proof.Gen.BranchRefIdeal
public import proofs.«01_k».proof.Proof.Gen.BranchRefIdeal.Run
public import proofs.«01_k».proof.Proof.Gen.BranchRefIdeal.Read
public import proofs.«01_k».proof.Proof.Gen.Pre_branch_finite
public import proofs.«01_k».proof.Proof.Gen.Na
public import proofs.«01_k».proof.Proof.Gen.NaIdeal
public import proofs.«01_k».proof.Proof.Gen.NaIdeal.Frame
public import proofs.«01_k».proof.Proof.Gen.NaRefIdeal
public import proofs.«01_k».proof.Proof.Gen.NaRefIdeal.Run
public import proofs.«01_k».proof.Proof.Gen.NaRefIdeal.Read
public import proofs.«01_k».proof.Proof.Gen.Pre_na_finite
public import proofs.«01_k».proof.Proof.Gen.Proj
public import proofs.«01_k».proof.Proof.Gen.ProjIdeal
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Pre_proj_finite
public import proofs.«01_k».proof.Proof.Gen.Dx
public import proofs.«01_k».proof.Proof.Gen.DxIdeal
public import proofs.«01_k».proof.Proof.Gen.Dx.Frame
public import proofs.«01_k».proof.Proof.Gen.DxIdeal.Frame
public import proofs.«01_k».proof.Proof.Gen.DxIdeal.Value
public import proofs.«01_k».proof.Proof.Gen.DxRefIdeal
public import proofs.«01_k».proof.Proof.Gen.DxRefIdeal.Run
public import proofs.«01_k».proof.Proof.Gen.DxRefIdeal.Read
public import proofs.«01_k».proof.Proof.Gen.Pre_dx_finite
public import proofs.«01_k».proof.Proof.HeadClaims
public import proofs.«01_k».proof.Proof.BranchClaims
public import proofs.«01_k».proof.Proof.NaBits
public import proofs.«01_k».proof.Proof.NaClaims
public import proofs.«01_k».proof.Proof.ProjClaims
public import proofs.«01_k».proof.Proof.DxClaims
public import Idealize.ShloMosaic.Adequacy
public import Idealize.ShloMosaic.Init

@[expose] public section

noncomputable section

namespace Cert.Proof

open Idealize.ShloMosaic Idealize.SL.Sem

theorem claim : Cert.Claim := ⟨Cert.Head.Gen.facts, Cert.HeadIdeal.Gen.facts, Cert.HeadRefIdeal.Gen.facts,
  Cert.Branch.Gen.facts, Cert.BranchIdeal.Gen.facts, Cert.BranchRefIdeal.Gen.facts,
  Cert.Na.Gen.facts, Cert.NaIdeal.Gen.facts, Cert.NaRefIdeal.Gen.facts,
  Cert.Proj.Gen.facts, Cert.ProjIdeal.Gen.facts, Cert.ProjRefIdeal.Gen.facts,
  Cert.Dx.Gen.facts, Cert.DxIdeal.Gen.facts, Cert.DxRefIdeal.Gen.facts, Cert.Pre_head_finite.Gen.facts, Cert.Pre_branch_finite.Gen.facts, Cert.Pre_na_finite.Gen.facts, Cert.Pre_proj_finite.Gen.facts, Cert.Pre_dx_finite.Gen.facts,
  fun m ρ _ => Cert.Head.Gen.frame m ρ,
  fun m ρ _ => Cert.HeadIdeal.Gen.frame m ρ,
  fun m ρ _ => Cert.HeadIdeal.Gen.frame m ρ,
  Cert.HeadClaims.frame_ref,
  fun m ρ _ => Cert.HeadClaims.frame_ref m ρ trivial,
  fun m ρ _ => Cert.Branch.Gen.frame m ρ,
  fun m ρ _ => Cert.BranchIdeal.Gen.frame m ρ,
  fun m ρ _ => Cert.BranchIdeal.Gen.frame m ρ,
  Cert.BranchClaims.frame_ref,
  fun m ρ _ => Cert.BranchClaims.frame_ref m ρ trivial,
  Cert.NaIdeal.Hand.frame_bits,
  fun m ρ _ => Cert.NaIdeal.Hand.frame_any m ρ,
  fun m ρ _ => Cert.NaIdeal.Hand.frame_any m ρ,
  Cert.NaClaims.frame_ref,
  fun m ρ _ => Cert.NaClaims.frame_ref m ρ trivial,
  fun m ρ _ => Cert.Proj.Gen.frame m ρ,
  fun m ρ _ => Cert.ProjIdeal.Gen.frame m ρ,
  fun m ρ _ => Cert.ProjIdeal.Gen.frame m ρ,
  Cert.ProjClaims.frame_ref,
  fun m ρ _ => Cert.ProjClaims.frame_ref m ρ trivial,
  fun m ρ _ => Cert.Dx.Gen.frame m ρ,
  fun m ρ _ => Cert.DxIdeal.Gen.frame m ρ,
  fun m ρ _ => Cert.DxIdeal.Gen.frame m ρ,
  Cert.DxClaims.frame_ref,
  fun m ρ _ => Cert.DxClaims.frame_ref m ρ trivial,
  trivial,
  Cert.HeadClaims.algebraic,
  Cert.BranchClaims.preserves,
  Cert.BranchClaims.algebraic,
  trivial,
  Cert.NaClaims.algebraic,
  trivial,
  Cert.ProjClaims.algebraic,
  trivial,
  Cert.DxClaims.algebraic⟩

end Cert.Proof

end
